-- ==== Defs.lean ====
def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_qk [hPre_finite_qk : Cert.Pre_finite_qk.Facts] (m : (ℓ : Loc Cert.WinIdeal.nD Cert.WinIdeal.τ Cert.WinIdeal.sig) → Buf (Elt Ideal) ℓ) : Prop :=
  ∀ c : Dev Cert.WinIdeal.nD,
    (Cert.Pre_finite_qk.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))).1 = (fun _ => 1#1)
    ∧ (Cert.Pre_finite_qk.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))).2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_qk [hPre_finite_qk : Cert.Pre_finite_qk.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_qk.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))).1 = (fun _ => 1#1)
    ∧ (Cert.Pre_finite_qk.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))).2 = (fun _ => 1#1)

def Pre_Hout (m : (ℓ : Loc Cert.Hout.nD Cert.Hout.τ Cert.Hout.sig) → Buf (Elt Bits) ℓ) : Prop :=
  True

def Pre_HoutIdeal (m : (ℓ : Loc Cert.HoutIdeal.nD Cert.HoutIdeal.τ Cert.HoutIdeal.sig) → Buf (Elt Ideal) ℓ) : Prop :=
  True

def Pre_HoutRefIdeal (m : (ℓ : Loc Cert.HoutRefIdeal.nD Cert.HoutRefIdeal.τ Cert.HoutRefIdeal.sig) → Buf (Elt Ideal) ℓ) : Prop :=
  True

def Pre_Hin (m : (ℓ : Loc Cert.Hin.nD Cert.Hin.τ Cert.Hin.sig) → Buf (Elt Bits) ℓ) : Prop :=
  True

def Pre_HinIdeal (m : (ℓ : Loc Cert.HinIdeal.nD Cert.HinIdeal.τ Cert.HinIdeal.sig) → Buf (Elt Ideal) ℓ) : Prop :=
  True

def Pre_HinIdeal_finite_logits [hPre_finite_logits : Cert.Pre_finite_logits.Facts] (m : (ℓ : Loc Cert.HinIdeal.nD Cert.HinIdeal.τ Cert.HinIdeal.sig) → Buf (Elt Ideal) ℓ) : Prop :=
  ∀ c : Dev Cert.HinIdeal.nD,
    (Cert.Pre_finite_logits.fn (F := Ideal) (m ((c.tc : Thread Cert.HinIdeal.nD Cert.HinIdeal.τ).loc Cert.HinIdeal.main_arg0)) (m ((c.tc : Thread Cert.HinIdeal.nD Cert.HinIdeal.τ).loc Cert.HinIdeal.main_arg1)) (m ((c.tc : Thread Cert.HinIdeal.nD Cert.HinIdeal.τ).loc Cert.HinIdeal.main_arg2))) = (fun _ => 1#1)

def Pre_HinRefIdeal (m : (ℓ : Loc Cert.HinRefIdeal.nD Cert.HinRefIdeal.τ Cert.HinRefIdeal.sig) → Buf (Elt Ideal) ℓ) : Prop :=
  True

def Pre_HinRefIdeal_finite_logits [hPre_finite_logits : Cert.Pre_finite_logits.Facts] (m : (ℓ : Loc Cert.HinRefIdeal.nD Cert.HinRefIdeal.τ Cert.HinRefIdeal.sig) → Buf (Elt Ideal) ℓ) : Prop :=
  ∀ c : Dev Cert.HinRefIdeal.nD,
    (Cert.Pre_finite_logits.fn (F := Ideal) (m ((c.tc : Thread Cert.HinRefIdeal.nD Cert.HinRefIdeal.τ).loc Cert.HinRefIdeal.main_arg0)) (m ((c.tc : Thread Cert.HinRefIdeal.nD Cert.HinRefIdeal.τ).loc Cert.HinRefIdeal.main_arg1)) (m ((c.tc : Thread Cert.HinRefIdeal.nD Cert.HinRefIdeal.τ).loc Cert.HinRefIdeal.main_arg2))) = (fun _ => 1#1)

def Pre_Pb (m : (ℓ : Loc Cert.Pb.nD Cert.Pb.τ Cert.Pb.sig) → Buf (Elt Bits) ℓ) : Prop :=
  True

def Pre_PbIdeal (m : (ℓ : Loc Cert.PbIdeal.nD Cert.PbIdeal.τ Cert.PbIdeal.sig) → Buf (Elt Ideal) ℓ) : Prop :=
  True

def Pre_PbRefIdeal (m : (ℓ : Loc Cert.PbRefIdeal.nD Cert.PbRefIdeal.τ Cert.PbRefIdeal.sig) → Buf (Elt Ideal) ℓ) : Prop :=
  True

def Pre_Pf (m : (ℓ : Loc Cert.Pf.nD Cert.Pf.τ Cert.Pf.sig) → Buf (Elt Bits) ℓ) : Prop :=
  True

def Pre_PfIdeal (m : (ℓ : Loc Cert.PfIdeal.nD Cert.PfIdeal.τ Cert.PfIdeal.sig) → Buf (Elt Ideal) ℓ) : Prop :=
  True

def Pre_PfRefIdeal (m : (ℓ : Loc Cert.PfRefIdeal.nD Cert.PfRefIdeal.τ Cert.PfRefIdeal.sig) → Buf (Elt Ideal) ℓ) : Prop :=
  True

def Pre_Nout (m : (ℓ : Loc Cert.Nout.nD Cert.Nout.τ Cert.Nout.sig) → Buf (Elt Bits) ℓ) : Prop :=
  True

def Pre_NoutIdeal (m : (ℓ : Loc Cert.NoutIdeal.nD Cert.NoutIdeal.τ Cert.NoutIdeal.sig) → Buf (Elt Ideal) ℓ) : Prop :=
  True

def Pre_NoutRefIdeal (m : (ℓ : Loc Cert.NoutRefIdeal.nD Cert.NoutRefIdeal.τ Cert.NoutRefIdeal.sig) → Buf (Elt Ideal) ℓ) : Prop :=
  True

def Pre_Hmid (m : (ℓ : Loc Cert.Hmid.nD Cert.Hmid.τ Cert.Hmid.sig) → Buf (Elt Bits) ℓ) : Prop :=
  True

def Pre_HmidIdeal (m : (ℓ : Loc Cert.HmidIdeal.nD Cert.HmidIdeal.τ Cert.HmidIdeal.sig) → Buf (Elt Ideal) ℓ) : Prop :=
  True

def Pre_HmidRefIdeal (m : (ℓ : Loc Cert.HmidRefIdeal.nD Cert.HmidRefIdeal.τ Cert.HmidRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Tab (m : (ℓ : Loc Cert.Tab.nD Cert.Tab.τ Cert.Tab.sig) → Buf (Elt Bits) ℓ) : Prop :=
  True

def Pre_TabIdeal (m : (ℓ : Loc Cert.TabIdeal.nD Cert.TabIdeal.τ Cert.TabIdeal.sig) → Buf (Elt Ideal) ℓ) : Prop :=
  True

def Pre_TabRefIdeal (m : (ℓ : Loc Cert.TabRefIdeal.nD Cert.TabRefIdeal.τ Cert.TabRefIdeal.sig) → Buf (Elt Ideal) ℓ) : Prop :=
  True

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinIdeal_pre_finite_qk [hWinIdeal : Cert.WinIdeal.Facts] [hPre_finite_qk : Cert.Pre_finite_qk.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_qk m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WinRefIdeal_pre_finite_qk [hWinRefIdeal : Cert.WinRefIdeal.Facts] [hPre_finite_qk : Cert.Pre_finite_qk.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_qk m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Hout [hHout : Cert.Hout.Facts] : Prop :=
  ∀ (m : (ℓ : Loc Cert.Hout.nD Cert.Hout.τ Cert.Hout.sig) → Buf (Elt Bits) ℓ) (g : Dev Cert.Hout.nD → PrngReg), Pre_Hout m →
    θ_run (Cert.Hout.defs (F := Bits)) (onTc (τ := Cert.Hout.τ) (Cert.Hout.main (F := Bits))) ⟨m, fun _ => 0, g⟩ (fun r => (∀ c : Dev Cert.Hout.nD,
      r.2.mem ((c.tc : Thread Cert.Hout.nD Cert.Hout.τ).loc Cert.Hout.main_arg0) = m ((c.tc : Thread Cert.Hout.nD Cert.Hout.τ).loc Cert.Hout.main_arg0)
      ∧ r.2.mem ((c.tc : Thread Cert.Hout.nD Cert.Hout.τ).loc Cert.Hout.main_arg1) = m ((c.tc : Thread Cert.Hout.nD Cert.Hout.τ).loc Cert.Hout.main_arg1)
      ∧ r.2.mem ((c.tc : Thread Cert.Hout.nD Cert.Hout.τ).loc Cert.Hout.main_arg2) = m ((c.tc : Thread Cert.Hout.nD Cert.Hout.τ).loc Cert.Hout.main_arg2)
      ∧ r.2.mem ((c.tc : Thread Cert.Hout.nD Cert.Hout.τ).loc Cert.Hout.main_arg3) = m ((c.tc : Thread Cert.Hout.nD Cert.Hout.τ).loc Cert.Hout.main_arg3))
      ∧ r.2.sem = fun _ => 0)

def quiescent_HoutIdeal [hHoutIdeal : Cert.HoutIdeal.Facts] : Prop :=
  ∀ (m : (ℓ : Loc Cert.HoutIdeal.nD Cert.HoutIdeal.τ Cert.HoutIdeal.sig) → Buf (Elt Ideal) ℓ) (g : Dev Cert.HoutIdeal.nD → PrngReg), Pre_HoutIdeal m →
    θ_run (Cert.HoutIdeal.defs (F := Ideal)) (onTc (τ := Cert.HoutIdeal.τ) (Cert.HoutIdeal.main (F := Ideal))) ⟨m, fun _ => 0, g⟩ (fun r => (∀ c : Dev Cert.HoutIdeal.nD,
      r.2.mem ((c.tc : Thread Cert.HoutIdeal.nD Cert.HoutIdeal.τ).loc Cert.HoutIdeal.main_arg0) = m ((c.tc : Thread Cert.HoutIdeal.nD Cert.HoutIdeal.τ).loc Cert.HoutIdeal.main_arg0)
      ∧ r.2.mem ((c.tc : Thread Cert.HoutIdeal.nD Cert.HoutIdeal.τ).loc Cert.HoutIdeal.main_arg1) = m ((c.tc : Thread Cert.HoutIdeal.nD Cert.HoutIdeal.τ).loc Cert.HoutIdeal.main_arg1)
      ∧ r.2.mem ((c.tc : Thread Cert.HoutIdeal.nD Cert.HoutIdeal.τ).loc Cert.HoutIdeal.main_arg2) = m ((c.tc : Thread Cert.HoutIdeal.nD Cert.HoutIdeal.τ).loc Cert.HoutIdeal.main_arg2)
      ∧ r.2.mem ((c.tc : Thread Cert.HoutIdeal.nD Cert.HoutIdeal.τ).loc Cert.HoutIdeal.main_arg3) = m ((c.tc : Thread Cert.HoutIdeal.nD Cert.HoutIdeal.τ).loc Cert.HoutIdeal.main_arg3))
      ∧ r.2.sem = fun _ => 0)

def quiescent_HoutRefIdeal [hHoutRefIdeal : Cert.HoutRefIdeal.Facts] : Prop :=
  ∀ (m : (ℓ : Loc Cert.HoutRefIdeal.nD Cert.HoutRefIdeal.τ Cert.HoutRefIdeal.sig) → Buf (Elt Ideal) ℓ) (g : Dev Cert.HoutRefIdeal.nD → PrngReg), Pre_HoutRefIdeal m →
    θ_run (Cert.HoutRefIdeal.defs (F := Ideal)) (onTc (τ := Cert.HoutRefIdeal.τ) (Cert.HoutRefIdeal.main (F := Ideal))) ⟨m, fun _ => 0, g⟩ (fun r => (∀ c : Dev Cert.HoutRefIdeal.nD,
      r.2.mem ((c.tc : Thread Cert.HoutRefIdeal.nD Cert.HoutRefIdeal.τ).loc Cert.HoutRefIdeal.main_arg0) = m ((c.tc : Thread Cert.HoutRefIdeal.nD Cert.HoutRefIdeal.τ).loc Cert.HoutRefIdeal.main_arg0)
      ∧ r.2.mem ((c.tc : Thread Cert.HoutRefIdeal.nD Cert.HoutRefIdeal.τ).loc Cert.HoutRefIdeal.main_arg1) = m ((c.tc : Thread Cert.HoutRefIdeal.nD Cert.HoutRefIdeal.τ).loc Cert.HoutRefIdeal.main_arg1)
      ∧ r.2.mem ((c.tc : Thread Cert.HoutRefIdeal.nD Cert.HoutRefIdeal.τ).loc Cert.HoutRefIdeal.main_arg2) = m ((c.tc : Thread Cert.HoutRefIdeal.nD Cert.HoutRefIdeal.τ).loc Cert.HoutRefIdeal.main_arg2)
      ∧ r.2.mem ((c.tc : Thread Cert.HoutRefIdeal.nD Cert.HoutRefIdeal.τ).loc Cert.HoutRefIdeal.main_arg3) = m ((c.tc : Thread Cert.HoutRefIdeal.nD Cert.HoutRefIdeal.τ).loc Cert.HoutRefIdeal.main_arg3))
      ∧ r.2.sem = fun _ => 0)

def quiescent_Hin [hHin : Cert.Hin.Facts] : Prop :=
  ∀ (m : (ℓ : Loc Cert.Hin.nD Cert.Hin.τ Cert.Hin.sig) → Buf (Elt Bits) ℓ) (g : Dev Cert.Hin.nD → PrngReg), Pre_Hin m →
    θ_run (Cert.Hin.defs (F := Bits)) (onTc (τ := Cert.Hin.τ) (Cert.Hin.main (F := Bits))) ⟨m, fun _ => 0, g⟩ (fun r => (∀ c : Dev Cert.Hin.nD,
      r.2.mem ((c.tc : Thread Cert.Hin.nD Cert.Hin.τ).loc Cert.Hin.main_arg0) = m ((c.tc : Thread Cert.Hin.nD Cert.Hin.τ).loc Cert.Hin.main_arg0)
      ∧ r.2.mem ((c.tc : Thread Cert.Hin.nD Cert.Hin.τ).loc Cert.Hin.main_arg1) = m ((c.tc : Thread Cert.Hin.nD Cert.Hin.τ).loc Cert.Hin.main_arg1)
      ∧ r.2.mem ((c.tc : Thread Cert.Hin.nD Cert.Hin.τ).loc Cert.Hin.main_arg2) = m ((c.tc : Thread Cert.Hin.nD Cert.Hin.τ).loc Cert.Hin.main_arg2))
      ∧ r.2.sem = fun _ => 0)

def quiescent_HinIdeal [hHinIdeal : Cert.HinIdeal.Facts] : Prop :=
  ∀ (m : (ℓ : Loc Cert.HinIdeal.nD Cert.HinIdeal.τ Cert.HinIdeal.sig) → Buf (Elt Ideal) ℓ) (g : Dev Cert.HinIdeal.nD → PrngReg), Pre_HinIdeal m →
    θ_run (Cert.HinIdeal.defs (F := Ideal)) (onTc (τ := Cert.HinIdeal.τ) (Cert.HinIdeal.main (F := Ideal))) ⟨m, fun _ => 0, g⟩ (fun r => (∀ c : Dev Cert.HinIdeal.nD,
      r.2.mem ((c.tc : Thread Cert.HinIdeal.nD Cert.HinIdeal.τ).loc Cert.HinIdeal.main_arg0) = m ((c.tc : Thread Cert.HinIdeal.nD Cert.HinIdeal.τ).loc Cert.HinIdeal.main_arg0)
      ∧ r.2.mem ((c.tc : Thread Cert.HinIdeal.nD Cert.HinIdeal.τ).loc Cert.HinIdeal.main_arg1) = m ((c.tc : Thread Cert.HinIdeal.nD Cert.HinIdeal.τ).loc Cert.HinIdeal.main_arg1)
      ∧ r.2.mem ((c.tc : Thread Cert.HinIdeal.nD Cert.HinIdeal.τ).loc Cert.HinIdeal.main_arg2) = m ((c.tc : Thread Cert.HinIdeal.nD Cert.HinIdeal.τ).loc Cert.HinIdeal.main_arg2))
      ∧ r.2.sem = fun _ => 0)

def quiescent_HinIdeal_pre_finite_logits [hHinIdeal : Cert.HinIdeal.Facts] [hPre_finite_logits : Cert.Pre_finite_logits.Facts] : Prop :=
  ∀ (m : (ℓ : Loc Cert.HinIdeal.nD Cert.HinIdeal.τ Cert.HinIdeal.sig) → Buf (Elt Ideal) ℓ) (g : Dev Cert.HinIdeal.nD → PrngReg), Pre_HinIdeal_finite_logits m →
    θ_run (Cert.HinIdeal.defs (F := Ideal)) (onTc (τ := Cert.HinIdeal.τ) (Cert.HinIdeal.main (F := Ideal))) ⟨m, fun _ => 0, g⟩ (fun r => (∀ c : Dev Cert.HinIdeal.nD,
      r.2.mem ((c.tc : Thread Cert.HinIdeal.nD Cert.HinIdeal.τ).loc Cert.HinIdeal.main_arg0) = m ((c.tc : Thread Cert.HinIdeal.nD Cert.HinIdeal.τ).loc Cert.HinIdeal.main_arg0)
      ∧ r.2.mem ((c.tc : Thread Cert.HinIdeal.nD Cert.HinIdeal.τ).loc Cert.HinIdeal.main_arg1) = m ((c.tc : Thread Cert.HinIdeal.nD Cert.HinIdeal.τ).loc Cert.HinIdeal.main_arg1)
      ∧ r.2.mem ((c.tc : Thread Cert.HinIdeal.nD Cert.HinIdeal.τ).loc Cert.HinIdeal.main_arg2) = m ((c.tc : Thread Cert.HinIdeal.nD Cert.HinIdeal.τ).loc Cert.HinIdeal.main_arg2))
      ∧ r.2.sem = fun _ => 0)

def quiescent_HinRefIdeal [hHinRefIdeal : Cert.HinRefIdeal.Facts] : Prop :=
  ∀ (m : (ℓ : Loc Cert.HinRefIdeal.nD Cert.HinRefIdeal.τ Cert.HinRefIdeal.sig) → Buf (Elt Ideal) ℓ) (g : Dev Cert.HinRefIdeal.nD → PrngReg), Pre_HinRefIdeal m →
    θ_run (Cert.HinRefIdeal.defs (F := Ideal)) (onTc (τ := Cert.HinRefIdeal.τ) (Cert.HinRefIdeal.main (F := Ideal))) ⟨m, fun _ => 0, g⟩ (fun r => (∀ c : Dev Cert.HinRefIdeal.nD,
      r.2.mem ((c.tc : Thread Cert.HinRefIdeal.nD Cert.HinRefIdeal.τ).loc Cert.HinRefIdeal.main_arg0) = m ((c.tc : Thread Cert.HinRefIdeal.nD Cert.HinRefIdeal.τ).loc Cert.HinRefIdeal.main_arg0)
      ∧ r.2.mem ((c.tc : Thread Cert.HinRefIdeal.nD Cert.HinRefIdeal.τ).loc Cert.HinRefIdeal.main_arg1) = m ((c.tc : Thread Cert.HinRefIdeal.nD Cert.HinRefIdeal.τ).loc Cert.HinRefIdeal.main_arg1)
      ∧ r.2.mem ((c.tc : Thread Cert.HinRefIdeal.nD Cert.HinRefIdeal.τ).loc Cert.HinRefIdeal.main_arg2) = m ((c.tc : Thread Cert.HinRefIdeal.nD Cert.HinRefIdeal.τ).loc Cert.HinRefIdeal.main_arg2))
      ∧ r.2.sem = fun _ => 0)

def quiescent_HinRefIdeal_pre_finite_logits [hHinRefIdeal : Cert.HinRefIdeal.Facts] [hPre_finite_logits : Cert.Pre_finite_logits.Facts] : Prop :=
  ∀ (m : (ℓ : Loc Cert.HinRefIdeal.nD Cert.HinRefIdeal.τ Cert.HinRefIdeal.sig) → Buf (Elt Ideal) ℓ) (g : Dev Cert.HinRefIdeal.nD → PrngReg), Pre_HinRefIdeal_finite_logits m →
    θ_run (Cert.HinRefIdeal.defs (F := Ideal)) (onTc (τ := Cert.HinRefIdeal.τ) (Cert.HinRefIdeal.main (F := Ideal))) ⟨m, fun _ => 0, g⟩ (fun r => (∀ c : Dev Cert.HinRefIdeal.nD,
      r.2.mem ((c.tc : Thread Cert.HinRefIdeal.nD Cert.HinRefIdeal.τ).loc Cert.HinRefIdeal.main_arg0) = m ((c.tc : Thread Cert.HinRefIdeal.nD Cert.HinRefIdeal.τ).loc Cert.HinRefIdeal.main_arg0)
      ∧ r.2.mem ((c.tc : Thread Cert.HinRefIdeal.nD Cert.HinRefIdeal.τ).loc Cert.HinRefIdeal.main_arg1) = m ((c.tc : Thread Cert.HinRefIdeal.nD Cert.HinRefIdeal.τ).loc Cert.HinRefIdeal.main_arg1)
      ∧ r.2.mem ((c.tc : Thread Cert.HinRefIdeal.nD Cert.HinRefIdeal.τ).loc Cert.HinRefIdeal.main_arg2) = m ((c.tc : Thread Cert.HinRefIdeal.nD Cert.HinRefIdeal.τ).loc Cert.HinRefIdeal.main_arg2))
      ∧ r.2.sem = fun _ => 0)

def quiescent_Pb [hPb : Cert.Pb.Facts] : Prop :=
  ∀ (m : (ℓ : Loc Cert.Pb.nD Cert.Pb.τ Cert.Pb.sig) → Buf (Elt Bits) ℓ) (g : Dev Cert.Pb.nD → PrngReg), Pre_Pb m →
    θ_run (Cert.Pb.defs (F := Bits)) (onTc (τ := Cert.Pb.τ) (Cert.Pb.main (F := Bits))) ⟨m, fun _ => 0, g⟩ (fun r => (∀ c : Dev Cert.Pb.nD,
      r.2.mem ((c.tc : Thread Cert.Pb.nD Cert.Pb.τ).loc Cert.Pb.main_arg0) = m ((c.tc : Thread Cert.Pb.nD Cert.Pb.τ).loc Cert.Pb.main_arg0)
      ∧ r.2.mem ((c.tc : Thread Cert.Pb.nD Cert.Pb.τ).loc Cert.Pb.main_arg1) = m ((c.tc : Thread Cert.Pb.nD Cert.Pb.τ).loc Cert.Pb.main_arg1)
      ∧ r.2.mem ((c.tc : Thread Cert.Pb.nD Cert.Pb.τ).loc Cert.Pb.main_arg2) = m ((c.tc : Thread Cert.Pb.nD Cert.Pb.τ).loc Cert.Pb.main_arg2))
      ∧ r.2.sem = fun _ => 0)

def quiescent_PbIdeal [hPbIdeal : Cert.PbIdeal.Facts] : Prop :=
  ∀ (m : (ℓ : Loc Cert.PbIdeal.nD Cert.PbIdeal.τ Cert.PbIdeal.sig) → Buf (Elt Ideal) ℓ) (g : Dev Cert.PbIdeal.nD → PrngReg), Pre_PbIdeal m →
    θ_run (Cert.PbIdeal.defs (F := Ideal)) (onTc (τ := Cert.PbIdeal.τ) (Cert.PbIdeal.main (F := Ideal))) ⟨m, fun _ => 0, g⟩ (fun r => (∀ c : Dev Cert.PbIdeal.nD,
      r.2.mem ((c.tc : Thread Cert.PbIdeal.nD Cert.PbIdeal.τ).loc Cert.PbIdeal.main_arg0) = m ((c.tc : Thread Cert.PbIdeal.nD Cert.PbIdeal.τ).loc Cert.PbIdeal.main_arg0)
      ∧ r.2.mem ((c.tc : Thread Cert.PbIdeal.nD Cert.PbIdeal.τ).loc Cert.PbIdeal.main_arg1) = m ((c.tc : Thread Cert.PbIdeal.nD Cert.PbIdeal.τ).loc Cert.PbIdeal.main_arg1)
      ∧ r.2.mem ((c.tc : Thread Cert.PbIdeal.nD Cert.PbIdeal.τ).loc Cert.PbIdeal.main_arg2) = m ((c.tc : Thread Cert.PbIdeal.nD Cert.PbIdeal.τ).loc Cert.PbIdeal.main_arg2))
      ∧ r.2.sem = fun _ => 0)

def quiescent_PbRefIdeal [hPbRefIdeal : Cert.PbRefIdeal.Facts] : Prop :=
  ∀ (m : (ℓ : Loc Cert.PbRefIdeal.nD Cert.PbRefIdeal.τ Cert.PbRefIdeal.sig) → Buf (Elt Ideal) ℓ) (g : Dev Cert.PbRefIdeal.nD → PrngReg), Pre_PbRefIdeal m →
    θ_run (Cert.PbRefIdeal.defs (F := Ideal)) (onTc (τ := Cert.PbRefIdeal.τ) (Cert.PbRefIdeal.main (F := Ideal))) ⟨m, fun _ => 0, g⟩ (fun r => (∀ c : Dev Cert.PbRefIdeal.nD,
      r.2.mem ((c.tc : Thread Cert.PbRefIdeal.nD Cert.PbRefIdeal.τ).loc Cert.PbRefIdeal.main_arg0) = m ((c.tc : Thread Cert.PbRefIdeal.nD Cert.PbRefIdeal.τ).loc Cert.PbRefIdeal.main_arg0)
      ∧ r.2.mem ((c.tc : Thread Cert.PbRefIdeal.nD Cert.PbRefIdeal.τ).loc Cert.PbRefIdeal.main_arg1) = m ((c.tc : Thread Cert.PbRefIdeal.nD Cert.PbRefIdeal.τ).loc Cert.PbRefIdeal.main_arg1)
      ∧ r.2.mem ((c.tc : Thread Cert.PbRefIdeal.nD Cert.PbRefIdeal.τ).loc Cert.PbRefIdeal.main_arg2) = m ((c.tc : Thread Cert.PbRefIdeal.nD Cert.PbRefIdeal.τ).loc Cert.PbRefIdeal.main_arg2))
      ∧ r.2.sem = fun _ => 0)

def quiescent_Pf [hPf : Cert.Pf.Facts] : Prop :=
  ∀ (m : (ℓ : Loc Cert.Pf.nD Cert.Pf.τ Cert.Pf.sig) → Buf (Elt Bits) ℓ) (g : Dev Cert.Pf.nD → PrngReg), Pre_Pf m →
    θ_run (Cert.Pf.defs (F := Bits)) (onTc (τ := Cert.Pf.τ) (Cert.Pf.main (F := Bits))) ⟨m, fun _ => 0, g⟩ (fun r => (∀ c : Dev Cert.Pf.nD,
      r.2.mem ((c.tc : Thread Cert.Pf.nD Cert.Pf.τ).loc Cert.Pf.main_arg0) = m ((c.tc : Thread Cert.Pf.nD Cert.Pf.τ).loc Cert.Pf.main_arg0)
      ∧ r.2.mem ((c.tc : Thread Cert.Pf.nD Cert.Pf.τ).loc Cert.Pf.main_arg1) = m ((c.tc : Thread Cert.Pf.nD Cert.Pf.τ).loc Cert.Pf.main_arg1)
      ∧ r.2.mem ((c.tc : Thread Cert.Pf.nD Cert.Pf.τ).loc Cert.Pf.main_arg2) = m ((c.tc : Thread Cert.Pf.nD Cert.Pf.τ).loc Cert.Pf.main_arg2))
      ∧ r.2.sem = fun _ => 0)

def quiescent_PfIdeal [hPfIdeal : Cert.PfIdeal.Facts] : Prop :=
  ∀ (m : (ℓ : Loc Cert.PfIdeal.nD Cert.PfIdeal.τ Cert.PfIdeal.sig) → Buf (Elt Ideal) ℓ) (g : Dev Cert.PfIdeal.nD → PrngReg), Pre_PfIdeal m →
    θ_run (Cert.PfIdeal.defs (F := Ideal)) (onTc (τ := Cert.PfIdeal.τ) (Cert.PfIdeal.main (F := Ideal))) ⟨m, fun _ => 0, g⟩ (fun r => (∀ c : Dev Cert.PfIdeal.nD,
      r.2.mem ((c.tc : Thread Cert.PfIdeal.nD Cert.PfIdeal.τ).loc Cert.PfIdeal.main_arg0) = m ((c.tc : Thread Cert.PfIdeal.nD Cert.PfIdeal.τ).loc Cert.PfIdeal.main_arg0)
      ∧ r.2.mem ((c.tc : Thread Cert.PfIdeal.nD Cert.PfIdeal.τ).loc Cert.PfIdeal.main_arg1) = m ((c.tc : Thread Cert.PfIdeal.nD Cert.PfIdeal.τ).loc Cert.PfIdeal.main_arg1)
      ∧ r.2.mem ((c.tc : Thread Cert.PfIdeal.nD Cert.PfIdeal.τ).loc Cert.PfIdeal.main_arg2) = m ((c.tc : Thread Cert.PfIdeal.nD Cert.PfIdeal.τ).loc Cert.PfIdeal.main_arg2))
      ∧ r.2.sem = fun _ => 0)

def quiescent_PfRefIdeal [hPfRefIdeal : Cert.PfRefIdeal.Facts] : Prop :=
  ∀ (m : (ℓ : Loc Cert.PfRefIdeal.nD Cert.PfRefIdeal.τ Cert.PfRefIdeal.sig) → Buf (Elt Ideal) ℓ) (g : Dev Cert.PfRefIdeal.nD → PrngReg), Pre_PfRefIdeal m →
    θ_run (Cert.PfRefIdeal.defs (F := Ideal)) (onTc (τ := Cert.PfRefIdeal.τ) (Cert.PfRefIdeal.main (F := Ideal))) ⟨m, fun _ => 0, g⟩ (fun r => (∀ c : Dev Cert.PfRefIdeal.nD,
      r.2.mem ((c.tc : Thread Cert.PfRefIdeal.nD Cert.PfRefIdeal.τ).loc Cert.PfRefIdeal.main_arg0) = m ((c.tc : Thread Cert.PfRefIdeal.nD Cert.PfRefIdeal.τ).loc Cert.PfRefIdeal.main_arg0)
      ∧ r.2.mem ((c.tc : Thread Cert.PfRefIdeal.nD Cert.PfRefIdeal.τ).loc Cert.PfRefIdeal.main_arg1) = m ((c.tc : Thread Cert.PfRefIdeal.nD Cert.PfRefIdeal.τ).loc Cert.PfRefIdeal.main_arg1)
      ∧ r.2.mem ((c.tc : Thread Cert.PfRefIdeal.nD Cert.PfRefIdeal.τ).loc Cert.PfRefIdeal.main_arg2) = m ((c.tc : Thread Cert.PfRefIdeal.nD Cert.PfRefIdeal.τ).loc Cert.PfRefIdeal.main_arg2))
      ∧ r.2.sem = fun _ => 0)

def quiescent_Nout [hNout : Cert.Nout.Facts] : Prop :=
  ∀ (m : (ℓ : Loc Cert.Nout.nD Cert.Nout.τ Cert.Nout.sig) → Buf (Elt Bits) ℓ) (g : Dev Cert.Nout.nD → PrngReg), Pre_Nout m →
    θ_run (Cert.Nout.defs (F := Bits)) (onTc (τ := Cert.Nout.τ) (Cert.Nout.main (F := Bits))) ⟨m, fun _ => 0, g⟩ (fun r => (∀ c : Dev Cert.Nout.nD,
      r.2.mem ((c.tc : Thread Cert.Nout.nD Cert.Nout.τ).loc Cert.Nout.main_arg0) = m ((c.tc : Thread Cert.Nout.nD Cert.Nout.τ).loc Cert.Nout.main_arg0)
      ∧ r.2.mem ((c.tc : Thread Cert.Nout.nD Cert.Nout.τ).loc Cert.Nout.main_arg1) = m ((c.tc : Thread Cert.Nout.nD Cert.Nout.τ).loc Cert.Nout.main_arg1)
      ∧ r.2.mem ((c.tc : Thread Cert.Nout.nD Cert.Nout.τ).loc Cert.Nout.main_arg2) = m ((c.tc : Thread Cert.Nout.nD Cert.Nout.τ).loc Cert.Nout.main_arg2)
      ∧ r.2.mem ((c.tc : Thread Cert.Nout.nD Cert.Nout.τ).loc Cert.Nout.main_arg3) = m ((c.tc : Thread Cert.Nout.nD Cert.Nout.τ).loc Cert.Nout.main_arg3)
      ∧ r.2.mem ((c.tc : Thread Cert.Nout.nD Cert.Nout.τ).loc Cert.Nout.main_arg4) = m ((c.tc : Thread Cert.Nout.nD Cert.Nout.τ).loc Cert.Nout.main_arg4)
      ∧ r.2.mem ((c.tc : Thread Cert.Nout.nD Cert.Nout.τ).loc Cert.Nout.main_arg5) = m ((c.tc : Thread Cert.Nout.nD Cert.Nout.τ).loc Cert.Nout.main_arg5)
      ∧ r.2.mem ((c.tc : Thread Cert.Nout.nD Cert.Nout.τ).loc Cert.Nout.main_arg6) = m ((c.tc : Thread Cert.Nout.nD Cert.Nout.τ).loc Cert.Nout.main_arg6)
      ∧ r.2.mem ((c.tc : Thread Cert.Nout.nD Cert.Nout.τ).loc Cert.Nout.main_arg7) = m ((c.tc : Thread Cert.Nout.nD Cert.Nout.τ).loc Cert.Nout.main_arg7))
      ∧ r.2.sem = fun _ => 0)

def quiescent_NoutIdeal [hNoutIdeal : Cert.NoutIdeal.Facts] : Prop :=
  ∀ (m : (ℓ : Loc Cert.NoutIdeal.nD Cert.NoutIdeal.τ Cert.NoutIdeal.sig) → Buf (Elt Ideal) ℓ) (g : Dev Cert.NoutIdeal.nD → PrngReg), Pre_NoutIdeal m →
    θ_run (Cert.NoutIdeal.defs (F := Ideal)) (onTc (τ := Cert.NoutIdeal.τ) (Cert.NoutIdeal.main (F := Ideal))) ⟨m, fun _ => 0, g⟩ (fun r => (∀ c : Dev Cert.NoutIdeal.nD,
      r.2.mem ((c.tc : Thread Cert.NoutIdeal.nD Cert.NoutIdeal.τ).loc Cert.NoutIdeal.main_arg0) = m ((c.tc : Thread Cert.NoutIdeal.nD Cert.NoutIdeal.τ).loc Cert.NoutIdeal.main_arg0)
      ∧ r.2.mem ((c.tc : Thread Cert.NoutIdeal.nD Cert.NoutIdeal.τ).loc Cert.NoutIdeal.main_arg1) = m ((c.tc : Thread Cert.NoutIdeal.nD Cert.NoutIdeal.τ).loc Cert.NoutIdeal.main_arg1)
      ∧ r.2.mem ((c.tc : Thread Cert.NoutIdeal.nD Cert.NoutIdeal.τ).loc Cert.NoutIdeal.main_arg2) = m ((c.tc : Thread Cert.NoutIdeal.nD Cert.NoutIdeal.τ).loc Cert.NoutIdeal.main_arg2)
      ∧ r.2.mem ((c.tc : Thread Cert.NoutIdeal.nD Cert.NoutIdeal.τ).loc Cert.NoutIdeal.main_arg3) = m ((c.tc : Thread Cert.NoutIdeal.nD Cert.NoutIdeal.τ).loc Cert.NoutIdeal.main_arg3)
      ∧ r.2.mem ((c.tc : Thread Cert.NoutIdeal.nD Cert.NoutIdeal.τ).loc Cert.NoutIdeal.main_arg4) = m ((c.tc : Thread Cert.NoutIdeal.nD Cert.NoutIdeal.τ).loc Cert.NoutIdeal.main_arg4)
      ∧ r.2.mem ((c.tc : Thread Cert.NoutIdeal.nD Cert.NoutIdeal.τ).loc Cert.NoutIdeal.main_arg5) = m ((c.tc : Thread Cert.NoutIdeal.nD Cert.NoutIdeal.τ).loc Cert.NoutIdeal.main_arg5)
      ∧ r.2.mem ((c.tc : Thread Cert.NoutIdeal.nD Cert.NoutIdeal.τ).loc Cert.NoutIdeal.main_arg6) = m ((c.tc : Thread Cert.NoutIdeal.nD Cert.NoutIdeal.τ).loc Cert.NoutIdeal.main_arg6)
      ∧ r.2.mem ((c.tc : Thread Cert.NoutIdeal.nD Cert.NoutIdeal.τ).loc Cert.NoutIdeal.main_arg7) = m ((c.tc : Thread Cert.NoutIdeal.nD Cert.NoutIdeal.τ).loc Cert.NoutIdeal.main_arg7))
      ∧ r.2.sem = fun _ => 0)

def quiescent_NoutRefIdeal [hNoutRefIdeal : Cert.NoutRefIdeal.Facts] : Prop :=
  ∀ (m : (ℓ : Loc Cert.NoutRefIdeal.nD Cert.NoutRefIdeal.τ Cert.NoutRefIdeal.sig) → Buf (Elt Ideal) ℓ) (g : Dev Cert.NoutRefIdeal.nD → PrngReg), Pre_NoutRefIdeal m →
    θ_run (Cert.NoutRefIdeal.defs (F := Ideal)) (onTc (τ := Cert.NoutRefIdeal.τ) (Cert.NoutRefIdeal.main (F := Ideal))) ⟨m, fun _ => 0, g⟩ (fun r => (∀ c : Dev Cert.NoutRefIdeal.nD,
      r.2.mem ((c.tc : Thread Cert.NoutRefIdeal.nD Cert.NoutRefIdeal.τ).loc Cert.NoutRefIdeal.main_arg0) = m ((c.tc : Thread Cert.NoutRefIdeal.nD Cert.NoutRefIdeal.τ).loc Cert.NoutRefIdeal.main_arg0)
      ∧ r.2.mem ((c.tc : Thread Cert.NoutRefIdeal.nD Cert.NoutRefIdeal.τ).loc Cert.NoutRefIdeal.main_arg1) = m ((c.tc : Thread Cert.NoutRefIdeal.nD Cert.NoutRefIdeal.τ).loc Cert.NoutRefIdeal.main_arg1)
      ∧ r.2.mem ((c.tc : Thread Cert.NoutRefIdeal.nD Cert.NoutRefIdeal.τ).loc Cert.NoutRefIdeal.main_arg2) = m ((c.tc : Thread Cert.NoutRefIdeal.nD Cert.NoutRefIdeal.τ).loc Cert.NoutRefIdeal.main_arg2)
      ∧ r.2.mem ((c.tc : Thread Cert.NoutRefIdeal.nD Cert.NoutRefIdeal.τ).loc Cert.NoutRefIdeal.main_arg3) = m ((c.tc : Thread Cert.NoutRefIdeal.nD Cert.NoutRefIdeal.τ).loc Cert.NoutRefIdeal.main_arg3)
      ∧ r.2.mem ((c.tc : Thread Cert.NoutRefIdeal.nD Cert.NoutRefIdeal.τ).loc Cert.NoutRefIdeal.main_arg4) = m ((c.tc : Thread Cert.NoutRefIdeal.nD Cert.NoutRefIdeal.τ).loc Cert.NoutRefIdeal.main_arg4)
      ∧ r.2.mem ((c.tc : Thread Cert.NoutRefIdeal.nD Cert.NoutRefIdeal.τ).loc Cert.NoutRefIdeal.main_arg5) = m ((c.tc : Thread Cert.NoutRefIdeal.nD Cert.NoutRefIdeal.τ).loc Cert.NoutRefIdeal.main_arg5)
      ∧ r.2.mem ((c.tc : Thread Cert.NoutRefIdeal.nD Cert.NoutRefIdeal.τ).loc Cert.NoutRefIdeal.main_arg6) = m ((c.tc : Thread Cert.NoutRefIdeal.nD Cert.NoutRefIdeal.τ).loc Cert.NoutRefIdeal.main_arg6)
      ∧ r.2.mem ((c.tc : Thread Cert.NoutRefIdeal.nD Cert.NoutRefIdeal.τ).loc Cert.NoutRefIdeal.main_arg7) = m ((c.tc : Thread Cert.NoutRefIdeal.nD Cert.NoutRefIdeal.τ).loc Cert.NoutRefIdeal.main_arg7))
      ∧ r.2.sem = fun _ => 0)

def quiescent_Hmid [hHmid : Cert.Hmid.Facts] : Prop :=
  ∀ (m : (ℓ : Loc Cert.Hmid.nD Cert.Hmid.τ Cert.Hmid.sig) → Buf (Elt Bits) ℓ) (g : Dev Cert.Hmid.nD → PrngReg), Pre_Hmid m →
    θ_run (Cert.Hmid.defs (F := Bits)) (onTc (τ := Cert.Hmid.τ) (Cert.Hmid.main (F := Bits))) ⟨m, fun _ => 0, g⟩ (fun r => (∀ c : Dev Cert.Hmid.nD,
      r.2.mem ((c.tc : Thread Cert.Hmid.nD Cert.Hmid.τ).loc Cert.Hmid.main_arg0) = m ((c.tc : Thread Cert.Hmid.nD Cert.Hmid.τ).loc Cert.Hmid.main_arg0)
      ∧ r.2.mem ((c.tc : Thread Cert.Hmid.nD Cert.Hmid.τ).loc Cert.Hmid.main_arg1) = m ((c.tc : Thread Cert.Hmid.nD Cert.Hmid.τ).loc Cert.Hmid.main_arg1)
      ∧ r.2.mem ((c.tc : Thread Cert.Hmid.nD Cert.Hmid.τ).loc Cert.Hmid.main_arg2) = m ((c.tc : Thread Cert.Hmid.nD Cert.Hmid.τ).loc Cert.Hmid.main_arg2)
      ∧ r.2.mem ((c.tc : Thread Cert.Hmid.nD Cert.Hmid.τ).loc Cert.Hmid.main_arg3) = m ((c.tc : Thread Cert.Hmid.nD Cert.Hmid.τ).loc Cert.Hmid.main_arg3))
      ∧ r.2.sem = fun _ => 0)

def quiescent_HmidIdeal [hHmidIdeal : Cert.HmidIdeal.Facts] : Prop :=
  ∀ (m : (ℓ : Loc Cert.HmidIdeal.nD Cert.HmidIdeal.τ Cert.HmidIdeal.sig) → Buf (Elt Ideal) ℓ) (g : Dev Cert.HmidIdeal.nD → PrngReg), Pre_HmidIdeal m →
    θ_run (Cert.HmidIdeal.defs (F := Ideal)) (onTc (τ := Cert.HmidIdeal.τ) (Cert.HmidIdeal.main (F := Ideal))) ⟨m, fun _ => 0, g⟩ (fun r => (∀ c : Dev Cert.HmidIdeal.nD,
      r.2.mem ((c.tc : Thread Cert.HmidIdeal.nD Cert.HmidIdeal.τ).loc Cert.HmidIdeal.main_arg0) = m ((c.tc : Thread Cert.HmidIdeal.nD Cert.HmidIdeal.τ).loc Cert.HmidIdeal.main_arg0)
      ∧ r.2.mem ((c.tc : Thread Cert.HmidIdeal.nD Cert.HmidIdeal.τ).loc Cert.HmidIdeal.main_arg1) = m ((c.tc : Thread Cert.HmidIdeal.nD Cert.HmidIdeal.τ).loc Cert.HmidIdeal.main_arg1)
      ∧ r.2.mem ((c.tc : Thread Cert.HmidIdeal.nD Cert.HmidIdeal.τ).loc Cert.HmidIdeal.main_arg2) = m ((c.tc : Thread Cert.HmidIdeal.nD Cert.HmidIdeal.τ).loc Cert.HmidIdeal.main_arg2)
      ∧ r.2.mem ((c.tc : Thread Cert.HmidIdeal.nD Cert.HmidIdeal.τ).loc Cert.HmidIdeal.main_arg3) = m ((c.tc : Thread Cert.HmidIdeal.nD Cert.HmidIdeal.τ).loc Cert.HmidIdeal.main_arg3))
      ∧ r.2.sem = fun _ => 0)

def quiescent_HmidRefIdeal [hHmidRefIdeal : Cert.HmidRefIdeal.Facts] : Prop :=
  ∀ (m : (ℓ : Loc Cert.HmidRefIdeal.nD Cert.HmidRefIdeal.τ Cert.HmidRefIdeal.sig) → Buf (Elt Ideal) ℓ) (g : Dev Cert.HmidRefIdeal.nD → PrngReg), Pre_HmidRefIdeal m →
    θ_run (Cert.HmidRefIdeal.defs (F := Ideal)) (onTc (τ := Cert.HmidRefIdeal.τ) (Cert.HmidRefIdeal.main (F := Ideal))) ⟨m, fun _ => 0, g⟩ (fun r => (∀ c : Dev Cert.HmidRefIdeal.nD,
      r.2.mem ((c.tc : Thread Cert.HmidRefIdeal.nD Cert.HmidRefIdeal.τ).loc Cert.HmidRefIdeal.main_arg0) = m ((c.tc : Thread Cert.HmidRefIdeal.nD Cert.HmidRefIdeal.τ).loc Cert.HmidRefIdeal.main_arg0)
      ∧ r.2.mem ((c.tc : Thread Cert.HmidRefIdeal.nD Cert.HmidRefIdeal.τ).loc Cert.HmidRefIdeal.main_arg1) = m ((c.tc : Thread Cert.HmidRefIdeal.nD Cert.HmidRefIdeal.τ).loc Cert.HmidRefIdeal.main_arg1)
      ∧ r.2.mem ((c.tc : Thread Cert.HmidRefIdeal.nD Cert.HmidRefIdeal.τ).loc Cert.HmidRefIdeal.main_arg2) = m ((c.tc : Thread Cert.HmidRefIdeal.nD Cert.HmidRefIdeal.τ).loc Cert.HmidRefIdeal.main_arg2)
      ∧ r.2.mem ((c.tc : Thread Cert.HmidRefIdeal.nD Cert.HmidRefIdeal.τ).loc Cert.HmidRefIdeal.main_arg3) = m ((c.tc : Thread Cert.HmidRefIdeal.nD Cert.HmidRefIdeal.τ).loc Cert.HmidRefIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1))
      ∧ r.2.sem = fun _ => 0)

def quiescent_Tab [hTab : Cert.Tab.Facts] : Prop :=
  ∀ (m : (ℓ : Loc Cert.Tab.nD Cert.Tab.τ Cert.Tab.sig) → Buf (Elt Bits) ℓ) (g : Dev Cert.Tab.nD → PrngReg), Pre_Tab m →
    θ_run (Cert.Tab.defs (F := Bits)) (onTc (τ := Cert.Tab.τ) (Cert.Tab.main (F := Bits))) ⟨m, fun _ => 0, g⟩ (fun r => (∀ c : Dev Cert.Tab.nD,
      r.2.mem ((c.tc : Thread Cert.Tab.nD Cert.Tab.τ).loc Cert.Tab.main_arg0) = m ((c.tc : Thread Cert.Tab.nD Cert.Tab.τ).loc Cert.Tab.main_arg0))
      ∧ r.2.sem = fun _ => 0)

def quiescent_TabIdeal [hTabIdeal : Cert.TabIdeal.Facts] : Prop :=
  ∀ (m : (ℓ : Loc Cert.TabIdeal.nD Cert.TabIdeal.τ Cert.TabIdeal.sig) → Buf (Elt Ideal) ℓ) (g : Dev Cert.TabIdeal.nD → PrngReg), Pre_TabIdeal m →
    θ_run (Cert.TabIdeal.defs (F := Ideal)) (onTc (τ := Cert.TabIdeal.τ) (Cert.TabIdeal.main (F := Ideal))) ⟨m, fun _ => 0, g⟩ (fun r => (∀ c : Dev Cert.TabIdeal.nD,
      r.2.mem ((c.tc : Thread Cert.TabIdeal.nD Cert.TabIdeal.τ).loc Cert.TabIdeal.main_arg0) = m ((c.tc : Thread Cert.TabIdeal.nD Cert.TabIdeal.τ).loc Cert.TabIdeal.main_arg0))
      ∧ r.2.sem = fun _ => 0)

def quiescent_TabRefIdeal [hTabRefIdeal : Cert.TabRefIdeal.Facts] : Prop :=
  ∀ (m : (ℓ : Loc Cert.TabRefIdeal.nD Cert.TabRefIdeal.τ Cert.TabRefIdeal.sig) → Buf (Elt Ideal) ℓ) (g : Dev Cert.TabRefIdeal.nD → PrngReg), Pre_TabRefIdeal m →
    θ_run (Cert.TabRefIdeal.defs (F := Ideal)) (onTc (τ := Cert.TabRefIdeal.τ) (Cert.TabRefIdeal.main (F := Ideal))) ⟨m, fun _ => 0, g⟩ (fun r => (∀ c : Dev Cert.TabRefIdeal.nD,
      r.2.mem ((c.tc : Thread Cert.TabRefIdeal.nD Cert.TabRefIdeal.τ).loc Cert.TabRefIdeal.main_arg0) = m ((c.tc : Thread Cert.TabRefIdeal.nD Cert.TabRefIdeal.τ).loc Cert.TabRefIdeal.main_arg0))
      ∧ r.2.sem = fun _ => 0)

def preserves_Win_WinIdeal : Prop :=
  IdealRules.named_const.Statement Cert.WinIdeal.κ "mask" .f32 0xF149F2CA#32 ⊥

def algebraic_WinIdeal_WinRefIdeal_pre_finite_qk [hWinIdeal : Cert.WinIdeal.Facts] [hWinRefIdeal : Cert.WinRefIdeal.Facts] [hPre_finite_qk : Cert.Pre_finite_qk.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_qk m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v12)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v12) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v36) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Hout_HoutIdeal : Prop :=
  True

def algebraic_HoutIdeal_HoutRefIdeal [hHoutIdeal : Cert.HoutIdeal.Facts] [hHoutRefIdeal : Cert.HoutRefIdeal.Facts] : Prop :=
  ∀ (m : (ℓ : Loc Cert.HoutIdeal.nD Cert.HoutIdeal.τ Cert.HoutIdeal.sig) → Buf (Elt Ideal) ℓ) (g : Dev Cert.HoutIdeal.nD → PrngReg)
    (m' : (ℓ : Loc Cert.HoutRefIdeal.nD Cert.HoutRefIdeal.τ Cert.HoutRefIdeal.sig) → Buf (Elt Ideal) ℓ) (g' : Dev Cert.HoutRefIdeal.nD → PrngReg), Pre_HoutIdeal m →
    (∀ c : Dev Cert.HoutIdeal.nD,
      m' ((c.tc : Thread Cert.HoutRefIdeal.nD Cert.HoutRefIdeal.τ).loc Cert.HoutRefIdeal.main_arg0) = m ((c.tc : Thread Cert.HoutIdeal.nD Cert.HoutIdeal.τ).loc Cert.HoutIdeal.main_arg0)
      ∧ m' ((c.tc : Thread Cert.HoutRefIdeal.nD Cert.HoutRefIdeal.τ).loc Cert.HoutRefIdeal.main_arg1) = m ((c.tc : Thread Cert.HoutIdeal.nD Cert.HoutIdeal.τ).loc Cert.HoutIdeal.main_arg1)
      ∧ m' ((c.tc : Thread Cert.HoutRefIdeal.nD Cert.HoutRefIdeal.τ).loc Cert.HoutRefIdeal.main_arg2) = m ((c.tc : Thread Cert.HoutIdeal.nD Cert.HoutIdeal.τ).loc Cert.HoutIdeal.main_arg2)
      ∧ m' ((c.tc : Thread Cert.HoutRefIdeal.nD Cert.HoutRefIdeal.τ).loc Cert.HoutRefIdeal.main_arg3) = m ((c.tc : Thread Cert.HoutIdeal.nD Cert.HoutIdeal.τ).loc Cert.HoutIdeal.main_arg3)) →
    ∃ (v0 : (c : Dev Cert.HoutIdeal.nD) → Buf (Elt Ideal) ((c.tc : Thread Cert.HoutIdeal.nD Cert.HoutIdeal.τ).loc Cert.HoutIdeal.main_v5)),
      θ_run (Cert.HoutIdeal.defs (F := Ideal)) (onTc (τ := Cert.HoutIdeal.τ) (Cert.HoutIdeal.main (F := Ideal))) ⟨m, fun _ => 0, g⟩ (fun r => ∀ c : Dev Cert.HoutIdeal.nD,
          r.2.mem ((c.tc : Thread Cert.HoutIdeal.nD Cert.HoutIdeal.τ).loc Cert.HoutIdeal.main_v5) = v0 c
          ∧ r.2.mem ((c.tc : Thread Cert.HoutIdeal.nD Cert.HoutIdeal.τ).loc Cert.HoutIdeal.main_arg0) = m ((c.tc : Thread Cert.HoutIdeal.nD Cert.HoutIdeal.τ).loc Cert.HoutIdeal.main_arg0)
          ∧ r.2.mem ((c.tc : Thread Cert.HoutIdeal.nD Cert.HoutIdeal.τ).loc Cert.HoutIdeal.main_arg1) = m ((c.tc : Thread Cert.HoutIdeal.nD Cert.HoutIdeal.τ).loc Cert.HoutIdeal.main_arg1)
          ∧ r.2.mem ((c.tc : Thread Cert.HoutIdeal.nD Cert.HoutIdeal.τ).loc Cert.HoutIdeal.main_arg2) = m ((c.tc : Thread Cert.HoutIdeal.nD Cert.HoutIdeal.τ).loc Cert.HoutIdeal.main_arg2)
          ∧ r.2.mem ((c.tc : Thread Cert.HoutIdeal.nD Cert.HoutIdeal.τ).loc Cert.HoutIdeal.main_arg3) = m ((c.tc : Thread Cert.HoutIdeal.nD Cert.HoutIdeal.τ).loc Cert.HoutIdeal.main_arg3))
      ∧ θ_run (Cert.HoutRefIdeal.defs (F := Ideal)) (onTc (τ := Cert.HoutRefIdeal.τ) (Cert.HoutRefIdeal.main (F := Ideal))) ⟨m', fun _ => 0, g'⟩ (fun r => ∀ c : Dev Cert.HoutRefIdeal.nD,
          r.2.mem ((c.tc : Thread Cert.HoutRefIdeal.nD Cert.HoutRefIdeal.τ).loc Cert.HoutRefIdeal.main_v17) = v0 c
          ∧ r.2.mem ((c.tc : Thread Cert.HoutRefIdeal.nD Cert.HoutRefIdeal.τ).loc Cert.HoutRefIdeal.main_arg0) = m' ((c.tc : Thread Cert.HoutRefIdeal.nD Cert.HoutRefIdeal.τ).loc Cert.HoutRefIdeal.main_arg0)
          ∧ r.2.mem ((c.tc : Thread Cert.HoutRefIdeal.nD Cert.HoutRefIdeal.τ).loc Cert.HoutRefIdeal.main_arg1) = m' ((c.tc : Thread Cert.HoutRefIdeal.nD Cert.HoutRefIdeal.τ).loc Cert.HoutRefIdeal.main_arg1)
          ∧ r.2.mem ((c.tc : Thread Cert.HoutRefIdeal.nD Cert.HoutRefIdeal.τ).loc Cert.HoutRefIdeal.main_arg2) = m' ((c.tc : Thread Cert.HoutRefIdeal.nD Cert.HoutRefIdeal.τ).loc Cert.HoutRefIdeal.main_arg2)
          ∧ r.2.mem ((c.tc : Thread Cert.HoutRefIdeal.nD Cert.HoutRefIdeal.τ).loc Cert.HoutRefIdeal.main_arg3) = m' ((c.tc : Thread Cert.HoutRefIdeal.nD Cert.HoutRefIdeal.τ).loc Cert.HoutRefIdeal.main_arg3))

def preserves_Hin_HinIdeal : Prop :=
  True

def algebraic_HinIdeal_HinRefIdeal_pre_finite_logits [hHinIdeal : Cert.HinIdeal.Facts] [hHinRefIdeal : Cert.HinRefIdeal.Facts] [hPre_finite_logits : Cert.Pre_finite_logits.Facts] : Prop :=
  ∀ (m : (ℓ : Loc Cert.HinIdeal.nD Cert.HinIdeal.τ Cert.HinIdeal.sig) → Buf (Elt Ideal) ℓ) (g : Dev Cert.HinIdeal.nD → PrngReg)
    (m' : (ℓ : Loc Cert.HinRefIdeal.nD Cert.HinRefIdeal.τ Cert.HinRefIdeal.sig) → Buf (Elt Ideal) ℓ) (g' : Dev Cert.HinRefIdeal.nD → PrngReg), Pre_HinIdeal_finite_logits m →
    (∀ c : Dev Cert.HinIdeal.nD,
      m' ((c.tc : Thread Cert.HinRefIdeal.nD Cert.HinRefIdeal.τ).loc Cert.HinRefIdeal.main_arg0) = m ((c.tc : Thread Cert.HinIdeal.nD Cert.HinIdeal.τ).loc Cert.HinIdeal.main_arg0)
      ∧ m' ((c.tc : Thread Cert.HinRefIdeal.nD Cert.HinRefIdeal.τ).loc Cert.HinRefIdeal.main_arg1) = m ((c.tc : Thread Cert.HinIdeal.nD Cert.HinIdeal.τ).loc Cert.HinIdeal.main_arg1)
      ∧ m' ((c.tc : Thread Cert.HinRefIdeal.nD Cert.HinRefIdeal.τ).loc Cert.HinRefIdeal.main_arg2) = m ((c.tc : Thread Cert.HinIdeal.nD Cert.HinIdeal.τ).loc Cert.HinIdeal.main_arg2)) →
    ∃ (v0 : (c : Dev Cert.HinIdeal.nD) → Buf (Elt Ideal) ((c.tc : Thread Cert.HinIdeal.nD Cert.HinIdeal.τ).loc Cert.HinIdeal.main_v2)),
      θ_run (Cert.HinIdeal.defs (F := Ideal)) (onTc (τ := Cert.HinIdeal.τ) (Cert.HinIdeal.main (F := Ideal))) ⟨m, fun _ => 0, g⟩ (fun r => ∀ c : Dev Cert.HinIdeal.nD,
          r.2.mem ((c.tc : Thread Cert.HinIdeal.nD Cert.HinIdeal.τ).loc Cert.HinIdeal.main_v2) = v0 c
          ∧ r.2.mem ((c.tc : Thread Cert.HinIdeal.nD Cert.HinIdeal.τ).loc Cert.HinIdeal.main_arg0) = m ((c.tc : Thread Cert.HinIdeal.nD Cert.HinIdeal.τ).loc Cert.HinIdeal.main_arg0)
          ∧ r.2.mem ((c.tc : Thread Cert.HinIdeal.nD Cert.HinIdeal.τ).loc Cert.HinIdeal.main_arg1) = m ((c.tc : Thread Cert.HinIdeal.nD Cert.HinIdeal.τ).loc Cert.HinIdeal.main_arg1)
          ∧ r.2.mem ((c.tc : Thread Cert.HinIdeal.nD Cert.HinIdeal.τ).loc Cert.HinIdeal.main_arg2) = m ((c.tc : Thread Cert.HinIdeal.nD Cert.HinIdeal.τ).loc Cert.HinIdeal.main_arg2))
      ∧ θ_run (Cert.HinRefIdeal.defs (F := Ideal)) (onTc (τ := Cert.HinRefIdeal.τ) (Cert.HinRefIdeal.main (F := Ideal))) ⟨m', fun _ => 0, g'⟩ (fun r => ∀ c : Dev Cert.HinRefIdeal.nD,
          r.2.mem ((c.tc : Thread Cert.HinRefIdeal.nD Cert.HinRefIdeal.τ).loc Cert.HinRefIdeal.main_v50) = v0 c
          ∧ r.2.mem ((c.tc : Thread Cert.HinRefIdeal.nD Cert.HinRefIdeal.τ).loc Cert.HinRefIdeal.main_arg0) = m' ((c.tc : Thread Cert.HinRefIdeal.nD Cert.HinRefIdeal.τ).loc Cert.HinRefIdeal.main_arg0)
          ∧ r.2.mem ((c.tc : Thread Cert.HinRefIdeal.nD Cert.HinRefIdeal.τ).loc Cert.HinRefIdeal.main_arg1) = m' ((c.tc : Thread Cert.HinRefIdeal.nD Cert.HinRefIdeal.τ).loc Cert.HinRefIdeal.main_arg1)
          ∧ r.2.mem ((c.tc : Thread Cert.HinRefIdeal.nD Cert.HinRefIdeal.τ).loc Cert.HinRefIdeal.main_arg2) = m' ((c.tc : Thread Cert.HinRefIdeal.nD Cert.HinRefIdeal.τ).loc Cert.HinRefIdeal.main_arg2))

def preserves_Pb_PbIdeal : Prop :=
  IdealRules.named_const.Statement Cert.PbIdeal.κ "scale" .f32 0x3E0293EE#32 ((((Real.sqrt 128) * (Real.log 2))⁻¹ : ℝ) : EReal)

def algebraic_PbIdeal_PbRefIdeal [hPbIdeal : Cert.PbIdeal.Facts] [hPbRefIdeal : Cert.PbRefIdeal.Facts] : Prop :=
  ∀ (m : (ℓ : Loc Cert.PbIdeal.nD Cert.PbIdeal.τ Cert.PbIdeal.sig) → Buf (Elt Ideal) ℓ) (g : Dev Cert.PbIdeal.nD → PrngReg)
    (m' : (ℓ : Loc Cert.PbRefIdeal.nD Cert.PbRefIdeal.τ Cert.PbRefIdeal.sig) → Buf (Elt Ideal) ℓ) (g' : Dev Cert.PbRefIdeal.nD → PrngReg), Pre_PbIdeal m →
    (∀ c : Dev Cert.PbIdeal.nD,
      m' ((c.tc : Thread Cert.PbRefIdeal.nD Cert.PbRefIdeal.τ).loc Cert.PbRefIdeal.main_arg0) = m ((c.tc : Thread Cert.PbIdeal.nD Cert.PbIdeal.τ).loc Cert.PbIdeal.main_arg0)
      ∧ m' ((c.tc : Thread Cert.PbRefIdeal.nD Cert.PbRefIdeal.τ).loc Cert.PbRefIdeal.main_arg1) = m ((c.tc : Thread Cert.PbIdeal.nD Cert.PbIdeal.τ).loc Cert.PbIdeal.main_arg1)
      ∧ m' ((c.tc : Thread Cert.PbRefIdeal.nD Cert.PbRefIdeal.τ).loc Cert.PbRefIdeal.main_arg2) = m ((c.tc : Thread Cert.PbIdeal.nD Cert.PbIdeal.τ).loc Cert.PbIdeal.main_arg2)) →
    ∃ (v0 : (c : Dev Cert.PbIdeal.nD) → Buf (Elt Ideal) ((c.tc : Thread Cert.PbIdeal.nD Cert.PbIdeal.τ).loc Cert.PbIdeal.main_v37)),
      θ_run (Cert.PbIdeal.defs (F := Ideal)) (onTc (τ := Cert.PbIdeal.τ) (Cert.PbIdeal.main (F := Ideal))) ⟨m, fun _ => 0, g⟩ (fun r => ∀ c : Dev Cert.PbIdeal.nD,
          r.2.mem ((c.tc : Thread Cert.PbIdeal.nD Cert.PbIdeal.τ).loc Cert.PbIdeal.main_v37) = v0 c
          ∧ r.2.mem ((c.tc : Thread Cert.PbIdeal.nD Cert.PbIdeal.τ).loc Cert.PbIdeal.main_arg0) = m ((c.tc : Thread Cert.PbIdeal.nD Cert.PbIdeal.τ).loc Cert.PbIdeal.main_arg0)
          ∧ r.2.mem ((c.tc : Thread Cert.PbIdeal.nD Cert.PbIdeal.τ).loc Cert.PbIdeal.main_arg1) = m ((c.tc : Thread Cert.PbIdeal.nD Cert.PbIdeal.τ).loc Cert.PbIdeal.main_arg1)
          ∧ r.2.mem ((c.tc : Thread Cert.PbIdeal.nD Cert.PbIdeal.τ).loc Cert.PbIdeal.main_arg2) = m ((c.tc : Thread Cert.PbIdeal.nD Cert.PbIdeal.τ).loc Cert.PbIdeal.main_arg2))
      ∧ θ_run (Cert.PbRefIdeal.defs (F := Ideal)) (onTc (τ := Cert.PbRefIdeal.τ) (Cert.PbRefIdeal.main (F := Ideal))) ⟨m', fun _ => 0, g'⟩ (fun r => ∀ c : Dev Cert.PbRefIdeal.nD,
          r.2.mem ((c.tc : Thread Cert.PbRefIdeal.nD Cert.PbRefIdeal.τ).loc Cert.PbRefIdeal.main_v156) = v0 c
          ∧ r.2.mem ((c.tc : Thread Cert.PbRefIdeal.nD Cert.PbRefIdeal.τ).loc Cert.PbRefIdeal.main_arg0) = m' ((c.tc : Thread Cert.PbRefIdeal.nD Cert.PbRefIdeal.τ).loc Cert.PbRefIdeal.main_arg0)
          ∧ r.2.mem ((c.tc : Thread Cert.PbRefIdeal.nD Cert.PbRefIdeal.τ).loc Cert.PbRefIdeal.main_arg1) = m' ((c.tc : Thread Cert.PbRefIdeal.nD Cert.PbRefIdeal.τ).loc Cert.PbRefIdeal.main_arg1)
          ∧ r.2.mem ((c.tc : Thread Cert.PbRefIdeal.nD Cert.PbRefIdeal.τ).loc Cert.PbRefIdeal.main_arg2) = m' ((c.tc : Thread Cert.PbRefIdeal.nD Cert.PbRefIdeal.τ).loc Cert.PbRefIdeal.main_arg2))

def preserves_Pf_PfIdeal : Prop :=
  True

def algebraic_PfIdeal_PfRefIdeal [hPfIdeal : Cert.PfIdeal.Facts] [hPfRefIdeal : Cert.PfRefIdeal.Facts] : Prop :=
  ∀ (m : (ℓ : Loc Cert.PfIdeal.nD Cert.PfIdeal.τ Cert.PfIdeal.sig) → Buf (Elt Ideal) ℓ) (g : Dev Cert.PfIdeal.nD → PrngReg)
    (m' : (ℓ : Loc Cert.PfRefIdeal.nD Cert.PfRefIdeal.τ Cert.PfRefIdeal.sig) → Buf (Elt Ideal) ℓ) (g' : Dev Cert.PfRefIdeal.nD → PrngReg), Pre_PfIdeal m →
    (∀ c : Dev Cert.PfIdeal.nD,
      m' ((c.tc : Thread Cert.PfRefIdeal.nD Cert.PfRefIdeal.τ).loc Cert.PfRefIdeal.main_arg0) = m ((c.tc : Thread Cert.PfIdeal.nD Cert.PfIdeal.τ).loc Cert.PfIdeal.main_arg0)
      ∧ m' ((c.tc : Thread Cert.PfRefIdeal.nD Cert.PfRefIdeal.τ).loc Cert.PfRefIdeal.main_arg1) = m ((c.tc : Thread Cert.PfIdeal.nD Cert.PfIdeal.τ).loc Cert.PfIdeal.main_arg1)
      ∧ m' ((c.tc : Thread Cert.PfRefIdeal.nD Cert.PfRefIdeal.τ).loc Cert.PfRefIdeal.main_arg2) = m ((c.tc : Thread Cert.PfIdeal.nD Cert.PfIdeal.τ).loc Cert.PfIdeal.main_arg2)) →
    ∃ (v0 : (c : Dev Cert.PfIdeal.nD) → Buf (Elt Ideal) ((c.tc : Thread Cert.PfIdeal.nD Cert.PfIdeal.τ).loc Cert.PfIdeal.main_v38)),
      θ_run (Cert.PfIdeal.defs (F := Ideal)) (onTc (τ := Cert.PfIdeal.τ) (Cert.PfIdeal.main (F := Ideal))) ⟨m, fun _ => 0, g⟩ (fun r => ∀ c : Dev Cert.PfIdeal.nD,
          r.2.mem ((c.tc : Thread Cert.PfIdeal.nD Cert.PfIdeal.τ).loc Cert.PfIdeal.main_v38) = v0 c
          ∧ r.2.mem ((c.tc : Thread Cert.PfIdeal.nD Cert.PfIdeal.τ).loc Cert.PfIdeal.main_arg0) = m ((c.tc : Thread Cert.PfIdeal.nD Cert.PfIdeal.τ).loc Cert.PfIdeal.main_arg0)
          ∧ r.2.mem ((c.tc : Thread Cert.PfIdeal.nD Cert.PfIdeal.τ).loc Cert.PfIdeal.main_arg1) = m ((c.tc : Thread Cert.PfIdeal.nD Cert.PfIdeal.τ).loc Cert.PfIdeal.main_arg1)
          ∧ r.2.mem ((c.tc : Thread Cert.PfIdeal.nD Cert.PfIdeal.τ).loc Cert.PfIdeal.main_arg2) = m ((c.tc : Thread Cert.PfIdeal.nD Cert.PfIdeal.τ).loc Cert.PfIdeal.main_arg2))
      ∧ θ_run (Cert.PfRefIdeal.defs (F := Ideal)) (onTc (τ := Cert.PfRefIdeal.τ) (Cert.PfRefIdeal.main (F := Ideal))) ⟨m', fun _ => 0, g'⟩ (fun r => ∀ c : Dev Cert.PfRefIdeal.nD,
          r.2.mem ((c.tc : Thread Cert.PfRefIdeal.nD Cert.PfRefIdeal.τ).loc Cert.PfRefIdeal.main_v150) = v0 c
          ∧ r.2.mem ((c.tc : Thread Cert.PfRefIdeal.nD Cert.PfRefIdeal.τ).loc Cert.PfRefIdeal.main_arg0) = m' ((c.tc : Thread Cert.PfRefIdeal.nD Cert.PfRefIdeal.τ).loc Cert.PfRefIdeal.main_arg0)
          ∧ r.2.mem ((c.tc : Thread Cert.PfRefIdeal.nD Cert.PfRefIdeal.τ).loc Cert.PfRefIdeal.main_arg1) = m' ((c.tc : Thread Cert.PfRefIdeal.nD Cert.PfRefIdeal.τ).loc Cert.PfRefIdeal.main_arg1)
          ∧ r.2.mem ((c.tc : Thread Cert.PfRefIdeal.nD Cert.PfRefIdeal.τ).loc Cert.PfRefIdeal.main_arg2) = m' ((c.tc : Thread Cert.PfRefIdeal.nD Cert.PfRefIdeal.τ).loc Cert.PfRefIdeal.main_arg2))

def preserves_Nout_NoutIdeal : Prop :=
  True

def algebraic_NoutIdeal_NoutRefIdeal [hNoutIdeal : Cert.NoutIdeal.Facts] [hNoutRefIdeal : Cert.NoutRefIdeal.Facts] : Prop :=
  ∀ (m : (ℓ : Loc Cert.NoutIdeal.nD Cert.NoutIdeal.τ Cert.NoutIdeal.sig) → Buf (Elt Ideal) ℓ) (g : Dev Cert.NoutIdeal.nD → PrngReg)
    (m' : (ℓ : Loc Cert.NoutRefIdeal.nD Cert.NoutRefIdeal.τ Cert.NoutRefIdeal.sig) → Buf (Elt Ideal) ℓ) (g' : Dev Cert.NoutRefIdeal.nD → PrngReg), Pre_NoutIdeal m →
    (∀ c : Dev Cert.NoutIdeal.nD,
      m' ((c.tc : Thread Cert.NoutRefIdeal.nD Cert.NoutRefIdeal.τ).loc Cert.NoutRefIdeal.main_arg0) = m ((c.tc : Thread Cert.NoutIdeal.nD Cert.NoutIdeal.τ).loc Cert.NoutIdeal.main_arg0)
      ∧ m' ((c.tc : Thread Cert.NoutRefIdeal.nD Cert.NoutRefIdeal.τ).loc Cert.NoutRefIdeal.main_arg1) = m ((c.tc : Thread Cert.NoutIdeal.nD Cert.NoutIdeal.τ).loc Cert.NoutIdeal.main_arg1)
      ∧ m' ((c.tc : Thread Cert.NoutRefIdeal.nD Cert.NoutRefIdeal.τ).loc Cert.NoutRefIdeal.main_arg2) = m ((c.tc : Thread Cert.NoutIdeal.nD Cert.NoutIdeal.τ).loc Cert.NoutIdeal.main_arg2)
      ∧ m' ((c.tc : Thread Cert.NoutRefIdeal.nD Cert.NoutRefIdeal.τ).loc Cert.NoutRefIdeal.main_arg3) = m ((c.tc : Thread Cert.NoutIdeal.nD Cert.NoutIdeal.τ).loc Cert.NoutIdeal.main_arg3)
      ∧ m' ((c.tc : Thread Cert.NoutRefIdeal.nD Cert.NoutRefIdeal.τ).loc Cert.NoutRefIdeal.main_arg4) = m ((c.tc : Thread Cert.NoutIdeal.nD Cert.NoutIdeal.τ).loc Cert.NoutIdeal.main_arg4)
      ∧ m' ((c.tc : Thread Cert.NoutRefIdeal.nD Cert.NoutRefIdeal.τ).loc Cert.NoutRefIdeal.main_arg5) = m ((c.tc : Thread Cert.NoutIdeal.nD Cert.NoutIdeal.τ).loc Cert.NoutIdeal.main_arg5)
      ∧ m' ((c.tc : Thread Cert.NoutRefIdeal.nD Cert.NoutRefIdeal.τ).loc Cert.NoutRefIdeal.main_arg6) = m ((c.tc : Thread Cert.NoutIdeal.nD Cert.NoutIdeal.τ).loc Cert.NoutIdeal.main_arg6)
      ∧ m' ((c.tc : Thread Cert.NoutRefIdeal.nD Cert.NoutRefIdeal.τ).loc Cert.NoutRefIdeal.main_arg7) = m ((c.tc : Thread Cert.NoutIdeal.nD Cert.NoutIdeal.τ).loc Cert.NoutIdeal.main_arg7)) →
    ∃ (v0 : (c : Dev Cert.NoutIdeal.nD) → Buf (Elt Ideal) ((c.tc : Thread Cert.NoutIdeal.nD Cert.NoutIdeal.τ).loc Cert.NoutIdeal.main_v11_0)) (v1 : (c : Dev Cert.NoutIdeal.nD) → Buf (Elt Ideal) ((c.tc : Thread Cert.NoutIdeal.nD Cert.NoutIdeal.τ).loc Cert.NoutIdeal.main_v11_1)),
      θ_run (Cert.NoutIdeal.defs (F := Ideal)) (onTc (τ := Cert.NoutIdeal.τ) (Cert.NoutIdeal.main (F := Ideal))) ⟨m, fun _ => 0, g⟩ (fun r => ∀ c : Dev Cert.NoutIdeal.nD,
          r.2.mem ((c.tc : Thread Cert.NoutIdeal.nD Cert.NoutIdeal.τ).loc Cert.NoutIdeal.main_v11_0) = v0 c
          ∧ r.2.mem ((c.tc : Thread Cert.NoutIdeal.nD Cert.NoutIdeal.τ).loc Cert.NoutIdeal.main_v11_1) = v1 c
          ∧ r.2.mem ((c.tc : Thread Cert.NoutIdeal.nD Cert.NoutIdeal.τ).loc Cert.NoutIdeal.main_arg0) = m ((c.tc : Thread Cert.NoutIdeal.nD Cert.NoutIdeal.τ).loc Cert.NoutIdeal.main_arg0)
          ∧ r.2.mem ((c.tc : Thread Cert.NoutIdeal.nD Cert.NoutIdeal.τ).loc Cert.NoutIdeal.main_arg1) = m ((c.tc : Thread Cert.NoutIdeal.nD Cert.NoutIdeal.τ).loc Cert.NoutIdeal.main_arg1)
          ∧ r.2.mem ((c.tc : Thread Cert.NoutIdeal.nD Cert.NoutIdeal.τ).loc Cert.NoutIdeal.main_arg2) = m ((c.tc : Thread Cert.NoutIdeal.nD Cert.NoutIdeal.τ).loc Cert.NoutIdeal.main_arg2)
          ∧ r.2.mem ((c.tc : Thread Cert.NoutIdeal.nD Cert.NoutIdeal.τ).loc Cert.NoutIdeal.main_arg3) = m ((c.tc : Thread Cert.NoutIdeal.nD Cert.NoutIdeal.τ).loc Cert.NoutIdeal.main_arg3)
          ∧ r.2.mem ((c.tc : Thread Cert.NoutIdeal.nD Cert.NoutIdeal.τ).loc Cert.NoutIdeal.main_arg4) = m ((c.tc : Thread Cert.NoutIdeal.nD Cert.NoutIdeal.τ).loc Cert.NoutIdeal.main_arg4)
          ∧ r.2.mem ((c.tc : Thread Cert.NoutIdeal.nD Cert.NoutIdeal.τ).loc Cert.NoutIdeal.main_arg5) = m ((c.tc : Thread Cert.NoutIdeal.nD Cert.NoutIdeal.τ).loc Cert.NoutIdeal.main_arg5)
          ∧ r.2.mem ((c.tc : Thread Cert.NoutIdeal.nD Cert.NoutIdeal.τ).loc Cert.NoutIdeal.main_arg6) = m ((c.tc : Thread Cert.NoutIdeal.nD Cert.NoutIdeal.τ).loc Cert.NoutIdeal.main_arg6)
          ∧ r.2.mem ((c.tc : Thread Cert.NoutIdeal.nD Cert.NoutIdeal.τ).loc Cert.NoutIdeal.main_arg7) = m ((c.tc : Thread Cert.NoutIdeal.nD Cert.NoutIdeal.τ).loc Cert.NoutIdeal.main_arg7))
      ∧ θ_run (Cert.NoutRefIdeal.defs (F := Ideal)) (onTc (τ := Cert.NoutRefIdeal.τ) (Cert.NoutRefIdeal.main (F := Ideal))) ⟨m', fun _ => 0, g'⟩ (fun r => ∀ c : Dev Cert.NoutRefIdeal.nD,
          r.2.mem ((c.tc : Thread Cert.NoutRefIdeal.nD Cert.NoutRefIdeal.τ).loc Cert.NoutRefIdeal.main_v29) = v0 c
          ∧ r.2.mem ((c.tc : Thread Cert.NoutRefIdeal.nD Cert.NoutRefIdeal.τ).loc Cert.NoutRefIdeal.main_v44) = v1 c
          ∧ r.2.mem ((c.tc : Thread Cert.NoutRefIdeal.nD Cert.NoutRefIdeal.τ).loc Cert.NoutRefIdeal.main_arg0) = m' ((c.tc : Thread Cert.NoutRefIdeal.nD Cert.NoutRefIdeal.τ).loc Cert.NoutRefIdeal.main_arg0)
          ∧ r.2.mem ((c.tc : Thread Cert.NoutRefIdeal.nD Cert.NoutRefIdeal.τ).loc Cert.NoutRefIdeal.main_arg1) = m' ((c.tc : Thread Cert.NoutRefIdeal.nD Cert.NoutRefIdeal.τ).loc Cert.NoutRefIdeal.main_arg1)
          ∧ r.2.mem ((c.tc : Thread Cert.NoutRefIdeal.nD Cert.NoutRefIdeal.τ).loc Cert.NoutRefIdeal.main_arg2) = m' ((c.tc : Thread Cert.NoutRefIdeal.nD Cert.NoutRefIdeal.τ).loc Cert.NoutRefIdeal.main_arg2)
          ∧ r.2.mem ((c.tc : Thread Cert.NoutRefIdeal.nD Cert.NoutRefIdeal.τ).loc Cert.NoutRefIdeal.main_arg3) = m' ((c.tc : Thread Cert.NoutRefIdeal.nD Cert.NoutRefIdeal.τ).loc Cert.NoutRefIdeal.main_arg3)
          ∧ r.2.mem ((c.tc : Thread Cert.NoutRefIdeal.nD Cert.NoutRefIdeal.τ).loc Cert.NoutRefIdeal.main_arg4) = m' ((c.tc : Thread Cert.NoutRefIdeal.nD Cert.NoutRefIdeal.τ).loc Cert.NoutRefIdeal.main_arg4)
          ∧ r.2.mem ((c.tc : Thread Cert.NoutRefIdeal.nD Cert.NoutRefIdeal.τ).loc Cert.NoutRefIdeal.main_arg5) = m' ((c.tc : Thread Cert.NoutRefIdeal.nD Cert.NoutRefIdeal.τ).loc Cert.NoutRefIdeal.main_arg5)
          ∧ r.2.mem ((c.tc : Thread Cert.NoutRefIdeal.nD Cert.NoutRefIdeal.τ).loc Cert.NoutRefIdeal.main_arg6) = m' ((c.tc : Thread Cert.NoutRefIdeal.nD Cert.NoutRefIdeal.τ).loc Cert.NoutRefIdeal.main_arg6)
          ∧ r.2.mem ((c.tc : Thread Cert.NoutRefIdeal.nD Cert.NoutRefIdeal.τ).loc Cert.NoutRefIdeal.main_arg7) = m' ((c.tc : Thread Cert.NoutRefIdeal.nD Cert.NoutRefIdeal.τ).loc Cert.NoutRefIdeal.main_arg7))

def preserves_Hmid_HmidIdeal : Prop :=
  True

def algebraic_HmidIdeal_HmidRefIdeal [hHmidIdeal : Cert.HmidIdeal.Facts] [hHmidRefIdeal : Cert.HmidRefIdeal.Facts] : Prop :=
  ∀ (m : (ℓ : Loc Cert.HmidIdeal.nD Cert.HmidIdeal.τ Cert.HmidIdeal.sig) → Buf (Elt Ideal) ℓ) (g : Dev Cert.HmidIdeal.nD → PrngReg)
    (m' : (ℓ : Loc Cert.HmidRefIdeal.nD Cert.HmidRefIdeal.τ Cert.HmidRefIdeal.sig) → Buf (Elt Ideal) ℓ) (g' : Dev Cert.HmidRefIdeal.nD → PrngReg), Pre_HmidIdeal m →
    (∀ c : Dev Cert.HmidIdeal.nD,
      m' ((c.tc : Thread Cert.HmidRefIdeal.nD Cert.HmidRefIdeal.τ).loc Cert.HmidRefIdeal.main_arg0) = m ((c.tc : Thread Cert.HmidIdeal.nD Cert.HmidIdeal.τ).loc Cert.HmidIdeal.main_arg0)
      ∧ m' ((c.tc : Thread Cert.HmidRefIdeal.nD Cert.HmidRefIdeal.τ).loc Cert.HmidRefIdeal.main_arg1) = m ((c.tc : Thread Cert.HmidIdeal.nD Cert.HmidIdeal.τ).loc Cert.HmidIdeal.main_arg1)
      ∧ m' ((c.tc : Thread Cert.HmidRefIdeal.nD Cert.HmidRefIdeal.τ).loc Cert.HmidRefIdeal.main_arg2) = m ((c.tc : Thread Cert.HmidIdeal.nD Cert.HmidIdeal.τ).loc Cert.HmidIdeal.main_arg2)
      ∧ m' ((c.tc : Thread Cert.HmidRefIdeal.nD Cert.HmidRefIdeal.τ).loc Cert.HmidRefIdeal.main_arg3) = m ((c.tc : Thread Cert.HmidIdeal.nD Cert.HmidIdeal.τ).loc Cert.HmidIdeal.main_arg3)) →
    ∃ (v0 : (c : Dev Cert.HmidIdeal.nD) → Buf (Elt Ideal) ((c.tc : Thread Cert.HmidIdeal.nD Cert.HmidIdeal.τ).loc Cert.HmidIdeal.main_v5_0)) (v1 : (c : Dev Cert.HmidIdeal.nD) → Buf (Elt Ideal) ((c.tc : Thread Cert.HmidIdeal.nD Cert.HmidIdeal.τ).loc Cert.HmidIdeal.main_v5_1)),
      θ_run (Cert.HmidIdeal.defs (F := Ideal)) (onTc (τ := Cert.HmidIdeal.τ) (Cert.HmidIdeal.main (F := Ideal))) ⟨m, fun _ => 0, g⟩ (fun r => ∀ c : Dev Cert.HmidIdeal.nD,
          r.2.mem ((c.tc : Thread Cert.HmidIdeal.nD Cert.HmidIdeal.τ).loc Cert.HmidIdeal.main_v5_0) = v0 c
          ∧ r.2.mem ((c.tc : Thread Cert.HmidIdeal.nD Cert.HmidIdeal.τ).loc Cert.HmidIdeal.main_v5_1) = v1 c
          ∧ r.2.mem ((c.tc : Thread Cert.HmidIdeal.nD Cert.HmidIdeal.τ).loc Cert.HmidIdeal.main_arg0) = m ((c.tc : Thread Cert.HmidIdeal.nD Cert.HmidIdeal.τ).loc Cert.HmidIdeal.main_arg0)
          ∧ r.2.mem ((c.tc : Thread Cert.HmidIdeal.nD Cert.HmidIdeal.τ).loc Cert.HmidIdeal.main_arg1) = m ((c.tc : Thread Cert.HmidIdeal.nD Cert.HmidIdeal.τ).loc Cert.HmidIdeal.main_arg1)
          ∧ r.2.mem ((c.tc : Thread Cert.HmidIdeal.nD Cert.HmidIdeal.τ).loc Cert.HmidIdeal.main_arg2) = m ((c.tc : Thread Cert.HmidIdeal.nD Cert.HmidIdeal.τ).loc Cert.HmidIdeal.main_arg2)
          ∧ r.2.mem ((c.tc : Thread Cert.HmidIdeal.nD Cert.HmidIdeal.τ).loc Cert.HmidIdeal.main_arg3) = m ((c.tc : Thread Cert.HmidIdeal.nD Cert.HmidIdeal.τ).loc Cert.HmidIdeal.main_arg3))
      ∧ θ_run (Cert.HmidRefIdeal.defs (F := Ideal)) (onTc (τ := Cert.HmidRefIdeal.τ) (Cert.HmidRefIdeal.main (F := Ideal))) ⟨m', fun _ => 0, g'⟩ (fun r => ∀ c : Dev Cert.HmidRefIdeal.nD,
          r.2.mem ((c.tc : Thread Cert.HmidRefIdeal.nD Cert.HmidRefIdeal.τ).loc Cert.HmidRefIdeal.main_v4) = v0 c
          ∧ r.2.mem ((c.tc : Thread Cert.HmidRefIdeal.nD Cert.HmidRefIdeal.τ).loc Cert.HmidRefIdeal.main_v19) = v1 c
          ∧ r.2.mem ((c.tc : Thread Cert.HmidRefIdeal.nD Cert.HmidRefIdeal.τ).loc Cert.HmidRefIdeal.main_arg0) = m' ((c.tc : Thread Cert.HmidRefIdeal.nD Cert.HmidRefIdeal.τ).loc Cert.HmidRefIdeal.main_arg0)
          ∧ r.2.mem ((c.tc : Thread Cert.HmidRefIdeal.nD Cert.HmidRefIdeal.τ).loc Cert.HmidRefIdeal.main_arg1) = m' ((c.tc : Thread Cert.HmidRefIdeal.nD Cert.HmidRefIdeal.τ).loc Cert.HmidRefIdeal.main_arg1)
          ∧ r.2.mem ((c.tc : Thread Cert.HmidRefIdeal.nD Cert.HmidRefIdeal.τ).loc Cert.HmidRefIdeal.main_arg2) = m' ((c.tc : Thread Cert.HmidRefIdeal.nD Cert.HmidRefIdeal.τ).loc Cert.HmidRefIdeal.main_arg2)
          ∧ r.2.mem ((c.tc : Thread Cert.HmidRefIdeal.nD Cert.HmidRefIdeal.τ).loc Cert.HmidRefIdeal.main_arg3) = m' ((c.tc : Thread Cert.HmidRefIdeal.nD Cert.HmidRefIdeal.τ).loc Cert.HmidRefIdeal.main_arg3))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)
      ∧ m' ((c.tc : Thread Cert.CmpRefIdeal.nD Cert.CmpRefIdeal.τ).loc Cert.CmpRefIdeal.main_arg7) = m ((c.tc : Thread Cert.CmpIdeal.nD Cert.CmpIdeal.τ).loc Cert.CmpIdeal.main_arg7)) →
    ∃ (v0 : (c : Dev Cert.CmpIdeal.nD) → Buf (Elt Ideal) ((c.tc : Thread Cert.CmpIdeal.nD Cert.CmpIdeal.τ).loc Cert.CmpIdeal.main_v9_0)) (v1 : (c : Dev Cert.CmpIdeal.nD) → Buf (Elt Ideal) ((c.tc : Thread Cert.CmpIdeal.nD Cert.CmpIdeal.τ).loc Cert.CmpIdeal.main_v9_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v9_0) = v0 c
          ∧ r.2.mem ((c.tc : Thread Cert.CmpIdeal.nD Cert.CmpIdeal.τ).loc Cert.CmpIdeal.main_v9_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v61) = v0 c
          ∧ r.2.mem ((c.tc : Thread Cert.CmpRefIdeal.nD Cert.CmpRefIdeal.τ).loc Cert.CmpRefIdeal.main_v62) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6)
          ∧ r.2.mem ((c.tc : Thread Cert.CmpRefIdeal.nD Cert.CmpRefIdeal.τ).loc Cert.CmpRefIdeal.main_arg7) = m' ((c.tc : Thread Cert.CmpRefIdeal.nD Cert.CmpRefIdeal.τ).loc Cert.CmpRefIdeal.main_arg7))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v16) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1))

def preserves_Tab_TabIdeal : Prop :=
  True

def algebraic_TabIdeal_TabRefIdeal [hTabIdeal : Cert.TabIdeal.Facts] [hTabRefIdeal : Cert.TabRefIdeal.Facts] : Prop :=
  ∀ (m : (ℓ : Loc Cert.TabIdeal.nD Cert.TabIdeal.τ Cert.TabIdeal.sig) → Buf (Elt Ideal) ℓ) (g : Dev Cert.TabIdeal.nD → PrngReg)
    (m' : (ℓ : Loc Cert.TabRefIdeal.nD Cert.TabRefIdeal.τ Cert.TabRefIdeal.sig) → Buf (Elt Ideal) ℓ) (g' : Dev Cert.TabRefIdeal.nD → PrngReg), Pre_TabIdeal m →
    (∀ c : Dev Cert.TabIdeal.nD,
      m' ((c.tc : Thread Cert.TabRefIdeal.nD Cert.TabRefIdeal.τ).loc Cert.TabRefIdeal.main_arg0) = m ((c.tc : Thread Cert.TabIdeal.nD Cert.TabIdeal.τ).loc Cert.TabIdeal.main_arg0)) →
    ∃ (v0 : (c : Dev Cert.TabIdeal.nD) → Buf (Elt Ideal) ((c.tc : Thread Cert.TabIdeal.nD Cert.TabIdeal.τ).loc Cert.TabIdeal.main_v11_0)) (v1 : (c : Dev Cert.TabIdeal.nD) → Buf (Elt Ideal) ((c.tc : Thread Cert.TabIdeal.nD Cert.TabIdeal.τ).loc Cert.TabIdeal.main_v11_1)) (v2 : (c : Dev Cert.TabIdeal.nD) → Buf (Elt Ideal) ((c.tc : Thread Cert.TabIdeal.nD Cert.TabIdeal.τ).loc Cert.TabIdeal.main_v11_2)),
      θ_run (Cert.TabIdeal.defs (F := Ideal)) (onTc (τ := Cert.TabIdeal.τ) (Cert.TabIdeal.main (F := Ideal))) ⟨m, fun _ => 0, g⟩ (fun r => ∀ c : Dev Cert.TabIdeal.nD,
          r.2.mem ((c.tc : Thread Cert.TabIdeal.nD Cert.TabIdeal.τ).loc Cert.TabIdeal.main_v11_0) = v0 c
          ∧ r.2.mem ((c.tc : Thread Cert.TabIdeal.nD Cert.TabIdeal.τ).loc Cert.TabIdeal.main_v11_1) = v1 c
          ∧ r.2.mem ((c.tc : Thread Cert.TabIdeal.nD Cert.TabIdeal.τ).loc Cert.TabIdeal.main_v11_2) = v2 c
          ∧ r.2.mem ((c.tc : Thread Cert.TabIdeal.nD Cert.TabIdeal.τ).loc Cert.TabIdeal.main_arg0) = m ((c.tc : Thread Cert.TabIdeal.nD Cert.TabIdeal.τ).loc Cert.TabIdeal.main_arg0))
      ∧ θ_run (Cert.TabRefIdeal.defs (F := Ideal)) (onTc (τ := Cert.TabRefIdeal.τ) (Cert.TabRefIdeal.main (F := Ideal))) ⟨m', fun _ => 0, g'⟩ (fun r => ∀ c : Dev Cert.TabRefIdeal.nD,
          r.2.mem ((c.tc : Thread Cert.TabRefIdeal.nD Cert.TabRefIdeal.τ).loc Cert.TabRefIdeal.main_v16) = v0 c
          ∧ r.2.mem ((c.tc : Thread Cert.TabRefIdeal.nD Cert.TabRefIdeal.τ).loc Cert.TabRefIdeal.main_v20) = v1 c
          ∧ r.2.mem ((c.tc : Thread Cert.TabRefIdeal.nD Cert.TabRefIdeal.τ).loc Cert.TabRefIdeal.main_v24) = v2 c
          ∧ r.2.mem ((c.tc : Thread Cert.TabRefIdeal.nD Cert.TabRefIdeal.τ).loc Cert.TabRefIdeal.main_arg0) = m' ((c.tc : Thread Cert.TabRefIdeal.nD Cert.TabRefIdeal.τ).loc Cert.TabRefIdeal.main_arg0))

def Claim : Prop :=
  ∃ (hWin : Cert.Win.Facts) (hWinIdeal : Cert.WinIdeal.Facts) (hWinRefIdeal : Cert.WinRefIdeal.Facts) (hHout : Cert.Hout.Facts) (hHoutIdeal : Cert.HoutIdeal.Facts) (hHoutRefIdeal : Cert.HoutRefIdeal.Facts) (hHin : Cert.Hin.Facts) (hHinIdeal : Cert.HinIdeal.Facts) (hHinRefIdeal : Cert.HinRefIdeal.Facts) (hPb : Cert.Pb.Facts) (hPbIdeal : Cert.PbIdeal.Facts) (hPbRefIdeal : Cert.PbRefIdeal.Facts) (hPf : Cert.Pf.Facts) (hPfIdeal : Cert.PfIdeal.Facts) (hPfRefIdeal : Cert.PfRefIdeal.Facts) (hNout : Cert.Nout.Facts) (hNoutIdeal : Cert.NoutIdeal.Facts) (hNoutRefIdeal : Cert.NoutRefIdeal.Facts) (hHmid : Cert.Hmid.Facts) (hHmidIdeal : Cert.HmidIdeal.Facts) (hHmidRefIdeal : Cert.HmidRefIdeal.Facts) (hCmp : Cert.Cmp.Facts) (hCmpIdeal : Cert.CmpIdeal.Facts) (hCmpRefIdeal : Cert.CmpRefIdeal.Facts) (hFirst : Cert.First.Facts) (hFirstIdeal : Cert.FirstIdeal.Facts) (hFirstRefIdeal : Cert.FirstRefIdeal.Facts) (hTab : Cert.Tab.Facts) (hTabIdeal : Cert.TabIdeal.Facts) (hTabRefIdeal : Cert.TabRefIdeal.Facts) (hPre_finite_qk : Cert.Pre_finite_qk.Facts) (hPre_finite_logits : Cert.Pre_finite_logits.Facts),
    quiescent_Win (hWin := hWin)
    ∧ quiescent_WinIdeal (hWinIdeal := hWinIdeal)
    ∧ quiescent_WinIdeal_pre_finite_qk (hWinIdeal := hWinIdeal) (hPre_finite_qk := hPre_finite_qk)
    ∧ quiescent_WinRefIdeal (hWinRefIdeal := hWinRefIdeal)
    ∧ quiescent_WinRefIdeal_pre_finite_qk (hWinRefIdeal := hWinRefIdeal) (hPre_finite_qk := hPre_finite_qk)
    ∧ quiescent_Hout (hHout := hHout)
    ∧ quiescent_HoutIdeal (hHoutIdeal := hHoutIdeal)
    ∧ quiescent_HoutRefIdeal (hHoutRefIdeal := hHoutRefIdeal)
    ∧ quiescent_Hin (hHin := hHin)
    ∧ quiescent_HinIdeal (hHinIdeal := hHinIdeal)
    ∧ quiescent_HinIdeal_pre_finite_logits (hHinIdeal := hHinIdeal) (hPre_finite_logits := hPre_finite_logits)
    ∧ quiescent_HinRefIdeal (hHinRefIdeal := hHinRefIdeal)
    ∧ quiescent_HinRefIdeal_pre_finite_logits (hHinRefIdeal := hHinRefIdeal) (hPre_finite_logits := hPre_finite_logits)
    ∧ quiescent_Pb (hPb := hPb)
    ∧ quiescent_PbIdeal (hPbIdeal := hPbIdeal)
    ∧ quiescent_PbRefIdeal (hPbRefIdeal := hPbRefIdeal)
    ∧ quiescent_Pf (hPf := hPf)
    ∧ quiescent_PfIdeal (hPfIdeal := hPfIdeal)
    ∧ quiescent_PfRefIdeal (hPfRefIdeal := hPfRefIdeal)
    ∧ quiescent_Nout (hNout := hNout)
    ∧ quiescent_NoutIdeal (hNoutIdeal := hNoutIdeal)
    ∧ quiescent_NoutRefIdeal (hNoutRefIdeal := hNoutRefIdeal)
    ∧ quiescent_Hmid (hHmid := hHmid)
    ∧ quiescent_HmidIdeal (hHmidIdeal := hHmidIdeal)
    ∧ quiescent_HmidRefIdeal (hHmidRefIdeal := hHmidRefIdeal)
    ∧ quiescent_Cmp (hCmp := hCmp)
    ∧ quiescent_CmpIdeal (hCmpIdeal := hCmpIdeal)
    ∧ quiescent_CmpRefIdeal (hCmpRefIdeal := hCmpRefIdeal)
    ∧ quiescent_First (hFirst := hFirst)
    ∧ quiescent_FirstIdeal (hFirstIdeal := hFirstIdeal)
    ∧ quiescent_FirstRefIdeal (hFirstRefIdeal := hFirstRefIdeal)
    ∧ quiescent_Tab (hTab := hTab)
    ∧ quiescent_TabIdeal (hTabIdeal := hTabIdeal)
    ∧ quiescent_TabRefIdeal (hTabRefIdeal := hTabRefIdeal)
    ∧ preserves_Win_WinIdeal
    ∧ algebraic_WinIdeal_WinRefIdeal_pre_finite_qk (hWinIdeal := hWinIdeal) (hWinRefIdeal := hWinRefIdeal) (hPre_finite_qk := hPre_finite_qk)
    ∧ preserves_Hout_HoutIdeal
    ∧ algebraic_HoutIdeal_HoutRefIdeal (hHoutIdeal := hHoutIdeal) (hHoutRefIdeal := hHoutRefIdeal)
    ∧ preserves_Hin_HinIdeal
    ∧ algebraic_HinIdeal_HinRefIdeal_pre_finite_logits (hHinIdeal := hHinIdeal) (hHinRefIdeal := hHinRefIdeal) (hPre_finite_logits := hPre_finite_logits)
    ∧ preserves_Pb_PbIdeal
    ∧ algebraic_PbIdeal_PbRefIdeal (hPbIdeal := hPbIdeal) (hPbRefIdeal := hPbRefIdeal)
    ∧ preserves_Pf_PfIdeal
    ∧ algebraic_PfIdeal_PfRefIdeal (hPfIdeal := hPfIdeal) (hPfRefIdeal := hPfRefIdeal)
    ∧ preserves_Nout_NoutIdeal
    ∧ algebraic_NoutIdeal_NoutRefIdeal (hNoutIdeal := hNoutIdeal) (hNoutRefIdeal := hNoutRefIdeal)
    ∧ preserves_Hmid_HmidIdeal
    ∧ algebraic_HmidIdeal_HmidRefIdeal (hHmidIdeal := hHmidIdeal) (hHmidRefIdeal := hHmidRefIdeal)
    ∧ preserves_Cmp_CmpIdeal
    ∧ algebraic_CmpIdeal_CmpRefIdeal (hCmpIdeal := hCmpIdeal) (hCmpRefIdeal := hCmpRefIdeal)
    ∧ preserves_First_FirstIdeal
    ∧ algebraic_FirstIdeal_FirstRefIdeal (hFirstIdeal := hFirstIdeal) (hFirstRefIdeal := hFirstRefIdeal)
    ∧ preserves_Tab_TabIdeal
    ∧ algebraic_TabIdeal_TabRefIdeal (hTabIdeal := hTabIdeal) (hTabRefIdeal := hTabRefIdeal)
-- ==== Pre_finite_logits.lean ====
abbrev S2x8192x2048 : Shape := ⟨3, ![2, 8192, 2048]⟩
abbrev S2x2048x8192 : Shape := ⟨3, ![2, 2048, 8192]⟩
abbrev S2x2048 : Shape := ⟨2, ![2, 2048]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : FVec F S2x8192x2048 .f32) (main_arg1 : FVec F S2x2048x8192 .f32) (main_arg2 : FVec F S2x2048 .f32) : IVec S2x2048 1 :=
  let main_v0 : FVec F S2x2048 .f32 := Host.absf main_arg2
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  main_v2
-- ==== Pre_finite_qk.lean ====
abbrev S2x8192x16x128 : Shape := ⟨4, ![2, 8192, 16, 128]⟩
abbrev S2x8192x4x128 : Shape := ⟨4, ![2, 8192, 4, 128]⟩
abbrev S_ : Shape := ⟨0, ![]⟩

class Facts : Prop where
  bcast_S_S2x8192x16x128 : S_.BroadcastsInDim S2x8192x16x128 (![] : Fin 0 → Fin S2x8192x16x128.rank)
  bcast_S_S2x8192x4x128 : S_.BroadcastsInDim S2x8192x4x128 (![] : Fin 0 → Fin S2x8192x4x128.rank)

variable [Facts]

def fn {F : FTy → Type} [FloatOps F] (main_arg0 : FVec F S2x8192x16x128 .f32) (main_arg1 : FVec F S2x8192x4x128 .f32) (main_arg2 : FVec F S2x8192x4x128 .f32) : IVec S2x8192x16x128 1 × IVec S2x8192x4x128 1 :=
  let main_v0 : FVec F S2x8192x16x128 .f32 := Host.absf main_arg0
  let main_cst : FVec F S_ .f32 := constant S_ .f32 0x7F800000#32
  let main_v1 : FVec F S2x8192x16x128 .f32 := broadcastInDim S2x8192x16x128 ![] bcast_S_S2x8192x16x128 main_cst
  let main_v2 : IVec S2x8192x16x128 1 := cmpf .olt main_v0 main_v1
  let main_v3 : FVec F S2x8192x4x128 .f32 := Host.absf main_arg1
  let main_cst_0 : FVec F S_ .f32 := constant S_ .f32 0x7F800000#32
  let main_v4 : FVec F S2x8192x4x128 .f32 := broadcastInDim S2x8192x4x128 ![] bcast_S_S2x8192x4x128 main_cst_0
  let main_v5 : IVec S2x8192x4x128 1 := cmpf .olt main_v3 main_v4
  (main_v2, main_v5)
-- ==== Win.lean ====
abbrev S2x8192x16x128 : Shape := ⟨4, ![2, 8192, 16, 128]⟩
abbrev S2x8192x4x128 : Shape := ⟨4, ![2, 8192, 4, 128]⟩
abbrev S_ : Shape := ⟨0, ![]⟩
abbrev S16384x512 : Shape := ⟨2, ![16384, 512]⟩
abbrev S16384x2048 : Shape := ⟨2, ![16384, 2048]⟩
abbrev S16384x4096 : Shape := ⟨2, ![16384, 4096]⟩
abbrev S1024x512 : Shape := ⟨2, ![1024, 512]⟩
abbrev S1024x128 : Shape := ⟨2, ![1024, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x4x128, .f32⟩
  | .hbm, ⟨2, _⟩ => ⟨S2x8192x4x128, .f32⟩
  | .hbm, ⟨3, _⟩ => ⟨S_, .f32⟩
  | .hbm, ⟨4, _⟩ => ⟨S16384x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x512, .f32⟩
  | .hbm, ⟨16, _⟩ => ⟨S16384x512, .f32⟩
  | .hbm, ⟨17, _⟩ => ⟨S16384x4096, .f32⟩
  | .hbm, ⟨18, _⟩ => ⟨S16384x4096, .bf16⟩
  | .hbm, ⟨19, _⟩ => ⟨S16384x2048, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x512, .f32⟩
  | .local _ .vmem, ⟨11, _⟩ => ⟨S1024x512, .f32⟩
  | _, _ => ⟨S2x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .sgt arg2 c0_i32
  let v4 : BitVec 32 := Scalar.extui v3
  let c0_i32_0 : BitVec 32 := 0#32
  let v5 : BitVec 1 := Scalar.cmpi .ne v4 c0_i32_0
  v5

def k0_cond2 (i : grid0.Coords) : BitVec 1 :=
  let arg2 : BitVec 32 := BitVec.ofNat 32 (i 2).val
  let c0_i32_1 : BitVec 32 := 0#32
  let v6 : BitVec 1 := Scalar.cmpi .eq arg2 c0_i32_1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c20_i32 : BitVec 32 := 20#32
  let v4 : BitVec 32 := Scalar.addi c20_i32 arg1
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c20_i32 : BitVec 32 := 20#32
  let v4 : BitVec 32 := Scalar.addi c20_i32 arg1
  let c0_i32_1 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c28_i32 : BitVec 32 := 28#32
  let v4 : BitVec 32 := Scalar.addi c28_i32 arg1
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c28_i32 : BitVec 32 := 28#32
  let v4 : BitVec 32 := Scalar.addi c28_i32 arg1
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== WinIdeal.lean ====
variable {F : FTy → Type} [FloatOps F] [Named F]
def κ : String → Option EReal := fun
  | "mask" => some ⊥
  | _ => none
-- ==== WinRefIdeal.lean ====
abbrev S2x8192x16x128 : Shape := ⟨4, ![2, 8192, 16, 128]⟩
abbrev S2x8192x4x128 : Shape := ⟨4, ![2, 8192, 4, 128]⟩
abbrev S_ : Shape := ⟨0, ![]⟩
abbrev S2x8192x4x4x128 : Shape := ⟨5, ![2, 8192, 4, 4, 128]⟩
abbrev S2x4x4x8192x128 : Shape := ⟨5, ![2, 4, 4, 8192, 128]⟩
abbrev S2x4x8192x128 : Shape := ⟨4, ![2, 4, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x4x4x8192x8192 : Shape := ⟨5, ![2, 4, 4, 8192, 8192]⟩
abbrev S2x4x4x8192 : Shape := ⟨4, ![2, 4, 4, 8192]⟩
abbrev S2x4x4x8192x1 : Shape := ⟨5, ![2, 4, 4, 8192, 1]⟩
abbrev S16384x2048 : Shape := ⟨2, ![16384, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x4x128, .f32⟩
  | .hbm, ⟨2, _⟩ => ⟨S2x8192x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8192x4x4x128, .f32⟩
  | .hbm, ⟨8, _⟩ => ⟨S2x4x4x8192x128, .f32⟩
  | .hbm, ⟨9, _⟩ => ⟨S2x4x8192x128, .f32⟩
  | .hbm, ⟨10, _⟩ => ⟨S2x4x8192x128, .f32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .i32⟩
  | .hbm, ⟨19, _⟩ => ⟨S8192x1, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .i1⟩
  | .hbm, ⟨25, _⟩ => ⟨S2x4x4x8192x8192, .f32⟩
  | .hbm, ⟨26, _⟩ => ⟨S2x4x4x8192x8192, .f32⟩
  | .hbm, ⟨27, _⟩ => ⟨S2x4x4x8192x8192, .f32⟩
  | .hbm, ⟨28, _⟩ => ⟨S_, .f32⟩
  | .hbm, ⟨29, _⟩ => ⟨S_, .f32⟩
  | .hbm, ⟨30, _⟩ => ⟨S2x4x4x8192x8192, .i1⟩
  | .hbm, ⟨31, _⟩ => ⟨S2x4x4x8192x8192, .f32⟩
  | .hbm, ⟨32, _⟩ => ⟨S2x4x4x8192x8192, .f32⟩
  | .hbm, ⟨33, _⟩ => ⟨S_, .f32⟩
  | .hbm, ⟨34, _⟩ => ⟨S2x4x4x8192, .f32⟩
  | .hbm, ⟨35, _⟩ => ⟨S_, .f32⟩
  | .hbm, ⟨36, _⟩ => ⟨S2x4x4x8192, .f32⟩
  | .hbm, ⟨37, _⟩ => ⟨S2x4x4x8192, .f32⟩
  | .hbm, ⟨38, _⟩ => ⟨S2x4x4x8192x1, .f32⟩
  | .hbm, ⟨39, _⟩ => ⟨S2x4x4x8192x8192, .f32⟩
  | .hbm, ⟨40, _⟩ => ⟨S2x4x4x8192x8192, .f32⟩
  | .hbm, ⟨41, _⟩ => ⟨S2x4x4x8192x8192, .f32⟩
  | .hbm, ⟨42, _⟩ => ⟨S_, .f32⟩
  | .hbm, ⟨43, _⟩ => ⟨S2x4x4x8192, .f32⟩
  | .hbm, ⟨44, _⟩ => ⟨S2x4x4x8192x1, .f32⟩
  | .hbm, ⟨45, _⟩ => ⟨S2x4x4x8192x8192, .f32⟩
  | .hbm, ⟨46, _⟩ => ⟨S2x4x4x8192x8192, .f32⟩
  | .hbm, ⟨47, _⟩ => ⟨S2x4x4x8192x128, .f32⟩
  | .hbm, ⟨48, _⟩ => ⟨S2x8192x4x4x128, .f32⟩
  | .hbm, ⟨49, _⟩ => ⟨S16384x2048, .f32⟩
  | _, _ => ⟨S2x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Hout.lean ====
abbrev S2x8192x2048 : Shape := ⟨3, ![2, 8192, 2048]⟩
abbrev S2x2048x2048 : Shape := ⟨3, ![2, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .bf16⟩
  | .hbm, ⟨7, _⟩ => ⟨S2x2048x2048, .bf16⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HoutRefIdeal.lean ====
abbrev S2x8192x2048 : Shape := ⟨3, ![2, 8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x2048x2048, .f32⟩
  | .hbm, ⟨3, _⟩ => ⟨S2048, .f32⟩
  | .hbm, ⟨4, _⟩ => ⟨S1x2048x2048, .f32⟩
  | .hbm, ⟨5, _⟩ => ⟨S2048x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Hin.lean ====
abbrev S2x8192x2048 : Shape := ⟨3, ![2, 8192, 2048]⟩
abbrev S2x2048x8192 : Shape := ⟨3, ![2, 2048, 8192]⟩
abbrev S2x2048 : Shape := ⟨2, ![2, 2048]⟩
abbrev S16384x2048 : Shape := ⟨2, ![16384, 2048]⟩
abbrev S16384x8192 : Shape := ⟨2, ![16384, 8192]⟩
abbrev S2048x2048 : Shape := ⟨2, ![2048, 2048]⟩
abbrev S1x2048x512 : Shape := ⟨3, ![1, 2048, 512]⟩
abbrev S2048x512 : Shape := ⟨2, ![2048, 512]⟩
abbrev S1x2048x256 : Shape := ⟨3, ![1, 2048, 256]⟩
abbrev S2048x256 : Shape := ⟨2, ![2048, 256]⟩
abbrev S2048x128 : Shape := ⟨2, ![2048, 128]⟩
abbrev S2x128 : Shape := ⟨2, ![2, 128]⟩
abbrev S128 : Shape := ⟨1, ![128]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S2x2048x8192, .f32⟩
  | .hbm, ⟨2, _⟩ => ⟨S2x2048, .f32⟩
  | .hbm, ⟨3, _⟩ => ⟨S16384x2048, .f32⟩
  | .hbm, ⟨4, _⟩ => ⟨S16384x2048, .bf16⟩
  | .hbm, ⟨5, _⟩ => ⟨S16384x8192, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2x2048, .f32⟩
  | .local _ .vmem, ⟨5, _⟩ => ⟨S2048x512, .f32⟩
  | .local _ .vmem, ⟨6, _⟩ => ⟨S2048x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v8 : BitVec 1 := Scalar.ori v0 v1
  let c2_i32 : BitVec 32 := 2#32
  let v2 : BitVec 1 := Scalar.cmpi .eq arg1 c2_i32
  let v9 : BitVec 1 := Scalar.ori v8 v2
  let c3_i32 : BitVec 32 := 3#32
  let v3 : BitVec 1 := Scalar.cmpi .eq arg1 c3_i32
  let v10 : BitVec 1 := Scalar.ori v9 v3
  let c12_i32 : BitVec 32 := 12#32
  let v4 : BitVec 1 := Scalar.cmpi .eq arg1 c12_i32
  let v11 : BitVec 1 := Scalar.ori v10 v4
  let c13_i32 : BitVec 32 := 13#32
  let v5 : BitVec 1 := Scalar.cmpi .eq arg1 c13_i32
  let v12 : BitVec 1 := Scalar.ori v11 v5
  let c14_i32 : BitVec 32 := 14#32
  let v6 : BitVec 1 := Scalar.cmpi .eq arg1 c14_i32
  let v13 : BitVec 1 := Scalar.ori v12 v6
  let c15_i32 : BitVec 32 := 15#32
  let v7 : BitVec 1 := Scalar.cmpi .eq arg1 c15_i32
  let v14 : BitVec 1 := Scalar.ori v13 v7
  let v15 : BitVec 32 := Scalar.extui v14
  let c0_i32_0 : BitVec 32 := 0#32
  let v16 : BitVec 1 := Scalar.cmpi .ne v15 c0_i32_0
  v16

def k0_cond2 (i : grid0.Coords) : BitVec 1 :=
  let arg1 : BitVec 32 := BitVec.ofNat 32 (i 1).val
  let c4_i32 : BitVec 32 := 4#32
  let v17 : BitVec 1 := Scalar.cmpi .eq arg1 c4_i32
  let v18 : BitVec 32 := Scalar.extui v17
  let c0_i32_1 : BitVec 32 := 0#32
  let v19 : BitVec 1 := Scalar.cmpi .ne v18 c0_i32_1
  v19

def k0_cond3 (i : grid0.Coords) : BitVec 1 :=
  let arg1 : BitVec 32 := BitVec.ofNat 32 (i 1).val
  let c5_i32 : BitVec 32 := 5#32
  let v20 : BitVec 1 := Scalar.cmpi .eq arg1 c5_i32
  let v21 : BitVec 32 := Scalar.extui v20
  let c0_i32_2 : BitVec 32 := 0#32
  let v22 : BitVec 1 := Scalar.cmpi .ne v21 c0_i32_2
  v22

def k0_cond4 (i : grid0.Coords) : BitVec 1 :=
  let arg1 : BitVec 32 := BitVec.ofNat 32 (i 1).val
  let c6_i32 : BitVec 32 := 6#32
  let v23 : BitVec 1 := Scalar.cmpi .eq arg1 c6_i32
  let v24 : BitVec 32 := Scalar.extui v23
  let c0_i32_3 : BitVec 32 := 0#32
  let v25 : BitVec 1 := Scalar.cmpi .ne v24 c0_i32_3
  v25

def k0_cond5 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_4 : BitVec 32 := 0#32
  let v28 : BitVec 1 := Scalar.cmpi .ne v27 c0_i32_4
  v28

def k0_cond6 (i : grid0.Coords) : BitVec 1 :=
  let arg1 : BitVec 32 := BitVec.ofNat 32 (i 1).val
  let c8_i32 : BitVec 32 := 8#32
  let v29 : BitVec 1 := Scalar.cmpi .eq arg1 c8_i32
  let c9_i32 : BitVec 32 := 9#32
  let v30 : BitVec 1 := Scalar.cmpi .eq arg1 c9_i32
  let v33 : BitVec 1 := Scalar.ori v29 v30
  let c10_i32 : BitVec 32 := 10#32
  let v31 : BitVec 1 := Scalar.cmpi .eq arg1 c10_i32
  let v34 : BitVec 1 := Scalar.ori v33 v31
  let c11_i32 : BitVec 32 := 11#32
  let v32 : BitVec 1 := Scalar.cmpi .eq arg1 c11_i32
  let v35 : BitVec 1 := Scalar.ori v34 v32
  let v36 : BitVec 32 := Scalar.extui v35
  let c0_i32_5 : BitVec 32 := 0#32
  let v37 : BitVec 1 := Scalar.cmpi .ne v36 c0_i32_5
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HinRefIdeal.lean ====
abbrev S2x8192x2048 : Shape := ⟨3, ![2, 8192, 2048]⟩
abbrev S2x2048x8192 : Shape := ⟨3, ![2, 2048, 8192]⟩
abbrev S2x2048 : Shape := ⟨2, ![2, 2048]⟩
abbrev S_ : Shape := ⟨0, ![]⟩
abbrev S2048 : Shape := ⟨1, ![2048]⟩
abbrev S1x2048 : Shape := ⟨2, ![1, 2048]⟩
abbrev S1x2048x8192 : Shape := ⟨3, ![1, 2048, 8192]⟩
abbrev S2048x8192 : Shape := ⟨2, ![2048, 8192]⟩
abbrev S2x8192x8192 : Shape := ⟨3, ![2, 8192, 8192]⟩
abbrev S1x1x2048 : Shape := ⟨3, ![1, 1, 2048]⟩
abbrev S16384x8192 : Shape := ⟨2, ![16384, 8192]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048x8192, .f32⟩
  | .hbm, ⟨2, _⟩ => ⟨S2x2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S2x2048, .f32⟩
  | .hbm, ⟨16, _⟩ => ⟨S2x2048, .f32⟩
  | .hbm, ⟨17, _⟩ => ⟨S_, .f32⟩
  | .hbm, ⟨18, _⟩ => ⟨S_, .f32⟩
  | .hbm, ⟨19, _⟩ => ⟨S2x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S2x2048, .f32⟩
  | .hbm, ⟨24, _⟩ => ⟨S2x2048, .f32⟩
  | .hbm, ⟨25, _⟩ => ⟨S1x2048, .f32⟩
  | .hbm, ⟨26, _⟩ => ⟨S2048, .f32⟩
  | .hbm, ⟨27, _⟩ => ⟨S1x2048x8192, .f32⟩
  | .hbm, ⟨28, _⟩ => ⟨S2048x8192, .f32⟩
  | .hbm, ⟨29, _⟩ => ⟨S2x8192x8192, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2x8192x2048, .f32⟩
  | .hbm, ⟨38, _⟩ => ⟨S_, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S2x8192x2048, .f32⟩
  | .hbm, ⟨43, _⟩ => ⟨S2x8192x2048, .i1⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S1x1x2048, .f32⟩
  | .hbm, ⟨54, _⟩ => ⟨S2x8192x2048, .f32⟩
  | .hbm, ⟨55, _⟩ => ⟨S2x8192x2048, .f32⟩
  | .hbm, ⟨56, _⟩ => ⟨S1x1x2048, .f32⟩
  | .hbm, ⟨57, _⟩ => ⟨S2x8192x2048, .f32⟩
  | .hbm, ⟨58, _⟩ => ⟨S2x8192x2048, .f32⟩
  | .hbm, ⟨59, _⟩ => ⟨S2x8192x2048, .f32⟩
  | .hbm, ⟨60, _⟩ => ⟨S2x8192x2048, .f32⟩
  | .hbm, ⟨61, _⟩ => ⟨S2x8192x2048, .i1⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S2x8192x2048, .f32⟩
  | .hbm, ⟨67, _⟩ => ⟨S2x8192x2048, .f32⟩
  | .hbm, ⟨68, _⟩ => ⟨S2x8192x2048, .f32⟩
  | .hbm, ⟨69, _⟩ => ⟨S2x8192x2048, .f32⟩
  | .hbm, ⟨70, _⟩ => ⟨S2x8192x2048, .f32⟩
  | .hbm, ⟨71, _⟩ => ⟨S2x8192x2048, .f32⟩
  | .hbm, ⟨72, _⟩ => ⟨S_, .f32⟩
  | .hbm, ⟨73, _⟩ => ⟨S2x8192x2048, .f32⟩
  | .hbm, ⟨74, _⟩ => ⟨S2x8192x2048, .f32⟩
  | .hbm, ⟨75, _⟩ => ⟨S_, .f32⟩
  | .hbm, ⟨76, _⟩ => ⟨S2x8192x2048, .f32⟩
  | .hbm, ⟨77, _⟩ => ⟨S2x8192x2048, .f32⟩
  | .hbm, ⟨78, _⟩ => ⟨S2x8192x2048, .f32⟩
  | .hbm, ⟨79, _⟩ => ⟨S2x8192x2048, .f32⟩
  | .hbm, ⟨80, _⟩ => ⟨S2x8192x2048, .f32⟩
  | .hbm, ⟨81, _⟩ => ⟨S_, .f32⟩
  | .hbm, ⟨82, _⟩ => ⟨S2x8192x2048, .f32⟩
  | .hbm, ⟨83, _⟩ => ⟨S2x8192x2048, .f32⟩
  | .hbm, ⟨84, _⟩ => ⟨S_, .f32⟩
  | .hbm, ⟨85, _⟩ => ⟨S2x8192x2048, .f32⟩
  | .hbm, ⟨86, _⟩ => ⟨S2x8192x2048, .f32⟩
  | .hbm, ⟨87, _⟩ => ⟨S2x8192x2048, .f32⟩
  | .hbm, ⟨88, _⟩ => ⟨S2x8192x8192, .f32⟩
  | .hbm, ⟨89, _⟩ => ⟨S16384x8192, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v47 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩

abbrev nD : Nat := 1
abbrev τ : Topo := Topo.v7x

variable {F : FTy → Type} [FloatOps F]
-- ==== Pb.lean ====
abbrev S2x8192x2048 : Shape := ⟨3, ![2, 8192, 2048]⟩
abbrev S2x8192 : Shape := ⟨2, ![2, 8192]⟩
abbrev S2x2048x7216 : Shape := ⟨3, ![2, 2048, 7216]⟩
abbrev S2x2048x2048 : Shape := ⟨3, ![2, 2048, 2048]⟩
abbrev S2x2048x512 : Shape := ⟨3, ![2, 2048, 512]⟩
abbrev S2x2048x48 : Shape := ⟨3, ![2, 2048, 48]⟩
abbrev S2x2048x4096 : Shape := ⟨3, ![2, 2048, 4096]⟩
abbrev S16384x2048 : Shape := ⟨2, ![16384, 2048]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S16384x4096 : Shape := ⟨2, ![16384, 4096]⟩
abbrev S2048x2048 : Shape := ⟨2, ![2048, 2048]⟩
abbrev S1x2048x1024 : Shape := ⟨3, ![1, 2048, 1024]⟩
abbrev S2048x128 : Shape := ⟨2, ![2048, 128]⟩
abbrev S2048x1024 : Shape := ⟨2, ![2048, 1024]⟩
abbrev S1x2048x256 : Shape := ⟨3, ![1, 2048, 256]⟩
abbrev S2048x256 : Shape := ⟨2, ![2048, 256]⟩

abbrev nBuf : Space → Nat
  | .hbm => 52
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2x2048x7216, .f32⟩
  | .hbm, ⟨3, _⟩ => ⟨S2x2048x2048, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x48, .f32⟩
  | .hbm, ⟨11, _⟩ => ⟨S2x2048x2048, .f32⟩
  | .hbm, ⟨12, _⟩ => ⟨S2x2048x4096, .f32⟩
  | .hbm, ⟨13, _⟩ => ⟨S2x2048x4096, .bf16⟩
  | .hbm, ⟨14, _⟩ => ⟨S16384x2048, .f32⟩
  | .hbm, ⟨15, _⟩ => ⟨S16384x2048, .bf16⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S96, .f32⟩
  | .hbm, ⟨26, _⟩ => ⟨S128, .f32⟩
  | .hbm, ⟨27, _⟩ => ⟨S1x128, .f32⟩
  | .hbm, ⟨28, _⟩ => ⟨S2x8192, .f32⟩
  | .hbm, ⟨29, _⟩ => ⟨S16384x1, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .i32⟩
  | .hbm, ⟨34, _⟩ => ⟨S16384x128, .f32⟩
  | .hbm, ⟨35, _⟩ => ⟨S16384x128, .f32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S16384x128, .f32⟩
  | .hbm, ⟨40, _⟩ => ⟨S_, .f32⟩
  | .hbm, ⟨41, _⟩ => ⟨S_, .f32⟩
  | .hbm, ⟨42, _⟩ => ⟨S16384x128, .f32⟩
  | .hbm, ⟨43, _⟩ => ⟨S16384x128, .f32⟩
  | .hbm, ⟨44, _⟩ => ⟨S_, .i32⟩
  | .hbm, ⟨45, _⟩ => ⟨S16384x128, .i32⟩
  | .hbm, ⟨46, _⟩ => ⟨S16384x128, .i1⟩
  | .hbm, ⟨47, _⟩ => ⟨S_, .f32⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S16384x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x1024, .bf16⟩
  | .local _ .vmem, ⟨11, _⟩ => ⟨S2048x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v2 : BitVec 1 := Scalar.ori v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c2_i32 : BitVec 32 := 2#32
  let v5 : BitVec 1 := Scalar.cmpi .eq arg1 c2_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PbIdeal.lean ====
variable {F : FTy → Type} [FloatOps F] [Named F]
def κ : String → Option EReal := fun
  | "scale" => some ((((Real.sqrt 128) * (Real.log 2))⁻¹ : ℝ) : EReal)
  | _ => none
-- ==== PbRefIdeal.lean ====
abbrev S2x8192x2048 : Shape := ⟨3, ![2, 8192, 2048]⟩
abbrev S2x8192 : Shape := ⟨2, ![2, 8192]⟩
abbrev S2x2048x7216 : Shape := ⟨3, ![2, 2048, 7216]⟩
abbrev S1x2048x7216 : Shape := ⟨3, ![1, 2048, 7216]⟩
abbrev S2048x7216 : Shape := ⟨2, ![2048, 7216]⟩
abbrev S2x8192x7216 : Shape := ⟨3, ![2, 8192, 7216]⟩
abbrev S2x8192x512 : Shape := ⟨3, ![2, 8192, 512]⟩
abbrev S2x8192x48 : Shape := ⟨3, ![2, 8192, 48]⟩
abbrev S2x8192x16x128 : Shape := ⟨4, ![2, 8192, 16, 128]⟩
abbrev S16 : Shape := ⟨1, ![16]⟩
abbrev S_ : Shape := ⟨0, ![]⟩
abbrev S2x8192x1 : Shape := ⟨3, ![2, 8192, 1]⟩
abbrev S1x1x16 : Shape := ⟨3, ![1, 1, 16]⟩
abbrev S2x8192x16 : Shape := ⟨3, ![2, 8192, 16]⟩
abbrev S2x8192x1x16 : Shape := ⟨4, ![2, 8192, 1, 16]⟩
abbrev S2x8192x16x32 : Shape := ⟨4, ![2, 8192, 16, 32]⟩
abbrev S2x8192x16x16 : Shape := ⟨4, ![2, 8192, 16, 16]⟩
abbrev S2x8192x16x96 : Shape := ⟨4, ![2, 8192, 16, 96]⟩
abbrev S2x8192x4x128 : Shape := ⟨4, ![2, 8192, 4, 128]⟩
abbrev S2x8192x4x32 : Shape := ⟨4, ![2, 8192, 4, 32]⟩
abbrev S2x8192x4x16 : Shape := ⟨4, ![2, 8192, 4, 16]⟩
abbrev S2x8192x4x96 : Shape := ⟨4, ![2, 8192, 4, 96]⟩
abbrev S2x8192x4096 : Shape := ⟨3, ![2, 8192, 4096]⟩
abbrev S16384x4096 : Shape := ⟨2, ![16384, 4096]⟩

abbrev nBuf : Space → Nat
  | .hbm => 171
  | .vmem => 0
  | .smem => 0
  | _ => 0

abbrev hbmTy0_0 (i : Nat) : BufTy := match i % 128 with
  | 0 => ⟨S2x8192x2048, .f32⟩
  | 1 => ⟨S2x8192, .i32⟩
  | 2 => ⟨S2x2048x7216, .f32⟩
  | 3 => ⟨S1x2048x7216, .f32⟩
  | 4 => ⟨S2048x7216, .f32⟩
  | 5 => ⟨S2x8192x7216, .f32⟩
  | 6 => ⟨S2x8192x2048, .f32⟩
  | 7 => ⟨S2x8192x512, .f32⟩
  | 8 => ⟨S2x8192x512, .f32⟩
  | 9 => ⟨S2x8192x512, .f32⟩
  | 10 => ⟨S2x8192x512, .f32⟩
  | 11 => ⟨S2x8192x512, .f32⟩
  | 12 => ⟨S2x8192x512, .f32⟩
  | 13 => ⟨S2x8192x48, .f32⟩
  | 14 => ⟨S2x8192x2048, .f32⟩
  | 15 => ⟨S2x8192x16x128, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2x8192, .f32⟩
  | 25 => ⟨S2x8192x1, .f32⟩
  | 26 => ⟨S1x1x16, .f32⟩
  | 27 => ⟨S2x8192x16, .f32⟩
  | 28 => ⟨S2x8192x16, .f32⟩
  | 29 => ⟨S2x8192x16, .f32⟩
  | 30 => ⟨S2x8192x16, .f32⟩
  | 31 => ⟨S2x8192x1x16, .f32⟩
  | 32 => ⟨S2x8192x16, .f32⟩
  | 33 => ⟨S2x8192x1x16, .f32⟩
  | 34 => ⟨S2x8192x16x32, .f32⟩
  | 35 => ⟨S2x8192x16x16, .f32⟩
  | 36 => ⟨S2x8192x16x16, .f32⟩
  | 37 => ⟨S2x8192x16x16, .f32⟩
  | 38 => ⟨S2x8192x16x16, .f32⟩
  | 39 => ⟨S2x8192x16x16, .f32⟩
  | 40 => ⟨S2x8192x16x16, .f32⟩
  | 41 => ⟨S2x8192x16x16, .f32⟩
  | 42 => ⟨S2x8192x16x16, .f32⟩
  | 43 => ⟨S2x8192x16x16, .f32⟩
  | 44 => ⟨S2x8192x16x16, .f32⟩
  | 45 => ⟨S2x8192x16x16, .f32⟩
  | 46 => ⟨S2x8192x16x16, .f32⟩
  | 47 => ⟨S2x8192x16x32, .f32⟩
  | 48 => ⟨S2x8192x16x96, .f32⟩
  | 49 => ⟨S2x8192x16x128, .f32⟩
  | 50 => ⟨S2x8192x2048, .f32⟩
  | 51 => ⟨S2x8192x4x128, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2x8192, .f32⟩
  | 61 => ⟨S2x8192x1, .f32⟩
  | 62 => ⟨S1x1x16, .f32⟩
  | 63 => ⟨S2x8192x16, .f32⟩
  | 64 => ⟨S2x8192x16, .f32⟩
  | 65 => ⟨S2x8192x16, .f32⟩
  | 66 => ⟨S2x8192x16, .f32⟩
  | 67 => ⟨S2x8192x1x16, .f32⟩
  | 68 => ⟨S2x8192x16, .f32⟩
  | 69 => ⟨S2x8192x1x16, .f32⟩
  | 70 => ⟨S2x8192x4x32, .f32⟩
  | 71 => ⟨S2x8192x4x16, .f32⟩
  | 72 => ⟨S2x8192x4x16, .f32⟩
  | 73 => ⟨S2x8192x4x16, .f32⟩
  | 74 => ⟨S2x8192x4x16, .f32⟩
  | 75 => ⟨S2x8192x4x16, .f32⟩
  | 76 => ⟨S2x8192x4x16, .f32⟩
  | 77 => ⟨S2x8192x4x16, .f32⟩
  | 78 => ⟨S2x8192x4x16, .f32⟩
  | 79 => ⟨S2x8192x4x16, .f32⟩
  | 80 => ⟨S2x8192x4x16, .f32⟩
  | 81 => ⟨S2x8192x4x16, .f32⟩
  | 82 => ⟨S2x8192x4x16, .f32⟩
  | 83 => ⟨S2x8192x4x32, .f32⟩
  | 84 => ⟨S2x8192x4x96, .f32⟩
  | 85 => ⟨S2x8192x4x128, .f32⟩
  | 86 => ⟨S2x8192x512, .f32⟩
  | 87 => ⟨S2x8192x4x128, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S2x8192, .f32⟩
  | 97 => ⟨S2x8192x1, .f32⟩
  | 98 => ⟨S1x1x16, .f32⟩
  | 99 => ⟨S2x8192x16, .f32⟩
  | 100 => ⟨S2x8192x16, .f32⟩
  | 101 => ⟨S2x8192x16, .f32⟩
  | 102 => ⟨S2x8192x16, .f32⟩
  | 103 => ⟨S2x8192x1x16, .f32⟩
  | 104 => ⟨S2x8192x16, .f32⟩
  | 105 => ⟨S2x8192x1x16, .f32⟩
  | 106 => ⟨S2x8192x4x32, .f32⟩
  | 107 => ⟨S2x8192x4x16, .f32⟩
  | 108 => ⟨S2x8192x4x16, .f32⟩
  | 109 => ⟨S2x8192x4x16, .f32⟩
  | 110 => ⟨S2x8192x4x16, .f32⟩
  | 111 => ⟨S2x8192x4x16, .f32⟩
  | 112 => ⟨S2x8192x4x16, .f32⟩
  | 113 => ⟨S2x8192x4x16, .f32⟩
  | 114 => ⟨S2x8192x4x16, .f32⟩
  | 115 => ⟨S2x8192x4x16, .f32⟩
  | 116 => ⟨S2x8192x4x16, .f32⟩
  | 117 => ⟨S2x8192x4x16, .f32⟩
  | 118 => ⟨S2x8192x4x16, .f32⟩
  | 119 => ⟨S2x8192x4x32, .f32⟩
  | 120 => ⟨S2x8192x4x96, .f32⟩
  | 121 => ⟨S2x8192x4x128, .f32⟩
  | 122 => ⟨S2x8192x512, .f32⟩
  | 123 => ⟨S2x8192x4x128, .f32⟩
  | 124 => ⟨S16, .f32⟩
  | 125 => ⟨S16, .f32⟩
  | 126 => ⟨S_, .f32⟩
  | 127 => ⟨S16, .f32⟩
  | _ => ⟨S2x8192x2048, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S2x8192, .f32⟩
  | 5 => ⟨S2x8192x1, .f32⟩
  | 6 => ⟨S1x1x16, .f32⟩
  | 7 => ⟨S2x8192x16, .f32⟩
  | 8 => ⟨S2x8192x16, .f32⟩
  | 9 => ⟨S2x8192x16, .f32⟩
  | 10 => ⟨S2x8192x16, .f32⟩
  | 11 => ⟨S2x8192x1x16, .f32⟩
  | 12 => ⟨S2x8192x16, .f32⟩
  | 13 => ⟨S2x8192x1x16, .f32⟩
  | 14 => ⟨S2x8192x4x32, .f32⟩
  | 15 => ⟨S2x8192x4x16, .f32⟩
  | 16 => ⟨S2x8192x4x16, .f32⟩
  | 17 => ⟨S2x8192x4x16, .f32⟩
  | 18 => ⟨S2x8192x4x16, .f32⟩
  | 19 => ⟨S2x8192x4x16, .f32⟩
  | 20 => ⟨S2x8192x4x16, .f32⟩
  | 21 => ⟨S2x8192x4x16, .f32⟩
  | 22 => ⟨S2x8192x4x16, .f32⟩
  | 23 => ⟨S2x8192x4x16, .f32⟩
  | 24 => ⟨S2x8192x4x16, .f32⟩
  | 25 => ⟨S2x8192x4x16, .f32⟩
  | 26 => ⟨S2x8192x4x16, .f32⟩
  | 27 => ⟨S2x8192x4x32, .f32⟩
  | 28 => ⟨S2x8192x4x96, .f32⟩
  | 29 => ⟨S2x8192x4x128, .f32⟩
  | 30 => ⟨S2x8192x512, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S2x8192x2048, .f32⟩
  | 39 => ⟨S2x8192x2048, .f32⟩
  | 40 => ⟨S2x8192x4096, .f32⟩
  | 41 => ⟨S16384x4096, .f32⟩
  | 42 => ⟨S16384x4096, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_1 : Ref sig .tc := ⟨.hbm, 54, rfl⟩
abbrev main_v49 : Ref sig .tc := ⟨.hbm, 55, rfl⟩
abbrev main_v50 : Ref sig .tc := ⟨.hbm, 56, rfl⟩
abbrev main_cst_2 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_cst_3 : Ref sig .tc := ⟨.hbm, 90, rfl⟩
abbrev main_v83 : Ref sig .tc := ⟨.hbm, 91, rfl⟩
abbrev main_v84 : Ref sig .tc := ⟨.hbm, 92, rfl⟩
abbrev main_cst_4 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_cst_5 : Ref sig .tc := ⟨.hbm, 126, rfl⟩
abbrev main_v117 : Ref sig .tc := ⟨.hbm, 127, rfl⟩
abbrev main_v118 : Ref sig .tc := ⟨.hbm, 128, rfl⟩
abbrev main_cst_6 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_cst_7 : Ref sig .tc := ⟨.hbm, 159, rfl⟩
abbrev main_v148 : Ref sig .tc := ⟨.hbm, 160, rfl⟩
abbrev main_cst_8 : Ref sig .tc := ⟨.hbm, 161, rfl⟩
abbrev main_v149 : Ref sig .tc := ⟨.hbm, 162, rfl⟩
abbrev main_v150 : Ref sig .tc := ⟨.hbm, 163, rfl⟩
abbrev main_cst_9 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩

abbrev nD : Nat := 1
abbrev τ : Topo := Topo.v7x

variable {F : FTy → Type} [FloatOps F]
-- ==== Pf.lean ====
abbrev S2x8192x2048 : Shape := ⟨3, ![2, 8192, 2048]⟩
abbrev S2x8192 : Shape := ⟨2, ![2, 8192]⟩
abbrev S2x2048x7216 : Shape := ⟨3, ![2, 2048, 7216]⟩
abbrev S2x2048x2048 : Shape := ⟨3, ![2, 2048, 2048]⟩
abbrev S2x2048x512 : Shape := ⟨3, ![2, 2048, 512]⟩
abbrev S2x2048x48 : Shape := ⟨3, ![2, 2048, 48]⟩
abbrev S_ : Shape := ⟨0, ![]⟩
abbrev S2x2048x80 : Shape := ⟨3, ![2, 2048, 80]⟩
abbrev S2x2048x3200 : Shape := ⟨3, ![2, 2048, 3200]⟩
abbrev S16384x2048 : Shape := ⟨2, ![16384, 2048]⟩
abbrev S16 : Shape := ⟨1, ![16]⟩
abbrev S96 : Shape := ⟨1, ![96]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S16384x3200 : Shape := ⟨2, ![16384, 3200]⟩
abbrev S2048x2048 : Shape := ⟨2, ![2048, 2048]⟩
abbrev S1x2048x640 : Shape := ⟨3, ![1, 2048, 640]⟩
abbrev S2048x128 : Shape := ⟨2, ![2048, 128]⟩
abbrev S2048x640 : Shape := ⟨2, ![2048, 640]⟩
abbrev S1x2048x256 : Shape := ⟨3, ![1, 2048, 256]⟩
abbrev S2048x256 : Shape := ⟨2, ![2048, 256]⟩
abbrev S1x2048x128 : Shape := ⟨3, ![1, 2048, 128]⟩

abbrev nBuf : Space → Nat
  | .hbm => 54
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2x2048x7216, .f32⟩
  | .hbm, ⟨3, _⟩ => ⟨S2x2048x2048, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x48, .f32⟩
  | .hbm, ⟨11, _⟩ => ⟨S2x2048x2048, .f32⟩
  | .hbm, ⟨12, _⟩ => ⟨S_, .f32⟩
  | .hbm, ⟨13, _⟩ => ⟨S2x2048x80, .f32⟩
  | .hbm, ⟨14, _⟩ => ⟨S2x2048x3200, .f32⟩
  | .hbm, ⟨15, _⟩ => ⟨S2x2048x3200, .bf16⟩
  | .hbm, ⟨16, _⟩ => ⟨S16384x2048, .f32⟩
  | .hbm, ⟨17, _⟩ => ⟨S16384x2048, .bf16⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S96, .f32⟩
  | .hbm, ⟨28, _⟩ => ⟨S128, .f32⟩
  | .hbm, ⟨29, _⟩ => ⟨S1x128, .f32⟩
  | .hbm, ⟨30, _⟩ => ⟨S2x8192, .f32⟩
  | .hbm, ⟨31, _⟩ => ⟨S16384x1, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .i32⟩
  | .hbm, ⟨36, _⟩ => ⟨S16384x128, .f32⟩
  | .hbm, ⟨37, _⟩ => ⟨S16384x128, .f32⟩
  | .hbm, ⟨38, _⟩ => ⟨S_, .i32⟩
  | .hbm, ⟨39, _⟩ => ⟨S16384x128, .i32⟩
  | .hbm, ⟨40, _⟩ => ⟨S16384x128, .i1⟩
  | .hbm, ⟨41, _⟩ => ⟨S16384x128, .f32⟩
  | .hbm, ⟨42, _⟩ => ⟨S_, .f32⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S_, .i32⟩
  | .hbm, ⟨47, _⟩ => ⟨S16384x128, .i32⟩
  | .hbm, ⟨48, _⟩ => ⟨S16384x128, .i1⟩
  | .hbm, ⟨49, _⟩ => ⟨S_, .f32⟩
  | .hbm, ⟨50, _⟩ => ⟨S_, .f32⟩
  | .hbm, ⟨51, _⟩ => ⟨S16384x128, .f32⟩
  | .hbm, ⟨52, _⟩ => ⟨S16384x128, .f32⟩
  | .hbm, ⟨53, _⟩ => ⟨S16384x3200, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x640, .f32⟩
  | .local _ .vmem, ⟨11, _⟩ => ⟨S2048x640, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v4 : BitVec 1 := Scalar.ori v0 v1
  let c2_i32 : BitVec 32 := 2#32
  let v2 : BitVec 1 := Scalar.cmpi .eq arg1 c2_i32
  let v5 : BitVec 1 := Scalar.ori v4 v2
  let c4_i32 : BitVec 32 := 4#32
  let v3 : BitVec 1 := Scalar.cmpi .eq arg1 c4_i32
  let v6 : BitVec 1 := Scalar.ori v5 v3
  let v7 : BitVec 32 := Scalar.extui v6
  let c0_i32_0 : BitVec 32 := 0#32
  let v8 : BitVec 1 := Scalar.cmpi .ne v7 c0_i32_0
  v8

def k0_cond2 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_1 : BitVec 32 := 0#32
  let v11 : BitVec 1 := Scalar.cmpi .ne v10 c0_i32_1
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PfRefIdeal.lean ====
abbrev S2x8192x2048 : Shape := ⟨3, ![2, 8192, 2048]⟩
abbrev S2x8192 : Shape := ⟨2, ![2, 8192]⟩
abbrev S2x2048x7216 : Shape := ⟨3, ![2, 2048, 7216]⟩
abbrev S1x2048x7216 : Shape := ⟨3, ![1, 2048, 7216]⟩
abbrev S2048x7216 : Shape := ⟨2, ![2048, 7216]⟩
abbrev S2x8192x7216 : Shape := ⟨3, ![2, 8192, 7216]⟩
abbrev S2x8192x512 : Shape := ⟨3, ![2, 8192, 512]⟩
abbrev S2x8192x48 : Shape := ⟨3, ![2, 8192, 48]⟩
abbrev S2x8192x16x128 : Shape := ⟨4, ![2, 8192, 16, 128]⟩
abbrev S16 : Shape := ⟨1, ![16]⟩
abbrev S_ : Shape := ⟨0, ![]⟩
abbrev S2x8192x1 : Shape := ⟨3, ![2, 8192, 1]⟩
abbrev S1x1x16 : Shape := ⟨3, ![1, 1, 16]⟩
abbrev S2x8192x16 : Shape := ⟨3, ![2, 8192, 16]⟩
abbrev S2x8192x1x16 : Shape := ⟨4, ![2, 8192, 1, 16]⟩
abbrev S2x8192x16x32 : Shape := ⟨4, ![2, 8192, 16, 32]⟩
abbrev S2x8192x16x16 : Shape := ⟨4, ![2, 8192, 16, 16]⟩
abbrev S2x8192x16x96 : Shape := ⟨4, ![2, 8192, 16, 96]⟩
abbrev S2x8192x4x128 : Shape := ⟨4, ![2, 8192, 4, 128]⟩
abbrev S2x8192x4x32 : Shape := ⟨4, ![2, 8192, 4, 32]⟩
abbrev S2x8192x4x16 : Shape := ⟨4, ![2, 8192, 4, 16]⟩
abbrev S2x8192x4x96 : Shape := ⟨4, ![2, 8192, 4, 96]⟩
abbrev S2x8192x80 : Shape := ⟨3, ![2, 8192, 80]⟩
abbrev S2x8192x3200 : Shape := ⟨3, ![2, 8192, 3200]⟩
abbrev S16384x3200 : Shape := ⟨2, ![16384, 3200]⟩

abbrev nBuf : Space → Nat
  | .hbm => 163
  | .vmem => 0
  | .smem => 0
  | _ => 0

abbrev hbmTy0_0 (i : Nat) : BufTy := match i % 128 with
  | 0 => ⟨S2x8192x2048, .f32⟩
  | 1 => ⟨S2x8192, .i32⟩
  | 2 => ⟨S2x2048x7216, .f32⟩
  | 3 => ⟨S1x2048x7216, .f32⟩
  | 4 => ⟨S2048x7216, .f32⟩
  | 5 => ⟨S2x8192x7216, .f32⟩
  | 6 => ⟨S2x8192x2048, .f32⟩
  | 7 => ⟨S2x8192x512, .f32⟩
  | 8 => ⟨S2x8192x512, .f32⟩
  | 9 => ⟨S2x8192x512, .f32⟩
  | 10 => ⟨S2x8192x512, .f32⟩
  | 11 => ⟨S2x8192x512, .f32⟩
  | 12 => ⟨S2x8192x512, .f32⟩
  | 13 => ⟨S2x8192x48, .f32⟩
  | 14 => ⟨S2x8192x2048, .f32⟩
  | 15 => ⟨S2x8192x16x128, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2x8192, .f32⟩
  | 25 => ⟨S2x8192x1, .f32⟩
  | 26 => ⟨S1x1x16, .f32⟩
  | 27 => ⟨S2x8192x16, .f32⟩
  | 28 => ⟨S2x8192x16, .f32⟩
  | 29 => ⟨S2x8192x16, .f32⟩
  | 30 => ⟨S2x8192x16, .f32⟩
  | 31 => ⟨S2x8192x1x16, .f32⟩
  | 32 => ⟨S2x8192x16, .f32⟩
  | 33 => ⟨S2x8192x1x16, .f32⟩
  | 34 => ⟨S2x8192x16x32, .f32⟩
  | 35 => ⟨S2x8192x16x16, .f32⟩
  | 36 => ⟨S2x8192x16x16, .f32⟩
  | 37 => ⟨S2x8192x16x16, .f32⟩
  | 38 => ⟨S2x8192x16x16, .f32⟩
  | 39 => ⟨S2x8192x16x16, .f32⟩
  | 40 => ⟨S2x8192x16x16, .f32⟩
  | 41 => ⟨S2x8192x16x16, .f32⟩
  | 42 => ⟨S2x8192x16x16, .f32⟩
  | 43 => ⟨S2x8192x16x16, .f32⟩
  | 44 => ⟨S2x8192x16x16, .f32⟩
  | 45 => ⟨S2x8192x16x16, .f32⟩
  | 46 => ⟨S2x8192x16x16, .f32⟩
  | 47 => ⟨S2x8192x16x32, .f32⟩
  | 48 => ⟨S2x8192x16x96, .f32⟩
  | 49 => ⟨S2x8192x16x128, .f32⟩
  | 50 => ⟨S2x8192x2048, .f32⟩
  | 51 => ⟨S2x8192x4x128, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2x8192, .f32⟩
  | 61 => ⟨S2x8192x1, .f32⟩
  | 62 => ⟨S1x1x16, .f32⟩
  | 63 => ⟨S2x8192x16, .f32⟩
  | 64 => ⟨S2x8192x16, .f32⟩
  | 65 => ⟨S2x8192x16, .f32⟩
  | 66 => ⟨S2x8192x16, .f32⟩
  | 67 => ⟨S2x8192x1x16, .f32⟩
  | 68 => ⟨S2x8192x16, .f32⟩
  | 69 => ⟨S2x8192x1x16, .f32⟩
  | 70 => ⟨S2x8192x4x32, .f32⟩
  | 71 => ⟨S2x8192x4x16, .f32⟩
  | 72 => ⟨S2x8192x4x16, .f32⟩
  | 73 => ⟨S2x8192x4x16, .f32⟩
  | 74 => ⟨S2x8192x4x16, .f32⟩
  | 75 => ⟨S2x8192x4x16, .f32⟩
  | 76 => ⟨S2x8192x4x16, .f32⟩
  | 77 => ⟨S2x8192x4x16, .f32⟩
  | 78 => ⟨S2x8192x4x16, .f32⟩
  | 79 => ⟨S2x8192x4x16, .f32⟩
  | 80 => ⟨S2x8192x4x16, .f32⟩
  | 81 => ⟨S2x8192x4x16, .f32⟩
  | 82 => ⟨S2x8192x4x16, .f32⟩
  | 83 => ⟨S2x8192x4x32, .f32⟩
  | 84 => ⟨S2x8192x4x96, .f32⟩
  | 85 => ⟨S2x8192x4x128, .f32⟩
  | 86 => ⟨S2x8192x512, .f32⟩
  | 87 => ⟨S2x8192x4x128, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S2x8192, .f32⟩
  | 97 => ⟨S2x8192x1, .f32⟩
  | 98 => ⟨S1x1x16, .f32⟩
  | 99 => ⟨S2x8192x16, .f32⟩
  | 100 => ⟨S2x8192x16, .f32⟩
  | 101 => ⟨S2x8192x16, .f32⟩
  | 102 => ⟨S2x8192x16, .f32⟩
  | 103 => ⟨S2x8192x1x16, .f32⟩
  | 104 => ⟨S2x8192x16, .f32⟩
  | 105 => ⟨S2x8192x1x16, .f32⟩
  | 106 => ⟨S2x8192x4x32, .f32⟩
  | 107 => ⟨S2x8192x4x16, .f32⟩
  | 108 => ⟨S2x8192x4x16, .f32⟩
  | 109 => ⟨S2x8192x4x16, .f32⟩
  | 110 => ⟨S2x8192x4x16, .f32⟩
  | 111 => ⟨S2x8192x4x16, .f32⟩
  | 112 => ⟨S2x8192x4x16, .f32⟩
  | 113 => ⟨S2x8192x4x16, .f32⟩
  | 114 => ⟨S2x8192x4x16, .f32⟩
  | 115 => ⟨S2x8192x4x16, .f32⟩
  | 116 => ⟨S2x8192x4x16, .f32⟩
  | 117 => ⟨S2x8192x4x16, .f32⟩
  | 118 => ⟨S2x8192x4x16, .f32⟩
  | 119 => ⟨S2x8192x4x32, .f32⟩
  | 120 => ⟨S2x8192x4x96, .f32⟩
  | 121 => ⟨S2x8192x4x128, .f32⟩
  | 122 => ⟨S2x8192x512, .f32⟩
  | 123 => ⟨S2x8192x4x128, .f32⟩
  | 124 => ⟨S16, .f32⟩
  | 125 => ⟨S16, .f32⟩
  | 126 => ⟨S_, .f32⟩
  | 127 => ⟨S16, .f32⟩
  | _ => ⟨S2x8192x2048, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S2x8192, .f32⟩
  | 5 => ⟨S2x8192x1, .f32⟩
  | 6 => ⟨S1x1x16, .f32⟩
  | 7 => ⟨S2x8192x16, .f32⟩
  | 8 => ⟨S2x8192x16, .f32⟩
  | 9 => ⟨S2x8192x16, .f32⟩
  | 10 => ⟨S2x8192x16, .f32⟩
  | 11 => ⟨S2x8192x1x16, .f32⟩
  | 12 => ⟨S2x8192x16, .f32⟩
  | 13 => ⟨S2x8192x1x16, .f32⟩
  | 14 => ⟨S2x8192x4x32, .f32⟩
  | 15 => ⟨S2x8192x4x16, .f32⟩
  | 16 => ⟨S2x8192x4x16, .f32⟩
  | 17 => ⟨S2x8192x4x16, .f32⟩
  | 18 => ⟨S2x8192x4x16, .f32⟩
  | 19 => ⟨S2x8192x4x16, .f32⟩
  | 20 => ⟨S2x8192x4x16, .f32⟩
  | 21 => ⟨S2x8192x4x16, .f32⟩
  | 22 => ⟨S2x8192x4x16, .f32⟩
  | 23 => ⟨S2x8192x4x16, .f32⟩
  | 24 => ⟨S2x8192x4x16, .f32⟩
  | 25 => ⟨S2x8192x4x16, .f32⟩
  | 26 => ⟨S2x8192x4x16, .f32⟩
  | 27 => ⟨S2x8192x4x32, .f32⟩
  | 28 => ⟨S2x8192x4x96, .f32⟩
  | 29 => ⟨S2x8192x4x128, .f32⟩
  | 30 => ⟨S2x8192x512, .f32⟩
  | 31 => ⟨S_, .f32⟩
  | 32 => ⟨S2x8192x80, .f32⟩
  | 33 => ⟨S2x8192x3200, .f32⟩
  | 34 => ⟨S16384x3200, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_1 : Ref sig .tc := ⟨.hbm, 54, rfl⟩
abbrev main_v49 : Ref sig .tc := ⟨.hbm, 55, rfl⟩
abbrev main_v50 : Ref sig .tc := ⟨.hbm, 56, rfl⟩
abbrev main_cst_2 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_cst_3 : Ref sig .tc := ⟨.hbm, 90, rfl⟩
abbrev main_v83 : Ref sig .tc := ⟨.hbm, 91, rfl⟩
abbrev main_v84 : Ref sig .tc := ⟨.hbm, 92, rfl⟩
abbrev main_cst_4 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_cst_5 : Ref sig .tc := ⟨.hbm, 126, rfl⟩
abbrev main_v117 : Ref sig .tc := ⟨.hbm, 127, rfl⟩
abbrev main_v118 : Ref sig .tc := ⟨.hbm, 128, rfl⟩
abbrev main_cst_6 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_cst_7 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩

abbrev nD : Nat := 1
abbrev τ : Topo := Topo.v7x

variable {F : FTy → Type} [FloatOps F]
-- ==== Nout.lean ====
abbrev S2x8192x2048 : Shape := ⟨3, ![2, 8192, 2048]⟩
abbrev S2x8192x16x128 : Shape := ⟨4, ![2, 8192, 16, 128]⟩
abbrev S2x8192x48 : Shape := ⟨3, ![2, 8192, 48]⟩
abbrev S2x2048x2048 : Shape := ⟨3, ![2, 2048, 2048]⟩
abbrev S2048 : Shape := ⟨1, ![2048]⟩
abbrev S16384x2048 : Shape := ⟨2, ![16384, 2048]⟩
abbrev S_ : Shape := ⟨0, ![]⟩
abbrev S16384x1024 : Shape := ⟨2, ![16384, 1024]⟩
abbrev S16384x48 : Shape := ⟨2, ![16384, 48]⟩
abbrev S16384x80 : Shape := ⟨2, ![16384, 80]⟩
abbrev S16384x3200 : Shape := ⟨2, ![16384, 3200]⟩
abbrev S1x2048 : Shape := ⟨2, ![1, 2048]⟩
abbrev S256x2048 : Shape := ⟨2, ![256, 2048]⟩
abbrev S256x128 : Shape := ⟨2, ![256, 128]⟩
abbrev S1x2048x2048 : Shape := ⟨3, ![1, 2048, 2048]⟩
abbrev S256x1 : Shape := ⟨2, ![256, 1]⟩
abbrev S256x256 : Shape := ⟨2, ![256, 256]⟩
abbrev S1x256x2048 : Shape := ⟨3, ![1, 256, 2048]⟩
abbrev S256 : Shape := ⟨1, ![256]⟩

abbrev nBuf : Space → Nat
  | .hbm => 23
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S2x8192x16x128, .f32⟩
  | .hbm, ⟨2, _⟩ => ⟨S2x8192x16x128, .f32⟩
  | .hbm, ⟨3, _⟩ => ⟨S2x8192x16x128, .f32⟩
  | .hbm, ⟨4, _⟩ => ⟨S2x8192x48, .f32⟩
  | .hbm, ⟨5, _⟩ => ⟨S2x8192x2048, .f32⟩
  | .hbm, ⟨6, _⟩ => ⟨S2x2048x2048, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384x1024, .f32⟩
  | .hbm, ⟨11, _⟩ => ⟨S16384x48, .f32⟩
  | .hbm, ⟨12, _⟩ => ⟨S_, .f32⟩
  | .hbm, ⟨13, _⟩ => ⟨S16384x80, .f32⟩
  | .hbm, ⟨14, _⟩ => ⟨S16384x3200, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S2x2048x2048, .bf16⟩
  | .hbm, ⟨20, _⟩ => ⟨S1x2048, .f32⟩
  | .hbm, ⟨21, _⟩ => ⟨S16384x2048, .f32⟩
  | .hbm, ⟨22, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x128, .f32⟩
  | .local _ .vmem, ⟨11, _⟩ => ⟨S256x128, .f32⟩
  | .local _ .vmem, ⟨12, _⟩ => ⟨S1x2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NoutRefIdeal.lean ====
abbrev S2x8192x2048 : Shape := ⟨3, ![2, 8192, 2048]⟩
abbrev S2x8192x16x128 : Shape := ⟨4, ![2, 8192, 16, 128]⟩
abbrev S2x8192x48 : Shape := ⟨3, ![2, 8192, 48]⟩
abbrev S2x2048x2048 : Shape := ⟨3, ![2, 2048, 2048]⟩
abbrev S2048 : Shape := ⟨1, ![2048]⟩
abbrev S_ : Shape := ⟨0, ![]⟩
abbrev S2x8192x3x16 : Shape := ⟨4, ![2, 8192, 3, 16]⟩
abbrev S2x8192x3x16x1 : Shape := ⟨5, ![2, 8192, 3, 16, 1]⟩
abbrev S2x8192x1x16x1 : Shape := ⟨5, ![2, 8192, 1, 16, 1]⟩
abbrev S2x8192x16x1 : Shape := ⟨4, ![2, 8192, 16, 1]⟩
abbrev S1x2048x2048 : Shape := ⟨3, ![1, 2048, 2048]⟩
abbrev S2048x2048 : Shape := ⟨2, ![2048, 2048]⟩
abbrev S16384x2048 : Shape := ⟨2, ![16384, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x16x128, .f32⟩
  | .hbm, ⟨2, _⟩ => ⟨S2x8192x16x128, .f32⟩
  | .hbm, ⟨3, _⟩ => ⟨S2x8192x16x128, .f32⟩
  | .hbm, ⟨4, _⟩ => ⟨S2x8192x48, .f32⟩
  | .hbm, ⟨5, _⟩ => ⟨S2x8192x2048, .f32⟩
  | .hbm, ⟨6, _⟩ => ⟨S2x2048x2048, .f32⟩
  | .hbm, ⟨7, _⟩ => ⟨S2048, .f32⟩
  | .hbm, ⟨8, _⟩ => ⟨S2x8192x48, .f32⟩
  | .hbm, ⟨9, _⟩ => ⟨S2x8192x48, .f32⟩
  | .hbm, ⟨10, _⟩ => ⟨S_, .f32⟩
  | .hbm, ⟨11, _⟩ => ⟨S2x8192x48, .f32⟩
  | .hbm, ⟨12, _⟩ => ⟨S2x8192x48, .f32⟩
  | .hbm, ⟨13, _⟩ => ⟨S_, .f32⟩
  | .hbm, ⟨14, _⟩ => ⟨S2x8192x48, .f32⟩
  | .hbm, ⟨15, _⟩ => ⟨S2x8192x48, .f32⟩
  | .hbm, ⟨16, _⟩ => ⟨S2x8192x3x16, .f32⟩
  | .hbm, ⟨17, _⟩ => ⟨S2x8192x3x16x1, .f32⟩
  | .hbm, ⟨18, _⟩ => ⟨S2x8192x1x16x1, .f32⟩
  | .hbm, ⟨19, _⟩ => ⟨S2x8192x16x1, .f32⟩
  | .hbm, ⟨20, _⟩ => ⟨S2x8192x16x128, .f32⟩
  | .hbm, ⟨21, _⟩ => ⟨S2x8192x16x128, .f32⟩
  | .hbm, ⟨22, _⟩ => ⟨S2x8192x1x16x1, .f32⟩
  | .hbm, ⟨23, _⟩ => ⟨S2x8192x16x1, .f32⟩
  | .hbm, ⟨24, _⟩ => ⟨S2x8192x16x128, .f32⟩
  | .hbm, ⟨25, _⟩ => ⟨S2x8192x16x128, .f32⟩
  | .hbm, ⟨26, _⟩ => ⟨S2x8192x16x128, .f32⟩
  | .hbm, ⟨27, _⟩ => ⟨S2x8192x1x16x1, .f32⟩
  | .hbm, ⟨28, _⟩ => ⟨S2x8192x16x1, .f32⟩
  | .hbm, ⟨29, _⟩ => ⟨S2x8192x16x128, .f32⟩
  | .hbm, ⟨30, _⟩ => ⟨S2x8192x16x128, .f32⟩
  | .hbm, ⟨31, _⟩ => ⟨S2x8192x16x128, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S_, .f32⟩
  | .hbm, ⟨36, _⟩ => ⟨S2x8192x2048, .f32⟩
  | .hbm, ⟨37, _⟩ => ⟨S2x8192x2048, .f32⟩
  | .hbm, ⟨38, _⟩ => ⟨S_, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S2x8192x2048, .f32⟩
  | .hbm, ⟨43, _⟩ => ⟨S1x2048x2048, .f32⟩
  | .hbm, ⟨44, _⟩ => ⟨S2048x2048, .f32⟩
  | .hbm, ⟨45, _⟩ => ⟨S2x8192x2048, .f32⟩
  | .hbm, ⟨46, _⟩ => ⟨S2x8192x2048, .f32⟩
  | .hbm, ⟨47, _⟩ => ⟨S16384x2048, .f32⟩
  | .hbm, ⟨48, _⟩ => ⟨S2x8192x2048, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x2048, .f32⟩
  | .hbm, ⟨60, _⟩ => ⟨S2x8192x2048, .f32⟩
  | .hbm, ⟨61, _⟩ => ⟨S1x1x2048, .f32⟩
  | .hbm, ⟨62, _⟩ => ⟨S2x8192x2048, .f32⟩
  | .hbm, ⟨63, _⟩ => ⟨S2x8192x2048, .f32⟩
  | .hbm, ⟨64, _⟩ => ⟨S16384x2048, .f32⟩
  | .hbm, ⟨65, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Hmid.lean ====
abbrev S2x8192x2048 : Shape := ⟨3, ![2, 8192, 2048]⟩
abbrev S2x2048x2048 : Shape := ⟨3, ![2, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .bf16⟩
  | .hbm, ⟨7, _⟩ => ⟨S2x2048x2048, .bf16⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HmidRefIdeal.lean ====
abbrev S2x8192x2048 : Shape := ⟨3, ![2, 8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S16384x2048 : Shape := ⟨2, ![16384, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x2048x2048, .f32⟩
  | .hbm, ⟨3, _⟩ => ⟨S2048, .f32⟩
  | .hbm, ⟨4, _⟩ => ⟨S1x2048x2048, .f32⟩
  | .hbm, ⟨5, _⟩ => ⟨S2048x2048, .f32⟩
  | .hbm, ⟨6, _⟩ => ⟨S2x8192x2048, .f32⟩
  | .hbm, ⟨7, _⟩ => ⟨S2x8192x2048, .f32⟩
  | .hbm, ⟨8, _⟩ => ⟨S16384x2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S1x1x2048, .f32⟩
  | .hbm, ⟨23, _⟩ => ⟨S2x8192x2048, .f32⟩
  | .hbm, ⟨24, _⟩ => ⟨S2x8192x2048, .f32⟩
  | .hbm, ⟨25, _⟩ => ⟨S16384x2048, .f32⟩
  | .hbm, ⟨26, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Cmp.lean ====
abbrev S2x8192x4x128 : Shape := ⟨4, ![2, 8192, 4, 128]⟩
abbrev S2x32x128 : Shape := ⟨3, ![2, 32, 128]⟩
abbrev S2x32x128x128 : Shape := ⟨4, ![2, 32, 128, 128]⟩
abbrev S2x128x128 : Shape := ⟨3, ![2, 128, 128]⟩
abbrev S_ : Shape := ⟨0, ![]⟩
abbrev S16384x2048 : Shape := ⟨2, ![16384, 2048]⟩
abbrev S16384x512 : Shape := ⟨2, ![16384, 512]⟩
abbrev S16384x128 : Shape := ⟨2, ![16384, 128]⟩
abbrev S16384x3200 : Shape := ⟨2, ![16384, 3200]⟩
abbrev S2x4x128x512 : Shape := ⟨4, ![2, 4, 128, 512]⟩
abbrev S2x4x512x128 : Shape := ⟨4, ![2, 4, 512, 128]⟩
abbrev S8192x128 : Shape := ⟨2, ![8192, 128]⟩
abbrev S1x32x128 : Shape := ⟨3, ![1, 32, 128]⟩
abbrev S1x32x128x128 : Shape := ⟨4, ![1, 32, 128, 128]⟩
abbrev S1x128x128 : Shape := ⟨3, ![1, 128, 128]⟩
abbrev S1x1x128x512 : Shape := ⟨4, ![1, 1, 128, 512]⟩
abbrev S1x1x512x128 : Shape := ⟨4, ![1, 1, 512, 128]⟩
abbrev S520x128 : Shape := ⟨2, ![520, 128]⟩
abbrev S512x128 : Shape := ⟨2, ![512, 128]⟩
abbrev S1x1x128 : Shape := ⟨3, ![1, 1, 128]⟩
abbrev S1x128 : Shape := ⟨2, ![1, 128]⟩
abbrev S1x1x128x128 : Shape := ⟨4, ![1, 1, 128, 128]⟩
abbrev S128x128 : Shape := ⟨2, ![128, 128]⟩
abbrev S8x128 : Shape := ⟨2, ![8, 128]⟩
abbrev S128x512 : Shape := ⟨2, ![128, 512]⟩

abbrev nBuf : Space → Nat
  | .hbm => 21
  | .vmem => 15
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x128, .f32⟩
  | .hbm, ⟨2, _⟩ => ⟨S2x32x128, .f32⟩
  | .hbm, ⟨3, _⟩ => ⟨S2x32x128x128, .f32⟩
  | .hbm, ⟨4, _⟩ => ⟨S2x128x128, .f32⟩
  | .hbm, ⟨5, _⟩ => ⟨S2x32x128, .f32⟩
  | .hbm, ⟨6, _⟩ => ⟨S2x32x128x128, .f32⟩
  | .hbm, ⟨7, _⟩ => ⟨S2x128x128, .f32⟩
  | .hbm, ⟨8, _⟩ => ⟨S_, .f32⟩
  | .hbm, ⟨9, _⟩ => ⟨S16384x2048, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x128, .f32⟩
  | .hbm, ⟨14, _⟩ => ⟨S16384x3200, .f32⟩
  | .hbm, ⟨15, _⟩ => ⟨S2x32x128x128, .bf16⟩
  | .hbm, ⟨16, _⟩ => ⟨S2x128x128, .bf16⟩
  | .hbm, ⟨17, _⟩ => ⟨S2x32x128x128, .bf16⟩
  | .hbm, ⟨18, _⟩ => ⟨S2x128x128, .bf16⟩
  | .hbm, ⟨19, _⟩ => ⟨S2x4x128x512, .bf16⟩
  | .hbm, ⟨20, _⟩ => ⟨S2x4x512x128, .bf16⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x32x128, .f32⟩
  | .local _ .vmem, ⟨5, _⟩ => ⟨S1x32x128x128, .bf16⟩
  | .local _ .vmem, ⟨6, _⟩ => ⟨S1x128x128, .bf16⟩
  | .local _ .vmem, ⟨7, _⟩ => ⟨S1x32x128, .f32⟩
  | .local _ .vmem, ⟨8, _⟩ => ⟨S1x32x128x128, .bf16⟩
  | .local _ .vmem, ⟨9, _⟩ => ⟨S1x128x128, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x1x512x128, .bf16⟩
  | .local _ .vmem, ⟨13, _⟩ => ⟨S1x1x512x128, .bf16⟩
  | .local _ .vmem, ⟨14, _⟩ => ⟨S520x128, .f32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CmpRefIdeal.lean ====
abbrev S2x8192x4x128 : Shape := ⟨4, ![2, 8192, 4, 128]⟩
abbrev S2x32x128 : Shape := ⟨3, ![2, 32, 128]⟩
abbrev S2x32x128x128 : Shape := ⟨4, ![2, 32, 128, 128]⟩
abbrev S2x128x128 : Shape := ⟨3, ![2, 128, 128]⟩
abbrev S1x32x128 : Shape := ⟨3, ![1, 32, 128]⟩
abbrev S32x128 : Shape := ⟨2, ![32, 128]⟩
abbrev S1x32x128x128 : Shape := ⟨4, ![1, 32, 128, 128]⟩
abbrev S32x128x128 : Shape := ⟨3, ![32, 128, 128]⟩
abbrev S1x128x128 : Shape := ⟨3, ![1, 128, 128]⟩
abbrev S128x128 : Shape := ⟨2, ![128, 128]⟩
abbrev S2x4x8192x128 : Shape := ⟨4, ![2, 4, 8192, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x4x511x32x128 : Shape := ⟨5, ![2, 4, 511, 32, 128]⟩
abbrev S1x1x1x32x128 : Shape := ⟨5, ![1, 1, 1, 32, 128]⟩
abbrev S2x4x511x128 : Shape := ⟨4, ![2, 4, 511, 128]⟩
abbrev S2x4x512x128 : Shape := ⟨4, ![2, 4, 512, 128]⟩
abbrev S2x4x128x512 : Shape := ⟨4, ![2, 4, 128, 512]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x4x128, .f32⟩
  | .hbm, ⟨1, _⟩ => ⟨S2x8192x4x128, .f32⟩
  | .hbm, ⟨2, _⟩ => ⟨S2x32x128, .f32⟩
  | .hbm, ⟨3, _⟩ => ⟨S2x32x128x128, .f32⟩
  | .hbm, ⟨4, _⟩ => ⟨S2x128x128, .f32⟩
  | .hbm, ⟨5, _⟩ => ⟨S2x32x128, .f32⟩
  | .hbm, ⟨6, _⟩ => ⟨S2x32x128x128, .f32⟩
  | .hbm, ⟨7, _⟩ => ⟨S2x128x128, .f32⟩
  | .hbm, ⟨8, _⟩ => ⟨S1x32x128, .f32⟩
  | .hbm, ⟨9, _⟩ => ⟨S32x128, .f32⟩
  | .hbm, ⟨10, _⟩ => ⟨S1x32x128x128, .f32⟩
  | .hbm, ⟨11, _⟩ => ⟨S32x128x128, .f32⟩
  | .hbm, ⟨12, _⟩ => ⟨S1x128x128, .f32⟩
  | .hbm, ⟨13, _⟩ => ⟨S128x128, .f32⟩
  | .hbm, ⟨14, _⟩ => ⟨S2x4x8192x128, .f32⟩
  | .hbm, ⟨15, _⟩ => ⟨S511, .i32⟩
  | .hbm, ⟨16, _⟩ => ⟨S511x1, .i32⟩
  | .hbm, ⟨17, _⟩ => ⟨S_, .i32⟩
  | .hbm, ⟨18, _⟩ => ⟨S511x1, .i32⟩
  | .hbm, ⟨19, _⟩ => ⟨S511x1, .i32⟩
  | .hbm, ⟨20, _⟩ => ⟨S32, .i32⟩
  | .hbm, ⟨21, _⟩ => ⟨S1x32, .i32⟩
  | .hbm, ⟨22, _⟩ => ⟨S511x32, .i32⟩
  | .hbm, ⟨23, _⟩ => ⟨S511x32, .i32⟩
  | .hbm, ⟨24, _⟩ => ⟨S511x32, .i32⟩
  | .hbm, ⟨25, _⟩ => ⟨S_, .i32⟩
  | .hbm, ⟨26, _⟩ => ⟨S511x32, .i32⟩
  | .hbm, ⟨27, _⟩ => ⟨S511x32, .i1⟩
  | .hbm, ⟨28, _⟩ => ⟨S_, .i32⟩
  | .hbm, ⟨29, _⟩ => ⟨S511x32, .i32⟩
  | .hbm, ⟨30, _⟩ => ⟨S511x32, .i32⟩
  | .hbm, ⟨31, _⟩ => ⟨S511x32, .i32⟩
  | .hbm, ⟨32, _⟩ => ⟨S511x32x1, .i32⟩
  | .hbm, ⟨33, _⟩ => ⟨S2x4x511x32x128, .f32⟩
  | .hbm, ⟨34, _⟩ => ⟨S1x1x1x32x128, .f32⟩
  | .hbm, ⟨35, _⟩ => ⟨S2x4x511x32x128, .f32⟩
  | .hbm, ⟨36, _⟩ => ⟨S2x4x511x32x128, .f32⟩
  | .hbm, ⟨37, _⟩ => ⟨S2x4x511x128, .f32⟩
  | .hbm, ⟨38, _⟩ => ⟨S2x4x511x128, .f32⟩
  | .hbm, ⟨39, _⟩ => ⟨S2x4x511x128, .f32⟩
  | .hbm, ⟨40, _⟩ => ⟨S_, .f32⟩
  | .hbm, ⟨41, _⟩ => ⟨S2x4x511x128, .f32⟩
  | .hbm, ⟨42, _⟩ => ⟨S2x4x511x128, .f32⟩
  | .hbm, ⟨43, _⟩ => ⟨S_, .f32⟩
  | .hbm, ⟨44, _⟩ => ⟨S2x4x511x128, .f32⟩
  | .hbm, ⟨45, _⟩ => ⟨S2x4x511x128, .f32⟩
  | .hbm, ⟨46, _⟩ => ⟨S2x4x511x128, .f32⟩
  | .hbm, ⟨47, _⟩ => ⟨S2x4x511x128, .f32⟩
  | .hbm, ⟨48, _⟩ => ⟨S_, .i32⟩
  | .hbm, ⟨49, _⟩ => ⟨S_, .f32⟩
  | .hbm, ⟨50, _⟩ => ⟨S2x4x512x128, .f32⟩
  | .hbm, ⟨51, _⟩ => ⟨S1x32x128, .f32⟩
  | .hbm, ⟨52, _⟩ => ⟨S32x128, .f32⟩
  | .hbm, ⟨53, _⟩ => ⟨S1x32x128x128, .f32⟩
  | .hbm, ⟨54, _⟩ => ⟨S32x128x128, .f32⟩
  | .hbm, ⟨55, _⟩ => ⟨S1x128x128, .f32⟩
  | .hbm, ⟨56, _⟩ => ⟨S128x128, .f32⟩
  | .hbm, ⟨57, _⟩ => ⟨S2x4x8192x128, .f32⟩
  | .hbm, ⟨58, _⟩ => ⟨S511, .i32⟩
  | .hbm, ⟨59, _⟩ => ⟨S511x1, .i32⟩
  | .hbm, ⟨60, _⟩ => ⟨S_, .i32⟩
  | .hbm, ⟨61, _⟩ => ⟨S511x1, .i32⟩
  | .hbm, ⟨62, _⟩ => ⟨S511x1, .i32⟩
  | .hbm, ⟨63, _⟩ => ⟨S32, .i32⟩
  | .hbm, ⟨64, _⟩ => ⟨S1x32, .i32⟩
  | .hbm, ⟨65, _⟩ => ⟨S511x32, .i32⟩
  | .hbm, ⟨66, _⟩ => ⟨S511x32, .i32⟩
  | .hbm, ⟨67, _⟩ => ⟨S511x32, .i32⟩
  | .hbm, ⟨68, _⟩ => ⟨S_, .i32⟩
  | .hbm, ⟨69, _⟩ => ⟨S511x32, .i32⟩
  | .hbm, ⟨70, _⟩ => ⟨S511x32, .i1⟩
  | .hbm, ⟨71, _⟩ => ⟨S_, .i32⟩
  | .hbm, ⟨72, _⟩ => ⟨S511x32, .i32⟩
  | .hbm, ⟨73, _⟩ => ⟨S511x32, .i32⟩
  | .hbm, ⟨74, _⟩ => ⟨S511x32, .i32⟩
  | .hbm, ⟨75, _⟩ => ⟨S511x32x1, .i32⟩
  | .hbm, ⟨76, _⟩ => ⟨S2x4x511x32x128, .f32⟩
  | .hbm, ⟨77, _⟩ => ⟨S1x1x1x32x128, .f32⟩
  | .hbm, ⟨78, _⟩ => ⟨S2x4x511x32x128, .f32⟩
  | .hbm, ⟨79, _⟩ => ⟨S2x4x511x32x128, .f32⟩
  | .hbm, ⟨80, _⟩ => ⟨S2x4x511x128, .f32⟩
  | .hbm, ⟨81, _⟩ => ⟨S2x4x511x128, .f32⟩
  | .hbm, ⟨82, _⟩ => ⟨S2x4x511x128, .f32⟩
  | .hbm, ⟨83, _⟩ => ⟨S_, .f32⟩
  | .hbm, ⟨84, _⟩ => ⟨S2x4x511x128, .f32⟩
  | .hbm, ⟨85, _⟩ => ⟨S2x4x511x128, .f32⟩
  | .hbm, ⟨86, _⟩ => ⟨S_, .f32⟩
  | .hbm, ⟨87, _⟩ => ⟨S2x4x511x128, .f32⟩
  | .hbm, ⟨88, _⟩ => ⟨S2x4x511x128, .f32⟩
  | .hbm, ⟨89, _⟩ => ⟨S2x4x511x128, .f32⟩
  | .hbm, ⟨90, _⟩ => ⟨S2x4x511x128, .f32⟩
  | .hbm, ⟨91, _⟩ => ⟨S_, .i32⟩
  | .hbm, ⟨92, _⟩ => ⟨S_, .f32⟩
  | .hbm, ⟨93, _⟩ => ⟨S2x4x512x128, .f32⟩
  | .hbm, ⟨94, _⟩ => ⟨S2x4x128x512, .f32⟩
  | .hbm, ⟨95, _⟩ => ⟨S2x4x128x512, .bf16⟩
  | .hbm, ⟨96, _⟩ => ⟨S2x4x512x128, .bf16⟩
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_c_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v57 : Ref sig .tc := ⟨.hbm, 89, rfl⟩
abbrev main_v58 : Ref sig .tc := ⟨.hbm, 90, rfl⟩
abbrev main_c_6 : Ref sig .tc := ⟨.hbm, 91, rfl⟩
abbrev main_call3_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]
-- ==== First.lean ====
abbrev S2x8192x2048 : Shape := ⟨3, ![2, 8192, 2048]⟩
abbrev S4x2048 : Shape := ⟨2, ![4, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S16384x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstRefIdeal.lean ====
abbrev S2x8192x2048 : Shape := ⟨3, ![2, 8192, 2048]⟩
abbrev S4x2048 : Shape := ⟨2, ![4, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Tab.lean ====
abbrev S2x8192 : Shape := ⟨2, ![2, 8192]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S2048x1 : Shape := ⟨2, ![2048, 1]⟩
abbrev S2048x128 : Shape := ⟨2, ![2048, 128]⟩

abbrev nBuf : Space → Nat
  | .hbm => 18
  | .vmem => 9
  | .smem => 0
  | _ => 0

abbrev bufTy : (tb : Table) → Fin (tcTables nBuf tb) → BufTy
  | .hbm, ⟨0, _⟩ => ⟨S2x8192, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S96, .f32⟩
  | .hbm, ⟨11, _⟩ => ⟨S128, .f32⟩
  | .hbm, ⟨12, _⟩ => ⟨S1x128, .f32⟩
  | .hbm, ⟨13, _⟩ => ⟨S2x8192, .f32⟩
  | .hbm, ⟨14, _⟩ => ⟨S16384x1, .f32⟩
  | .hbm, ⟨15, _⟩ => ⟨S16384x128, .f32⟩
  | .hbm, ⟨16, _⟩ => ⟨S16384x128, .f32⟩
  | .hbm, ⟨17, _⟩ => ⟨S16384x128, .f32⟩
  | .local _ .vmem, ⟨0, _⟩ => ⟨S2048x1, .f32⟩
  | .local _ .vmem, ⟨1, _⟩ => ⟨S2048x1, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TabRefIdeal.lean ====
abbrev S2x8192 : Shape := ⟨2, ![2, 8192]⟩
abbrev S16 : Shape := ⟨1, ![16]⟩
abbrev S_ : Shape := ⟨0, ![]⟩
abbrev S2x8192x1 : Shape := ⟨3, ![2, 8192, 1]⟩
abbrev S1x1x16 : Shape := ⟨3, ![1, 1, 16]⟩
abbrev S2x8192x16 : Shape := ⟨3, ![2, 8192, 16]⟩
abbrev S2x8192x96 : Shape := ⟨3, ![2, 8192, 96]⟩
abbrev S2x8192x128 : Shape := ⟨3, ![2, 8192, 128]⟩
abbrev S16384x128 : Shape := ⟨2, ![16384, 128]⟩
abbrev S2x8192x112 : Shape := ⟨3, ![2, 8192, 112]⟩

abbrev nBuf : Space → Nat
  | .hbm => 32
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S2x8192, .f32⟩
  | .hbm, ⟨10, _⟩ => ⟨S2x8192x1, .f32⟩
  | .hbm, ⟨11, _⟩ => ⟨S1x1x16, .f32⟩
  | .hbm, ⟨12, _⟩ => ⟨S2x8192x16, .f32⟩
  | .hbm, ⟨13, _⟩ => ⟨S2x8192x16, .f32⟩
  | .hbm, ⟨14, _⟩ => ⟨S2x8192x16, .f32⟩
  | .hbm, ⟨15, _⟩ => ⟨S2x8192x16, .f32⟩
  | .hbm, ⟨16, _⟩ => ⟨S2x8192x16, .f32⟩
  | .hbm, ⟨17, _⟩ => ⟨S_, .f32⟩
  | .hbm, ⟨18, _⟩ => ⟨S2x8192x96, .f32⟩
  | .hbm, ⟨19, _⟩ => ⟨S2x8192x128, .f32⟩
  | .hbm, ⟨20, _⟩ => ⟨S16384x128, .f32⟩
  | .hbm, ⟨21, _⟩ => ⟨S2x8192x16, .f32⟩
  | .hbm, ⟨22, _⟩ => ⟨S_, .f32⟩
  | .hbm, ⟨23, _⟩ => ⟨S2x8192x112, .f32⟩
  | .hbm, ⟨24, _⟩ => ⟨S2x8192x128, .f32⟩
  | .hbm, ⟨25, _⟩ => ⟨S16384x128, .f32⟩
  | .hbm, ⟨26, _⟩ => ⟨S_, .f32⟩
  | .hbm, ⟨27, _⟩ => ⟨S2x8192x16, .f32⟩
  | .hbm, ⟨28, _⟩ => ⟨S_, .f32⟩
  | .hbm, ⟨29, _⟩ => ⟨S2x8192x96, .f32⟩
  | .hbm, ⟨30, _⟩ => ⟨S2x8192x128, .f32⟩
  | .hbm, ⟨31, _⟩ => ⟨S16384x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.HoutValue.lean ====
/- The result array of `Hout` (the end of the last layer) is the reference's value at every index: the product with the
   weight, the residual and the norm are the same expression on both sides, read at flattened rows. -/
module

public import proofs.«01_k».proof.Proof.Gen.HoutIdeal.Value
public import proofs.«01_k».proof.Proof.Gen.HoutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.HoutIdeal.Math

open Cert.HoutIdeal Cert.HoutIdeal.Gen
open Cert.HoutRefIdeal.Read

variable (m : (ℓ : Loc nD τ sig) → Buf (Elt Ideal) ℓ)

/-- Where each window's block stands at each grid point: the row blocks move, the weight and the norm stay. -/
theorem where_blocks : ∀ t : Fin cfg0.N, win0_0.index t = ![t.val, 0] ∧ win0_1.index t = ![t.val, 0]
    ∧ win0_2.index t = ![1, 0, 0] ∧ win0_3.index t = ![0, 0] ∧ win0_4.index t = ![t.val, 0] :=
  (by decide +kernel : ∀ t : Fin grid0.N, _)

/-- Rows of the flattened residual: row `r` is row `r % 8192` of batch `r / 8192`. -/
theorem flat_x (X : FVec Ideal S2x8192x2048 .f32) (r : Fin 16384) (b : Fin 2048) (h0 : r.val / 8192 < 2) (h1 : r.val % 8192 < 8192) :
    shapeCast S16384x2048 X shapeCasts_S2x8192x2048_S16384x2048 (ix2 r b) = X (ix3 ⟨r.val / 8192, h0⟩ ⟨r.val % 8192, h1⟩ b) := by
  pointwise

/-- The residual block at row `a`, column `b`, of point `t`: row `512 t + a` of the flattened input. -/
theorem read_x (c : Dev nD) (t : Fin cfg0.N) (a : Fin 512) (b : Fin 2048) (h0 : (t.val * 512 + a.val) / 8192 < 2)
    (h1 : (t.val * 512 + a.val) % 8192 < 8192) :
    iblk m c 0 t (ix2 a b) = m ((c : Thread nD τ).loc main_arg0)
      (ix3 ⟨(t.val * 512 + a.val) / 8192, h0⟩ ⟨(t.val * 512 + a.val) % 8192, h1⟩ b) := by
  have e : (show FVec Ideal S16384x2048 .f32 from V m c main_v0) = shapeCast S16384x2048 (m ((c : Thread nD τ).loc main_arg0)) shapeCasts_S2x8192x2048_S16384x2048 := by
    entry_read; rfl
  have hb : t.val * 512 + a.val < 16384 := by have := lt_of_lt_of_eq t.isLt N_0; omega
  have hi : ((cfg0.win 0).blk t).view.emb (ix2 a b) = (ix2 ⟨t.val * 512 + a.val, hb⟩ b : S16384x2048.Idx) := by
    blk_ext [where_blocks t]
  refine (congrArg (V m c main_v0) hi).trans ?_
  exact (congrFun e _).trans (flat_x _ _ _ h0 h1)

/-- The gated mixer block, likewise. -/
theorem read_o (c : Dev nD) (t : Fin cfg0.N) (a : Fin 512) (b : Fin 2048) (h0 : (t.val * 512 + a.val) / 8192 < 2)
    (h1 : (t.val * 512 + a.val) % 8192 < 8192) :
    iblk m c 1 t (ix2 a b) = m ((c : Thread nD τ).loc main_arg1)
      (ix3 ⟨(t.val * 512 + a.val) / 8192, h0⟩ ⟨(t.val * 512 + a.val) % 8192, h1⟩ b) := by
  have e : (show FVec Ideal S16384x2048 .bf16 from V m c main_v2) = truncf (F := Ideal) .bf16 (shapeCast S16384x2048 (m ((c : Thread nD τ).loc main_arg1)) shapeCasts_S2x8192x2048_S16384x2048) bitsLt_bf16_f32 := by
    entry_read; rfl
  have hb : t.val * 512 + a.val < 16384 := by have := lt_of_lt_of_eq t.isLt N_0; omega
  have hi : ((cfg0.win 1).blk t).view.emb (ix2 a b) = (ix2 ⟨t.val * 512 + a.val, hb⟩ b : S16384x2048.Idx) := by
    blk_ext [where_blocks t]
  refine (congrArg (V m c main_v2) hi).trans ?_
  exact (congrFun e _).trans (flat_x _ _ _ h0 h1)

/-- The weight's block is layer 1's matrix at every point. -/
theorem read_w (c : Dev nD) (t : Fin cfg0.N) (a b : Fin 2048) :
    iblk m c 2 t (ix3 0 a b) = m ((c : Thread nD τ).loc main_arg2) (ix3 1 a b) := by
  have e : (show FVec Ideal S2x2048x2048 .bf16 from V m c main_v3) = truncf (F := Ideal) .bf16 (m ((c : Thread nD τ).loc main_arg2)) bitsLt_bf16_f32 := by
    entry_read; rfl
  refine (congrFun e (((cfg0.win 2).blk t).view.emb _)).trans ?_
  pointwise
  blk_ext [where_blocks t]

/-- The norm's weight is whole at every point. -/
theorem read_n (c : Dev nD) (t : Fin cfg0.N) (b : Fin 2048) :
    iblk m c 3 t (ix2 0 b) = m ((c : Thread nD τ).loc main_arg3) (ix1 b) := by
  have e : (show FVec Ideal S1x2048 .f32 from V m c main_v4) = shapeCast S1x2048 (m ((c : Thread nD τ).loc main_arg3)) shapeCasts_S2048_S1x2048 := by
    entry_read; rfl
  refine (congrFun e (((cfg0.win 3).blk t).view.emb _)).trans ?_
  pointwise
  blk_ext [where_blocks t]

/-- One row block: what point `t` stores is the reference at the block's place in the array. -/
theorem tile_value (c : Dev nD) (t : Fin cfg0.N) (a : Fin 512) (b : Fin 2048) (h : t.val * 512 + a.val < 16384) :
    k0_pay1 (iblk m c 0 t) (iblk m c 1 t) (iblk m c 2 t) (iblk m c 3 t) (ix2 a b)
      = val_main_v17 (F := Ideal) (m ((c : Thread nD τ).loc main_arg0)) (m ((c : Thread nD τ).loc main_arg1))
          (m ((c : Thread nD τ).loc main_arg2)) (m ((c : Thread nD τ).loc main_arg3)) (ix2 ⟨t.val * 512 + a.val, h⟩ b) := by
  have h0 : (t.val * 512 + a.val) / 8192 < 2 := by omega
  have h1 : (t.val * 512 + a.val) % 8192 < 8192 := by omega
  pointwise [k0_pay1, val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1]
  simp only [read_x m c t _ _ h0 h1, read_o m c t _ _ h0 h1, read_w, read_n]

theorem final (c : Dev nD) : (dats m 0 c).arrAt 4 (cfgs 0).N
    = val_main_v17 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy := tile_value m c t (y 0) (y 1) (by have := lt_of_lt_of_eq t.isLt N_0; have : (y 0).val < 512 := (y 0).isLt; omega)
  rw [← eq_ix2 y] at hy
  rw [hy]
  congr 1
  blk_ext [where_blocks t]

end Cert.HoutIdeal.Math

end
-- ==== Proof.Softmax.lean ====
/- A softmax over a masked row of real scores, in the extended reals: subtracting any real number before the
   exponential, and dividing before or after the values are summed, give the same weighted sum. -/
module

public import Idealize.ShloMosaic.Lib.Pipeline.ValueKit
public import Idealize.ShloMosaic.Lib.Claim

@[expose] public section

noncomputable section

open Idealize.ShloMosaic

namespace Cert.Softmax

/-- The weight of an entry of a masked row, before it is normalised. -/
def wt {ι : Type*} (live : ι → Prop) [DecidablePred live] (x : ι → ℝ) (i : ι) : ℝ :=
  if live i then Real.exp (x i) else 0

theorem wt_nonneg {ι : Type*} (live : ι → Prop) [DecidablePred live] (x : ι → ℝ) (i : ι) : 0 ≤ wt live x i := by
  unfold wt; split
  · exact (Real.exp_pos _).le
  · exact le_rfl

theorem total_pos {ι : Type*} [Fintype ι] (live : ι → Prop) [DecidablePred live] (x : ι → ℝ) (h : ∃ i, live i) :
    0 < ∑ i, wt live x i := by
  obtain ⟨i, hi⟩ := h
  refine Finset.sum_pos' (fun j _ => wt_nonneg live x j) ⟨i, Finset.mem_univ i, ?_⟩
  unfold wt; rw [if_pos hi]; exact Real.exp_pos _

/-- The weighted sum of the values: what a masked softmax row gives. -/
def mean {ι : Type*} [Fintype ι] (live : ι → Prop) [DecidablePred live] (x : ι → ℝ) (v : ι → EReal) : EReal :=
  ∑ i, ((wt live x i / ∑ j, wt live x j : ℝ) : EReal) * v i

/-- The largest of finitely many entries is real when none is `⊤` and one is not `⊥`. -/
theorem fold_real_on {ι : Type*} (S : Finset ι) (f : ι → EReal) (ht : ∀ i ∈ S, f i ≠ ⊤) (hb : ∃ i ∈ S, f i ≠ ⊥) :
    ∃ μ : ℝ, S.fold max ⊥ f = (μ : EReal) := by
  obtain ⟨i, hm, hi⟩ := hb
  have h1 : S.fold max ⊥ f < (⊤ : EReal) :=
    (Finset.fold_max_lt _).mpr ⟨bot_lt_top, fun j hj => lt_of_le_of_ne le_top (ht j hj)⟩
  have h2 : (⊥ : EReal) < S.fold max ⊥ f :=
    (Finset.lt_fold_max _).mpr (Or.inr ⟨i, hm, lt_of_le_of_ne bot_le (Ne.symm hi)⟩)
  exact ⟨_, (EReal.coe_toReal h1.ne h2.ne').symm⟩

theorem fold_real {ι : Type*} [Fintype ι] (f : ι → EReal) (ht : ∀ i, f i ≠ ⊤) (hb : ∃ i, f i ≠ ⊥) :
    ∃ μ : ℝ, Finset.univ.fold max ⊥ f = (μ : EReal) :=
  fold_real_on _ f (fun i _ => ht i) (hb.imp fun i hi => ⟨Finset.mem_univ i, hi⟩)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

theorem exp_masked (live : Prop) [Decidable live] (x μ : ℝ) :
    Ideal.exp ((if live then (x : EReal) else ⊥) - (μ : EReal)) = ((Real.exp (-μ) * (if live then Real.exp x else 0) : ℝ) : EReal) := by
  split
  · rw [← EReal.coe_sub, Ideal.exp_coe, ← Real.exp_add]; congr 2; ring
  · rw [mul_zero]; exact congrArg Ideal.exp (EReal.bot_sub _)

theorem exp2_masked (live : Prop) [Decidable live] (x μ : ℝ) :
    Ideal.exp2 ((if live then ((x / Real.log 2 : ℝ) : EReal) else ⊥) - (μ : EReal)) = ((Real.exp (-(μ * Real.log 2)) * (if live then Real.exp x else 0) : ℝ) : EReal) := by
  have hl : Real.log 2 ≠ 0 := (Real.log_pos (by norm_num)).ne'
  split
  · rw [← EReal.coe_sub, Ideal.exp2_coe, ← Real.exp_add]
    congr 1
    show (2 : ℝ) ^ (x / Real.log 2 - μ) = _
    rw [Real.rpow_def_of_pos (by norm_num)]
    congr 1; field_simp; ring
  · rw [mul_zero]; exact congrArg Ideal.exp2 (EReal.bot_sub _)

/-- Normalised before the sum, after subtracting a real number. -/
theorem softmax_value {ι : Type*} [Fintype ι] (live : ι → Prop) [DecidablePred live] (x : ι → ℝ) (v : ι → EReal)
    (h : ∃ i, live i) (s : ι → EReal) (hs : ∀ i, s i = if live i then (x i : EReal) else ⊥) (M : EReal)
    (hM : ∃ μ : ℝ, M = (μ : EReal)) :
    (∑ i, Ideal.div (Ideal.exp (s i - M)) (∑ j, Ideal.exp (s j - M)) * v i) = mean live x v := by
  obtain ⟨μ, rfl⟩ := hM
  have e : ∀ i, Ideal.exp (s i - (μ : EReal)) = ((Real.exp (-μ) * wt live x i : ℝ) : EReal) := fun i => by
    rw [hs]; exact exp_masked _ _ _
  simp only [e]
  rw [← coe_sum, ← Finset.mul_sum]
  have hZ := total_pos live x h
  have hE := Real.exp_pos (-μ)
  refine Finset.sum_congr rfl fun i _ => ?_
  rw [Ideal.div_coe (mul_pos hE hZ).ne', ← EReal.coe_mul]
  congr 2
  field_simp

/-- Normalised after the sums. -/
theorem late_value {ι : Type*} [Fintype ι] (live : ι → Prop) [DecidablePred live] (x : ι → ℝ) (v : ι → EReal)
    (h : ∃ i, live i) (e : ℝ) (he : 0 < e) :
    Ideal.div (∑ i, ((e * wt live x i : ℝ) : EReal) * v i) (∑ i, ((e * wt live x i : ℝ) : EReal)) = mean live x v := by
  have hZ := total_pos live x h
  rw [← coe_sum, ← Finset.mul_sum, Ideal.div_coe (mul_pos he hZ).ne', sum_mul_real _ _ _ (by positivity)]
  refine Finset.sum_congr rfl fun i _ => ?_
  rw [mul_right_comm, ← EReal.coe_mul]
  congr 2
  field_simp

/-- A sum over all positions of something that vanishes outside a run of blocks is the sum over the blocks. -/
theorem sum_blocks {n N w : ℕ} (base : ℕ) (hb : base + n * w ≤ N) (f : Fin N → EReal)
    (hf : ∀ k : Fin N, (k.val < base ∨ base + n * w ≤ k.val) → f k = 0)
    (hlt : ∀ (j : Fin n) (x : Fin w), base + (j.val * w + x.val) < N) :
    ∑ k, f k = ∑ j : Fin n, ∑ x : Fin w, f ⟨base + (j.val * w + x.val), hlt j x⟩ := by
  rw [← Fintype.sum_prod_type' (f := fun (j : Fin n) (x : Fin w) => f ⟨base + (j.val * w + x.val), hlt j x⟩)]
  symm
  refine Fintype.sum_of_injective (fun p : Fin n × Fin w => (⟨base + (p.1.val * w + p.2.val), hlt p.1 p.2⟩ : Fin N)) ?_ _ _ ?_ fun _ => rfl
  · rintro ⟨a, b⟩ ⟨a', b'⟩ hab
    have hab : base + (a.val * w + b.val) = base + (a'.val * w + b'.val) := congrArg Fin.val hab
    have hab : a.val * w + b.val = a'.val * w + b'.val := by omega
    have hw : 0 < w := lt_of_le_of_lt (Nat.zero_le _) b.isLt
    have h1 : a.val = a'.val := by
      have := congrArg (· / w) hab
      simpa [Nat.add_comm _ b.val, Nat.add_comm _ b'.val, Nat.add_mul_div_right _ _ hw, Nat.div_eq_of_lt b.isLt, Nat.div_eq_of_lt b'.isLt] using this
    have h2 : b.val = b'.val := by rw [h1] at hab; omega
    exact Prod.ext (Fin.ext h1) (Fin.ext h2)
  · intro k hk
    refine hf k ?_
    by_contra hc
    rw [not_or, not_lt, not_le] at hc
    refine hk ⟨(⟨(k.val - base) / w, ?_⟩, ⟨(k.val - base) % w, ?_⟩), Fin.ext ?_⟩
    · exact Nat.div_lt_of_lt_mul (by rw [Nat.mul_comm]; omega)
    · refine Nat.mod_lt _ (Nat.pos_of_ne_zero fun hw => ?_)
      subst hw; omega
    · show base + ((k.val - base) / w * w + (k.val - base) % w) = k.val
      rw [Nat.div_add_mod']; omega

section Blocks

variable (live : Fin 8192 → Prop) [DecidablePred live] (x : Fin 8192 → ℝ) (v : Fin 8192 → EReal) (base : ℕ)

/-- The masked score at a position, as the kernel holds it: in powers of two. -/
def score2 (k : Fin 8192) : EReal := if live k then ((x k / Real.log 2 : ℝ) : EReal) else ⊥

theorem score2_top (k : Fin 8192) : score2 live x k ≠ ⊤ := by
  unfold score2; split <;> simp

theorem score2_bot (k : Fin 8192) (h : live k) : score2 live x k ≠ ⊥ := by
  unfold score2; rw [if_pos h]; exact EReal.coe_ne_bot _

theorem exp2_score2 (k : Fin 8192) (μ : ℝ) :
    Ideal.exp2 (score2 live x k - (μ : EReal)) = ((Real.exp (-(μ * Real.log 2)) * wt live x k : ℝ) : EReal) :=
  exp2_masked _ _ _

theorem wt_zero (k : Fin 8192) (h : ¬ live k) : wt live x k = 0 := by
  unfold wt; rw [if_neg h]

/-- The live positions stand in one block. -/
theorem one_block (hb : base + 256 ≤ 8192) (hl : ∀ k, live k → base ≤ k.val ∧ k.val < base + 256) (ex : ∃ k, live k)
    (s0 v0 : Fin 256 → EReal) (h0 : ∀ j : Fin 256, s0 j = score2 live x ⟨base + j.val, by omega⟩)
    (g0 : ∀ j : Fin 256, v0 j = v ⟨base + j.val, by omega⟩) (M : EReal) (hM : M = Finset.univ.fold max ⊥ s0) :
    Ideal.div (∑ j, Ideal.exp2 (s0 j - M) * v0 j) (∑ j, Ideal.exp2 (s0 j - M)) = mean live x v := by
  obtain ⟨μ, hμ⟩ := fold_real s0 (fun i => by rw [h0]; exact score2_top live x _)
    (by
      obtain ⟨k, hk⟩ := ex
      have := hl k hk
      refine ⟨⟨k.val - base, by omega⟩, ?_⟩
      rw [h0]
      exact score2_bot live x _ (by convert hk using 1; exact Fin.ext (show base + (k.val - base) = k.val by omega)))
  rw [hM, hμ, ← late_value live x v ex _ (Real.exp_pos (-(μ * Real.log 2)))]
  have z : ∀ k : Fin 8192, (k.val < base ∨ base + 1 * 256 ≤ k.val) → wt live x k = 0 := fun k hk =>
    wt_zero live x k fun h => by have := hl k h; omega
  refine congrArg₂ Ideal.div ?_ ?_
  · rw [sum_blocks (N := 8192) (n := 1) (w := 256) base (by omega) _ (fun k hk => by rw [z k hk]; simp) (fun j x => by omega)]
    rw [Fin.sum_univ_one]
    refine Finset.sum_congr rfl fun j _ => ?_
    rw [h0, g0, exp2_score2]
    simp
  · rw [sum_blocks (N := 8192) (n := 1) (w := 256) base (by omega) _ (fun k hk => by rw [z k hk]; simp) (fun j x => by omega)]
    rw [Fin.sum_univ_one]
    refine Finset.sum_congr rfl fun j _ => ?_
    rw [h0, exp2_score2]
    simp

/-- The live positions stand in two neighbouring blocks. -/
theorem two_blocks (hb : base + 512 ≤ 8192) (hl : ∀ k, live k → base ≤ k.val ∧ k.val < base + 512)
    (ex : ∃ k, live k ∧ base + 256 ≤ k.val)
    (s0 s1 v0 v1 : Fin 256 → EReal) (h0 : ∀ j : Fin 256, s0 j = score2 live x ⟨base + j.val, by omega⟩)
    (h1 : ∀ j : Fin 256, s1 j = score2 live x ⟨base + (256 + j.val), by omega⟩)
    (g0 : ∀ j : Fin 256, v0 j = v ⟨base + j.val, by omega⟩)
    (g1 : ∀ j : Fin 256, v1 j = v ⟨base + (256 + j.val), by omega⟩)
    (M : EReal) (hM : M = Finset.univ.fold max ⊥ fun j => max (s0 j) (s1 j)) :
    Ideal.div ((∑ j, Ideal.exp2 (s0 j - M) * v0 j) + ∑ j, Ideal.exp2 (s1 j - M) * v1 j)
      ((∑ j, Ideal.exp2 (s0 j - M)) + ∑ j, Ideal.exp2 (s1 j - M)) = mean live x v := by
  obtain ⟨μ, hμ⟩ := fold_real (fun j => max (s0 j) (s1 j))
    (fun i => (max_lt (lt_top_iff_ne_top.mpr (by rw [h0]; exact score2_top live x _)) (lt_top_iff_ne_top.mpr (by rw [h1]; exact score2_top live x _))).ne)
    (by
      obtain ⟨k, hk, hk'⟩ := ex
      have := hl k hk
      refine ⟨⟨k.val - base - 256, by omega⟩, fun hbot => ?_⟩
      have := (max_eq_bot.mp hbot).2
      rw [h1] at this
      exact score2_bot live x _ (by convert hk using 1; exact Fin.ext (show base + (256 + (k.val - base - 256)) = k.val by omega)) this)
  rw [hM, hμ, ← late_value live x v ⟨ex.choose, ex.choose_spec.1⟩ _ (Real.exp_pos (-(μ * Real.log 2)))]
  have z : ∀ k : Fin 8192, (k.val < base ∨ base + 2 * 256 ≤ k.val) → wt live x k = 0 := fun k hk =>
    wt_zero live x k fun h => by have := hl k h; omega
  refine congrArg₂ Ideal.div ?_ ?_
  · rw [sum_blocks (N := 8192) (n := 2) (w := 256) base (by omega) _ (fun k hk => by rw [z k hk]; simp) (fun j x => by omega)]
    rw [Fin.sum_univ_two]
    refine congrArg₂ (· + ·) ?_ ?_
    all_goals
      refine Finset.sum_congr rfl fun j _ => ?_
      first | rw [h0, g0, exp2_score2] | rw [h1, g1, exp2_score2]
      simp
  · rw [sum_blocks (N := 8192) (n := 2) (w := 256) base (by omega) _ (fun k hk => by rw [z k hk]; simp) (fun j x => by omega)]
    rw [Fin.sum_univ_two]
    refine congrArg₂ (· + ·) ?_ ?_
    all_goals
      refine Finset.sum_congr rfl fun j _ => ?_
      first | rw [h0, exp2_score2] | rw [h1, exp2_score2]
      simp

/-- The live positions stand in three neighbouring blocks. -/
theorem three_blocks (hb : base + 768 ≤ 8192) (hl : ∀ k, live k → base ≤ k.val ∧ k.val < base + 768)
    (ex : ∃ k, live k ∧ base + 512 ≤ k.val)
    (s0 s1 s2 v0 v1 v2 : Fin 256 → EReal) (h0 : ∀ j : Fin 256, s0 j = score2 live x ⟨base + j.val, by omega⟩)
    (h1 : ∀ j : Fin 256, s1 j = score2 live x ⟨base + (256 + j.val), by omega⟩)
    (h2 : ∀ j : Fin 256, s2 j = score2 live x ⟨base + (512 + j.val), by omega⟩)
    (g0 : ∀ j : Fin 256, v0 j = v ⟨base + j.val, by omega⟩)
    (g1 : ∀ j : Fin 256, v1 j = v ⟨base + (256 + j.val), by omega⟩)
    (g2 : ∀ j : Fin 256, v2 j = v ⟨base + (512 + j.val), by omega⟩)
    (M : EReal) (hM : M = Finset.univ.fold max ⊥ fun j => max (max (s0 j) (s1 j)) (s2 j)) :
    Ideal.div ((∑ j, Ideal.exp2 (s0 j - M) * v0 j) + (∑ j, Ideal.exp2 (s1 j - M) * v1 j) + ∑ j, Ideal.exp2 (s2 j - M) * v2 j)
      ((∑ j, Ideal.exp2 (s0 j - M)) + (∑ j, Ideal.exp2 (s1 j - M)) + ∑ j, Ideal.exp2 (s2 j - M)) = mean live x v := by
  obtain ⟨μ, hμ⟩ := fold_real (fun j => max (max (s0 j) (s1 j)) (s2 j))
    (fun i => (max_lt (max_lt (lt_top_iff_ne_top.mpr (by rw [h0]; exact score2_top live x _)) (lt_top_iff_ne_top.mpr (by rw [h1]; exact score2_top live x _))) (lt_top_iff_ne_top.mpr (by rw [h2]; exact score2_top live x _))).ne)
    (by
      obtain ⟨k, hk, hk'⟩ := ex
      have := hl k hk
      refine ⟨⟨k.val - base - 512, by omega⟩, fun hbot => ?_⟩
      have := (max_eq_bot.mp hbot).2
      rw [h2] at this
      exact score2_bot live x _ (by convert hk using 1; exact Fin.ext (show base + (512 + (k.val - base - 512)) = k.val by omega)) this)
  rw [hM, hμ, ← late_value live x v ⟨ex.choose, ex.choose_spec.1⟩ _ (Real.exp_pos (-(μ * Real.log 2)))]
  have z : ∀ k : Fin 8192, (k.val < base ∨ base + 3 * 256 ≤ k.val) → wt live x k = 0 := fun k hk =>
    wt_zero live x k fun h => by have := hl k h; omega
  refine congrArg₂ Ideal.div ?_ ?_
  · rw [sum_blocks (N := 8192) (n := 3) (w := 256) base (by omega) _ (fun k hk => by rw [z k hk]; simp) (fun j x => by omega)]
    rw [Fin.sum_univ_three]
    refine congrArg₂ (· + ·) (congrArg₂ (· + ·) ?_ ?_) ?_
    all_goals
      refine Finset.sum_congr rfl fun j _ => ?_
      first | rw [h0, g0, exp2_score2] | rw [h1, g1, exp2_score2] | rw [h2, g2, exp2_score2]
      simp
  · rw [sum_blocks (N := 8192) (n := 3) (w := 256) base (by omega) _ (fun k hk => by rw [z k hk]; simp) (fun j x => by omega)]
    rw [Fin.sum_univ_three]
    refine congrArg₂ (· + ·) (congrArg₂ (· + ·) ?_ ?_) ?_
    all_goals
      refine Finset.sum_congr rfl fun j _ => ?_
      first | rw [h0, exp2_score2] | rw [h1, exp2_score2] | rw [h2, exp2_score2]
      simp

end Blocks

end Cert.Softmax

end
-- ==== Proof.WinSpec.lean ====
/- Sliding-window attention at one query: which keys it sees, their scores, and the weighted sum of the values. -/
module

public import proofs.«01_k».proof.Proof.Softmax

@[expose] public section

noncomputable section

open Idealize.ShloMosaic Idealize.ShloMosaic.TcCoe

namespace Cert.WinSpec

/-- The keys in the window of the query at `t`: the last 512 up to itself. -/
def live (t : Fin 8192) (k : Fin 8192) : Prop := k.val ≤ t.val ∧ t.val < k.val + 512

instance (t : Fin 8192) : DecidablePred (live t) := fun k => inferInstanceAs (Decidable (k.val ≤ t.val ∧ t.val < k.val + 512))

theorem live_self (t : Fin 8192) : live t t := ⟨le_rfl, by omega⟩

/-- The real score of a key: the product of the two vectors over the root of their length. -/
def score (q : FVec Ideal ⟨4, ![2, 8192, 16, 128]⟩ .f32) (k : FVec Ideal ⟨4, ![2, 8192, 4, 128]⟩ .f32)
    (b : Fin 2) (t : Fin 8192) (g r : Fin 4) (kk : Fin 8192) : ℝ :=
  (∑ d : Fin 128, (q (ix4 b t (⟨g.val * 4 + r.val, by omega⟩ : Fin 16) d)).toReal * (k (ix4 b kk g d)).toReal) / √128

/-- The window's result for one query, head and column. -/
def att (q : FVec Ideal ⟨4, ![2, 8192, 16, 128]⟩ .f32) (k v : FVec Ideal ⟨4, ![2, 8192, 4, 128]⟩ .f32)
    (b : Fin 2) (t : Fin 8192) (g r : Fin 4) (d : Fin 128) : EReal :=
  Softmax.mean (live t) (score q k b t g r) fun kk => v (ix4 b kk g d)

end Cert.WinSpec

end
-- ==== Proof.WinTiles.lean ====
/- The work of one 256-query tile of `Win`, as the kernel's operations name it, and its value at an index: the masked
   softmax row of `Softmax`, over one, two or three blocks of 256 keys. -/
module

public import proofs.«01_k».proof.Proof.Gen.WinIdeal.Value
public import proofs.«01_k».proof.Proof.WinSpec

@[expose] public section

set_option maxRecDepth 16384

noncomputable section

open Idealize.ShloMosaic Idealize.ShloMosaic.TcCoe Idealize.SL.Sem

namespace Cert.WinIdeal.Math

open Cert.WinIdeal Cert.WinIdeal.Gen

/-- The scores of a block of 256 queries against a block of 256 keys. -/
def score (q k : FVec Ideal S256x128 .bf16) : FVec Ideal S256x256 .f32 :=
  matmul dot_S256x128_S256x128_S256x256_1_1_0_0_n_n none (shapeCast S256x128 q shapeCasts_S256x128_S256x128)
    (shapeCast S256x128 k shapeCasts_S256x128_S256x128) (constant S256x256 .f32 0x00000000#32)

/-- The scores of the block on the diagonal: keys after the query are masked. -/
def diag (s : FVec Ideal S256x256 .f32) : FVec Ideal S256x256 .f32 :=
  select (cmpi .sle (iota Kind.tc S256x256 32 [1] iota_S256x256_d1_w32)
    (iota Kind.tc S256x256 32 [0] iota_S256x256_d0_w32)) s
    (broadcast S256x256 (Named.named κ "mask" 0xF149F2CA#32))

/-- The scores of the oldest block of a full window: keys that have left the window are masked. -/
def oldest (s : FVec Ideal S256x256 .f32) : FVec Ideal S256x256 .f32 :=
  select (cmpi .sgt (iota Kind.tc S256x256 32 [1] iota_S256x256_d1_w32)
    (iota Kind.tc S256x256 32 [0] iota_S256x256_d0_w32)) s
    (broadcast S256x256 (Named.named κ "mask" 0xF149F2CA#32))

/-- The largest score of every row. -/
def rowmax (s : FVec Ideal S256x256 .f32) : FVec Ideal S256x1 .f32 :=
  shapeCast S256x1 (multiReduction .maximumf [1] S256 s 0xFF800000#32 reduces_S256x256_S256 (.inl rfl) rfl)
    shapeCasts_S256_S256x1

/-- The unnormalised weights of a block, given the largest score of every row. -/
def weight (s : FVec Ideal S256x256 .f32) (mx : FVec Ideal S256x1 .f32) : FVec Ideal S256x256 .bf16 :=
  truncf (F := Ideal) .bf16 (exp2 (subf s (broadcastTo S256x256 mx broadcasts_S256x1_S256x256))) bitsLt_bf16_f32

/-- Weighted sum of the values of a block, beside the sum of the weights themselves. -/
def gather (p : FVec Ideal S256x256 .bf16) (v : FVec Ideal S256x128 .bf16) : FVec Ideal S256x256 .f32 :=
  matmul dot_S256x256_S256x256_S256x256_1_0_0_1_n_n none p
    (concatenate S256x256 1 [⟨S256x128, shapeCast S256x128 v shapeCasts_S256x128_S256x128⟩, ⟨S256x128, k0_pay1 (F := Ideal)⟩]
      concatenates_S256x128_S256x128_S256x256_d1) (constant S256x256 .f32 0x00000000#32)

/-- The left half over the right half. -/
def quot (a : FVec Ideal S256x256 .f32) : FVec Ideal S256x128 .f32 :=
  divf (extractStridedSlice S256x128 ![0, 0] a slices_S256x256_o0_0_S256x128)
    (extractStridedSlice S256x128 ![0, 128] a slices_S256x256_o0_128_S256x128)

variable (q k v : FVec Ideal S256x128 .bf16) (s p : FVec Ideal S256x256 .f32) (mx : FVec Ideal S256x1 .f32) (w : FVec Ideal S256x256 .bf16)

theorem score_at (a b : Fin 256) : score q k (ix2 a b) = ∑ d : Fin 128, q (ix2 a d) * k (ix2 b d) := by
  pointwise [score]

theorem ofBits_bot : Ideal.ofBits FTy.f32 4286578688#32 = ⊥ := by
  simp [Ideal.ofBits, Ideal.ieee]

theorem mask_bot : (Named.named κ "mask" 0xF149F2CA#32 : Ideal FTy.f32) = ⊥ :=
  IdealRules.named_const.ideal_named_scalar _ _ _ _ rfl

theorem rowmax_at (a : Fin 256) : rowmax s (ix2 a (0 : Fin 1)) = Finset.univ.fold max ⊥ fun x => s (ix2 a x) := by
  pointwise [rowmax]
  rw [ofBits_bot]

theorem diag_at (a b : Fin 256) : diag s (ix2 a b) = if b.val ≤ a.val then s (ix2 a b) else ⊥ := by
  pointwise [diag]
  rw [mask_bot]
  word_cmp

theorem oldest_at (a b : Fin 256) : oldest s (ix2 a b) = if a.val < b.val then s (ix2 a b) else ⊥ := by
  pointwise [oldest]
  rw [mask_bot]
  word_cmp

theorem weight_at (a b : Fin 256) : weight s mx (ix2 a b) = Ideal.exp2 (s (ix2 a b) - mx (ix2 a (0 : Fin 1))) := by
  pointwise [weight]
  rfl

theorem gather_left (a : Fin 256) (b : Fin 128) : gather w v (ix2 a (⟨b.val, by omega⟩ : Fin 256)) = ∑ x : Fin 256, w (ix2 a x) * v (ix2 x b) := by
  pointwise [gather, k0_pay1]

theorem gather_right (a : Fin 256) (b : Fin 128) : gather w v (ix2 a (⟨128 + b.val, by omega⟩ : Fin 256)) = ∑ x : Fin 256, w (ix2 a x) := by
  pointwise [gather, k0_pay1]

/-- A tile whose window has one block. -/
def tile1 (q k v : FVec Ideal S256x128 .bf16) : FVec Ideal S256x128 .f32 :=
  quot (gather (weight (diag (score q k)) (rowmax (diag (score q k)))) v)

/-- The largest scores of a tile whose window has two blocks. -/
def top2 (q k0 k1 : FVec Ideal S256x128 .bf16) : FVec Ideal S256x1 .f32 :=
  rowmax (maximumf (score q k0) (diag (score q k1)))

/-- A tile whose window has two blocks. -/
def tile2 (q k0 k1 v0 v1 : FVec Ideal S256x128 .bf16) : FVec Ideal S256x128 .f32 :=
  quot (addf (gather (weight (score q k0) (top2 q k0 k1)) v0) (gather (weight (diag (score q k1)) (top2 q k0 k1)) v1))

/-- The largest scores of a tile with a full window. -/
def top3 (q k0 k1 k2 : FVec Ideal S256x128 .bf16) : FVec Ideal S256x1 .f32 :=
  rowmax (maximumf (maximumf (oldest (score q k0)) (score q k1)) (diag (score q k2)))

/-- A tile with a full window: the oldest block in part, the block before the diagonal, and the diagonal block. -/
def tile3 (q k0 k1 k2 v0 v1 v2 : FVec Ideal S256x128 .bf16) : FVec Ideal S256x128 .f32 :=
  quot (addf (addf (gather (weight (oldest (score q k0)) (top3 q k0 k1 k2)) v0) (gather (weight (score q k1) (top3 q k0 k1 k2)) v1))
    (gather (weight (diag (score q k2)) (top3 q k0 k1 k2)) v2))

theorem quot_at (a : Fin 256) (b : Fin 128) : quot s (ix2 a b)
    = Ideal.div (s (ix2 a (⟨b.val, by omega⟩ : Fin 256))) (s (ix2 a (⟨128 + b.val, by omega⟩ : Fin 256))) := by
  pointwise [quot]

theorem addf_at (s s' : FVec Ideal S256x256 .f32) (i : S256x256.Idx) : addf s s' i = s i + s' i := rfl

theorem maximumf_at (s s' : FVec Ideal S256x256 .f32) (i : S256x256.Idx) : maximumf s s' i = max (s i) (s' i) := rfl

section Value

variable (k0 k1 k2 v0 v1 v2 : FVec Ideal S256x128 .bf16) (x : Fin 8192 → ℝ) (V : Fin 8192 → EReal) (base : ℕ)
variable (a : Fin 256) (b : Fin 128) (t : Fin 8192)

theorem tile1_at (hb : base + 256 ≤ 8192) (h0 : base = 0) (ht : t.val = base + a.val)
    (s0 : ∀ j : Fin 256, score q k0 (ix2 a j) = ((x ⟨base + j.val, by omega⟩ / Real.log 2 : ℝ) : EReal))
    (g0 : ∀ j : Fin 256, v0 (ix2 j b) = V ⟨base + j.val, by omega⟩) :
    tile1 q k0 v0 (ix2 a b) = Softmax.mean (WinSpec.live t) x V := by
  unfold tile1
  rw [quot_at, gather_left, gather_right]
  simp only [weight_at, rowmax_at]
  refine Softmax.one_block (WinSpec.live t) x V base hb (fun k hk => ?_) ⟨t, WinSpec.live_self t⟩
    (fun j => diag (score q k0) (ix2 a j)) _ (fun j => ?_) g0 _ rfl
  · unfold WinSpec.live at hk; omega
  · show diag (score q k0) (ix2 a j) = _
    rw [diag_at, s0]
    exact if_congr (by show j.val ≤ a.val ↔ base + j.val ≤ t.val ∧ t.val < base + j.val + 512; omega) rfl rfl

theorem tile2_at (hb : base + 512 ≤ 8192) (h0 : base = 0) (ht : t.val = base + (256 + a.val))
    (s0 : ∀ j : Fin 256, score q k0 (ix2 a j) = ((x ⟨base + j.val, by omega⟩ / Real.log 2 : ℝ) : EReal))
    (s1 : ∀ j : Fin 256, score q k1 (ix2 a j) = ((x ⟨base + (256 + j.val), by omega⟩ / Real.log 2 : ℝ) : EReal))
    (g0 : ∀ j : Fin 256, v0 (ix2 j b) = V ⟨base + j.val, by omega⟩)
    (g1 : ∀ j : Fin 256, v1 (ix2 j b) = V ⟨base + (256 + j.val), by omega⟩) :
    tile2 q k0 k1 v0 v1 (ix2 a b) = Softmax.mean (WinSpec.live t) x V := by
  unfold tile2 top2
  rw [quot_at, addf_at, addf_at, gather_left, gather_left, gather_right, gather_right]
  simp only [weight_at, rowmax_at, maximumf_at]
  refine Softmax.two_blocks (WinSpec.live t) x V base hb (fun k hk => ?_) ⟨t, WinSpec.live_self t, by omega⟩
    (fun j => score q k0 (ix2 a j)) (fun j => diag (score q k1) (ix2 a j)) _ _ (fun j => ?_) (fun j => ?_) g0 g1 _ rfl
  · unfold WinSpec.live at hk; omega
  · show score q k0 (ix2 a j) = _
    rw [s0]
    exact (if_pos (show base + j.val ≤ t.val ∧ t.val < base + j.val + 512 by omega)).symm
  · show diag (score q k1) (ix2 a j) = _
    rw [diag_at, s1]
    exact if_congr (by show j.val ≤ a.val ↔ base + (256 + j.val) ≤ t.val ∧ t.val < base + (256 + j.val) + 512; omega) rfl rfl

theorem tile3_at (hb : base + 768 ≤ 8192) (ht : t.val = base + (512 + a.val))
    (s0 : ∀ j : Fin 256, score q k0 (ix2 a j) = ((x ⟨base + j.val, by omega⟩ / Real.log 2 : ℝ) : EReal))
    (s1 : ∀ j : Fin 256, score q k1 (ix2 a j) = ((x ⟨base + (256 + j.val), by omega⟩ / Real.log 2 : ℝ) : EReal))
    (s2 : ∀ j : Fin 256, score q k2 (ix2 a j) = ((x ⟨base + (512 + j.val), by omega⟩ / Real.log 2 : ℝ) : EReal))
    (g0 : ∀ j : Fin 256, v0 (ix2 j b) = V ⟨base + j.val, by omega⟩)
    (g1 : ∀ j : Fin 256, v1 (ix2 j b) = V ⟨base + (256 + j.val), by omega⟩)
    (g2 : ∀ j : Fin 256, v2 (ix2 j b) = V ⟨base + (512 + j.val), by omega⟩) :
    tile3 q k0 k1 k2 v0 v1 v2 (ix2 a b) = Softmax.mean (WinSpec.live t) x V := by
  unfold tile3 top3
  rw [quot_at, addf_at, addf_at, addf_at, addf_at, gather_left, gather_left, gather_left, gather_right, gather_right, gather_right]
  simp only [weight_at, rowmax_at, maximumf_at]
  refine Softmax.three_blocks (WinSpec.live t) x V base hb (fun k hk => ?_) ⟨t, WinSpec.live_self t, by omega⟩
    (fun j => oldest (score q k0) (ix2 a j)) (fun j => score q k1 (ix2 a j)) (fun j => diag (score q k2) (ix2 a j)) _ _ _
    (fun j => ?_) (fun j => ?_) (fun j => ?_) g0 g1 g2 _ rfl
  · unfold WinSpec.live at hk; omega
  · show oldest (score q k0) (ix2 a j) = _
    rw [oldest_at, s0]
    exact if_congr (by show a.val < j.val ↔ base + j.val ≤ t.val ∧ t.val < base + j.val + 512; omega) rfl rfl
  · show score q k1 (ix2 a j) = _
    rw [s1]
    exact (if_pos (show base + (256 + j.val) ≤ t.val ∧ t.val < base + (256 + j.val) + 512 by omega)).symm
  · show diag (score q k2) (ix2 a j) = _
    rw [diag_at, s2]
    exact if_congr (by show j.val ≤ a.val ↔ base + (512 + j.val) ≤ t.val ∧ t.val < base + (512 + j.val) + 512; omega) rfl rfl

end Value

end Cert.WinIdeal.Math

end
-- ==== Proof.WinReads.lean ====
/- The blocks that `Win` reads, in terms of its arguments: the packed array of scaled queries, keys and values, read back. -/
module

public import proofs.«01_k».proof.Proof.Gen.WinIdeal.Value
public import proofs.«01_k».proof.Proof.WinTiles

@[expose] public section

set_option maxRecDepth 16384

noncomputable section

open Idealize.ShloMosaic Idealize.ShloMosaic.TcCoe Idealize.SL.Sem

namespace Cert.WinIdeal.Math

open Cert.WinIdeal Cert.WinIdeal.Gen

variable (m : (ℓ : Loc nD τ sig) → Buf (Elt Ideal) ℓ)

/-- Where each window's block stands at each grid point. -/
theorem where_blocks : ∀ t : Fin cfg0.N, win0_0.index t = ![t.val / 32 * 8 + t.val % 8, t.val / 8 % 4]
    ∧ win0_1.index t = ![t.val / 32 * 8 + (t.val % 8 - 1), 20 + t.val / 8 % 4]
    ∧ win0_2.index t = ![t.val / 32 * 8 + t.val % 8, 20 + t.val / 8 % 4]
    ∧ win0_3.index t = ![t.val / 32 * 8 + (t.val % 8 - 1), 28 + t.val / 8 % 4]
    ∧ win0_4.index t = ![t.val / 32 * 8 + t.val % 8, 28 + t.val / 8 % 4]
    ∧ win0_5.index t = ![t.val / 32 * 8 + t.val % 8, t.val / 8 % 4] :=
  (by decide +kernel : ∀ t : Fin grid0.N, _)

/-- The scale of the queries, as the host computes it. -/
def scale : FVec Ideal S_ .f32 :=
  Host.divf (constant S_ .f32 0x3F800000#32) (mulf (Host.sqrt (constant S_ .f32 0x43000000#32)) (Host.log (constant S_ .f32 0x40000000#32)))

/-- The packed array: scaled queries, keys and values beside each other, with columns of zeros between. -/
def packed (q : FVec Ideal S2x8192x16x128 .f32) (k v : FVec Ideal S2x8192x4x128 .f32) : FVec Ideal S16384x4096 .f32 :=
  concatenate S16384x4096 1
    [⟨S16384x2048, mulf (shapeCast S16384x2048 q shapeCasts_S2x8192x16x128_S16384x2048) (broadcastInDim S16384x2048 ![] bcast_S_S16384x2048 scale)⟩,
     ⟨S16384x512, broadcastInDim S16384x512 ![] bcast_S_S16384x512 (constant (F := Ideal) S_ .f32 0x00000000#32)⟩,
     ⟨S16384x512, shapeCast S16384x512 k shapeCasts_S2x8192x4x128_S16384x512⟩,
     ⟨S16384x512, broadcastInDim S16384x512 ![] bcast_S_S16384x512 (constant (F := Ideal) S_ .f32 0x00000000#32)⟩,
     ⟨S16384x512, shapeCast S16384x512 v shapeCasts_S2x8192x4x128_S16384x512⟩]
    concatenates_S16384x2048_S16384x512_S16384x512_S16384x512_S16384x512_S16384x4096_d1

theorem entry_q (c : Dev nD) : V m c main_v7
    = mulf (shapeCast S16384x2048 (m ((c : Thread nD τ).loc main_arg0)) shapeCasts_S2x8192x16x128_S16384x2048) (broadcastInDim S16384x2048 ![] bcast_S_S16384x2048 scale) := by
  entry_read; rfl

theorem entry_k (c : Dev nD) : V m c main_v8
    = shapeCast S16384x512 (m ((c : Thread nD τ).loc main_arg1)) shapeCasts_S2x8192x4x128_S16384x512 := by
  entry_read; rfl

theorem entry_v (c : Dev nD) : V m c main_v9
    = shapeCast S16384x512 (m ((c : Thread nD τ).loc main_arg2)) shapeCasts_S2x8192x4x128_S16384x512 := by
  entry_read; rfl

theorem entry_none (c : Dev nD) : V m c main_v0
    = broadcastInDim S16384x512 ![] bcast_S_S16384x512 (constant (F := Ideal) S_ .f32 0x00000000#32) := by
  entry_read; rfl

theorem entry_parts (c : Dev nD) : (show FVec Ideal S16384x4096 .bf16 from V m c main_v11)
   = concatenate S16384x4096 1
    [⟨S16384x2048, (V m c main_v7 : FVec Ideal S16384x2048 .f32)⟩,
     ⟨S16384x512, (V m c main_v0 : FVec Ideal S16384x512 .f32)⟩,
     ⟨S16384x512, (V m c main_v8 : FVec Ideal S16384x512 .f32)⟩,
     ⟨S16384x512, (V m c main_v0 : FVec Ideal S16384x512 .f32)⟩,
     ⟨S16384x512, (V m c main_v9 : FVec Ideal S16384x512 .f32)⟩]
    concatenates_S16384x2048_S16384x512_S16384x512_S16384x512_S16384x512_S16384x4096_d1 := rfl

/-- What the region finds in the packed buffer. -/
theorem entry (c : Dev nD) : (show FVec Ideal S16384x4096 .bf16 from V m c main_v11)
    = packed (m ((c : Thread nD τ).loc main_arg0)) (m ((c : Thread nD τ).loc main_arg1)) (m ((c : Thread nD τ).loc main_arg2)) := by
  refine (entry_parts m c).trans ?_
  rw [entry_q, entry_k, entry_v, entry_none]
  rfl

variable (q : FVec Ideal S2x8192x16x128 .f32) (k v : FVec Ideal S2x8192x4x128 .f32)

theorem scale_at : scale ix0 = ((1 / (√128 * Real.log 2) : ℝ) : EReal) := by
  unfold scale
  have e1 : Ideal.ofBits FTy.f32 0x43000000#32 = ((128 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have e3 : Ideal.ofBits FTy.f32 0x3F800000#32 = ((1 : ℝ) : EReal) := by
    simp [Ideal.ofBits, Ideal.ieee, -EReal.coe_mul]; norm_num
  show Ideal.div (Ideal.ofBits FTy.f32 0x3F800000#32) (Ideal.sqrt (Ideal.ofBits FTy.f32 0x43000000#32) * Ideal.log (Ideal.ofBits FTy.f32 0x40000000#32)) = _
  rw [e1, e2, e3]
  rw [Ideal.sqrt_coe, if_neg (by norm_num), Ideal.log_coe, if_neg (by norm_num), ← EReal.coe_mul, Ideal.div_coe (mul_pos (by positivity) (Real.log_pos (by norm_num))).ne', ← EReal.coe_mul, one_mul]

theorem packed_q (r : Fin 16384) (h : Fin 16) (d : Fin 128) :
    packed q k v (ix2 r (⟨h.val * 128 + d.val, by omega⟩ : Fin 4096))
      = q (ix4 ⟨r.val / 8192, by omega⟩ ⟨r.val % 8192, by omega⟩ h d) * scale ix0 := by
  pointwise [packed]
  rw [dif_pos (by omega)]

theorem packed_k (r : Fin 16384) (g : Fin 4) (d : Fin 128) :
    packed q k v (ix2 r (⟨2560 + (g.val * 128 + d.val), by omega⟩ : Fin 4096))
      = k (ix4 ⟨r.val / 8192, by omega⟩ ⟨r.val % 8192, by omega⟩ g d) := by
  pointwise [packed]
  rw [dif_neg (by omega), dif_neg (by omega), dif_pos (by omega)]
  exact congrArg k (congrArg₂ (ix4 _ _) (Fin.ext (by show (2560 + (g.val * 128 + d.val) - 2048 - 512) / 128 = g.val; omega)) (Fin.ext (by show (2560 + (g.val * 128 + d.val) - 2048 - 512) % 128 = d.val; omega)))

theorem packed_v (r : Fin 16384) (g : Fin 4) (d : Fin 128) :
    packed q k v (ix2 r (⟨3584 + (g.val * 128 + d.val), by omega⟩ : Fin 4096))
      = v (ix4 ⟨r.val / 8192, by omega⟩ ⟨r.val % 8192, by omega⟩ g d) := by
  pointwise [packed]
  rw [dif_neg (by omega), dif_neg (by omega), dif_neg (by omega), dif_neg (by omega)]
  exact congrArg v (congrArg₂ (ix4 _ _) (Fin.ext (by show (3584 + (g.val * 128 + d.val) - 2048 - 512 - 512 - 512) / 128 = g.val; omega)) (Fin.ext (by show (3584 + (g.val * 128 + d.val) - 2048 - 512 - 512 - 512) % 128 = d.val; omega)))

/-- The query block at row `A`, head `r` of the group. -/
theorem read_q (c : Dev nD) (t : Fin cfg0.N) (A : Fin 1024) (r : Fin 4) (d : Fin 128) (b : Fin 2) (T : Fin 8192) (g : Fin 4)
    (hb : b.val = t.val / 32) (hT : T.val = t.val % 8 * 1024 + A.val) (hg : g.val = t.val / 8 % 4) :
    iblk m c 0 t (ix2 A (⟨r.val * 128 + d.val, by omega⟩ : Fin 512))
      = (show FVec Ideal S2x8192x16x128 .f32 from m ((c : Thread nD τ).loc main_arg0)) (ix4 b T (⟨g.val * 4 + r.val, by omega⟩ : Fin 16) d) * scale ix0 := by
  have ht := lt_of_lt_of_eq t.isLt N_0
  have hi : ((cfg0.win 0).blk t).view.emb (ix2 A (⟨r.val * 128 + d.val, by omega⟩ : Fin 512))
      = (ix2 ⟨b.val * 8192 + T.val, by omega⟩ (⟨(g.val * 4 + r.val) * 128 + d.val, by omega⟩ : Fin 4096) : S16384x4096.Idx) := by
    blk_ext [where_blocks t]
  refine (congrArg (V m c main_v11) hi).trans ((congrFun (entry m c) _).trans
    ((packed_q _ _ _ ⟨b.val * 8192 + T.val, by omega⟩ (⟨g.val * 4 + r.val, by omega⟩ : Fin 16) d).trans ?_))
  refine congrArg (· * scale ix0) (congrArg _ ?_)
  exact congrArg₂ (fun x y => ix4 x y (⟨g.val * 4 + r.val, by omega⟩ : Fin 16) d) (Fin.ext (by show (b.val * 8192 + T.val) / 8192 = b.val; omega)) (Fin.ext (by show (b.val * 8192 + T.val) % 8192 = T.val; omega))

/-- The key block before the current one at row `A`. -/
theorem read_kp (c : Dev nD) (t : Fin cfg0.N) (A : Fin 1024) (d : Fin 128) (b : Fin 2) (T : Fin 8192) (g : Fin 4)
    (hb : b.val = t.val / 32) (hT : T.val = (t.val % 8 - 1) * 1024 + A.val) (hg : g.val = t.val / 8 % 4) :
    iblk m c 1 t (ix2 A d)
      = (show FVec Ideal S2x8192x4x128 .f32 from m ((c : Thread nD τ).loc main_arg1)) (ix4 b T g d) := by
  have ht := lt_of_lt_of_eq t.isLt N_0
  have hi : ((cfg0.win 1).blk t).view.emb (ix2 A d)
      = (ix2 ⟨b.val * 8192 + T.val, by omega⟩ (⟨2560 + (g.val * 128 + d.val), by omega⟩ : Fin 4096) : S16384x4096.Idx) := by
    blk_ext [where_blocks t]
  refine (congrArg (V m c main_v11) hi).trans ((congrFun (entry m c) _).trans
    ((packed_k _ _ _ ⟨b.val * 8192 + T.val, by omega⟩ g d).trans (congrArg _ ?_)))
  exact congrArg₂ (fun x y => ix4 x y g d) (Fin.ext (by show (b.val * 8192 + T.val) / 8192 = b.val; omega)) (Fin.ext (by show (b.val * 8192 + T.val) % 8192 = T.val; omega))

/-- The current key block at row `A`. -/
theorem read_kc (c : Dev nD) (t : Fin cfg0.N) (A : Fin 1024) (d : Fin 128) (b : Fin 2) (T : Fin 8192) (g : Fin 4)
    (hb : b.val = t.val / 32) (hT : T.val = t.val % 8 * 1024 + A.val) (hg : g.val = t.val / 8 % 4) :
    iblk m c 2 t (ix2 A d)
      = (show FVec Ideal S2x8192x4x128 .f32 from m ((c : Thread nD τ).loc main_arg1)) (ix4 b T g d) := by
  have ht := lt_of_lt_of_eq t.isLt N_0
  have hi : ((cfg0.win 2).blk t).view.emb (ix2 A d)
      = (ix2 ⟨b.val * 8192 + T.val, by omega⟩ (⟨2560 + (g.val * 128 + d.val), by omega⟩ : Fin 4096) : S16384x4096.Idx) := by
    blk_ext [where_blocks t]
  refine (congrArg (V m c main_v11) hi).trans ((congrFun (entry m c) _).trans
    ((packed_k _ _ _ ⟨b.val * 8192 + T.val, by omega⟩ g d).trans (congrArg _ ?_)))
  exact congrArg₂ (fun x y => ix4 x y g d) (Fin.ext (by show (b.val * 8192 + T.val) / 8192 = b.val; omega)) (Fin.ext (by show (b.val * 8192 + T.val) % 8192 = T.val; omega))

/-- The value block before the current one at row `A`. -/
theorem read_vp (c : Dev nD) (t : Fin cfg0.N) (A : Fin 1024) (d : Fin 128) (b : Fin 2) (T : Fin 8192) (g : Fin 4)
    (hb : b.val = t.val / 32) (hT : T.val = (t.val % 8 - 1) * 1024 + A.val) (hg : g.val = t.val / 8 % 4) :
    iblk m c 3 t (ix2 A d)
      = (show FVec Ideal S2x8192x4x128 .f32 from m ((c : Thread nD τ).loc main_arg2)) (ix4 b T g d) := by
  have ht := lt_of_lt_of_eq t.isLt N_0
  have hi : ((cfg0.win 3).blk t).view.emb (ix2 A d)
      = (ix2 ⟨b.val * 8192 + T.val, by omega⟩ (⟨3584 + (g.val * 128 + d.val), by omega⟩ : Fin 4096) : S16384x4096.Idx) := by
    blk_ext [where_blocks t]
  refine (congrArg (V m c main_v11) hi).trans ((congrFun (entry m c) _).trans
    ((packed_v _ _ _ ⟨b.val * 8192 + T.val, by omega⟩ g d).trans (congrArg _ ?_)))
  exact congrArg₂ (fun x y => ix4 x y g d) (Fin.ext (by show (b.val * 8192 + T.val) / 8192 = b.val; omega)) (Fin.ext (by show (b.val * 8192 + T.val) % 8192 = T.val; omega))

/-- The current value block at row `A`. -/
theorem read_vc (c : Dev nD) (t : Fin cfg0.N) (A : Fin 1024) (d : Fin 128) (b : Fin 2) (T : Fin 8192) (g : Fin 4)
    (hb : b.val = t.val / 32) (hT : T.val = t.val % 8 * 1024 + A.val) (hg : g.val = t.val / 8 % 4) :
    iblk m c 4 t (ix2 A d)
      = (show FVec Ideal S2x8192x4x128 .f32 from m ((c : Thread nD τ).loc main_arg2)) (ix4 b T g d) := by
  have ht := lt_of_lt_of_eq t.isLt N_0
  have hi : ((cfg0.win 4).blk t).view.emb (ix2 A d)
      = (ix2 ⟨b.val * 8192 + T.val, by omega⟩ (⟨3584 + (g.val * 128 + d.val), by omega⟩ : Fin 4096) : S16384x4096.Idx) := by
    blk_ext [where_blocks t]
  refine (congrArg (V m c main_v11) hi).trans ((congrFun (entry m c) _).trans
    ((packed_v _ _ _ ⟨b.val * 8192 + T.val, by omega⟩ g d).trans (congrArg _ ?_)))
  exact congrArg₂ (fun x y => ix4 x y g d) (Fin.ext (by show (b.val * 8192 + T.val) / 8192 = b.val; omega)) (Fin.ext (by show (b.val * 8192 + T.val) % 8192 = T.val; omega))

theorem ld_q (c : Dev nD) (t : Fin cfg0.N) (o0 o1 : ℕ) (inb) (a : Fin 256) (d : Fin 128) (h0 : o0 + a.val < 1024) (h1 : o1 + d.val < 512) :
    View.ld (iblk m c 0 t) (Rect.unit (s := S1024x512) ![o0, o1] ![256, 128] inb) (ix2 a d) = iblk m c 0 t (ix2 ⟨o0 + a.val, h0⟩ ⟨o1 + d.val, h1⟩) := by
  pointwise

theorem ld_1 (c : Dev nD) (t : Fin cfg0.N) (o0 : ℕ) (inb) (a : Fin 256) (d : Fin 128) (h0 : o0 + a.val < 1024) :
    View.ld (iblk m c 1 t) (Rect.unit (s := S1024x128) ![o0, 0] ![256, 128] inb) (ix2 a d) = iblk m c 1 t (ix2 ⟨o0 + a.val, h0⟩ d) := by
  pointwise

theorem ld_2 (c : Dev nD) (t : Fin cfg0.N) (o0 : ℕ) (inb) (a : Fin 256) (d : Fin 128) (h0 : o0 + a.val < 1024) :
    View.ld (iblk m c 2 t) (Rect.unit (s := S1024x128) ![o0, 0] ![256, 128] inb) (ix2 a d) = iblk m c 2 t (ix2 ⟨o0 + a.val, h0⟩ d) := by
  pointwise

theorem ld_3 (c : Dev nD) (t : Fin cfg0.N) (o0 : ℕ) (inb) (a : Fin 256) (d : Fin 128) (h0 : o0 + a.val < 1024) :
    View.ld (iblk m c 3 t) (Rect.unit (s := S1024x128) ![o0, 0] ![256, 128] inb) (ix2 a d) = iblk m c 3 t (ix2 ⟨o0 + a.val, h0⟩ d) := by
  pointwise

theorem ld_4 (c : Dev nD) (t : Fin cfg0.N) (o0 : ℕ) (inb) (a : Fin 256) (d : Fin 128) (h0 : o0 + a.val < 1024) :
    View.ld (iblk m c 4 t) (Rect.unit (s := S1024x128) ![o0, 0] ![256, 128] inb) (ix2 a d) = iblk m c 4 t (ix2 ⟨o0 + a.val, h0⟩ d) := by
  pointwise

end Cert.WinIdeal.Math

end
-- ==== Proof.WinRefValue.lean ====
/- The reference's array, index by index, is the windowed attention of `WinSpec`, for finite queries and keys. -/
module

public import proofs.«01_k».proof.Proof.Gen.WinRefIdeal.Read
public import proofs.«01_k».proof.Proof.WinSpec

@[expose] public section

set_option maxRecDepth 16384

noncomputable section

open Idealize.ShloMosaic Idealize.ShloMosaic.TcCoe Idealize.SL.Sem

namespace Cert.WinRefIdeal.Math
open Cert.WinRefIdeal Cert.WinRefIdeal.Gen Cert.WinRefIdeal.Read

variable (q : FVec Ideal S2x8192x16x128 .f32) (k v : FVec Ideal S2x8192x4x128 .f32)

theorem ofBits_bot : Ideal.ofBits FTy.f32 4286578688#32 = ⊥ := by
  simp [Ideal.ofBits, Ideal.ieee]

theorem ofBits_128 : Ideal.ofBits FTy.f32 1124073472#32 = ((128 : ℝ) : EReal) := by
  simp [Ideal.ofBits, Ideal.ieee, -EReal.coe_mul]; norm_num

/-- The constant scale is one over the root of the heads' length. -/
theorem scale_at : Ideal.div 1 (Ideal.sqrt (Ideal.ofBits FTy.f32 1124073472#32)) = ((1 / √128 : ℝ) : EReal) := by
  rw [ofBits_128, Ideal.sqrt_coe, if_neg (by norm_num), Ideal.div_coe (by positivity), one_mul]

/-- The mask's bit is the window's condition. -/
theorem mask_at (t kk : Fin 8192) : val_main_v18 (F := Ideal) (ix2 t kk) = if WinSpec.live t kk then 1#1 else 0#1 := by
  pointwise [val_main_v18, val_main_v17,val_main_v16,val_main_v15,val_main_v14,val_main_v13,val_main_v12,val_main_v11,val_main_v10,val_main_v9,val_main_v8,val_main_v7,val_main_v6,val_main_c]
  have hk := kk.isLt
  have ht := t.isLt
  have h1 : (BitVec.ofNat 32 kk.val).toInt = kk.val := by rw [BitVec.toInt_eq_toNat_cond, BitVec.toNat_ofNat]; omega
  have h2 : (BitVec.ofNat 32 t.val).toInt = t.val := by rw [BitVec.toInt_eq_toNat_cond, BitVec.toNat_ofNat]; omega
  have h3 : (BitVec.ofNat 32 t.val - 512#32).toInt = (t.val : Int) - 512 := by
    rw [BitVec.toInt_eq_toNat_cond, BitVec.toNat_sub, BitVec.toNat_ofNat, BitVec.toNat_ofNat]; omega
  simp only [IntOp.cmpi, IntOp.subi, IntOp.andi, BitVec.sle_eq_decide, BitVec.slt_eq_decide, h1, h2, h3]
  by_cases a : kk.val ≤ t.val
  · by_cases c : t.val < kk.val + 512
    · rw [decide_eq_true (by omega : (kk.val : Int) ≤ t.val), decide_eq_true (by omega : (t.val : Int) - 512 < kk.val), if_pos (show WinSpec.live t kk from ⟨a, c⟩)]; rfl
    · rw [decide_eq_true (by omega : (kk.val : Int) ≤ t.val), decide_eq_false (by omega : ¬ (t.val : Int) - 512 < kk.val), if_neg (fun h : WinSpec.live t kk => c h.2)]; rfl
  · rw [decide_eq_false (by omega : ¬ (kk.val : Int) ≤ t.val), if_neg (fun h : WinSpec.live t kk => a h.1)]
    cases decide ((t.val : Int) - 512 < kk.val) <;> rfl

theorem score_at (hq : ∀ i, q i ≠ ⊤ ∧ q i ≠ ⊥) (hk : ∀ i, k i ≠ ⊤ ∧ k i ≠ ⊥) (b : Fin 2) (g r : Fin 4) (t kk : Fin 8192) :
    val_main_v22 (F := Ideal) q k (ix5 b g r t kk)
      = if WinSpec.live t kk then ((WinSpec.score q k b t g r kk : ℝ) : EReal) else ⊥ := by
  pointwise [val_main_v22, val_main_v21, val_main_v20, val_main_v19, val_main_call0_v0, val_main_call0_v1, val_main_call0_v2, val_main_cst_1, val_main_v1, val_main_v0, val_main_cst, val_main_cst_0, val_main_v3, val_main_v2, val_main_v4]
  rw [mask_at, scale_at]
  by_cases h : WinSpec.live t kk
  · rw [if_pos h, if_pos h]
    refine Eq.trans (b := (∑ x, q (ix4 b t ⟨g.val * 4 + r.val, by omega⟩ x) * k (ix4 b kk g x)) * ((1 / √128 : ℝ) : EReal)) rfl ?_
    unfold WinSpec.score
    rw [div_eq_mul_one_div (∑ d : Fin 128, (q _).toReal * (k _).toReal), EReal.coe_mul, Softmax.coe_sum]
    refine congrArg (· * ((1 / √128 : ℝ) : EReal)) ?_
    refine Finset.sum_congr rfl fun d _ => ?_
    rw [EReal.coe_mul, EReal.coe_toReal (hq _).1 (hq _).2, EReal.coe_toReal (hk _).1 (hk _).2]
  · rw [if_neg h, if_neg h]
    exact ofBits_bot

/-- A reduction by the maximum over the last axis is real when no entry is `⊤` and one entry is not `⊥`. -/
theorem reduce_max (x : FVec Ideal S2x4x4x8192x8192 .f32) (init : FVec Ideal S_ .f32) (hi : init (Shape.Idx.first h_S_) = ⊥)
    (ht : ∀ i, x i ≠ ⊤) (b : Fin 2) (g r : Fin 4) (t : Fin 8192) (kk : Fin 8192) (hb : x (ix5 b g r t kk) ≠ ⊥) :
    ∃ μ : ℝ, Host.reduce (FloatOps.maximumf (F := Ideal)) x init reducesTo_S2x4x4x8192x8192_S2x4x4x8192_d4 h_S_ (ix4 b g r t) = (μ : EReal) := by
  obtain ⟨μ, hμ⟩ := Softmax.fold_real_on (Finset.univ.filter fun i => reducesTo_S2x4x4x8192x8192_S2x4x4x8192_d4.drop i = ix4 b g r t) x
    (fun i _ => ht i) ⟨ix5 b g r t kk, Finset.mem_filter.mpr ⟨Finset.mem_univ _, funext fun a => Fin.ext (by
      match a with | ⟨0, _⟩ => rfl | ⟨1, _⟩ => rfl | ⟨2, _⟩ => rfl | ⟨3, _⟩ => rfl)⟩, hb⟩
  refine ⟨μ, ?_⟩
  refine (Host.reduce_eq_fold (max : EReal → EReal → EReal) x init reducesTo_S2x4x4x8192x8192_S2x4x4x8192_d4 h_S_ (ix4 b g r t)).trans ?_
  rw [hi]
  exact hμ

theorem max_at (hq : ∀ i, q i ≠ ⊤ ∧ q i ≠ ⊥) (hk : ∀ i, k i ≠ ⊤ ∧ k i ≠ ⊥) (b : Fin 2) (g r : Fin 4) (t : Fin 8192) :
    ∃ μ : ℝ, val_main_v25 (F := Ideal) q k (ix4 b g r t) = (μ : EReal) := by
  obtain ⟨μ, hμ⟩ := reduce_max (val_main_v22 (F := Ideal) q k) (val_main_cst_2 (F := Ideal)) ofBits_bot
    (fun i => by
      intro e
      have h := (e.symm.trans (congrArg _ (eq_ix5 i))).trans (score_at q k hq hk (i 0) (i 1) (i 2) (i 3) (i 4))
      revert h
      split <;> simp) b g r t t
    (by rw [score_at q k hq hk, if_pos (WinSpec.live_self t)]; exact EReal.coe_ne_bot _)
  refine ⟨μ, ?_⟩
  rw [val_main_v25_apply]
  unfold val_main_v23
  rw [hμ]
  refine (congrArg (fun z => max z (μ : EReal)) (?_ : val_main_v24 (F := Ideal) (ix4 b g r t) = ⊥)).trans (max_eq_right bot_le)
  rw [val_main_v24_apply]
  exact ofBits_bot

theorem exp_at (b : Fin 2) (g r : Fin 4) (t kk : Fin 8192) : val_main_v29 (F := Ideal) q k (ix5 b g r t kk)
    = Ideal.exp (val_main_v22 (F := Ideal) q k (ix5 b g r t kk) - val_main_v25 (F := Ideal) q k (ix4 b g r t)) := by
  pointwise [val_main_v29, val_main_v28, val_main_v27, val_main_v26]

theorem out_at (hq : ∀ i, q i ≠ ⊤ ∧ q i ≠ ⊥) (hk : ∀ i, k i ≠ ⊤ ∧ k i ≠ ⊥) (b : Fin 2) (g r : Fin 4) (t : Fin 8192) (d : Fin 128) :
    val_main_v35 (F := Ideal) q k v (ix5 b t g r d) = WinSpec.att q k v b t g r d := by
  pointwise [val_main_v35, val_main_v34, val_main_v33, val_main_v32, val_main_v31, val_main_v30, val_main_cst_4, val_main_v5]
  simp only [exp_at]
  exact Softmax.softmax_value _ _ _ ⟨t, WinSpec.live_self t⟩ (fun kk => val_main_v22 (F := Ideal) q k (ix5 b g r t kk))
    (fun kk => score_at q k hq hk b g r t kk) _ (max_at q k hq hk b g r t)

/-- The reference at row `row`, column `col`: batch, query, group, head and column of the head are the digits. -/
theorem value (hq : ∀ i, q i ≠ ⊤ ∧ q i ≠ ⊥) (hk : ∀ i, k i ≠ ⊤ ∧ k i ≠ ⊥) (row : Fin 16384) (col : Fin 2048) :
    val_main_v36 (F := Ideal) q k v (ix2 row col)
      = WinSpec.att q k v ⟨row.val / 8192, by omega⟩ ⟨row.val % 8192, by omega⟩ ⟨col.val / 512, by omega⟩
          ⟨col.val / 128 % 4, by omega⟩ ⟨col.val % 128, by omega⟩ := by
  rw [← out_at q k v hq hk]
  pointwise [val_main_v36]

end Cert.WinRefIdeal.Math

end
-- ==== Proof.WinValue.lean ====
/- The array that `Win` writes is the windowed attention of `WinSpec`: every stored tile is a masked softmax row over the
   key blocks its window touches, and the tiles cover the array. -/
module

public import proofs.«01_k».proof.Proof.WinReads
public import proofs.«01_k».proof.Proof.WinRefValue

@[expose] public section

set_option maxRecDepth 16384

noncomputable section

open Idealize.ShloMosaic Idealize.ShloMosaic.TcCoe Idealize.SL.Sem

namespace Cert.WinIdeal.Math

open Cert.WinIdeal Cert.WinIdeal.Gen

section Piece

variable (q : FVec Ideal S2x8192x16x128 .f32) (k v : FVec Ideal S2x8192x4x128 .f32)
variable (hq : ∀ i, q i ≠ ⊤ ∧ q i ≠ ⊥) (hk : ∀ i, k i ≠ ⊤ ∧ k i ≠ ⊥)
variable (qq k0 k1 k2 v0 v1 v2 : FVec Ideal S256x128 .bf16)
variable (b : Fin 2) (T : Fin 8192) (g r : Fin 4) (a : Fin 256) (d : Fin 128) (base : ℕ)

include hq hk in
/-- A score of the kernel is the real score in powers of two: the scale was put into the queries. -/
theorem score_real (kk : FVec Ideal S256x128 .bf16) (P : Fin 8192) (j : Fin 256)
    (hqq : ∀ d, qq (ix2 a d) = q (ix4 b T (⟨g.val * 4 + r.val, by omega⟩ : Fin 16) d) * scale ix0)
    (hkk : ∀ d, kk (ix2 j d) = k (ix4 b P g d)) :
    score qq kk (ix2 a j) = ((WinSpec.score q k b T g r P / Real.log 2 : ℝ) : EReal) := by
  rw [score_at]
  have e : ∀ d, qq (ix2 a d) * kk (ix2 j d)
      = (((q (ix4 b T (⟨g.val * 4 + r.val, by omega⟩ : Fin 16) d)).toReal * (k (ix4 b P g d)).toReal * (1 / (√128 * Real.log 2)) : ℝ) : EReal) := fun d => by
    rw [hqq, hkk, scale_at, EReal.coe_mul, EReal.coe_mul, EReal.coe_toReal (hq _).1 (hq _).2, EReal.coe_toReal (hk _).1 (hk _).2, mul_right_comm]
  simp only [e]
  rw [← Softmax.coe_sum, ← Finset.sum_mul]
  unfold WinSpec.score
  have h1 : √(128 : ℝ) ≠ 0 := (Real.sqrt_pos.mpr (by norm_num)).ne'
  have h2 : Real.log 2 ≠ 0 := (Real.log_pos (by norm_num)).ne'
  congr 1
  field_simp

include hq hk in
theorem piece1 (hb : base + 256 ≤ 8192) (h0 : base = 0) (hT : T.val = base + a.val)
    (hqq : ∀ d, qq (ix2 a d) = q (ix4 b T (⟨g.val * 4 + r.val, by omega⟩ : Fin 16) d) * scale ix0)
    (hk0 : ∀ (j : Fin 256) (d : Fin 128), k0 (ix2 j d) = k (ix4 b ⟨base + j.val, by omega⟩ g d))
    (hv0 : ∀ (j : Fin 256) (d : Fin 128), v0 (ix2 j d) = v (ix4 b ⟨base + j.val, by omega⟩ g d)) :
    tile1 qq k0 v0 (ix2 a d) = WinSpec.att q k v b T g r d :=
  tile1_at qq k0 v0 (WinSpec.score q k b T g r) (fun kk => v (ix4 b kk g d)) base a d T hb h0 hT
    (fun j => score_real q k hq hk qq b T g r a k0 _ j hqq (hk0 j)) (fun j => hv0 j d)

include hq hk in
theorem piece2 (hb : base + 512 ≤ 8192) (h0 : base = 0) (hT : T.val = base + (256 + a.val))
    (hqq : ∀ d, qq (ix2 a d) = q (ix4 b T (⟨g.val * 4 + r.val, by omega⟩ : Fin 16) d) * scale ix0)
    (hk0 : ∀ (j : Fin 256) (d : Fin 128), k0 (ix2 j d) = k (ix4 b ⟨base + j.val, by omega⟩ g d))
    (hk1 : ∀ (j : Fin 256) (d : Fin 128), k1 (ix2 j d) = k (ix4 b ⟨base + (256 + j.val), by omega⟩ g d))
    (hv0 : ∀ (j : Fin 256) (d : Fin 128), v0 (ix2 j d) = v (ix4 b ⟨base + j.val, by omega⟩ g d))
    (hv1 : ∀ (j : Fin 256) (d : Fin 128), v1 (ix2 j d) = v (ix4 b ⟨base + (256 + j.val), by omega⟩ g d)) :
    tile2 qq k0 k1 v0 v1 (ix2 a d) = WinSpec.att q k v b T g r d :=
  tile2_at qq k0 k1 v0 v1 (WinSpec.score q k b T g r) (fun kk => v (ix4 b kk g d)) base a d T hb h0 hT
    (fun j => score_real q k hq hk qq b T g r a k0 _ j hqq (hk0 j)) (fun j => score_real q k hq hk qq b T g r a k1 _ j hqq (hk1 j))
    (fun j => hv0 j d) (fun j => hv1 j d)

include hq hk in
theorem piece3 (hb : base + 768 ≤ 8192) (hT : T.val = base + (512 + a.val))
    (hqq : ∀ d, qq (ix2 a d) = q (ix4 b T (⟨g.val * 4 + r.val, by omega⟩ : Fin 16) d) * scale ix0)
    (hk0 : ∀ (j : Fin 256) (d : Fin 128), k0 (ix2 j d) = k (ix4 b ⟨base + j.val, by omega⟩ g d))
    (hk1 : ∀ (j : Fin 256) (d : Fin 128), k1 (ix2 j d) = k (ix4 b ⟨base + (256 + j.val), by omega⟩ g d))
    (hk2 : ∀ (j : Fin 256) (d : Fin 128), k2 (ix2 j d) = k (ix4 b ⟨base + (512 + j.val), by omega⟩ g d))
    (hv0 : ∀ (j : Fin 256) (d : Fin 128), v0 (ix2 j d) = v (ix4 b ⟨base + j.val, by omega⟩ g d))
    (hv1 : ∀ (j : Fin 256) (d : Fin 128), v1 (ix2 j d) = v (ix4 b ⟨base + (256 + j.val), by omega⟩ g d))
    (hv2 : ∀ (j : Fin 256) (d : Fin 128), v2 (ix2 j d) = v (ix4 b ⟨base + (512 + j.val), by omega⟩ g d)) :
    tile3 qq k0 k1 k2 v0 v1 v2 (ix2 a d) = WinSpec.att q k v b T g r d :=
  tile3_at qq k0 k1 k2 v0 v1 v2 (WinSpec.score q k b T g r) (fun kk => v (ix4 b kk g d)) base a d T hb hT
    (fun j => score_real q k hq hk qq b T g r a k0 _ j hqq (hk0 j)) (fun j => score_real q k hq hk qq b T g r a k1 _ j hqq (hk1 j))
    (fun j => score_real q k hq hk qq b T g r a k2 _ j hqq (hk2 j))
    (fun j => hv0 j d) (fun j => hv1 j d) (fun j => hv2 j d)

end Piece

variable (m : (ℓ : Loc nD τ sig) → Buf (Elt Ideal) ℓ)

/-- The queries, the keys and the values of a launch. -/
abbrev Q (c : Dev nD) : FVec Ideal S2x8192x16x128 .f32 := m ((c : Thread nD τ).loc main_arg0)
abbrev K (c : Dev nD) : FVec Ideal S2x8192x4x128 .f32 := m ((c : Thread nD τ).loc main_arg1)
abbrev W (c : Dev nD) : FVec Ideal S2x8192x4x128 .f32 := m ((c : Thread nD τ).loc main_arg2)

section Tiles

variable (c : Dev nD) (t : Fin cfg0.N) (b : Fin 2) (T : Fin 8192) (g r : Fin 4) (a : Fin 256) (d d' : Fin 128)
variable (hq : ∀ i, Q m c i ≠ ⊤ ∧ Q m c i ≠ ⊥) (hk : ∀ i, K m c i ≠ ⊤ ∧ K m c i ≠ ⊥)
variable (hb : b.val = t.val / 32) (hg : g.val = t.val / 8 % 4) (hd : d.val = d'.val) (o1 : ℕ)

include hb hg in
theorem at_q (o0 : ℕ) (inb) (ho0 : o0 + 256 ≤ 1024) (hT : T.val = t.val % 8 * 1024 + (o0 + a.val)) (ho : o1 = r.val * 128) (e : Fin 128) :
    View.ld (iblk m c 0 t) (Rect.unit (s := S1024x512) ![o0, o1] ![256, 128] inb) (ix2 a e)
      = Q m c (ix4 b T (⟨g.val * 4 + r.val, by omega⟩ : Fin 16) e) * scale ix0 := by
  subst ho
  exact (ld_q m c t o0 _ inb a e (by omega) (by omega)).trans (read_q m c t _ r e b T g hb hT hg)

include hb hg in
theorem at_kp (o0 : ℕ) (inb) (ho0 : o0 + 256 ≤ 1024) (P : Fin 8192) (j : Fin 256) (e : Fin 128) (hP : P.val = (t.val % 8 - 1) * 1024 + (o0 + j.val)) :
    View.ld (iblk m c 1 t) (Rect.unit (s := S1024x128) ![o0, 0] ![256, 128] inb) (ix2 j e) = K m c (ix4 b P g e) :=
  (ld_1 m c t o0 inb j e (by omega)).trans (read_kp m c t _ e b P g hb hP hg)

include hb hg in
theorem at_kc (o0 : ℕ) (inb) (ho0 : o0 + 256 ≤ 1024) (P : Fin 8192) (j : Fin 256) (e : Fin 128) (hP : P.val = t.val % 8 * 1024 + (o0 + j.val)) :
    View.ld (iblk m c 2 t) (Rect.unit (s := S1024x128) ![o0, 0] ![256, 128] inb) (ix2 j e) = K m c (ix4 b P g e) :=
  (ld_2 m c t o0 inb j e (by omega)).trans (read_kc m c t _ e b P g hb hP hg)

include hb hg in
theorem at_vp (o0 : ℕ) (inb) (ho0 : o0 + 256 ≤ 1024) (P : Fin 8192) (j : Fin 256) (e : Fin 128) (hP : P.val = (t.val % 8 - 1) * 1024 + (o0 + j.val)) :
    View.ld (iblk m c 3 t) (Rect.unit (s := S1024x128) ![o0, 0] ![256, 128] inb) (ix2 j e) = W m c (ix4 b P g e) :=
  (ld_3 m c t o0 inb j e (by omega)).trans (read_vp m c t _ e b P g hb hP hg)

include hb hg in
theorem at_vc (o0 : ℕ) (inb) (ho0 : o0 + 256 ≤ 1024) (P : Fin 8192) (j : Fin 256) (e : Fin 128) (hP : P.val = t.val % 8 * 1024 + (o0 + j.val)) :
    View.ld (iblk m c 4 t) (Rect.unit (s := S1024x128) ![o0, 0] ![256, 128] inb) (ix2 j e) = W m c (ix4 b P g e) :=
  (ld_4 m c t o0 inb j e (by omega)).trans (read_vc m c t _ e b P g hb hP hg)

include hq hk hb hg hd in
theorem tileA0 (ht : t.val % 8 = 0) (ho : o1 = r.val * 128) (inb) (hT : T.val = t.val % 8 * 1024 + (0 + a.val)) :
    tile1 (View.ld (iblk m c 0 t) (Rect.unit (s := S1024x512) ![0, o1] ![256, 128] inb))
      (View.ld (iblk m c 2 t) (Rect.unit (s := S1024x128) ![0, 0] ![256, 128] inb_S1024x128_S256x128_0_0))
      (View.ld (iblk m c 4 t) (Rect.unit (s := S1024x128) ![0, 0] ![256, 128] inb_S1024x128_S256x128_0_0)) (ix2 a d)
      = WinSpec.att (Q m c) (K m c) (W m c) b T g r d' := by
  obtain rfl : d = d' := Fin.ext hd
  have h8 : t.val % 8 < 8 := Nat.mod_lt _ (by norm_num)
  exact piece1 (Q m c) (K m c) (W m c) hq hk _ _ _ b T g r a d 0 (by omega) rfl (by omega)
    (fun d => at_q (hb := hb) (hg := hg) (o1 := o1) (o0 := 0) (inb := inb) (ho0 := by omega) (hT := hT) (ho := ho) (e := d) (d := d) (d' := d) ..)
    (fun j d => at_kc m c t b g hb hg 0 _ (by omega) _ j d (by show _ = _; simp only []; omega))
    (fun j d => at_vc m c t b g hb hg 0 _ (by omega) _ j d (by show _ = _; simp only []; omega))

include hq hk hb hg hd in
theorem tileA1 (ht : t.val % 8 = 0) (ho : o1 = r.val * 128) (inb) (hT : T.val = t.val % 8 * 1024 + (256 + a.val)) :
    tile2 (View.ld (iblk m c 0 t) (Rect.unit (s := S1024x512) ![256, o1] ![256, 128] inb))
      (View.ld (iblk m c 2 t) (Rect.unit (s := S1024x128) ![0, 0] ![256, 128] inb_S1024x128_S256x128_0_0))
      (View.ld (iblk m c 2 t) (Rect.unit (s := S1024x128) ![256, 0] ![256, 128] inb_S1024x128_S256x128_256_0))
      (View.ld (iblk m c 4 t) (Rect.unit (s := S1024x128) ![0, 0] ![256, 128] inb_S1024x128_S256x128_0_0))
      (View.ld (iblk m c 4 t) (Rect.unit (s := S1024x128) ![256, 0] ![256, 128] inb_S1024x128_S256x128_256_0)) (ix2 a d)
      = WinSpec.att (Q m c) (K m c) (W m c) b T g r d' := by
  obtain rfl : d = d' := Fin.ext hd
  have h8 : t.val % 8 < 8 := Nat.mod_lt _ (by norm_num)
  exact piece2 (Q m c) (K m c) (W m c) hq hk _ _ _ _ _ b T g r a d 0 (by omega) rfl (by omega)
    (fun d => at_q (hb := hb) (hg := hg) (o1 := o1) (o0 := 256) (inb := inb) (ho0 := by omega) (hT := hT) (ho := ho) (e := d) (d := d) (d' := d) ..)
    (fun j d => at_kc m c t b g hb hg 0 _ (by omega) _ j d (by show _ = _; simp only []; omega))
    (fun j d => at_kc m c t b g hb hg 256 _ (by omega) _ j d (by show _ = _; simp only []; omega))
    (fun j d => at_vc m c t b g hb hg 0 _ (by omega) _ j d (by show _ = _; simp only []; omega))
    (fun j d => at_vc m c t b g hb hg 256 _ (by omega) _ j d (by show _ = _; simp only []; omega))

include hq hk hb hg hd in
theorem tileA2 (ht : t.val % 8 = 0) (ho : o1 = r.val * 128) (inb) (hT : T.val = t.val % 8 * 1024 + (512 + a.val)) :
    tile3 (View.ld (iblk m c 0 t) (Rect.unit (s := S1024x512) ![512, o1] ![256, 128] inb))
      (View.ld (iblk m c 2 t) (Rect.unit (s := S1024x128) ![0, 0] ![256, 128] inb_S1024x128_S256x128_0_0))
      (View.ld (iblk m c 2 t) (Rect.unit (s := S1024x128) ![256, 0] ![256, 128] inb_S1024x128_S256x128_256_0))
      (View.ld (iblk m c 2 t) (Rect.unit (s := S1024x128) ![512, 0] ![256, 128] inb_S1024x128_S256x128_512_0))
      (View.ld (iblk m c 4 t) (Rect.unit (s := S1024x128) ![0, 0] ![256, 128] inb_S1024x128_S256x128_0_0))
      (View.ld (iblk m c 4 t) (Rect.unit (s := S1024x128) ![256, 0] ![256, 128] inb_S1024x128_S256x128_256_0))
      (View.ld (iblk m c 4 t) (Rect.unit (s := S1024x128) ![512, 0] ![256, 128] inb_S1024x128_S256x128_512_0)) (ix2 a d)
      = WinSpec.att (Q m c) (K m c) (W m c) b T g r d' := by
  obtain rfl : d = d' := Fin.ext hd
  have h8 : t.val % 8 < 8 := Nat.mod_lt _ (by norm_num)
  exact piece3 (Q m c) (K m c) (W m c) hq hk _ _ _ _ _ _ _ b T g r a d 0 (by omega) (by omega)
    (fun d => at_q (hb := hb) (hg := hg) (o1 := o1) (o0 := 512) (inb := inb) (ho0 := by omega) (hT := hT) (ho := ho) (e := d) (d := d) (d' := d) ..)
    (fun j d => at_kc m c t b g hb hg 0 _ (by omega) _ j d (by show _ = _; simp only []; omega))
    (fun j d => at_kc m c t b g hb hg 256 _ (by omega) _ j d (by show _ = _; simp only []; omega))
    (fun j d => at_kc m c t b g hb hg 512 _ (by omega) _ j d (by show _ = _; simp only []; omega))
    (fun j d => at_vc m c t b g hb hg 0 _ (by omega) _ j d (by show _ = _; simp only []; omega))
    (fun j d => at_vc m c t b g hb hg 256 _ (by omega) _ j d (by show _ = _; simp only []; omega))
    (fun j d => at_vc m c t b g hb hg 512 _ (by omega) _ j d (by show _ = _; simp only []; omega))

include hq hk hb hg hd in
theorem tileA3 (ht : t.val % 8 = 0) (ho : o1 = r.val * 128) (inb) (hT : T.val = t.val % 8 * 1024 + (768 + a.val)) :
    tile3 (View.ld (iblk m c 0 t) (Rect.unit (s := S1024x512) ![768, o1] ![256, 128] inb))
      (View.ld (iblk m c 2 t) (Rect.unit (s := S1024x128) ![256, 0] ![256, 128] inb_S1024x128_S256x128_256_0))
      (View.ld (iblk m c 2 t) (Rect.unit (s := S1024x128) ![512, 0] ![256, 128] inb_S1024x128_S256x128_512_0))
      (View.ld (iblk m c 2 t) (Rect.unit (s := S1024x128) ![768, 0] ![256, 128] inb_S1024x128_S256x128_768_0))
      (View.ld (iblk m c 4 t) (Rect.unit (s := S1024x128) ![256, 0] ![256, 128] inb_S1024x128_S256x128_256_0))
      (View.ld (iblk m c 4 t) (Rect.unit (s := S1024x128) ![512, 0] ![256, 128] inb_S1024x128_S256x128_512_0))
      (View.ld (iblk m c 4 t) (Rect.unit (s := S1024x128) ![768, 0] ![256, 128] inb_S1024x128_S256x128_768_0)) (ix2 a d)
      = WinSpec.att (Q m c) (K m c) (W m c) b T g r d' := by
  obtain rfl : d = d' := Fin.ext hd
  have h8 : t.val % 8 < 8 := Nat.mod_lt _ (by norm_num)
  exact piece3 (Q m c) (K m c) (W m c) hq hk _ _ _ _ _ _ _ b T g r a d 256 (by omega) (by omega)
    (fun d => at_q (hb := hb) (hg := hg) (o1 := o1) (o0 := 768) (inb := inb) (ho0 := by omega) (hT := hT) (ho := ho) (e := d) (d := d) (d' := d) ..)
    (fun j d => at_kc m c t b g hb hg 256 _ (by omega) _ j d (by show _ = _; simp only []; omega))
    (fun j d => at_kc m c t b g hb hg 512 _ (by omega) _ j d (by show _ = _; simp only []; omega))
    (fun j d => at_kc m c t b g hb hg 768 _ (by omega) _ j d (by show _ = _; simp only []; omega))
    (fun j d => at_vc m c t b g hb hg 256 _ (by omega) _ j d (by show _ = _; simp only []; omega))
    (fun j d => at_vc m c t b g hb hg 512 _ (by omega) _ j d (by show _ = _; simp only []; omega))
    (fun j d => at_vc m c t b g hb hg 768 _ (by omega) _ j d (by show _ = _; simp only []; omega))

include hq hk hb hg hd in
theorem tileB0 (ht : 1 ≤ t.val % 8) (ho : o1 = r.val * 128) (inb) (hT : T.val = t.val % 8 * 1024 + (0 + a.val)) :
    tile3 (View.ld (iblk m c 0 t) (Rect.unit (s := S1024x512) ![0, o1] ![256, 128] inb))
      (View.ld (iblk m c 1 t) (Rect.unit (s := S1024x128) ![512, 0] ![256, 128] inb_S1024x128_S256x128_512_0))
      (View.ld (iblk m c 1 t) (Rect.unit (s := S1024x128) ![768, 0] ![256, 128] inb_S1024x128_S256x128_768_0))
      (View.ld (iblk m c 2 t) (Rect.unit (s := S1024x128) ![0, 0] ![256, 128] inb_S1024x128_S256x128_0_0))
      (View.ld (iblk m c 3 t) (Rect.unit (s := S1024x128) ![512, 0] ![256, 128] inb_S1024x128_S256x128_512_0))
      (View.ld (iblk m c 3 t) (Rect.unit (s := S1024x128) ![768, 0] ![256, 128] inb_S1024x128_S256x128_768_0))
      (View.ld (iblk m c 4 t) (Rect.unit (s := S1024x128) ![0, 0] ![256, 128] inb_S1024x128_S256x128_0_0)) (ix2 a d)
      = WinSpec.att (Q m c) (K m c) (W m c) b T g r d' := by
  obtain rfl : d = d' := Fin.ext hd
  have h8 : t.val % 8 < 8 := Nat.mod_lt _ (by norm_num)
  exact piece3 (Q m c) (K m c) (W m c) hq hk _ _ _ _ _ _ _ b T g r a d ((t.val % 8 - 1) * 1024 + 512) (by omega) (by omega)
    (fun d => at_q (hb := hb) (hg := hg) (o1 := o1) (o0 := 0) (inb := inb) (ho0 := by omega) (hT := hT) (ho := ho) (e := d) (d := d) (d' := d) ..)
    (fun j d => at_kp m c t b g hb hg 512 _ (by omega) _ j d (by show _ = _; simp only []; omega))
    (fun j d => at_kp m c t b g hb hg 768 _ (by omega) _ j d (by show _ = _; simp only []; omega))
    (fun j d => at_kc m c t b g hb hg 0 _ (by omega) _ j d (by show _ = _; simp only []; omega))
    (fun j d => at_vp m c t b g hb hg 512 _ (by omega) _ j d (by show _ = _; simp only []; omega))
    (fun j d => at_vp m c t b g hb hg 768 _ (by omega) _ j d (by show _ = _; simp only []; omega))
    (fun j d => at_vc m c t b g hb hg 0 _ (by omega) _ j d (by show _ = _; simp only []; omega))

include hq hk hb hg hd in
theorem tileB1 (ht : 1 ≤ t.val % 8) (ho : o1 = r.val * 128) (inb) (hT : T.val = t.val % 8 * 1024 + (256 + a.val)) :
    tile3 (View.ld (iblk m c 0 t) (Rect.unit (s := S1024x512) ![256, o1] ![256, 128] inb))
      (View.ld (iblk m c 1 t) (Rect.unit (s := S1024x128) ![768, 0] ![256, 128] inb_S1024x128_S256x128_768_0))
      (View.ld (iblk m c 2 t) (Rect.unit (s := S1024x128) ![0, 0] ![256, 128] inb_S1024x128_S256x128_0_0))
      (View.ld (iblk m c 2 t) (Rect.unit (s := S1024x128) ![256, 0] ![256, 128] inb_S1024x128_S256x128_256_0))
      (View.ld (iblk m c 3 t) (Rect.unit (s := S1024x128) ![768, 0] ![256, 128] inb_S1024x128_S256x128_768_0))
      (View.ld (iblk m c 4 t) (Rect.unit (s := S1024x128) ![0, 0] ![256, 128] inb_S1024x128_S256x128_0_0))
      (View.ld (iblk m c 4 t) (Rect.unit (s := S1024x128) ![256, 0] ![256, 128] inb_S1024x128_S256x128_256_0)) (ix2 a d)
      = WinSpec.att (Q m c) (K m c) (W m c) b T g r d' := by
  obtain rfl : d = d' := Fin.ext hd
  have h8 : t.val % 8 < 8 := Nat.mod_lt _ (by norm_num)
  exact piece3 (Q m c) (K m c) (W m c) hq hk _ _ _ _ _ _ _ b T g r a d ((t.val % 8 - 1) * 1024 + 768) (by omega) (by omega)
    (fun d => at_q (hb := hb) (hg := hg) (o1 := o1) (o0 := 256) (inb := inb) (ho0 := by omega) (hT := hT) (ho := ho) (e := d) (d := d) (d' := d) ..)
    (fun j d => at_kp m c t b g hb hg 768 _ (by omega) _ j d (by show _ = _; simp only []; omega))
    (fun j d => at_kc m c t b g hb hg 0 _ (by omega) _ j d (by show _ = _; simp only []; omega))
    (fun j d => at_kc m c t b g hb hg 256 _ (by omega) _ j d (by show _ = _; simp only []; omega))
    (fun j d => at_vp m c t b g hb hg 768 _ (by omega) _ j d (by show _ = _; simp only []; omega))
    (fun j d => at_vc m c t b g hb hg 0 _ (by omega) _ j d (by show _ = _; simp only []; omega))
    (fun j d => at_vc m c t b g hb hg 256 _ (by omega) _ j d (by show _ = _; simp only []; omega))

include hq hk hb hg hd in
theorem tileB2 (ht : 1 ≤ t.val % 8) (ho : o1 = r.val * 128) (inb) (hT : T.val = t.val % 8 * 1024 + (512 + a.val)) :
    tile3 (View.ld (iblk m c 0 t) (Rect.unit (s := S1024x512) ![512, o1] ![256, 128] inb))
      (View.ld (iblk m c 2 t) (Rect.unit (s := S1024x128) ![0, 0] ![256, 128] inb_S1024x128_S256x128_0_0))
      (View.ld (iblk m c 2 t) (Rect.unit (s := S1024x128) ![256, 0] ![256, 128] inb_S1024x128_S256x128_256_0))
      (View.ld (iblk m c 2 t) (Rect.unit (s := S1024x128) ![512, 0] ![256, 128] inb_S1024x128_S256x128_512_0))
      (View.ld (iblk m c 4 t) (Rect.unit (s := S1024x128) ![0, 0] ![256, 128] inb_S1024x128_S256x128_0_0))
      (View.ld (iblk m c 4 t) (Rect.unit (s := S1024x128) ![256, 0] ![256, 128] inb_S1024x128_S256x128_256_0))
      (View.ld (iblk m c 4 t) (Rect.unit (s := S1024x128) ![512, 0] ![256, 128] inb_S1024x128_S256x128_512_0)) (ix2 a d)
      = WinSpec.att (Q m c) (K m c) (W m c) b T g r d' := by
  obtain rfl : d = d' := Fin.ext hd
  have h8 : t.val % 8 < 8 := Nat.mod_lt _ (by norm_num)
  exact piece3 (Q m c) (K m c) (W m c) hq hk _ _ _ _ _ _ _ b T g r a d ((t.val % 8 - 1) * 1024 + 1024) (by omega) (by omega)
    (fun d => at_q (hb := hb) (hg := hg) (o1 := o1) (o0 := 512) (inb := inb) (ho0 := by omega) (hT := hT) (ho := ho) (e := d) (d := d) (d' := d) ..)
    (fun j d => at_kc m c t b g hb hg 0 _ (by omega) _ j d (by show _ = _; simp only []; omega))
    (fun j d => at_kc m c t b g hb hg 256 _ (by omega) _ j d (by show _ = _; simp only []; omega))
    (fun j d => at_kc m c t b g hb hg 512 _ (by omega) _ j d (by show _ = _; simp only []; omega))
    (fun j d => at_vc m c t b g hb hg 0 _ (by omega) _ j d (by show _ = _; simp only []; omega))
    (fun j d => at_vc m c t b g hb hg 256 _ (by omega) _ j d (by show _ = _; simp only []; omega))
    (fun j d => at_vc m c t b g hb hg 512 _ (by omega) _ j d (by show _ = _; simp only []; omega))

include hq hk hb hg hd in
theorem tileB3 (ht : 1 ≤ t.val % 8) (ho : o1 = r.val * 128) (inb) (hT : T.val = t.val % 8 * 1024 + (768 + a.val)) :
    tile3 (View.ld (iblk m c 0 t) (Rect.unit (s := S1024x512) ![768, o1] ![256, 128] inb))
      (View.ld (iblk m c 2 t) (Rect.unit (s := S1024x128) ![256, 0] ![256, 128] inb_S1024x128_S256x128_256_0))
      (View.ld (iblk m c 2 t) (Rect.unit (s := S1024x128) ![512, 0] ![256, 128] inb_S1024x128_S256x128_512_0))
      (View.ld (iblk m c 2 t) (Rect.unit (s := S1024x128) ![768, 0] ![256, 128] inb_S1024x128_S256x128_768_0))
      (View.ld (iblk m c 4 t) (Rect.unit (s := S1024x128) ![256, 0] ![256, 128] inb_S1024x128_S256x128_256_0))
      (View.ld (iblk m c 4 t) (Rect.unit (s := S1024x128) ![512, 0] ![256, 128] inb_S1024x128_S256x128_512_0))
      (View.ld (iblk m c 4 t) (Rect.unit (s := S1024x128) ![768, 0] ![256, 128] inb_S1024x128_S256x128_768_0)) (ix2 a d)
      = WinSpec.att (Q m c) (K m c) (W m c) b T g r d' := by
  obtain rfl : d = d' := Fin.ext hd
  have h8 : t.val % 8 < 8 := Nat.mod_lt _ (by norm_num)
  exact piece3 (Q m c) (K m c) (W m c) hq hk _ _ _ _ _ _ _ b T g r a d ((t.val % 8 - 1) * 1024 + 1280) (by omega) (by omega)
    (fun d => at_q (hb := hb) (hg := hg) (o1 := o1) (o0 := 768) (inb := inb) (ho0 := by omega) (hT := hT) (ho := ho) (e := d) (d := d) (d' := d) ..)
    (fun j d => at_kc m c t b g hb hg 256 _ (by omega) _ j d (by show _ = _; simp only []; omega))
    (fun j d => at_kc m c t b g hb hg 512 _ (by omega) _ j d (by show _ = _; simp only []; omega))
    (fun j d => at_kc m c t b g hb hg 768 _ (by omega) _ j d (by show _ = _; simp only []; omega))
    (fun j d => at_vc m c t b g hb hg 256 _ (by omega) _ j d (by show _ = _; simp only []; omega))
    (fun j d => at_vc m c t b g hb hg 512 _ (by omega) _ j d (by show _ = _; simp only []; omega))
    (fun j d => at_vc m c t b g hb hg 768 _ (by omega) _ j d (by show _ = _; simp only []; omega))

end Tiles

/-- What a point with the first queries of a batch leaves in its block. -/
theorem pointA (c : Dev nD) (t : Fin cfg0.N) (hq : ∀ i, Q m c i ≠ ⊤ ∧ Q m c i ≠ ⊥) (hk : ∀ i, K m c i ≠ ⊤ ∧ K m c i ≠ ⊥)
    (hA : ¬1 ≤ t.val % 8) (hB : t.val % 8 = 0) (b : Fin 2) (g : Fin 4) (hb : b.val = t.val / 32) (hg : g.val = t.val / 8 % 4)
    (y : S1024x512.Idx) (T : Fin 8192) (r : Fin 4) (d : Fin 128) (hT : T.val = t.val % 8 * 1024 + (y 0).val)
    (hr : r.val = (y 1).val / 128) (hd : d.val = (y 1).val % 128) :
    outsAt0 m c t.val t.isLt y = WinSpec.att (Q m c) (K m c) (W m c) b T g r d := by
  rw [outsAt0_A m c t hA hB]
  have ht := hB
  frame_out
  canon_tiles x h
  case piece15 =>
    rw [eq_ix2 x]
    exact tileA0 m c t b T g r (x 0) (x 1) d hq hk hb hg (by omega) 0 ht (by omega) inb_S1024x512_S256x128_0_0 (by omega)
  case piece14 =>
    rw [eq_ix2 x]
    exact tileA0 m c t b T g r (x 0) (x 1) d hq hk hb hg (by omega) 128 ht (by omega) inb_S1024x512_S256x128_0_128 (by omega)
  case piece13 =>
    rw [eq_ix2 x]
    exact tileA0 m c t b T g r (x 0) (x 1) d hq hk hb hg (by omega) 256 ht (by omega) inb_S1024x512_S256x128_0_256 (by omega)
  case piece12 =>
    rw [eq_ix2 x]
    exact tileA0 m c t b T g r (x 0) (x 1) d hq hk hb hg (by omega) 384 ht (by omega) inb_S1024x512_S256x128_0_384 (by omega)
  case piece11 =>
    rw [eq_ix2 x]
    exact tileA1 m c t b T g r (x 0) (x 1) d hq hk hb hg (by omega) 0 ht (by omega) inb_S1024x512_S256x128_256_0 (by omega)
  case piece10 =>
    rw [eq_ix2 x]
    exact tileA1 m c t b T g r (x 0) (x 1) d hq hk hb hg (by omega) 128 ht (by omega) inb_S1024x512_S256x128_256_128 (by omega)
  case piece9 =>
    rw [eq_ix2 x]
    exact tileA1 m c t b T g r (x 0) (x 1) d hq hk hb hg (by omega) 256 ht (by omega) inb_S1024x512_S256x128_256_256 (by omega)
  case piece8 =>
    rw [eq_ix2 x]
    exact tileA1 m c t b T g r (x 0) (x 1) d hq hk hb hg (by omega) 384 ht (by omega) inb_S1024x512_S256x128_256_384 (by omega)
  case piece7 =>
    rw [eq_ix2 x]
    exact tileA2 m c t b T g r (x 0) (x 1) d hq hk hb hg (by omega) 0 ht (by omega) inb_S1024x512_S256x128_512_0 (by omega)
  case piece6 =>
    rw [eq_ix2 x]
    exact tileA2 m c t b T g r (x 0) (x 1) d hq hk hb hg (by omega) 128 ht (by omega) inb_S1024x512_S256x128_512_128 (by omega)
  case piece5 =>
    rw [eq_ix2 x]
    exact tileA2 m c t b T g r (x 0) (x 1) d hq hk hb hg (by omega) 256 ht (by omega) inb_S1024x512_S256x128_512_256 (by omega)
  case piece4 =>
    rw [eq_ix2 x]
    exact tileA2 m c t b T g r (x 0) (x 1) d hq hk hb hg (by omega) 384 ht (by omega) inb_S1024x512_S256x128_512_384 (by omega)
  case piece3 =>
    rw [eq_ix2 x]
    exact tileA3 m c t b T g r (x 0) (x 1) d hq hk hb hg (by omega) 0 ht (by omega) inb_S1024x512_S256x128_768_0 (by omega)
  case piece2 =>
    rw [eq_ix2 x]
    exact tileA3 m c t b T g r (x 0) (x 1) d hq hk hb hg (by omega) 128 ht (by omega) inb_S1024x512_S256x128_768_128 (by omega)
  case piece1 =>
    rw [eq_ix2 x]
    exact tileA3 m c t b T g r (x 0) (x 1) d hq hk hb hg (by omega) 256 ht (by omega) inb_S1024x512_S256x128_768_256 (by omega)
  case piece0 =>
    rw [eq_ix2 x]
    exact tileA3 m c t b T g r (x 0) (x 1) d hq hk hb hg (by omega) 384 ht (by omega) inb_S1024x512_S256x128_768_384 (by omega)

/-- What a point further on leaves in its block. -/
theorem pointB (c : Dev nD) (t : Fin cfg0.N) (hq : ∀ i, Q m c i ≠ ⊤ ∧ Q m c i ≠ ⊥) (hk : ∀ i, K m c i ≠ ⊤ ∧ K m c i ≠ ⊥)
    (hA : 1 ≤ t.val % 8) (hB : ¬t.val % 8 = 0) (b : Fin 2) (g : Fin 4) (hb : b.val = t.val / 32) (hg : g.val = t.val / 8 % 4)
    (y : S1024x512.Idx) (T : Fin 8192) (r : Fin 4) (d : Fin 128) (hT : T.val = t.val % 8 * 1024 + (y 0).val)
    (hr : r.val = (y 1).val / 128) (hd : d.val = (y 1).val % 128) :
    outsAt0 m c t.val t.isLt y = WinSpec.att (Q m c) (K m c) (W m c) b T g r d := by
  rw [outsAt0_B m c t hA hB]
  have ht := hA
  frame_out
  canon_tiles x h
  case piece15 =>
    rw [eq_ix2 x]
    exact tileB0 m c t b T g r (x 0) (x 1) d hq hk hb hg (by omega) 0 ht (by omega) inb_S1024x512_S256x128_0_0 (by omega)
  case piece14 =>
    rw [eq_ix2 x]
    exact tileB0 m c t b T g r (x 0) (x 1) d hq hk hb hg (by omega) 128 ht (by omega) inb_S1024x512_S256x128_0_128 (by omega)
  case piece13 =>
    rw [eq_ix2 x]
    exact tileB0 m c t b T g r (x 0) (x 1) d hq hk hb hg (by omega) 256 ht (by omega) inb_S1024x512_S256x128_0_256 (by omega)
  case piece12 =>
    rw [eq_ix2 x]
    exact tileB0 m c t b T g r (x 0) (x 1) d hq hk hb hg (by omega) 384 ht (by omega) inb_S1024x512_S256x128_0_384 (by omega)
  case piece11 =>
    rw [eq_ix2 x]
    exact tileB1 m c t b T g r (x 0) (x 1) d hq hk hb hg (by omega) 0 ht (by omega) inb_S1024x512_S256x128_256_0 (by omega)
  case piece10 =>
    rw [eq_ix2 x]
    exact tileB1 m c t b T g r (x 0) (x 1) d hq hk hb hg (by omega) 128 ht (by omega) inb_S1024x512_S256x128_256_128 (by omega)
  case piece9 =>
    rw [eq_ix2 x]
    exact tileB1 m c t b T g r (x 0) (x 1) d hq hk hb hg (by omega) 256 ht (by omega) inb_S1024x512_S256x128_256_256 (by omega)
  case piece8 =>
    rw [eq_ix2 x]
    exact tileB1 m c t b T g r (x 0) (x 1) d hq hk hb hg (by omega) 384 ht (by omega) inb_S1024x512_S256x128_256_384 (by omega)
  case piece7 =>
    rw [eq_ix2 x]
    exact tileB2 m c t b T g r (x 0) (x 1) d hq hk hb hg (by omega) 0 ht (by omega) inb_S1024x512_S256x128_512_0 (by omega)
  case piece6 =>
    rw [eq_ix2 x]
    exact tileB2 m c t b T g r (x 0) (x 1) d hq hk hb hg (by omega) 128 ht (by omega) inb_S1024x512_S256x128_512_128 (by omega)
  case piece5 =>
    rw [eq_ix2 x]
    exact tileB2 m c t b T g r (x 0) (x 1) d hq hk hb hg (by omega) 256 ht (by omega) inb_S1024x512_S256x128_512_256 (by omega)
  case piece4 =>
    rw [eq_ix2 x]
    exact tileB2 m c t b T g r (x 0) (x 1) d hq hk hb hg (by omega) 384 ht (by omega) inb_S1024x512_S256x128_512_384 (by omega)
  case piece3 =>
    rw [eq_ix2 x]
    exact tileB3 m c t b T g r (x 0) (x 1) d hq hk hb hg (by omega) 0 ht (by omega) inb_S1024x512_S256x128_768_0 (by omega)
  case piece2 =>
    rw [eq_ix2 x]
    exact tileB3 m c t b T g r (x 0) (x 1) d hq hk hb hg (by omega) 128 ht (by omega) inb_S1024x512_S256x128_768_128 (by omega)
  case piece1 =>
    rw [eq_ix2 x]
    exact tileB3 m c t b T g r (x 0) (x 1) d hq hk hb hg (by omega) 256 ht (by omega) inb_S1024x512_S256x128_768_256 (by omega)
  case piece0 =>
    rw [eq_ix2 x]
    exact tileB3 m c t b T g r (x 0) (x 1) d hq hk hb hg (by omega) 384 ht (by omega) inb_S1024x512_S256x128_768_384 (by omega)

/-- Where the block of the result stands at each grid point. -/
theorem where_out : ∀ t : Fin cfg0.N, win0_5.index t = ![t.val / 32 * 8 + t.val % 8, t.val / 8 % 4] :=
  (by decide +kernel : ∀ t : Fin grid0.N, _)

/-- For finite queries and keys the array of the kernel is the array of the reference. -/
theorem final (c : Dev nD) (hq : ∀ i, Q m c i ≠ ⊤ ∧ Q m c i ≠ ⊥) (hk : ∀ i, K m c i ≠ ⊤ ∧ K m c i ≠ ⊥) :
    (dats m 0 c).arrAt 5 (cfgs 0).N = Cert.WinRefIdeal.Read.val_main_v36 (F := Ideal) (Q m c) (K m c) (W m c) := by
  refine (dats m 0 c).arrAt_eq_of_covers 5 _ (by decide +kernel) fun t hf y => ?_
  have hN := lt_of_lt_of_eq t.isLt N_0
  have y0 : (y 0).val < 1024 := (y 0).isLt
  have y1 : (y 1).val < 512 := (y 1).isLt
  blk_simp
  rw [after0_5]
  have hi : ((cfg0.win 5).blk t).view.emb y = (ix2 ⟨(t.val / 32 * 8 + t.val % 8) * 1024 + (y 0).val, by omega⟩
      ⟨t.val / 8 % 4 * 512 + (y 1).val, by omega⟩ : S16384x2048.Idx) := by
    blk_ext [where_out t]
  refine Eq.trans ?_ (congrArg (Cert.WinRefIdeal.Read.val_main_v36 (F := Ideal) (Q m c) (K m c) (W m c)) hi).symm
  rw [Cert.WinRefIdeal.Math.value _ _ _ hq hk]
  by_cases h : 1 ≤ t.val % 8
  · exact pointB m c t hq hk h (by omega) _ _ (by simp only []; omega) (by simp only []; omega) y _ _ _ (by simp only []; omega)
      (by simp only []; omega) (by simp only []; omega)
  · exact pointA m c t hq hk h (by omega) _ _ (by simp only []; omega) (by simp only []; omega) y _ _ _ (by simp only []; omega)
      (by simp only []; omega) (by simp only []; omega)

end Cert.WinIdeal.Math

end
-- ==== Proof.WinFinite.lean ====
/- The precondition of the window attention, read: every query and every key is a real number. -/
module

public import proofs.«01_k».proof.Proof.Gen.Pre_finite_qk
public import Idealize.ShloMosaic.Lib.Pipeline.ValueKit
public import Idealize.ShloMosaic.Lib.Claim

@[expose] public section

noncomputable section

open Idealize.ShloMosaic

namespace Cert.WinFinite

/-- A number whose absolute value is below infinity is neither infinity. -/
theorem finite_of_abs (x : EReal) (h : max x (-x) < ⊤) : x ≠ ⊤ ∧ x ≠ ⊥ := by
  constructor <;> rintro rfl <;> simp at h

/-- The bit of the test "|x| < ∞", read. -/
theorem finite_of_bit (x y : EReal) (hy : y = ⊤) (h : BitVec.ofBool (decide (max x (-x) < y)) = 1#1) : x ≠ ⊤ ∧ x ≠ ⊥ := by
  subst hy
  refine finite_of_abs x ?_
  by_contra hn
  rw [decide_eq_false hn] at h
  exact absurd h (by decide)

theorem infinity : (Ideal.ofBits .f32 0x7F800000#32 : EReal) = ⊤ := by
  simp [Ideal.ofBits, Ideal.ieee]

theorem finite_of_query (q : FVec Ideal Pre_finite_qk.S2x8192x16x128 .f32) (k v : FVec Ideal Pre_finite_qk.S2x8192x4x128 .f32)
    (h : (@Cert.Pre_finite_qk.fn Cert.Pre_finite_qk.Gen.facts Ideal _ q k v).1 = fun _ => 1#1) : ∀ i, q i ≠ ⊤ ∧ q i ≠ ⊥ := fun i =>
  finite_of_bit _ _ infinity (congrFun h i)

theorem finite_of_key (q : FVec Ideal Pre_finite_qk.S2x8192x16x128 .f32) (k v : FVec Ideal Pre_finite_qk.S2x8192x4x128 .f32)
    (h : (@Cert.Pre_finite_qk.fn Cert.Pre_finite_qk.Gen.facts Ideal _ q k v).2 = fun _ => 1#1) : ∀ i, k i ≠ ⊤ ∧ k i ≠ ⊥ := fun i =>
  finite_of_bit _ _ infinity (congrFun h i)

end Cert.WinFinite

end
-- ==== Proof.Forget.lean ====
/- The log of the forget gate, `log (lb + (1 - lb) σ(t))`, in the two ways it is computed: through two `logaddexp` in the
   reference, and from `exp (-|t|)` in the kernel. They agree for a lower bound strictly between 0 and 1 and every `t`. -/
module

public import Idealize.ShloMosaic.Lib.Pipeline.ValueKit
public import Idealize.ShloMosaic.Lib.Claim

@[expose] public section

noncomputable section

open Idealize.ShloMosaic

namespace Cert.Forget

/-- `logaddexp (-t) 0`, which is `-log σ(t)`. -/
def softplus (t : EReal) : EReal :=
  max (-t) 0 + Ideal.log1p (Ideal.exp (-max (-t) (-(-t))))

/-- The log of the gate, as the reference computes it. -/
def plain (lb t : EReal) : EReal :=
  max (Ideal.log lb) (Ideal.log1p (-lb) + -softplus t)
    + Ideal.log1p (Ideal.exp (-max (Ideal.log lb - (Ideal.log1p (-lb) + -softplus t)) (-(Ideal.log lb - (Ideal.log1p (-lb) + -softplus t)))))

/-- The log of the gate, as the kernel computes it. -/
def fast (lb t : EReal) : EReal :=
  max (Ideal.log (if 0 ≤ t then 1 + lb * Ideal.exp (0 - max t (-t)) else lb + Ideal.exp (0 - max t (-t)))) (min t 0)
    - Ideal.log (1 + Ideal.exp (0 - max t (-t)))

theorem exp_real (r : ℝ) : Ideal.exp (r : EReal) = ((Real.exp r : ℝ) : EReal) := rfl

theorem log_real (r : ℝ) (h : 0 < r) : Ideal.log (r : EReal) = ((Real.log r : ℝ) : EReal) := by
  rw [Ideal.log_coe, if_neg (not_le.mpr h)]

theorem log1p_real (r : ℝ) (h : 0 < 1 + r) : Ideal.log1p (r : EReal) = ((Real.log (1 + r) : ℝ) : EReal) := by
  rw [← log_real _ h]; rfl

/-- `logaddexp` of reals is what its name says. -/
theorem logaddexp (a b : ℝ) : max a b + Real.log (1 + Real.exp (-max (a - b) (-(a - b)))) = Real.log (Real.exp a + Real.exp b) := by
  rcases le_total a b with h | h
  · rw [max_eq_right h, max_eq_right (by linarith), neg_neg]
    nth_rewrite 1 [← Real.log_exp b]
    rw [← Real.log_mul (Real.exp_ne_zero _) (by positivity), mul_add, mul_one, ← Real.exp_add, add_sub_cancel, add_comm]
  · rw [max_eq_left h, max_eq_left (by linarith)]
    nth_rewrite 1 [← Real.log_exp a]
    rw [← Real.log_mul (Real.exp_ne_zero _) (by positivity), mul_add, mul_one, ← Real.exp_add]
    congr 3
    ring

theorem logaddexp_coe (a b : ℝ) :
    max (a : EReal) b + Ideal.log1p (Ideal.exp (-max ((a : EReal) - b) (-((a : EReal) - b)))) = ((Real.log (Real.exp a + Real.exp b) : ℝ) : EReal) := by
  have e : -max ((a : EReal) - b) (-((a : EReal) - b)) = ((-max (a - b) (-(a - b)) : ℝ) : EReal) := by
    norm_cast
  rw [e, exp_real, log1p_real _ (by positivity), ← logaddexp]
  norm_cast

theorem softplus_real (t : ℝ) : softplus t = ((Real.log (Real.exp (-t) + 1) : ℝ) : EReal) := by
  have h := logaddexp_coe (-t) 0
  rw [Real.exp_zero] at h
  rw [← h]
  unfold softplus
  norm_num

theorem softplus_top : softplus ⊤ = 0 := by
  unfold softplus
  have e : Ideal.exp ⊥ = 0 := rfl
  have l : Ideal.log1p ((0 : ℝ) : EReal) = 0 := by rw [log1p_real _ (by norm_num)]; norm_num
  simp only [EReal.neg_top, EReal.neg_bot, max_eq_right (bot_le : (⊥ : EReal) ≤ _), e]
  rw [show (0 : EReal) = ((0 : ℝ) : EReal) from rfl, l]; norm_num

theorem softplus_bot : softplus ⊥ = ⊤ := by
  unfold softplus
  have e : Ideal.exp ⊥ = 0 := rfl
  have l : Ideal.log1p ((0 : ℝ) : EReal) = 0 := by rw [log1p_real _ (by norm_num)]; norm_num
  simp only [EReal.neg_top, EReal.neg_bot, max_eq_left (le_top : (_ : EReal) ≤ ⊤), e]
  rw [show (0 : EReal) = ((0 : ℝ) : EReal) from rfl, l]; norm_num

theorem plain_real (lb t : ℝ) (h0 : 0 < lb) (h1 : lb < 1) :
    plain lb t = ((Real.log (lb + (1 - lb) / (Real.exp (-t) + 1)) : ℝ) : EReal) := by
  unfold plain
  rw [softplus_real, log_real _ h0, ← EReal.coe_neg, log1p_real _ (by linarith), ← EReal.coe_neg, ← EReal.coe_add, logaddexp_coe,
    Real.exp_add, Real.exp_log h0, Real.exp_log (by linarith), Real.exp_neg (Real.log _), Real.exp_log (by positivity)]
  congr 2

theorem plain_top (lb : ℝ) (h0 : 0 < lb) (h1 : lb < 1) : plain lb ⊤ = 0 := by
  unfold plain
  rw [softplus_top, log_real _ h0, ← EReal.coe_neg, log1p_real _ (by linarith), show (0 : EReal) = ((0 : ℝ) : EReal) from rfl, ← EReal.coe_neg, ← EReal.coe_add, logaddexp_coe,
    Real.exp_add, Real.exp_log h0, Real.exp_log (by linarith)]
  simp

theorem plain_bot (lb : ℝ) (h0 : 0 < lb) (h1 : lb < 1) : plain lb ⊥ = ((Real.log lb : ℝ) : EReal) := by
  unfold plain
  have e : Ideal.exp ⊥ = 0 := rfl
  have l : Ideal.log1p ((0 : ℝ) : EReal) = 0 := by rw [log1p_real _ (by norm_num)]; norm_num
  rw [softplus_bot, log_real _ h0, ← EReal.coe_neg, log1p_real _ (by linarith), EReal.neg_top, EReal.add_bot, max_eq_left bot_le,
    EReal.coe_sub_bot, max_eq_left le_top, EReal.neg_top, e, show (0 : EReal) = ((0 : ℝ) : EReal) from rfl, l, add_zero]

theorem fast_real (lb t : ℝ) (h0 : 0 < lb) (h1 : lb < 1) :
    fast lb t = ((Real.log (lb + (1 - lb) / (Real.exp (-t) + 1)) : ℝ) : EReal) := by
  have e : (0 : EReal) - max (t : EReal) (-t) = ((-|t| : ℝ) : EReal) := by
    rw [show (0 : EReal) = ((0 : ℝ) : EReal) from rfl, abs_eq_max_neg]
    norm_cast
    rw [zero_sub, EReal.coe_neg (max t (-t)), EReal.coe_strictMono.monotone.map_max]
  have p : 0 < Real.exp (-|t|) := Real.exp_pos _
  unfold fast
  rw [e, exp_real]
  rcases le_total 0 t with h | h
  · rw [if_pos (by exact_mod_cast h), show (1 : EReal) = ((1 : ℝ) : EReal) from rfl, ← EReal.coe_mul, ← EReal.coe_add, ← EReal.coe_add,
      log_real _ (by positivity), log_real _ (by positivity), min_eq_right (by exact_mod_cast h),
      max_eq_left (by exact_mod_cast Real.log_nonneg (by nlinarith)), ← EReal.coe_sub, ← Real.log_div (by positivity) (by positivity), abs_of_nonneg h]
    congr 2
    have : Real.exp (-t) + 1 ≠ 0 := by positivity
    have : 1 + Real.exp (-t) ≠ 0 := by positivity
    field_simp
    ring
  · rcases h.lt_or_eq with h | rfl
    · have hm : t ≤ Real.log (lb + Real.exp (-|t|)) := by
        rw [Real.le_log_iff_exp_le (by positivity), abs_of_neg h, neg_neg]
        linarith
      rw [if_neg (by exact_mod_cast not_le.mpr h), show (1 : EReal) = ((1 : ℝ) : EReal) from rfl, ← EReal.coe_add, ← EReal.coe_add,
        log_real _ (by positivity), log_real _ (by positivity), min_eq_left (by exact_mod_cast h.le),
        max_eq_left (by exact_mod_cast hm), ← EReal.coe_sub, ← Real.log_div (by positivity) (by positivity), abs_of_neg h, neg_neg]
      congr 2
      have e1 : Real.exp (-t) = (Real.exp t)⁻¹ := Real.exp_neg t
      have : Real.exp t > 0 := Real.exp_pos t
      rw [e1]
      field_simp
      ring
    · rw [if_pos (by exact_mod_cast le_refl (0 : ℝ)), show (1 : EReal) = ((1 : ℝ) : EReal) from rfl, ← EReal.coe_mul, ← EReal.coe_add, ← EReal.coe_add,
        log_real _ (by positivity), log_real _ (by positivity), min_eq_right (by exact_mod_cast le_refl (0 : ℝ)),
        max_eq_left (by exact_mod_cast Real.log_nonneg (le_add_of_nonneg_right (mul_pos h0 (Real.exp_pos _)).le)), ← EReal.coe_sub, ← Real.log_div (by positivity) (by positivity)]
      congr 2
      simp
      ring

theorem fast_top (lb : ℝ) : fast lb ⊤ = 0 := by
  have e : Ideal.exp ⊥ = 0 := rfl
  have l : Ideal.log ((1 : ℝ) : EReal) = 0 := by rw [log_real _ (by norm_num)]; norm_num
  unfold fast
  rw [if_pos le_top, EReal.neg_top, max_eq_left bot_le, show (0 : EReal) - ⊤ = ⊥ from rfl, e, mul_zero, add_zero, show (1 : EReal) = ((1 : ℝ) : EReal) from rfl, l,
    min_eq_right le_top]
  simp

theorem fast_bot (lb : ℝ) (h0 : 0 < lb) : fast lb ⊥ = ((Real.log lb : ℝ) : EReal) := by
  have e : Ideal.exp ⊥ = 0 := rfl
  have l : Ideal.log ((1 : ℝ) : EReal) = 0 := by rw [log_real _ (by norm_num)]; norm_num
  unfold fast
  rw [if_neg (by simp), EReal.neg_bot, max_eq_right bot_le, show (0 : EReal) - ⊤ = ⊥ from rfl, e, add_zero, add_zero, show (1 : EReal) = ((1 : ℝ) : EReal) from rfl, l,
    min_eq_left bot_le, max_eq_left bot_le, log_real _ h0, sub_zero]

/-- The two agree. -/
theorem agree (lb : ℝ) (h0 : 0 < lb) (h1 : lb < 1) (t : EReal) : fast lb t = plain lb t := by
  induction t with
  | bot => rw [fast_bot lb h0, plain_bot lb h0 h1]
  | coe t => rw [fast_real lb t h0 h1, plain_real lb t h0 h1]
  | top => rw [fast_top, plain_top lb h0 h1]

end Cert.Forget

end
-- ==== Proof.HinSpec.lean ====
/- One number of the second layer's input projection: the product with the weight, then nothing, `silu`, or the log of
   the forget gate, by its column. -/
module

public import proofs.«01_k».proof.Proof.Forget

@[expose] public section

noncomputable section

open Idealize.ShloMosaic

namespace Cert.HinSpec

/-- Row `r` of the input times column `n` of layer 1's weight. -/
def proj (x : FVec Ideal ⟨3, ![2, 8192, 2048]⟩ .f32) (w : FVec Ideal ⟨3, ![2, 2048, 8192]⟩ .f32) (r : ℕ) (hr : r < 16384) (n : ℕ) (hn : n < 8192) : EReal :=
  ∑ k : Fin 2048, x (ix3 ⟨r / 8192, by omega⟩ ⟨r % 8192, by omega⟩ k) * w (ix3 1 k ⟨n, hn⟩)

/-- A maximum over two entries, folded from minus infinity. -/
theorem fold_two (f : Fin 2 → EReal) : Finset.fold max (Ideal.ofBits .f32 0xFF800000#32 : EReal) f Finset.univ = max (f 0) (f 1) := by
  have z : (Ideal.ofBits .f32 0xFF800000#32 : EReal) = ⊥ := by simp [Ideal.ofBits, Ideal.ieee]
  rw [z, show (Finset.univ : Finset (Fin 2)) = insert 0 {1} from rfl, Finset.fold_insert (by decide), Finset.fold_singleton, max_eq_left (bot_le : ⊥ ≤ f 1)]

/-- The softmax over the two layers: entry `a` of the pair. -/
def share (p q a : EReal) : EReal :=
  Ideal.div (Ideal.exp (a - max p q)) (Ideal.exp (p - max p q) + Ideal.exp (q - max p q))

/-- The lower bound of layer 1's forget gate: the running sum of the softmax less its first entry. -/
def bound (p q : EReal) : EReal := share p q p + share p q q - share p q p

theorem share_real (p q a : ℝ) : share p q a = ((Real.exp (a - max p q) / (Real.exp (p - max p q) + Real.exp (q - max p q)) : ℝ) : EReal) := by
  have e : ∀ u : ℝ, (u : EReal) - max (p : EReal) q = ((u - max p q : ℝ) : EReal) := fun u => by
    rw [EReal.coe_sub, EReal.coe_strictMono.monotone.map_max]
  have h : Real.exp (p - max p q) + Real.exp (q - max p q) ≠ 0 := by positivity
  unfold share
  rw [e, e, e, Forget.exp_real, Forget.exp_real, Forget.exp_real, ← EReal.coe_add, Ideal.div_coe h, ← EReal.coe_mul, mul_one_div]

/-- For finite logits the bound is a real number strictly between 0 and 1. -/
theorem bound_real (p q : EReal) (hp : p ≠ ⊤ ∧ p ≠ ⊥) (hq : q ≠ ⊤ ∧ q ≠ ⊥) : ∃ b : ℝ, 0 < b ∧ b < 1 ∧ bound p q = b := by
  lift p to ℝ using hp
  lift q to ℝ using hq
  refine ⟨Real.exp (q - max p q) / (Real.exp (p - max p q) + Real.exp (q - max p q)), by positivity, ?_, ?_⟩
  · rw [div_lt_one (by positivity)]
    linarith [Real.exp_pos (p - max p q)]
  · unfold bound
    rw [share_real, share_real, ← EReal.coe_add, ← EReal.coe_sub, add_sub_cancel_left]

/-- Columns 2048 to 4095 hold the forget gate, 4096 to 6143 the input as it is, the others go through `silu`. -/
def spec (x : FVec Ideal ⟨3, ![2, 8192, 2048]⟩ .f32) (w : FVec Ideal ⟨3, ![2, 2048, 8192]⟩ .f32) (l : FVec Ideal ⟨2, ![2, 2048]⟩ .f32)
    (r : ℕ) (hr : r < 16384) (n : ℕ) (hn : n < 8192) : EReal :=
  if h : 2048 ≤ n ∧ n < 4096 then Forget.fast (bound (l (ix2 0 ⟨n - 2048, by omega⟩)) (l (ix2 1 ⟨n - 2048, by omega⟩))) (proj x w r hr n hn)
  else if 4096 ≤ n ∧ n < 6144 then proj x w r hr n hn
  else proj x w r hr n hn * Ideal.div 1 (1 + Ideal.exp (-proj x w r hr n hn))

end Cert.HinSpec

end
-- ==== Proof.HinTiles.lean ====
/- The work of one tile of `Hin`, as the kernel's operations name it, and its value at an index. -/
module

public import proofs.«01_k».proof.Proof.Gen.HinIdeal.Value
public import proofs.«01_k».proof.Proof.HinSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.HinIdeal.Math

open Cert.HinIdeal Cert.HinIdeal.Gen

/-- The product of the row tile with 256 columns of the weight. -/
def mat (x : Vec Ideal S2048x2048 .bf16) (w : Vec Ideal S1x2048x256 .f32) : FVec Ideal S2048x256 .f32 :=
  matmul (F := Ideal) (φ₁ := .bf16) (φ₂ := .bf16) dot_S2048x2048_S2048x256_S2048x256_1_0_0_1_n_n none (shapeCast S2048x2048 x shapeCasts_S2048x2048_S2048x2048)
    (truncf (F := Ideal) .bf16 (shapeCast S2048x256 w shapeCasts_S1x2048x256_S2048x256) bitsLt_bf16_f32) (constant S2048x256 .f32 0x00000000#32)

/-- Its left and right halves. -/
def left (p : FVec Ideal S2048x256 .f32) : FVec Ideal S2048x128 .f32 :=
  extractStridedSlice S2048x128 ![0, 0] p slices_S2048x256_o0_0_S2048x128
def right (p : FVec Ideal S2048x256 .f32) : FVec Ideal S2048x128 .f32 :=
  extractStridedSlice S2048x128 ![0, 128] p slices_S2048x256_o0_128_S2048x128

/-- `t σ(t)`. -/
def silu (t : FVec Ideal S2048x128 .f32) : FVec Ideal S2048x128 .f32 := mulf (F := Ideal) t (logistic (F := Ideal) t)

/-- The log of the forget gate, of 128 columns. -/
def forget (t : FVec Ideal S2048x128 .f32) (l : FVec Ideal S2x128 .f32) : FVec Ideal S2048x128 .f32 :=
  have a1 : FVec Ideal S128 .f32 := multiReduction .maximumf [0] S128 l 0xFF800000#32 reduces_S2x128_S128 (.inl rfl) rfl
  have a2 : FVec Ideal S1x128 .f32 := shapeCast S1x128 a1 shapeCasts_S128_S1x128
  have a3 : FVec Ideal S2x128 .f32 := broadcastTo S2x128 a2 broadcasts_S1x128_S2x128
  have a4 : FVec Ideal S2x128 .f32 := subf l a3
  have a5 : FVec Ideal S2x128 .f32 := exp a4
  have a6 : FVec Ideal S128 .f32 := multiReduction .add [0] S128 a5 0x00000000#32 reduces_S2x128_S128 (.inl rfl) rfl
  have a7 : FVec Ideal S1x128 .f32 := shapeCast S1x128 a6 shapeCasts_S128_S1x128
  have a8 : FVec Ideal S2x128 .f32 := broadcastTo S2x128 a7 broadcasts_S1x128_S2x128
  have a9 : FVec Ideal S2x128 .f32 := divf a5 a8
  have a10 : FVec Ideal S128 .f32 := multiReduction .add [0] S128 a9 0x00000000#32 reduces_S2x128_S128 (.inl rfl) rfl
  have a11 : FVec Ideal S1x128 .f32 := shapeCast S1x128 a10 shapeCasts_S128_S1x128
  have a12 : FVec Ideal S1x128 .f32 := extractStridedSlice S1x128 ![0, 0] a9 slices_S2x128_o0_0_S1x128
  have a13 : FVec Ideal S1x128 .f32 := subf a11 a12
  have a14 : FVec Ideal S2048x128 .f32 := absf t
  have c35 : Ideal .f32 := Scalar.ofBits .f32 0x00000000#32
  have a15 : FVec Ideal S2048x128 .f32 := broadcast S2048x128 c35
  have a16 : FVec Ideal S2048x128 .f32 := subf a15 a14
  have a17 : FVec Ideal S2048x128 .f32 := exp a16
  have c36 : Ideal .f32 := Scalar.ofBits .f32 0x00000000#32
  have a18 : FVec Ideal S2048x128 .f32 := broadcast S2048x128 c36
  have a19 : IVec S2048x128 1 := cmpf .oge t a18
  have a20 : FVec Ideal S2048x128 .f32 := broadcastTo S2048x128 a13 broadcasts_S1x128_S2048x128
  have a21 : FVec Ideal S2048x128 .f32 := mulf a20 a17
  have c37 : Ideal .f32 := Scalar.ofBits .f32 0x3F800000#32
  have a22 : FVec Ideal S2048x128 .f32 := broadcast S2048x128 c37
  have a23 : FVec Ideal S2048x128 .f32 := addf a22 a21
  have a24 : FVec Ideal S2048x128 .f32 := broadcastTo S2048x128 a13 broadcasts_S1x128_S2048x128
  have a25 : FVec Ideal S2048x128 .f32 := addf a24 a17
  have a26 : FVec Ideal S2048x128 .f32 := select a19 a23 a25
  have a27 : FVec Ideal S2048x128 .f32 := log a26
  have c38 : Ideal .f32 := Scalar.ofBits .f32 0x00000000#32
  have a28 : FVec Ideal S2048x128 .f32 := broadcast S2048x128 c38
  have a29 : FVec Ideal S2048x128 .f32 := minimumf t a28
  have a30 : FVec Ideal S2048x128 .f32 := maximumf a27 a29
  have c39 : Ideal .f32 := Scalar.ofBits .f32 0x3F800000#32
  have a31 : FVec Ideal S2048x128 .f32 := broadcast S2048x128 c39
  have a32 : FVec Ideal S2048x128 .f32 := addf a31 a17
  have a33 : FVec Ideal S2048x128 .f32 := log a32
  have a34 : FVec Ideal S2048x128 .f32 := subf a30 a33
  a34

theorem left_at (p : FVec Ideal S2048x256 .f32) (a : Fin 2048) (b : Fin 128) : left p (ix2 a b) = p (ix2 a ⟨b.val, by omega⟩) := by
  pointwise [left]

theorem right_at (p : FVec Ideal S2048x256 .f32) (a : Fin 2048) (b : Fin 128) : right p (ix2 a b) = p (ix2 a ⟨128 + b.val, by omega⟩) := by
  pointwise [right]

theorem mat_at (x : Vec Ideal S2048x2048 .bf16) (w : Vec Ideal S1x2048x256 .f32) (a : Fin 2048) (b : Fin 256) :
    mat x w (ix2 a b) = ∑ k : Fin 2048, (x (ix2 a k) : EReal) * w (ix3 0 k b) := by
  pointwise [mat]

theorem silu_at (t : FVec Ideal S2048x128 .f32) (a : Fin 2048) (b : Fin 128) :
    silu t (ix2 a b) = t (ix2 a b) * Ideal.div 1 (1 + Ideal.exp (-t (ix2 a b))) := by
  pointwise [silu]
  rfl

theorem forget_at (t : FVec Ideal S2048x128 .f32) (l : FVec Ideal S2x128 .f32) (a : Fin 2048) (b : Fin 128) :
    forget t l (ix2 a b) = Forget.fast (HinSpec.bound (l (ix2 0 b)) (l (ix2 1 b))) (t (ix2 a b)) := by
  pointwise [forget]
  have m : Finset.fold max (Ideal.ofBits .f32 0xFF800000#32 : EReal) (fun x : Fin 2 => (l (ix2 x b) : EReal)) Finset.univ = max (l (ix2 0 b)) (l (ix2 1 b)) :=
    HinSpec.fold_two _
  simp only [m, Fin.sum_univ_two]
  rfl

end Cert.HinIdeal.Math

end
-- ==== Proof.HinRefValue.lean ====
/- The reference of `Hin` at a row and a column: the number of `HinSpec`. -/
module

public import proofs.«01_k».proof.Proof.Gen.HinRefIdeal.Read
public import proofs.«01_k».proof.Proof.HinSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.HinRefIdeal.Math

open Cert.HinRefIdeal Cert.HinRefIdeal.Gen
open Cert.HinRefIdeal.Read

variable (x : FVec Ideal S2x8192x2048 .f32) (w : FVec Ideal S2x2048x8192 .f32) (l : FVec Ideal S2x2048 .f32)
/-- A running sum over two rows: the window of row `a` holds rows `0` to `a`. -/
theorem cum_at (n : Fin 2048) :
   val_main_v11 (F := Ideal) l (ix2 1 n) = val_main_v10 (F := Ideal) l (ix2 0 n) + val_main_v10 (F := Ideal) l (ix2 1 n)
   ∧ val_main_v11 (F := Ideal) l (ix2 0 n) = val_main_v10 (F := Ideal) l (ix2 0 n) := by
  have z : val_main_call0_call0_v0 (F := Ideal) (Shape.Idx.first h_S_) = (0 : EReal) := by
    show Ideal.ofBits FTy.f32 0x00000000#32 = (0 : EReal)
    simp [Ideal.ofBits, Ideal.ieee]
  have e : List.finRange (⟨S2x2048.rank, ![2, 1]⟩ : Shape).numel = [⟨0, by decide⟩, ⟨1, by decide⟩] := by decide
  have r0 : (⟨S2x2048.rank, ![2, 1]⟩ : Shape).rowMajor.symm ⟨0, by decide⟩ = ix2 0 0 := by decide
  have r1 : (⟨S2x2048.rank, ![2, 1]⟩ : Shape).rowMajor.symm ⟨1, by decide⟩ = ix2 1 0 := by decide
  have hn := n.isLt
  constructor
  · show Host.reduceWindow (α := EReal) (fun a b => a + b) ![2, 1] ![1, 1] ![1, 0] ![0, 0] (val_main_v10 (F := Ideal) l)
      (fun _ : (⟨0, ![]⟩ : Shape).Idx => val_main_call0_call0_v0 (F := Ideal) (Shape.Idx.first h_S_)) reduceWindows_S2x2048_S2x2048_w2s1p1_0_w1s1p0_0 (by decide) (ix2 1 n) = _
    unfold Host.reduceWindow
    simp only [e, List.foldl_cons, List.foldl_nil, r0, r1, z, zero_add]
    rw [dif_pos (by intro a; fin_cases a <;> simp [S2x2048] <;> omega), dif_pos (by intro a; fin_cases a <;> simp [S2x2048] <;> omega)]
    congr 2 <;> (funext a; fin_cases a <;> (apply Fin.ext; simp))
  · show Host.reduceWindow (α := EReal) (fun a b => a + b) ![2, 1] ![1, 1] ![1, 0] ![0, 0] (val_main_v10 (F := Ideal) l)
      (fun _ : (⟨0, ![]⟩ : Shape).Idx => val_main_call0_call0_v0 (F := Ideal) (Shape.Idx.first h_S_)) reduceWindows_S2x2048_S2x2048_w2s1p1_0_w1s1p0_0 (by decide) (ix2 0 n) = _
    unfold Host.reduceWindow
    simp only [e, List.foldl_cons, List.foldl_nil, r0, r1, z, zero_add]
    rw [dif_neg (by intro h; have := (h 0).1; revert this; simp), dif_pos (by intro a; fin_cases a <;> simp [S2x2048] <;> omega), zero_add]
    congr 1
    funext a; fin_cases a <;> (apply Fin.ext; simp)

/-- The row and the column of the flattened result, in the batched one. -/
theorem flat_at (r : Fin 16384) (n : Fin 8192) :
    val_main_v50 (F := Ideal) x w l (ix2 r n) = val_main_v49 (F := Ideal) x w l (ix3 ⟨r.val / 8192, by omega⟩ ⟨r.val % 8192, by omega⟩ n) := by
  pointwise [val_main_v50]

theorem proj_at (b : Fin 2) (s : Fin 8192) (n : Fin 8192) :
    val_main_v21 (F := Ideal) x w (ix3 b s n) = ∑ k : Fin 2048, (x (ix3 b s k) : EReal) * w (ix3 1 k n) := by
  pointwise [val_main_v21, val_main_v20, val_main_v19]

theorem v22_at (b : Fin 2) (s : Fin 8192) (n : Fin 2048) :
    val_main_v47 (F := Ideal) x w (ix3 b s n) = val_main_v21 (F := Ideal) x w (ix3 b s ⟨n.val, by omega⟩) * Ideal.div 1 (1 + Ideal.exp (-val_main_v21 (F := Ideal) x w (ix3 b s ⟨n.val, by omega⟩))) := by
  pointwise [val_main_v47, val_main_call2_v5, val_main_call2_v4, val_main_call2_cst_0, val_main_call2_v3, val_main_call2_v2,
    val_main_call2_cst, val_main_call2_v1, val_main_call2_v0, val_main_v22]

theorem v25_at (b : Fin 2) (s : Fin 8192) (n : Fin 2048) :
    val_main_v48 (F := Ideal) x w (ix3 b s n) = val_main_v21 (F := Ideal) x w (ix3 b s ⟨6144 + n.val, by omega⟩) * Ideal.div 1 (1 + Ideal.exp (-val_main_v21 (F := Ideal) x w (ix3 b s ⟨6144 + n.val, by omega⟩))) := by
  pointwise [val_main_v48, val_main_call3_v5, val_main_call3_v4, val_main_call3_cst_0, val_main_call3_v3, val_main_call3_v2,
    val_main_call3_cst, val_main_call3_v1, val_main_call3_v0, val_main_v25]

theorem v24_at (b : Fin 2) (s : Fin 8192) (n : Fin 2048) :
    val_main_v24 (F := Ideal) x w (ix3 b s n) = val_main_v21 (F := Ideal) x w (ix3 b s ⟨4096 + n.val, by omega⟩) := by
  pointwise [val_main_v24]

theorem v18_at (n : Fin 2048) : val_main_v18 (F := Ideal) l (ix1 n) = HinSpec.bound (l (ix2 0 n)) (l (ix2 1 n)) := by
  have e : val_main_v18 (F := Ideal) l (ix1 n) = val_main_v11 (F := Ideal) l (ix2 1 n) - val_main_v11 (F := Ideal) l (ix2 0 n) := by
    pointwise [val_main_v18, val_main_v17, val_main_v16, val_main_v15, val_main_v14, val_main_v13, val_main_v12]
  have z : (Ideal.ofBits .f32 0xFF800000#32 : EReal) = ⊥ := by simp [Ideal.ofBits, Ideal.ieee]
  have p : ∀ a : Fin 2, val_main_v10 (F := Ideal) l (ix2 a n) = HinSpec.share (l (ix2 0 n)) (l (ix2 1 n)) (l (ix2 a n)) := fun a => by
    pointwise [val_main_v10, val_main_v9, val_main_v8, val_main_v7, val_main_v6, val_main_v5, val_main_v4, val_main_v3, val_main_v2, val_main_v1, val_main_v0, val_main_cst, val_main_cst_0, val_main_cst_1]
    have m : Finset.fold max (Ideal.ofBits .f32 0xFF800000#32 : EReal) (fun x : Fin 2 => (l (ix2 x n) : EReal)) Finset.univ = max (l (ix2 0 n)) (l (ix2 1 n)) :=
      HinSpec.fold_two _
    rw [z] at m
    simp only [z, m, Fin.sum_univ_two, max_eq_right (bot_le : (⊥ : EReal) ≤ _)]
    rfl
  rw [e, (cum_at l n).1, (cum_at l n).2, p, p]
  rfl

/-- The forget gate's columns, for finite logits. -/
theorem v46_at (hl : ∀ i, l i ≠ ⊤ ∧ l i ≠ ⊥) (b : Fin 2) (s : Fin 8192) (n : Fin 2048) :
    val_main_v46 (F := Ideal) x w l (ix3 b s n)
      = Forget.fast (HinSpec.bound (l (ix2 0 n)) (l (ix2 1 n))) (val_main_v21 (F := Ideal) x w (ix3 b s ⟨2048 + n.val, by omega⟩)) := by
  obtain ⟨q, q0, q1, e⟩ := HinSpec.bound_real _ _ (hl (ix2 0 n)) (hl (ix2 1 n))
  rw [e, Forget.agree q q0 q1, ← e, ← v18_at]
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v23, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]
  simp only [ne_eq, not_true_eq_false, if_false]
  rfl

/-- The array of the reference, for finite logits. -/
theorem array_at (hl : ∀ i, l i ≠ ⊤ ∧ l i ≠ ⊥) (r : Fin 16384) (n : Fin 8192) :
    val_main_v50 (F := Ideal) x w l (ix2 r n) = HinSpec.spec x w l r.val r.isLt n.val n.isLt := by
  have hr := r.isLt
  have hn := n.isLt
  have p : ∀ k (hk : k < 8192), val_main_v21 (F := Ideal) x w (ix3 ⟨r.val / 8192, by omega⟩ ⟨r.val % 8192, by omega⟩ ⟨k, hk⟩) = HinSpec.proj x w r.val r.isLt k hk :=
    fun k hk => proj_at x w _ _ _
  rw [flat_at]
  rcases lt_or_ge n.val 2048 with h | h
  · have e : val_main_v49 (F := Ideal) x w l (ix3 ⟨r.val / 8192, by omega⟩ ⟨r.val % 8192, by omega⟩ n) = val_main_v47 (F := Ideal) x w (ix3 ⟨r.val / 8192, by omega⟩ ⟨r.val % 8192, by omega⟩ ⟨n.val, h⟩) := by
      pointwise [val_main_v49]
      exact dif_pos h
    rw [e, v22_at, p]
    unfold HinSpec.spec
    rw [dif_neg (by omega), if_neg (by omega)]
  rcases lt_or_ge n.val 4096 with h' | h'
  · have e : val_main_v49 (F := Ideal) x w l (ix3 ⟨r.val / 8192, by omega⟩ ⟨r.val % 8192, by omega⟩ n) = val_main_v46 (F := Ideal) x w l (ix3 ⟨r.val / 8192, by omega⟩ ⟨r.val % 8192, by omega⟩ ⟨n.val - 2048, by omega⟩) := by
      pointwise [val_main_v49]
      rw [dif_neg (by omega), dif_pos (by omega)]
    have k : 2048 + (n.val - 2048) = n.val := by omega
    rw [e, v46_at x w l hl, p]
    unfold HinSpec.spec
    rw [dif_pos (by omega)]
    simp only [k]
  rcases lt_or_ge n.val 6144 with h'' | h''
  · have e : val_main_v49 (F := Ideal) x w l (ix3 ⟨r.val / 8192, by omega⟩ ⟨r.val % 8192, by omega⟩ n) = val_main_v24 (F := Ideal) x w (ix3 ⟨r.val / 8192, by omega⟩ ⟨r.val % 8192, by omega⟩ ⟨n.val - 4096, by omega⟩) := by
      pointwise [val_main_v49]
      rw [dif_neg (by omega), dif_neg (by omega), dif_pos (by omega)]
      rfl
    have k : 4096 + (n.val - 4096) = n.val := by omega
    rw [e, v24_at, p]
    unfold HinSpec.spec
    rw [dif_neg (by omega), if_pos (by omega)]
    simp only [k]
  · have e : val_main_v49 (F := Ideal) x w l (ix3 ⟨r.val / 8192, by omega⟩ ⟨r.val % 8192, by omega⟩ n) = val_main_v48 (F := Ideal) x w (ix3 ⟨r.val / 8192, by omega⟩ ⟨r.val % 8192, by omega⟩ ⟨n.val - 2048 - 2048 - 2048, by omega⟩) := by
      pointwise [val_main_v49]
      rw [dif_neg (by omega), dif_neg (by omega), dif_neg (by omega)]
    have k : 6144 + (n.val - 2048 - 2048 - 2048) = n.val := by omega
    rw [e, v25_at, p]
    unfold HinSpec.spec
    rw [dif_neg (by omega), if_neg (by omega)]
    simp only [k]

end Cert.HinRefIdeal.Math

end
-- ==== Proof.HinValue.lean ====
/- The result array of `Hin` (the input projection of the second layer) is the reference's value at every index. -/
module

public import proofs.«01_k».proof.Proof.HinTiles
public import proofs.«01_k».proof.Proof.HinRefValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.HinIdeal.Math

open Cert.HinIdeal Cert.HinIdeal.Gen

variable (m : (ℓ : Loc nD τ sig) → Buf (Elt Ideal) ℓ)

/-- The normed input, the weight and the logits of a launch. -/
abbrev X (c : Dev nD) : FVec Ideal S2x8192x2048 .f32 := m ((c : Thread nD τ).loc main_arg0)
abbrev W (c : Dev nD) : FVec Ideal S2x2048x8192 .f32 := m ((c : Thread nD τ).loc main_arg1)
abbrev L (c : Dev nD) : FVec Ideal S2x2048 .f32 := m ((c : Thread nD τ).loc main_arg2)

/-- Where each window's block stands at each grid point. -/
theorem where_blocks : ∀ t : Fin cfg0.N, win0_0.index t = ![t.val / 16, 0] ∧ win0_1.index t = ![1, 0, t.val % 16]
    ∧ win0_2.index t = ![0, 0] ∧ win0_3.index t = ![t.val / 16, t.val % 16] :=
  (by decide +kernel : ∀ t : Fin grid0.N, _)

theorem flat_x (x : FVec Ideal S2x8192x2048 .f32) (r : Fin 16384) (b : Fin 2048) (h0 : r.val / 8192 < 2) (h1 : r.val % 8192 < 8192) :
    shapeCast S16384x2048 x shapeCasts_S2x8192x2048_S16384x2048 (ix2 r b) = x (ix3 ⟨r.val / 8192, h0⟩ ⟨r.val % 8192, h1⟩ b) := by
  pointwise

/-- The input's block: rows of the flattened input. -/
theorem read_x (c : Dev nD) (t : Fin cfg0.N) (a b : Fin 2048) (h0 : (t.val / 16 * 2048 + a.val) / 8192 < 2)
    (h1 : (t.val / 16 * 2048 + a.val) % 8192 < 8192) :
    iblk m c 0 t (ix2 a b) = X m c (ix3 ⟨(t.val / 16 * 2048 + a.val) / 8192, h0⟩ ⟨(t.val / 16 * 2048 + a.val) % 8192, h1⟩ b) := by
  have e : (show FVec Ideal S16384x2048 .bf16 from V m c main_v1) = truncf (F := Ideal) .bf16 (shapeCast S16384x2048 (X m c) shapeCasts_S2x8192x2048_S16384x2048) bitsLt_bf16_f32 := by
    entry_read; rfl
  have hb : t.val / 16 * 2048 + a.val < 16384 := by have := lt_of_lt_of_eq t.isLt N_0; omega
  have hi : ((cfg0.win 0).blk t).view.emb (ix2 a b) = (ix2 ⟨t.val / 16 * 2048 + a.val, hb⟩ b : S16384x2048.Idx) := by
    blk_ext [where_blocks t]
  refine (congrArg (V m c main_v1) hi).trans ?_
  exact (congrFun e _).trans (flat_x _ _ _ h0 h1)

/-- The weight's block: columns of layer 1's matrix. -/
theorem read_w (c : Dev nD) (t : Fin cfg0.N) (a : Fin 2048) (b : Fin 512) (h : t.val % 16 * 512 + b.val < 8192) :
    iblk m c 1 t (ix3 0 a b) = W m c (ix3 1 a ⟨t.val % 16 * 512 + b.val, h⟩) := by
  have e : (show FVec Ideal S2x2048x8192 .f32 from V m c main_arg1) = W m c := by
    entry_read; rfl
  refine (congrFun e (((cfg0.win 1).blk t).view.emb _)).trans ?_
  congr 1
  blk_ext [where_blocks t]

/-- The logits are whole at every point. -/
theorem read_l (c : Dev nD) (t : Fin cfg0.N) (a : Fin 2) (b : Fin 2048) : iblk m c 2 t (ix2 a b) = L m c (ix2 a b) := by
  have e : (show FVec Ideal S2x2048 .f32 from V m c main_arg2) = L m c := by
    entry_read; rfl
  refine (congrFun e (((cfg0.win 2).blk t).view.emb _)).trans ?_
  congr 1
  blk_ext [where_blocks t]

theorem ld_w (c : Dev nD) (t : Fin cfg0.N) (o : ℕ) (inb) (a : Fin 2048) (b : Fin 256) (h : o + b.val < 512) :
    View.ld (iblk m c 1 t) (Rect.unit (s := S1x2048x512) ![0, 0, o] ![1, 2048, 256] inb) (ix3 0 a b) = iblk m c 1 t (ix3 0 a ⟨o + b.val, h⟩) := by
  pointwise

theorem ld_l (c : Dev nD) (t : Fin cfg0.N) (o : ℕ) (inb) (a : Fin 2) (b : Fin 128) (h : o + b.val < 2048) :
    View.ld (iblk m c 2 t) (Rect.unit (s := S2x2048) ![0, o] ![2, 128] inb) (ix2 a b) = iblk m c 2 t (ix2 a ⟨o + b.val, h⟩) := by
  pointwise

section Tiles

variable (c : Dev nD) (t : Fin cfg0.N) (a : Fin 2048) (r : ℕ) (hr : r < 16384) (n : ℕ) (hn : n < 8192) (o : ℕ)

/-- The product at row `r` and column `n`, from the tile that holds them. -/
theorem mat_proj (inb) (b : Fin 256) (ho : o + 256 ≤ 512) (er : r = t.val / 16 * 2048 + a.val) (en : n = t.val % 16 * 512 + (o + b.val)) :
    mat (iblk m c 0 t) (View.ld (iblk m c 1 t) (Rect.unit (s := S1x2048x512) ![0, 0, o] ![1, 2048, 256] inb)) (ix2 a b) = HinSpec.proj (X m c) (W m c) r hr n hn := by
  subst er en
  rw [mat_at]
  refine Finset.sum_congr rfl fun k _ => ?_
  rw [ld_w m c t o inb k b (by omega), read_x m c t a k (by omega) (by omega), read_w m c t k _ (by simpa using hn)]

theorem left_proj (inb) (b : Fin 128) (ho : o + 256 ≤ 512) (er : r = t.val / 16 * 2048 + a.val) (en : n = t.val % 16 * 512 + (o + b.val)) :
    left (mat (iblk m c 0 t) (View.ld (iblk m c 1 t) (Rect.unit (s := S1x2048x512) ![0, 0, o] ![1, 2048, 256] inb))) (ix2 a b) = HinSpec.proj (X m c) (W m c) r hr n hn := by
  rw [left_at]
  exact mat_proj m c t a r hr n hn o inb _ ho er en

theorem right_proj (inb) (b : Fin 128) (ho : o + 256 ≤ 512) (er : r = t.val / 16 * 2048 + a.val) (en : n = t.val % 16 * 512 + (o + 128 + b.val)) :
    right (mat (iblk m c 0 t) (View.ld (iblk m c 1 t) (Rect.unit (s := S1x2048x512) ![0, 0, o] ![1, 2048, 256] inb))) (ix2 a b) = HinSpec.proj (X m c) (W m c) r hr n hn := by
  rw [right_at]
  exact mat_proj m c t a r hr n hn o inb _ ho er (by simp only []; omega)

variable (p : FVec Ideal S2048x128 .f32) (b : Fin 128) (hp : p (ix2 a b) = HinSpec.proj (X m c) (W m c) r hr n hn)

include hp in
theorem plain_spec (h : 4096 ≤ n ∧ n < 6144) : p (ix2 a b) = HinSpec.spec (X m c) (W m c) (L m c) r hr n hn := by
  unfold HinSpec.spec
  rw [hp, dif_neg (by omega), if_pos h]

include hp in
theorem silu_spec (h : n < 2048 ∨ 6144 ≤ n) : silu p (ix2 a b) = HinSpec.spec (X m c) (W m c) (L m c) r hr n hn := by
  unfold HinSpec.spec
  rw [silu_at, hp, dif_neg (by omega), if_neg (by omega)]

include hp in
theorem forget_spec (inb) (h : 2048 ≤ n ∧ n < 4096) (ho : o + 128 ≤ 2048) (en : n = 2048 + (o + b.val)) :
    forget p (View.ld (iblk m c 2 t) (Rect.unit (s := S2x2048) ![0, o] ![2, 128] inb)) (ix2 a b)
      = HinSpec.spec (X m c) (W m c) (L m c) r hr n hn := by
  unfold HinSpec.spec
  rw [forget_at, hp, dif_pos h, ld_l m c t o inb 0 b (by omega), ld_l m c t o inb 1 b (by omega), read_l, read_l]
  have k : n - 2048 = o + b.val := by omega
  simp only [k]

end Tiles

/-- What a point of the silu columns leaves in its block. -/
theorem pointA (c : Dev nD) (t : Fin cfg0.N) (hA : ¬(4 ≤ t.val % 16 ∧ t.val % 16 ≤ 11))
    (y : S2048x512.Idx) (r : ℕ) (hr : r < 16384) (n : ℕ) (hn : n < 8192) (er : r = t.val / 16 * 2048 + (y 0).val) (en : n = t.val % 16 * 512 + (y 1).val) :
    outsAt0 m c t.val t.isLt y = HinSpec.spec (X m c) (W m c) (L m c) r hr n hn := by
  have y1 : (y 1).val < 512 := (y 1).isLt
  rw [outsAt0_A m c t hA (by omega) (by omega) (by omega) (by omega) (by omega)]
  frame_out
  canon_tiles x h
  case piece3 =>
    rw [eq_ix2 x]
    have hp := left_proj m c t (x 0) r hr n hn 0 inb_S1x2048x512_S1x2048x256_0_0_0 (x 1) (by omega) (by omega) (by omega)
    exact silu_spec m c (x 0) r hr n hn _ (x 1) hp (by omega)
  case piece2 =>
    rw [eq_ix2 x]
    have hp := right_proj m c t (x 0) r hr n hn 0 inb_S1x2048x512_S1x2048x256_0_0_0 (x 1) (by omega) (by omega) (by omega)
    exact silu_spec m c (x 0) r hr n hn _ (x 1) hp (by omega)
  case piece1 =>
    rw [eq_ix2 x]
    have hp := left_proj m c t (x 0) r hr n hn 256 inb_S1x2048x512_S1x2048x256_0_0_256 (x 1) (by omega) (by omega) (by omega)
    exact silu_spec m c (x 0) r hr n hn _ (x 1) hp (by omega)
  case piece0 =>
    rw [eq_ix2 x]
    have hp := right_proj m c t (x 0) r hr n hn 256 inb_S1x2048x512_S1x2048x256_0_0_256 (x 1) (by omega) (by omega) (by omega)
    exact silu_spec m c (x 0) r hr n hn _ (x 1) hp (by omega)

/-- What a point of the forget columns leaves in its block. -/
theorem pointB (c : Dev nD) (t : Fin cfg0.N) (hA : t.val % 16 = 4)
    (y : S2048x512.Idx) (r : ℕ) (hr : r < 16384) (n : ℕ) (hn : n < 8192) (er : r = t.val / 16 * 2048 + (y 0).val) (en : n = t.val % 16 * 512 + (y 1).val) :
    outsAt0 m c t.val t.isLt y = HinSpec.spec (X m c) (W m c) (L m c) r hr n hn := by
  have y1 : (y 1).val < 512 := (y 1).isLt
  rw [outsAt0_B m c t (by omega) hA (by omega) (by omega) (by omega) (by omega)]
  frame_out
  canon_tiles x h
  case piece3 =>
    rw [eq_ix2 x]
    have hp := left_proj m c t (x 0) r hr n hn 0 inb_S1x2048x512_S1x2048x256_0_0_0 (x 1) (by omega) (by omega) (by omega)
    exact forget_spec m c t (x 0) r hr n hn 0 _ (x 1) hp inb_S2x2048_S2x128_0_0 (by omega) (by omega) (by omega)
  case piece2 =>
    rw [eq_ix2 x]
    have hp := right_proj m c t (x 0) r hr n hn 0 inb_S1x2048x512_S1x2048x256_0_0_0 (x 1) (by omega) (by omega) (by omega)
    exact forget_spec m c t (x 0) r hr n hn 128 _ (x 1) hp inb_S2x2048_S2x128_0_128 (by omega) (by omega) (by omega)
  case piece1 =>
    rw [eq_ix2 x]
    have hp := left_proj m c t (x 0) r hr n hn 256 inb_S1x2048x512_S1x2048x256_0_0_256 (x 1) (by omega) (by omega) (by omega)
    exact forget_spec m c t (x 0) r hr n hn 256 _ (x 1) hp inb_S2x2048_S2x128_0_256 (by omega) (by omega) (by omega)
  case piece0 =>
    rw [eq_ix2 x]
    have hp := right_proj m c t (x 0) r hr n hn 256 inb_S1x2048x512_S1x2048x256_0_0_256 (x 1) (by omega) (by omega) (by omega)
    exact forget_spec m c t (x 0) r hr n hn 384 _ (x 1) hp inb_S2x2048_S2x128_0_384 (by omega) (by omega) (by omega)

/-- What a point of the forget columns leaves in its block. -/
theorem pointC (c : Dev nD) (t : Fin cfg0.N) (hA : t.val % 16 = 5)
    (y : S2048x512.Idx) (r : ℕ) (hr : r < 16384) (n : ℕ) (hn : n < 8192) (er : r = t.val / 16 * 2048 + (y 0).val) (en : n = t.val % 16 * 512 + (y 1).val) :
    outsAt0 m c t.val t.isLt y = HinSpec.spec (X m c) (W m c) (L m c) r hr n hn := by
  have y1 : (y 1).val < 512 := (y 1).isLt
  rw [outsAt0_C m c t (by omega) (by omega) hA (by omega) (by omega) (by omega)]
  frame_out
  canon_tiles x h
  case piece3 =>
    rw [eq_ix2 x]
    have hp := left_proj m c t (x 0) r hr n hn 0 inb_S1x2048x512_S1x2048x256_0_0_0 (x 1) (by omega) (by omega) (by omega)
    exact forget_spec m c t (x 0) r hr n hn 512 _ (x 1) hp inb_S2x2048_S2x128_0_512 (by omega) (by omega) (by omega)
  case piece2 =>
    rw [eq_ix2 x]
    have hp := right_proj m c t (x 0) r hr n hn 0 inb_S1x2048x512_S1x2048x256_0_0_0 (x 1) (by omega) (by omega) (by omega)
    exact forget_spec m c t (x 0) r hr n hn 640 _ (x 1) hp inb_S2x2048_S2x128_0_640 (by omega) (by omega) (by omega)
  case piece1 =>
    rw [eq_ix2 x]
    have hp := left_proj m c t (x 0) r hr n hn 256 inb_S1x2048x512_S1x2048x256_0_0_256 (x 1) (by omega) (by omega) (by omega)
    exact forget_spec m c t (x 0) r hr n hn 768 _ (x 1) hp inb_S2x2048_S2x128_0_768 (by omega) (by omega) (by omega)
  case piece0 =>
    rw [eq_ix2 x]
    have hp := right_proj m c t (x 0) r hr n hn 256 inb_S1x2048x512_S1x2048x256_0_0_256 (x 1) (by omega) (by omega) (by omega)
    exact forget_spec m c t (x 0) r hr n hn 896 _ (x 1) hp inb_S2x2048_S2x128_0_896 (by omega) (by omega) (by omega)

/-- What a point of the forget columns leaves in its block. -/
theorem pointD (c : Dev nD) (t : Fin cfg0.N) (hA : t.val % 16 = 6)
    (y : S2048x512.Idx) (r : ℕ) (hr : r < 16384) (n : ℕ) (hn : n < 8192) (er : r = t.val / 16 * 2048 + (y 0).val) (en : n = t.val % 16 * 512 + (y 1).val) :
    outsAt0 m c t.val t.isLt y = HinSpec.spec (X m c) (W m c) (L m c) r hr n hn := by
  have y1 : (y 1).val < 512 := (y 1).isLt
  rw [outsAt0_D m c t (by omega) (by omega) (by omega) hA (by omega) (by omega)]
  frame_out
  canon_tiles x h
  case piece3 =>
    rw [eq_ix2 x]
    have hp := left_proj m c t (x 0) r hr n hn 0 inb_S1x2048x512_S1x2048x256_0_0_0 (x 1) (by omega) (by omega) (by omega)
    exact forget_spec m c t (x 0) r hr n hn 1024 _ (x 1) hp inb_S2x2048_S2x128_0_1024 (by omega) (by omega) (by omega)
  case piece2 =>
    rw [eq_ix2 x]
    have hp := right_proj m c t (x 0) r hr n hn 0 inb_S1x2048x512_S1x2048x256_0_0_0 (x 1) (by omega) (by omega) (by omega)
    exact forget_spec m c t (x 0) r hr n hn 1152 _ (x 1) hp inb_S2x2048_S2x128_0_1152 (by omega) (by omega) (by omega)
  case piece1 =>
    rw [eq_ix2 x]
    have hp := left_proj m c t (x 0) r hr n hn 256 inb_S1x2048x512_S1x2048x256_0_0_256 (x 1) (by omega) (by omega) (by omega)
    exact forget_spec m c t (x 0) r hr n hn 1280 _ (x 1) hp inb_S2x2048_S2x128_0_1280 (by omega) (by omega) (by omega)
  case piece0 =>
    rw [eq_ix2 x]
    have hp := right_proj m c t (x 0) r hr n hn 256 inb_S1x2048x512_S1x2048x256_0_0_256 (x 1) (by omega) (by omega) (by omega)
    exact forget_spec m c t (x 0) r hr n hn 1408 _ (x 1) hp inb_S2x2048_S2x128_0_1408 (by omega) (by omega) (by omega)

/-- What a point of the forget columns leaves in its block. -/
theorem pointE (c : Dev nD) (t : Fin cfg0.N) (hA : t.val % 16 = 7)
    (y : S2048x512.Idx) (r : ℕ) (hr : r < 16384) (n : ℕ) (hn : n < 8192) (er : r = t.val / 16 * 2048 + (y 0).val) (en : n = t.val % 16 * 512 + (y 1).val) :
    outsAt0 m c t.val t.isLt y = HinSpec.spec (X m c) (W m c) (L m c) r hr n hn := by
  have y1 : (y 1).val < 512 := (y 1).isLt
  rw [outsAt0_E m c t (by omega) (by omega) (by omega) (by omega) hA (by omega)]
  frame_out
  canon_tiles x h
  case piece3 =>
    rw [eq_ix2 x]
    have hp := left_proj m c t (x 0) r hr n hn 0 inb_S1x2048x512_S1x2048x256_0_0_0 (x 1) (by omega) (by omega) (by omega)
    exact forget_spec m c t (x 0) r hr n hn 1536 _ (x 1) hp inb_S2x2048_S2x128_0_1536 (by omega) (by omega) (by omega)
  case piece2 =>
    rw [eq_ix2 x]
    have hp := right_proj m c t (x 0) r hr n hn 0 inb_S1x2048x512_S1x2048x256_0_0_0 (x 1) (by omega) (by omega) (by omega)
    exact forget_spec m c t (x 0) r hr n hn 1664 _ (x 1) hp inb_S2x2048_S2x128_0_1664 (by omega) (by omega) (by omega)
  case piece1 =>
    rw [eq_ix2 x]
    have hp := left_proj m c t (x 0) r hr n hn 256 inb_S1x2048x512_S1x2048x256_0_0_256 (x 1) (by omega) (by omega) (by omega)
    exact forget_spec m c t (x 0) r hr n hn 1792 _ (x 1) hp inb_S2x2048_S2x128_0_1792 (by omega) (by omega) (by omega)
  case piece0 =>
    rw [eq_ix2 x]
    have hp := right_proj m c t (x 0) r hr n hn 256 inb_S1x2048x512_S1x2048x256_0_0_256 (x 1) (by omega) (by omega) (by omega)
    exact forget_spec m c t (x 0) r hr n hn 1920 _ (x 1) hp inb_S2x2048_S2x128_0_1920 (by omega) (by omega) (by omega)

/-- What a point of the plain columns leaves in its block. -/
theorem pointF (c : Dev nD) (t : Fin cfg0.N) (hA : 8 ≤ t.val % 16 ∧ t.val % 16 ≤ 11)
    (y : S2048x512.Idx) (r : ℕ) (hr : r < 16384) (n : ℕ) (hn : n < 8192) (er : r = t.val / 16 * 2048 + (y 0).val) (en : n = t.val % 16 * 512 + (y 1).val) :
    outsAt0 m c t.val t.isLt y = HinSpec.spec (X m c) (W m c) (L m c) r hr n hn := by
  have y1 : (y 1).val < 512 := (y 1).isLt
  rw [outsAt0_F m c t (by omega) (by omega) (by omega) (by omega) (by omega) hA]
  frame_out
  canon_tiles x h
  case piece3 =>
    rw [eq_ix2 x]
    have hp := left_proj m c t (x 0) r hr n hn 0 inb_S1x2048x512_S1x2048x256_0_0_0 (x 1) (by omega) (by omega) (by omega)
    exact plain_spec m c (x 0) r hr n hn _ (x 1) hp (by omega)
  case piece2 =>
    rw [eq_ix2 x]
    have hp := right_proj m c t (x 0) r hr n hn 0 inb_S1x2048x512_S1x2048x256_0_0_0 (x 1) (by omega) (by omega) (by omega)
    exact plain_spec m c (x 0) r hr n hn _ (x 1) hp (by omega)
  case piece1 =>
    rw [eq_ix2 x]
    have hp := left_proj m c t (x 0) r hr n hn 256 inb_S1x2048x512_S1x2048x256_0_0_256 (x 1) (by omega) (by omega) (by omega)
    exact plain_spec m c (x 0) r hr n hn _ (x 1) hp (by omega)
  case piece0 =>
    rw [eq_ix2 x]
    have hp := right_proj m c t (x 0) r hr n hn 256 inb_S1x2048x512_S1x2048x256_0_0_256 (x 1) (by omega) (by omega) (by omega)
    exact plain_spec m c (x 0) r hr n hn _ (x 1) hp (by omega)

/-- For finite logits the array of the kernel is the array of the reference. -/
theorem final (c : Dev nD) (hl : ∀ i, L m c i ≠ ⊤ ∧ L m c i ≠ ⊥) :
    (dats m 0 c).arrAt 3 (cfgs 0).N = Cert.HinRefIdeal.Read.val_main_v50 (F := Ideal) (X m c) (W m c) (L m c) := by
  refine (dats m 0 c).arrAt_eq_of_covers 3 _ (by decide +kernel) fun t hf y => ?_
  have hN := lt_of_lt_of_eq t.isLt N_0
  have y0 : (y 0).val < 2048 := (y 0).isLt
  have y1 : (y 1).val < 512 := (y 1).isLt
  blk_simp
  rw [after0_3]
  have hi : ((cfg0.win 3).blk t).view.emb y = (ix2 ⟨t.val / 16 * 2048 + (y 0).val, by omega⟩ ⟨t.val % 16 * 512 + (y 1).val, by omega⟩ : S16384x8192.Idx) := by
    blk_ext [where_blocks t]
  refine Eq.trans ?_ (congrArg (Cert.HinRefIdeal.Read.val_main_v50 (F := Ideal) (X m c) (W m c) (L m c)) hi).symm
  rw [Cert.HinRefIdeal.Math.array_at _ _ _ hl]
  rcases (by omega : ¬(4 ≤ t.val % 16 ∧ t.val % 16 ≤ 11) ∨ t.val % 16 = 4 ∨ t.val % 16 = 5 ∨ t.val % 16 = 6 ∨ t.val % 16 = 7 ∨ (8 ≤ t.val % 16 ∧ t.val % 16 ≤ 11)) with h | h | h | h | h | h
  · exact pointA m c t h y _ _ _ _ rfl rfl
  · exact pointB m c t h y _ _ _ _ rfl rfl
  · exact pointC m c t h y _ _ _ _ rfl rfl
  · exact pointD m c t h y _ _ _ _ rfl rfl
  · exact pointE m c t h y _ _ _ _ rfl rfl
  · exact pointF m c t h y _ _ _ _ rfl rfl

end Cert.HinIdeal.Math

end
-- ==== Proof.HmidValue.lean ====
/- The two result arrays of `Hmid` (the end of the second layer) are the reference's values at every index: the product with the
   weight, the residual and the norm are the same expression on both sides, read at flattened rows. -/
module

public import proofs.«01_k».proof.Proof.Gen.HmidIdeal.Value
public import proofs.«01_k».proof.Proof.Gen.HmidRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.HmidIdeal.Math

open Cert.HmidIdeal Cert.HmidIdeal.Gen
open Cert.HmidRefIdeal.Read

variable (m : (ℓ : Loc nD τ sig) → Buf (Elt Ideal) ℓ)

/-- Where each window's block stands at each grid point: the row blocks move, the weight and the norm stay. -/
theorem where_blocks : ∀ t : Fin cfg0.N, win0_0.index t = ![t.val, 0] ∧ win0_1.index t = ![t.val, 0]
    ∧ win0_2.index t = ![0, 0, 0] ∧ win0_3.index t = ![0, 0] ∧ win0_4.index t = ![t.val, 0] ∧ win0_5.index t = ![t.val, 0] :=
  (by decide +kernel : ∀ t : Fin grid0.N, _)

/-- Rows of the flattened residual: row `r` is row `r % 8192` of batch `r / 8192`. -/
theorem flat_x (X : FVec Ideal S2x8192x2048 .f32) (r : Fin 16384) (b : Fin 2048) (h0 : r.val / 8192 < 2) (h1 : r.val % 8192 < 8192) :
    shapeCast S16384x2048 X shapeCasts_S2x8192x2048_S16384x2048 (ix2 r b) = X (ix3 ⟨r.val / 8192, h0⟩ ⟨r.val % 8192, h1⟩ b) := by
  pointwise

/-- The residual block at row `a`, column `b`, of point `t`: row `512 t + a` of the flattened input. -/
theorem read_x (c : Dev nD) (t : Fin cfg0.N) (a : Fin 512) (b : Fin 2048) (h0 : (t.val * 512 + a.val) / 8192 < 2)
    (h1 : (t.val * 512 + a.val) % 8192 < 8192) :
    iblk m c 0 t (ix2 a b) = m ((c : Thread nD τ).loc main_arg0)
      (ix3 ⟨(t.val * 512 + a.val) / 8192, h0⟩ ⟨(t.val * 512 + a.val) % 8192, h1⟩ b) := by
  have e : (show FVec Ideal S16384x2048 .f32 from V m c main_v0) = shapeCast S16384x2048 (m ((c : Thread nD τ).loc main_arg0)) shapeCasts_S2x8192x2048_S16384x2048 := by
    entry_read; rfl
  have hb : t.val * 512 + a.val < 16384 := by have := lt_of_lt_of_eq t.isLt N_0; omega
  have hi : ((cfg0.win 0).blk t).view.emb (ix2 a b) = (ix2 ⟨t.val * 512 + a.val, hb⟩ b : S16384x2048.Idx) := by
    blk_ext [where_blocks t]
  refine (congrArg (V m c main_v0) hi).trans ?_
  exact (congrFun e _).trans (flat_x _ _ _ h0 h1)

/-- The gated mixer block, likewise. -/
theorem read_o (c : Dev nD) (t : Fin cfg0.N) (a : Fin 512) (b : Fin 2048) (h0 : (t.val * 512 + a.val) / 8192 < 2)
    (h1 : (t.val * 512 + a.val) % 8192 < 8192) :
    iblk m c 1 t (ix2 a b) = m ((c : Thread nD τ).loc main_arg1)
      (ix3 ⟨(t.val * 512 + a.val) / 8192, h0⟩ ⟨(t.val * 512 + a.val) % 8192, h1⟩ b) := by
  have e : (show FVec Ideal S16384x2048 .bf16 from V m c main_v2) = truncf (F := Ideal) .bf16 (shapeCast S16384x2048 (m ((c : Thread nD τ).loc main_arg1)) shapeCasts_S2x8192x2048_S16384x2048) bitsLt_bf16_f32 := by
    entry_read; rfl
  have hb : t.val * 512 + a.val < 16384 := by have := lt_of_lt_of_eq t.isLt N_0; omega
  have hi : ((cfg0.win 1).blk t).view.emb (ix2 a b) = (ix2 ⟨t.val * 512 + a.val, hb⟩ b : S16384x2048.Idx) := by
    blk_ext [where_blocks t]
  refine (congrArg (V m c main_v2) hi).trans ?_
  exact (congrFun e _).trans (flat_x _ _ _ h0 h1)

/-- The weight's block is layer 0's matrix at every point. -/
theorem read_w (c : Dev nD) (t : Fin cfg0.N) (a b : Fin 2048) :
    iblk m c 2 t (ix3 0 a b) = m ((c : Thread nD τ).loc main_arg2) (ix3 0 a b) := by
  have e : (show FVec Ideal S2x2048x2048 .bf16 from V m c main_v3) = truncf (F := Ideal) .bf16 (m ((c : Thread nD τ).loc main_arg2)) bitsLt_bf16_f32 := by
    entry_read; rfl
  refine (congrFun e (((cfg0.win 2).blk t).view.emb _)).trans ?_
  pointwise
  blk_ext [where_blocks t]

/-- The norm's weight is whole at every point. -/
theorem read_n (c : Dev nD) (t : Fin cfg0.N) (b : Fin 2048) :
    iblk m c 3 t (ix2 0 b) = m ((c : Thread nD τ).loc main_arg3) (ix1 b) := by
  have e : (show FVec Ideal S1x2048 .f32 from V m c main_v4) = shapeCast S1x2048 (m ((c : Thread nD τ).loc main_arg3)) shapeCasts_S2048_S1x2048 := by
    entry_read; rfl
  refine (congrFun e (((cfg0.win 3).blk t).view.emb _)).trans ?_
  pointwise
  blk_ext [where_blocks t]

/-- One row block: what point `t` stores is the reference at the block's place in the array. -/
theorem tile_4 (c : Dev nD) (t : Fin cfg0.N) (a : Fin 512) (b : Fin 2048) (h : t.val * 512 + a.val < 16384) :
    k0_pay1 (iblk m c 0 t) (iblk m c 1 t) (iblk m c 2 t) (ix2 a b)
      = val_main_v4 (F := Ideal) (m ((c : Thread nD τ).loc main_arg0)) (m ((c : Thread nD τ).loc main_arg1))
          (m ((c : Thread nD τ).loc main_arg2)) (ix2 ⟨t.val * 512 + a.val, h⟩ b) := by
  have h0 : (t.val * 512 + a.val) / 8192 < 2 := by omega
  have h1 : (t.val * 512 + a.val) % 8192 < 8192 := by omega
  pointwise [k0_pay1, k0_pay2, val_main_v4, val_main_v3, val_main_v2, val_main_v1, val_main_v0]
  simp only [read_x m c t _ _ h0 h1, read_o m c t _ _ h0 h1, read_w, read_n]

theorem final_4 (c : Dev nD) : (dats m 0 c).arrAt 4 (cfgs 0).N
    = val_main_v4 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  blk_simp
  rw [after0_4]
  frame_out
  have hy := tile_4 m c t (y 0) (y 1) (by have := lt_of_lt_of_eq t.isLt N_0; have : (y 0).val < 512 := (y 0).isLt; omega)
  rw [← eq_ix2 y] at hy
  rw [hy]
  congr 1
  blk_ext [where_blocks t]

/-- One row block: what point `t` stores is the reference at the block's place in the array. -/
theorem tile_5 (c : Dev nD) (t : Fin cfg0.N) (a : Fin 512) (b : Fin 2048) (h : t.val * 512 + a.val < 16384) :
    k0_pay2 (iblk m c 0 t) (iblk m c 1 t) (iblk m c 2 t) (iblk m c 3 t) (ix2 a b)
      = val_main_v19 (F := Ideal) (m ((c : Thread nD τ).loc main_arg0)) (m ((c : Thread nD τ).loc main_arg1))
          (m ((c : Thread nD τ).loc main_arg2)) (m ((c : Thread nD τ).loc main_arg3)) (ix2 ⟨t.val * 512 + a.val, h⟩ b) := by
  have h0 : (t.val * 512 + a.val) / 8192 < 2 := by omega
  have h1 : (t.val * 512 + a.val) % 8192 < 8192 := by omega
  pointwise [k0_pay1, k0_pay2, val_main_v19, val_main_v18, val_main_v17, val_main_v16, val_main_v15, val_main_v14, val_main_v13, val_main_v12, val_main_v11, val_main_v10, val_main_v9, val_main_v8, val_main_v7, val_main_v6, val_main_v5, val_main_v3, val_main_v2, val_main_v1, val_main_v0, val_main_cst, val_main_cst_0, val_main_cst_1]
  simp only [read_x m c t _ _ h0 h1, read_o m c t _ _ h0 h1, read_w, read_n]

theorem final_5 (c : Dev nD) : (dats m 0 c).arrAt 5 (cfgs 0).N
    = val_main_v19 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp
  rw [after0_5]
  frame_out
  have hy := tile_5 m c t (y 0) (y 1) (by have := lt_of_lt_of_eq t.isLt N_0; have : (y 0).val < 512 := (y 0).isLt; omega)
  rw [← eq_ix2 y] at hy
  rw [hy]
  congr 1
  blk_ext [where_blocks t]

end Cert.HmidIdeal.Math

end
-- ==== Proof.RopeSpec.lean ====
/- One number of the attention layer's input projection: the product with the weight, turned by its position where the
   column is rotated, and scaled where it is a query. -/
module

public import Idealize.ShloMosaic.Lib.Pipeline.ValueKit

@[expose] public section

noncomputable section

open Idealize.ShloMosaic

namespace Cert.RopeSpec

/-- The frequency of pair `i`. -/
def freq (i : ℕ) : EReal :=
  Ideal.pow (Ideal.ofBits .f32 0x48F42400#32) (Ideal.div (-(((BitVec.ofNat 32 i).toInt : ℝ) : EReal)) (Ideal.ofBits .f32 0x41800000#32))

/-- The position of row `r` of the flattened batch. -/
def pos (p : IVec ⟨2, ![2, 8192]⟩ 32) (r : ℕ) (hr : r < 16384) : EReal :=
  (((p (ix2 ⟨r / 8192, by omega⟩ ⟨r % 8192, by omega⟩)).toInt : ℝ) : EReal)

/-- Lane `l` of a head after the rotation: lanes `i` and `16 + i` turn by the angle of pair `i`, the others stay. -/
def turn (f : ℕ → EReal) (s : EReal) (l : ℕ) : EReal :=
  if l < 16 then f l * Ideal.cos (s * freq l) - f (16 + l) * Ideal.sin (s * freq l)
  else if l < 32 then f l * Ideal.cos (s * freq (l - 16)) + f (l - 16) * Ideal.sin (s * freq (l - 16))
  else f l

/-- The frequency by lane. -/
def lane (l : ℕ) : EReal := if l < 16 then freq l else if l < 32 then freq (l - 16) else 0

/-- The rotation by two rolls and three tables, as the kernel forms it. -/
theorem rolled (f : ℕ → EReal) (s : EReal) (l : ℕ) (hl : l < 128) :
    f l * Ideal.cos (s * lane l) + f ((l + 16) % 128) * (if l < 16 then -Ideal.sin (s * lane l) else 0)
      + f ((l + 112) % 128) * (if l < 16 then 0 else Ideal.sin (s * lane l)) = turn f s l := by
  unfold turn lane
  rcases lt_or_ge l 16 with h | h
  · have e : (l + 16) % 128 = 16 + l := by omega
    simp only [if_pos h, e, mul_zero, add_zero]
    rw [sub_eq_add_neg, mul_neg]
  rcases lt_or_ge l 32 with h' | h'
  · have e : (l + 112) % 128 = l - 16 := by omega
    simp only [if_neg (not_lt.mpr h), if_pos h', e, mul_zero, add_zero]
  · have c : Ideal.cos 0 = 1 := by
      show ((Real.cos 0 : ℝ) : EReal) = 1
      rw [Real.cos_zero]; rfl
    have z : Ideal.sin 0 = 0 := by
      show ((Real.sin 0 : ℝ) : EReal) = 0
      rw [Real.sin_zero]; rfl
    simp only [if_neg (not_lt.mpr h), if_neg (not_lt.mpr h'), mul_zero, c, z, mul_one, add_zero]

/-- Row `r` of the input times column `n` of layer 1's weight. -/
def proj (x : FVec Ideal ⟨3, ![2, 8192, 2048]⟩ .f32) (w : FVec Ideal ⟨3, ![2, 2048, 7216]⟩ .f32) (r : ℕ) (hr : r < 16384) (n : ℕ) : EReal :=
  if hn : n < 7216 then ∑ k : Fin 2048, x (ix3 ⟨r / 8192, by omega⟩ ⟨r % 8192, by omega⟩ k) * w (ix3 1 k ⟨n, hn⟩) else 0

/-- The column of the weight that column `n` of `Pb` comes from: queries, then keys of the two branches, then their values. -/
def colB (n : ℕ) : ℕ :=
  if n < 2048 then n else if n < 2560 then n + 1024 else if n < 3072 then n + 1536 else if n < 3584 then n + 512 else n + 1024

/-- A head's lanes stand beside each other in the weight too. -/
theorem colB_lane (n l : ℕ) (hn : n < 4096) (hl : l < 128) : colB (n / 128 * 128 + l) = colB (n / 128 * 128) + l := by
  unfold colB
  split_ifs <;> omega

/-- Column `n` of `Pb`. -/
def specB (x : FVec Ideal ⟨3, ![2, 8192, 2048]⟩ .f32) (p : IVec ⟨2, ![2, 8192]⟩ 32) (w : FVec Ideal ⟨3, ![2, 2048, 7216]⟩ .f32)
    (r : ℕ) (hr : r < 16384) (n : ℕ) : EReal :=
  if n < 2048 then turn (fun l => proj x w r hr (colB (n / 128 * 128 + l))) (pos p r hr) (n % 128) * (((√128 * Real.log 2)⁻¹ : ℝ) : EReal)
  else if n < 3072 then turn (fun l => proj x w r hr (colB (n / 128 * 128 + l))) (pos p r hr) (n % 128)
  else proj x w r hr (colB n)

/-- The column of the weight that column `n` of `Pf` comes from: the gate path, keys and values to compress, gates, and
    beyond the weight where `Pf` is padded. -/
def colF (n : ℕ) : ℕ :=
  if n < 2048 then 5168 + n else if n < 3072 then n else if n < 3120 then n + 2048 else 7216

/-- Column `n` of `Pf`. -/
def specF (x : FVec Ideal ⟨3, ![2, 8192, 2048]⟩ .f32) (p : IVec ⟨2, ![2, 8192]⟩ 32) (w : FVec Ideal ⟨3, ![2, 2048, 7216]⟩ .f32)
    (r : ℕ) (hr : r < 16384) (n : ℕ) : EReal :=
  if 2048 ≤ n ∧ n < 2560 then turn (fun l => proj x w r hr (colF (n / 128 * 128 + l))) (pos p r hr) (n % 128)
  else proj x w r hr (colF n)

end Cert.RopeSpec

end
-- ==== Proof.PbTiles.lean ====
/- The work of one tile of `Pb`, as the kernel's operations name it, and its value at an index. -/
module

public import proofs.«01_k».proof.Proof.Gen.PbIdeal.Value
public import proofs.«01_k».proof.Proof.RopeSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PbIdeal.Math

open Cert.PbIdeal Cert.PbIdeal.Gen

/-- The product of the row tile with 256 columns of the weight. -/
def mat (x : Vec Ideal S2048x2048 .bf16) (w : Vec Ideal S1x2048x256 .bf16) : FVec Ideal S2048x256 .f32 :=
  matmul (F := Ideal) (φ₁ := .bf16) (φ₂ := .bf16) dot_S2048x2048_S2048x256_S2048x256_1_0_0_1_n_n none (shapeCast S2048x2048 x shapeCasts_S2048x2048_S2048x2048)
    (shapeCast S2048x256 w shapeCasts_S1x2048x256_S2048x256) (constant S2048x256 .f32 0x00000000#32)

/-- Its left and right halves. -/
def left (p : FVec Ideal S2048x256 .f32) : FVec Ideal S2048x128 .f32 :=
  extractStridedSlice S2048x128 ![0, 0] p slices_S2048x256_o0_0_S2048x128
def right (p : FVec Ideal S2048x256 .f32) : FVec Ideal S2048x128 .f32 :=
  extractStridedSlice S2048x128 ![0, 128] p slices_S2048x256_o0_128_S2048x128

/-- The rotation of one head by the three tables. -/
def rope (t : FVec Ideal S2048x128 .f32) (u v w : Vec Ideal S2048x128 .f32) : FVec Ideal S2048x128 .f32 :=
  have a1 : FVec Ideal S2048x128 .f32 := shapeCast S2048x128 u shapeCasts_S2048x128_S2048x128
  have a2 : FVec Ideal S2048x128 .f32 := mulf t a1
  have a3 : FVec Ideal S2048x128 .f32 := dynamicRotate 1 112#32 none t rotates_S2048x128_d1
  have a4 : FVec Ideal S2048x128 .f32 := shapeCast S2048x128 v shapeCasts_S2048x128_S2048x128
  have a5 : FVec Ideal S2048x128 .f32 := mulf a3 a4
  have a6 : FVec Ideal S2048x128 .f32 := addf a2 a5
  have a7 : FVec Ideal S2048x128 .f32 := dynamicRotate 1 16#32 none t rotates_S2048x128_d1
  have a8 : FVec Ideal S2048x128 .f32 := shapeCast S2048x128 w shapeCasts_S2048x128_S2048x128
  have a9 : FVec Ideal S2048x128 .f32 := mulf a7 a8
  addf a6 a9

/-- The scale of the queries. -/
def scaled (t : FVec Ideal S2048x128 .f32) : FVec Ideal S2048x128 .f32 :=
  have c : Ideal .f32 := Named.named κ "scale" 0x3E0293EE#32
  mulf t (broadcast S2048x128 c)

theorem left_at (p : FVec Ideal S2048x256 .f32) (a : Fin 2048) (b : Fin 128) : left p (ix2 a b) = p (ix2 a ⟨b.val, by omega⟩) := by
  pointwise [left]

theorem right_at (p : FVec Ideal S2048x256 .f32) (a : Fin 2048) (b : Fin 128) : right p (ix2 a b) = p (ix2 a ⟨128 + b.val, by omega⟩) := by
  pointwise [right]

theorem mat_at (x : Vec Ideal S2048x2048 .bf16) (w : Vec Ideal S1x2048x256 .bf16) (a : Fin 2048) (b : Fin 256) :
    mat x w (ix2 a b) = ∑ k : Fin 2048, (x (ix2 a k) : EReal) * w (ix3 0 k b) := by
  pointwise [mat]

theorem scaled_at (t : FVec Ideal S2048x128 .f32) (a : Fin 2048) (b : Fin 128) :
    scaled t (ix2 a b) = t (ix2 a b) * (((√128 * Real.log 2)⁻¹ : ℝ) : EReal) := by
  rfl

theorem rope_at (t : FVec Ideal S2048x128 .f32) (u v w : Vec Ideal S2048x128 .f32) (a : Fin 2048) (b : Fin 128) :
    rope t u v w (ix2 a b) = t (ix2 a b) * u (ix2 a b) + t (ix2 a ⟨(b.val + 16) % 128, by omega⟩) * v (ix2 a b)
      + t (ix2 a ⟨(b.val + 112) % 128, by omega⟩) * w (ix2 a b) := by
  pointwise [rope]
  have e1 : (b.val + 128 - 112) % 128 = (b.val + 16) % 128 := by omega
  have e2 : (b.val + 128 - 16) % 128 = (b.val + 112) % 128 := by omega
  simp only [e1, e2]

end Cert.PbIdeal.Math

end
-- ==== Proof.PbReads.lean ====
/- The blocks that `Pb` reads, in terms of its arguments: the input, the columns of the weight, and the tables of the rotation. -/
module

public import proofs.«01_k».proof.Proof.PbTiles

@[expose] public section

set_option maxRecDepth 16384

noncomputable section

open Idealize.ShloMosaic Idealize.ShloMosaic.TcCoe Idealize.SL.Sem

namespace Cert.PbIdeal.Math

open Cert.PbIdeal Cert.PbIdeal.Gen

variable (m : (ℓ : Loc nD τ sig) → Buf (Elt Ideal) ℓ)

/-- The normed input, the positions and the weight of a launch. -/
abbrev X (c : Dev nD) : FVec Ideal S2x8192x2048 .f32 := m ((c : Thread nD τ).loc main_arg0)
abbrev P (c : Dev nD) : IVec S2x8192 32 := m ((c : Thread nD τ).loc main_arg1)
abbrev W (c : Dev nD) : FVec Ideal S2x2048x7216 .f32 := m ((c : Thread nD τ).loc main_arg2)

/-- Where each window's block stands at each grid point. -/
theorem where_blocks : ∀ t : Fin cfg0.N, win0_0.index t = ![t.val / 4, 0] ∧ win0_1.index t = ![1, 0, t.val % 4]
    ∧ win0_2.index t = ![t.val / 4, 0] ∧ win0_3.index t = ![t.val / 4, 0] ∧ win0_4.index t = ![t.val / 4, 0]
    ∧ win0_5.index t = ![t.val / 4, t.val % 4] :=
  (by decide +kernel : ∀ t : Fin grid0.N, _)

theorem flat_x (x : FVec Ideal S2x8192x2048 .f32) (r : Fin 16384) (b : Fin 2048) (h0 : r.val / 8192 < 2) (h1 : r.val % 8192 < 8192) :
    shapeCast S16384x2048 x shapeCasts_S2x8192x2048_S16384x2048 (ix2 r b) = x (ix3 ⟨r.val / 8192, h0⟩ ⟨r.val % 8192, h1⟩ b) := by
  pointwise

/-- The input's block: rows of the flattened input. -/
theorem read_x (c : Dev nD) (t : Fin cfg0.N) (a b : Fin 2048) (h0 : (t.val / 4 * 2048 + a.val) / 8192 < 2)
    (h1 : (t.val / 4 * 2048 + a.val) % 8192 < 8192) :
    iblk m c 0 t (ix2 a b) = X m c (ix3 ⟨(t.val / 4 * 2048 + a.val) / 8192, h0⟩ ⟨(t.val / 4 * 2048 + a.val) % 8192, h1⟩ b) := by
  have e : (show FVec Ideal S16384x2048 .bf16 from V m c main_v12) = truncf (F := Ideal) .bf16 (shapeCast S16384x2048 (X m c) shapeCasts_S2x8192x2048_S16384x2048) bitsLt_bf16_f32 := by
    entry_read; rfl
  have hb : t.val / 4 * 2048 + a.val < 16384 := by have := lt_of_lt_of_eq t.isLt N_0; omega
  have hi : ((cfg0.win 0).blk t).view.emb (ix2 a b) = (ix2 ⟨t.val / 4 * 2048 + a.val, hb⟩ b : S16384x2048.Idx) := by
    blk_ext [where_blocks t]
  refine (congrArg (V m c main_v12) hi).trans ?_
  exact (congrFun e _).trans (flat_x _ _ _ h0 h1)

theorem ld_w (c : Dev nD) (t : Fin cfg0.N) (o : ℕ) (inb) (a : Fin 2048) (b : Fin 256) (h : o + b.val < 1024) :
    View.ld (iblk m c 1 t) (Rect.unit (s := S1x2048x1024) ![0, 0, o] ![1, 2048, 256] inb) (ix3 0 a b) = iblk m c 1 t (ix3 0 a ⟨o + b.val, h⟩) := by
  pointwise

theorem ld_t (x : Vec Ideal S2048x128 .f32) (a : Fin 2048) (b : Fin 128) :
    View.ld x (Rect.unit (s := S2048x128) ![0, 0] ![2048, 128] inb_S2048x128_S2048x128_0_0) (ix2 a b) = x (ix2 a b) := by
  pointwise

/-- The weight with its columns in the order of the result. -/
def packed (w : FVec Ideal S2x2048x7216 .f32) : FVec Ideal S2x2048x4096 .f32 :=
  concatenate S2x2048x4096 2
    [⟨S2x2048x2048, extractStridedSlice S2x2048x2048 ![0, 0, 0] w slices_S2x2048x7216_S2x2048x2048_0_0_0⟩,
     ⟨S2x2048x512, extractStridedSlice S2x2048x512 ![0, 0, 3072] w slices_S2x2048x7216_S2x2048x512_0_0_3072⟩,
     ⟨S2x2048x512, extractStridedSlice S2x2048x512 ![0, 0, 4096] w slices_S2x2048x7216_S2x2048x512_0_0_4096⟩,
     ⟨S2x2048x512, extractStridedSlice S2x2048x512 ![0, 0, 3584] w slices_S2x2048x7216_S2x2048x512_0_0_3584⟩,
     ⟨S2x2048x512, extractStridedSlice S2x2048x512 ![0, 0, 4608] w slices_S2x2048x7216_S2x2048x512_0_0_4608⟩]
    concatenates_S2x2048x2048_S2x2048x512_S2x2048x512_S2x2048x512_S2x2048x512_S2x2048x4096_d2

theorem packed_at (w : FVec Ideal S2x2048x7216 .f32) (k : Fin 2048) (n : Fin 4096) (h : RopeSpec.colB n.val < 7216) :
    packed w (ix3 1 k n) = w (ix3 1 k ⟨RopeSpec.colB n.val, h⟩) := by
  have hn := n.isLt
  pointwise [packed]
  unfold RopeSpec.colB
  rcases lt_or_ge n.val 2048 with h1 | h1
  · rw [dif_pos (by omega)]
    simp only [if_pos h1]
  rcases lt_or_ge n.val 2560 with h2 | h2
  · rw [dif_neg (by omega), dif_pos (by omega)]
    exact congrArg w (congrArg (ix3 _ _) (Fin.ext (by simp only [if_neg (not_lt.mpr h1), if_pos h2]; omega)))
  rcases lt_or_ge n.val 3072 with h3 | h3
  · rw [dif_neg (by omega), dif_neg (by omega), dif_pos (by omega)]
    exact congrArg w (congrArg (ix3 _ _) (Fin.ext (by simp only [if_neg (not_lt.mpr h1), if_neg (not_lt.mpr h2), if_pos h3]; omega)))
  rcases lt_or_ge n.val 3584 with h4 | h4
  · rw [dif_neg (by omega), dif_neg (by omega), dif_neg (by omega), dif_pos (by omega)]
    exact congrArg w (congrArg (ix3 _ _) (Fin.ext (by simp only [if_neg (not_lt.mpr h1), if_neg (not_lt.mpr h2), if_neg (not_lt.mpr h3), if_pos h4]; omega)))
  · rw [dif_neg (by omega), dif_neg (by omega), dif_neg (by omega), dif_neg (by omega)]
    exact congrArg w (congrArg (ix3 _ _) (Fin.ext (by simp only [if_neg (not_lt.mpr h1), if_neg (not_lt.mpr h2), if_neg (not_lt.mpr h3), if_neg (not_lt.mpr h4)]; omega)))

theorem entry_w (c : Dev nD) : (show FVec Ideal S2x2048x4096 .bf16 from V m c main_v10) = packed (W m c) := by
  entry_read; rfl

/-- The weight's block: columns of layer 1's matrix. -/
theorem read_w (c : Dev nD) (t : Fin cfg0.N) (a : Fin 2048) (b : Fin 1024) (h : RopeSpec.colB (t.val % 4 * 1024 + b.val) < 7216) :
    iblk m c 1 t (ix3 0 a b) = W m c (ix3 1 a ⟨RopeSpec.colB (t.val % 4 * 1024 + b.val), h⟩) := by
  have hb : t.val % 4 * 1024 + b.val < 4096 := by omega
  have hi : ((cfg0.win 1).blk t).view.emb (ix3 0 a b) = (ix3 1 a ⟨t.val % 4 * 1024 + b.val, hb⟩ : S2x2048x4096.Idx) := by
    blk_ext [where_blocks t]
  refine (congrArg (V m c main_v10) hi).trans ((congrFun (entry_w m c) _).trans (packed_at _ _ ⟨_, hb⟩ h))

/-- The frequencies of the sixteen pairs. -/
def freqs : FVec Ideal S16 .f32 :=
  Host.powf (broadcastInDim S16 ![] bcast_S_S16 (constant (F := Ideal) S_ .f32 0x48F42400#32))
    (Host.divf (Host.negf (sitofp (F := Ideal) .f32 (iotaInDim S16 32 0))) (broadcastInDim S16 ![] bcast_S_S16 (constant (F := Ideal) S_ .f32 0x41800000#32)))

/-- The frequency by lane. -/
def lanes : FVec Ideal S128 .f32 :=
  concatenate S128 0 [⟨S16, freqs⟩, ⟨S16, freqs⟩, ⟨S96, broadcastInDim S96 ![] bcast_S_S96 (constant (F := Ideal) S_ .f32 0x00000000#32)⟩]
    concatenates_S16_S16_S96_S128_d0

theorem freqs_at (i : Fin 16) : freqs (ix1 i) = RopeSpec.freq i.val := by
  pointwise [freqs]
  rfl

theorem lanes_at (l : Fin 128) : lanes (ix1 l) = RopeSpec.lane l.val := by
  have hl := l.isLt
  have z : Ideal.ofBits FTy.f32 0x00000000#32 = (0 : EReal) := by simp [Ideal.ofBits, Ideal.ieee]
  unfold RopeSpec.lane
  rcases lt_or_ge l.val 16 with h1 | h1
  · have e : lanes (ix1 l) = freqs (ix1 ⟨l.val, h1⟩) := by
      pointwise [lanes]
      rw [dif_pos (by omega)]
    rw [e, freqs_at, if_pos h1]
  rcases lt_or_ge l.val 32 with h2 | h2
  · have e : lanes (ix1 l) = freqs (ix1 ⟨l.val - 16, by omega⟩) := by
      pointwise [lanes]
      rw [dif_neg (by omega), dif_pos (by omega)]
    rw [e, freqs_at, if_neg (by omega), if_pos h2]
  · have e : lanes (ix1 l) = 0 := by
      pointwise [lanes]
      rw [dif_neg (by omega), dif_neg (by omega)]
    rw [e, if_neg (by omega), if_neg (by omega)]

/-- The angles by row and lane. -/
def angles (p : IVec S2x8192 32) : FVec Ideal S16384x128 .f32 :=
  mulf (broadcastInDim S16384x128 ![0, 1] bcast_S16384x1_S16384x128_0_1 (shapeCast S16384x1 (sitofp (F := Ideal) .f32 p) shapeCasts_S2x8192_S16384x1))
    (broadcastInDim S16384x128 ![0, 1] bcast_S1x128_S16384x128_0_1 (shapeCast S1x128 lanes shapeCasts_S128_S1x128))

theorem angles_at (p : IVec S2x8192 32) (r : Fin 16384) (l : Fin 128) :
    angles p (ix2 r l) = RopeSpec.pos p r.val r.isLt * RopeSpec.lane l.val := by
  rw [← lanes_at]
  pointwise [angles]
  rfl

theorem entry_26 (c : Dev nD) : V m c main_v26 = angles (P m c) := by
  entry_read; rfl

/-- The lanes below sixteen. -/
def below : IVec S16384x128 1 :=
  cmpi .slt (iotaInDim S16384x128 32 1) (broadcastInDim S16384x128 ![] bcast_S_S16384x128 (constantI S_ 32 16#32))

/-- The three tables. -/
def tabC (p : IVec S2x8192 32) : FVec Ideal S16384x128 .f32 := Host.cos (angles p)
def tabL (p : IVec S2x8192 32) : FVec Ideal S16384x128 .f32 :=
  select below (Host.negf (Host.sin (angles p))) (broadcastInDim S16384x128 ![] bcast_S_S16384x128 (constant (F := Ideal) S_ .f32 0x00000000#32))
def tabH (p : IVec S2x8192 32) : FVec Ideal S16384x128 .f32 :=
  select below (broadcastInDim S16384x128 ![] bcast_S_S16384x128 (constant (F := Ideal) S_ .f32 0x00000000#32)) (Host.sin (angles p))

theorem below_at (r : Fin 16384) (l : Fin 128) : below (ix2 r l) = if l.val < 16 then 1#1 else 0#1 := by
  have e : below (ix2 r l) = IntOp.cmpi CmpIPredicate.slt (BitVec.ofNat 32 l.val) 16#32 := by
    pointwise [below]
  rw [e]
  clear e
  revert l
  decide +kernel

theorem tabC_at (p : IVec S2x8192 32) (r : Fin 16384) (l : Fin 128) : tabC p (ix2 r l) = Ideal.cos (RopeSpec.pos p r.val r.isLt * RopeSpec.lane l.val) := by
  rw [← angles_at]
  rfl

theorem tabL_at (p : IVec S2x8192 32) (r : Fin 16384) (l : Fin 128) :
    tabL p (ix2 r l) = if l.val < 16 then -Ideal.sin (RopeSpec.pos p r.val r.isLt * RopeSpec.lane l.val) else 0 := by
  have z : Ideal.ofBits FTy.f32 0x00000000#32 = (0 : EReal) := by simp [Ideal.ofBits, Ideal.ieee]
  rw [← angles_at]
  show (if below (ix2 r l) = 1#1 then -Ideal.sin (angles p (ix2 r l)) else Ideal.ofBits FTy.f32 0x00000000#32) = _
  rw [below_at, z]
  split_ifs <;> simp_all

theorem tabH_at (p : IVec S2x8192 32) (r : Fin 16384) (l : Fin 128) :
    tabH p (ix2 r l) = if l.val < 16 then 0 else Ideal.sin (RopeSpec.pos p r.val r.isLt * RopeSpec.lane l.val) := by
  have z : Ideal.ofBits FTy.f32 0x00000000#32 = (0 : EReal) := by simp [Ideal.ofBits, Ideal.ieee]
  rw [← angles_at]
  show (if below (ix2 r l) = 1#1 then Ideal.ofBits FTy.f32 0x00000000#32 else Ideal.sin (angles p (ix2 r l))) = _
  rw [below_at, z]
  split_ifs <;> simp_all

theorem entry_c (c : Dev nD) : V m c main_v29 = tabC (P m c) := by
  entry_read; rfl
theorem entry_l (c : Dev nD) : V m c main_v33 = tabL (P m c) := by
  entry_read; rfl
theorem entry_h (c : Dev nD) : V m c main_v36 = tabH (P m c) := by
  entry_read; rfl

section Tables

variable (c : Dev nD) (t : Fin cfg0.N) (a : Fin 2048) (b : Fin 128) (h : t.val / 4 * 2048 + a.val < 16384)

theorem read_c : iblk m c 2 t (ix2 a b) = Ideal.cos (RopeSpec.pos (P m c) (t.val / 4 * 2048 + a.val) h * RopeSpec.lane b.val) := by
  have hi : ((cfg0.win 2).blk t).view.emb (ix2 a b) = (ix2 ⟨t.val / 4 * 2048 + a.val, h⟩ b : S16384x128.Idx) := by
    blk_ext [where_blocks t]
  exact (congrArg (V m c main_v29) hi).trans ((congrFun (entry_c m c) _).trans (tabC_at _ ⟨_, h⟩ b))

theorem read_l : iblk m c 3 t (ix2 a b) = if b.val < 16 then -Ideal.sin (RopeSpec.pos (P m c) (t.val / 4 * 2048 + a.val) h * RopeSpec.lane b.val) else 0 := by
  have hi : ((cfg0.win 3).blk t).view.emb (ix2 a b) = (ix2 ⟨t.val / 4 * 2048 + a.val, h⟩ b : S16384x128.Idx) := by
    blk_ext [where_blocks t]
  exact (congrArg (V m c main_v33) hi).trans ((congrFun (entry_l m c) _).trans (tabL_at _ ⟨_, h⟩ b))

theorem read_h : iblk m c 4 t (ix2 a b) = if b.val < 16 then 0 else Ideal.sin (RopeSpec.pos (P m c) (t.val / 4 * 2048 + a.val) h * RopeSpec.lane b.val) := by
  have hi : ((cfg0.win 4).blk t).view.emb (ix2 a b) = (ix2 ⟨t.val / 4 * 2048 + a.val, h⟩ b : S16384x128.Idx) := by
    blk_ext [where_blocks t]
  exact (congrArg (V m c main_v36) hi).trans ((congrFun (entry_h m c) _).trans (tabH_at _ ⟨_, h⟩ b))

end Tables

end Cert.PbIdeal.Math

end
-- ==== Proof.PbRefValue.lean ====
/- The reference of `Pb` at a row and a column: the number of `RopeSpec`. -/
module

public import proofs.«01_k».proof.Proof.Gen.PbRefIdeal.Read
public import proofs.«01_k».proof.Proof.RopeSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PbRefIdeal.Math

open Cert.PbRefIdeal Cert.PbRefIdeal.Gen
open Cert.PbRefIdeal.Read

variable (x : FVec Ideal S2x8192x2048 .f32) (p : IVec S2x8192 32) (w : FVec Ideal S2x2048x7216 .f32)

/-- The position as a number. -/
def place (b : Fin 2) (s : Fin 8192) : EReal := (((p (ix2 b s)).toInt : ℝ) : EReal)

/-- Column `n` of the projection, nothing beyond the weight. -/
def col (b : Fin 2) (s : Fin 8192) (n : ℕ) : EReal := if hn : n < 7216 then val_main_v2 (F := Ideal) x w (ix3 b s ⟨n, hn⟩) else 0

theorem col_at (b : Fin 2) (s : Fin 8192) (n : ℕ) (hn : n < 7216) : col x w b s n = val_main_v2 (F := Ideal) x w (ix3 b s ⟨n, hn⟩) := dif_pos hn

theorem proj_at (b : Fin 2) (s : Fin 8192) (n : Fin 7216) :
    val_main_v2 (F := Ideal) x w (ix3 b s n) = ∑ k : Fin 2048, (x (ix3 b s k) : EReal) * w (ix3 1 k n) := by
  pointwise [val_main_v2, val_main_v1, val_main_v0]

theorem col_proj (r : Fin 16384) (n : ℕ) : col x w ⟨r.val / 8192, by omega⟩ ⟨r.val % 8192, by omega⟩ n = RopeSpec.proj x w r.val r.isLt n := by
  unfold col RopeSpec.proj
  split_ifs
  · exact proj_at x w _ _ _
  · rfl

/-- Heads from column 0: the lanes as `RopeSpec.turn` moves them. -/
theorem q_low (b : Fin 2) (s : Fin 8192) (h : Fin 16) (i : Fin 16) :
    val_main_v36 (F := Ideal) x p w (ix4 b s h i)
      = val_main_v2 (F := Ideal) x w (ix3 b s ⟨(h.val * 128 + i.val), by omega⟩) * Ideal.cos (place p b s * RopeSpec.freq i.val)
        - val_main_v2 (F := Ideal) x w (ix3 b s ⟨(h.val * 128 + (16 + i.val)), by omega⟩) * Ideal.sin (place p b s * RopeSpec.freq i.val) := by
  pointwise [val_main_v36, val_main_v35, val_main_v34, val_main_v33, val_main_v32, val_main_v31, val_main_v30, val_main_v29, val_main_v12, val_main_v3, val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0]
  rfl

theorem q_high (b : Fin 2) (s : Fin 8192) (h : Fin 16) (i : Fin 16) :
    val_main_v41 (F := Ideal) x p w (ix4 b s h i)
      = val_main_v2 (F := Ideal) x w (ix3 b s ⟨(h.val * 128 + (16 + i.val)), by omega⟩) * Ideal.cos (place p b s * RopeSpec.freq i.val)
        + val_main_v2 (F := Ideal) x w (ix3 b s ⟨(h.val * 128 + i.val), by omega⟩) * Ideal.sin (place p b s * RopeSpec.freq i.val) := by
  pointwise [val_main_v41, val_main_v40, val_main_v39, val_main_v38, val_main_v37, val_main_v31, val_main_v30, val_main_v29, val_main_v12, val_main_v3, val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0]
  rfl

theorem q_rest (b : Fin 2) (s : Fin 8192) (h : Fin 16) (i : Fin 96) :
    val_main_v43 (F := Ideal) x w (ix4 b s h i) = val_main_v2 (F := Ideal) x w (ix3 b s ⟨(h.val * 128 + (32 + i.val)), by omega⟩) := by
  pointwise [val_main_v43, val_main_v12, val_main_v3]

theorem q_turn (b : Fin 2) (s : Fin 8192) (h : Fin 16) (l : Fin 128) :
    val_main_v44 (F := Ideal) x p w (ix4 b s h l) = RopeSpec.turn (fun l => col x w b s ((h.val * 128 + l))) (place p b s) l.val := by
  have hl := l.isLt
  have hh := h.isLt
  unfold RopeSpec.turn
  beta_reduce
  rcases lt_or_ge l.val 16 with h1 | h1
  · have e : val_main_v44 (F := Ideal) x p w (ix4 b s h l) = val_main_v36 (F := Ideal) x p w (ix4 b s h ⟨l.val, h1⟩) := by
      pointwise [val_main_v44, val_main_v42]
      rw [dif_pos (by omega), dif_pos (by omega)]
    rw [e, q_low, if_pos h1, col_at x w b s ((h.val * 128 + l.val)) (by omega), col_at x w b s ((h.val * 128 + (16 + l.val))) (by omega)]
  rcases lt_or_ge l.val 32 with h2 | h2
  · have e : val_main_v44 (F := Ideal) x p w (ix4 b s h l) = val_main_v41 (F := Ideal) x p w (ix4 b s h ⟨l.val - 16, by omega⟩) := by
      pointwise [val_main_v44, val_main_v42]
      rw [dif_pos (by omega), dif_neg (by omega)]
    have k : 16 + (l.val - 16) = l.val := by omega
    rw [e, q_high, if_neg (by omega), if_pos h2, col_at x w b s ((h.val * 128 + l.val)) (by omega), col_at x w b s ((h.val * 128 + (l.val - 16))) (by omega)]
    simp only [k]
  · have e : val_main_v44 (F := Ideal) x p w (ix4 b s h l) = val_main_v43 (F := Ideal) x w (ix4 b s h ⟨l.val - 32, by omega⟩) := by
      pointwise [val_main_v44]
      rw [dif_neg (by omega)]
    have k : 32 + (l.val - 32) = l.val := by omega
    rw [e, q_rest, if_neg (by omega), if_neg (by omega), col_at x w b s ((h.val * 128 + l.val)) (by omega)]
    simp only [k]

/-- Heads from column 3072: the lanes as `RopeSpec.turn` moves them. -/
theorem ks_low (b : Fin 2) (s : Fin 8192) (h : Fin 4) (i : Fin 16) :
    val_main_v104 (F := Ideal) x p w (ix4 b s h i)
      = val_main_v2 (F := Ideal) x w (ix3 b s ⟨3072 + (h.val * 128 + i.val), by omega⟩) * Ideal.cos (place p b s * RopeSpec.freq i.val)
        - val_main_v2 (F := Ideal) x w (ix3 b s ⟨3072 + (h.val * 128 + (16 + i.val)), by omega⟩) * Ideal.sin (place p b s * RopeSpec.freq i.val) := by
  pointwise [val_main_v104, val_main_v103, val_main_v102, val_main_v101, val_main_v100, val_main_v99, val_main_v98, val_main_v97, val_main_v80, val_main_v6, val_main_v96, val_main_v95, val_main_v94, val_main_v93, val_main_v92, val_main_v91, val_main_v90, val_main_v89, val_main_v88, val_main_v87, val_main_v86, val_main_v85, val_main_v84, val_main_v83, val_main_v82, val_main_v81, val_main_cst_3, val_main_cst_4]
  rfl

theorem ks_high (b : Fin 2) (s : Fin 8192) (h : Fin 4) (i : Fin 16) :
    val_main_v109 (F := Ideal) x p w (ix4 b s h i)
      = val_main_v2 (F := Ideal) x w (ix3 b s ⟨3072 + (h.val * 128 + (16 + i.val)), by omega⟩) * Ideal.cos (place p b s * RopeSpec.freq i.val)
        + val_main_v2 (F := Ideal) x w (ix3 b s ⟨3072 + (h.val * 128 + i.val), by omega⟩) * Ideal.sin (place p b s * RopeSpec.freq i.val) := by
  pointwise [val_main_v109, val_main_v108, val_main_v107, val_main_v106, val_main_v105, val_main_v99, val_main_v98, val_main_v97, val_main_v80, val_main_v6, val_main_v96, val_main_v95, val_main_v94, val_main_v93, val_main_v92, val_main_v91, val_main_v90, val_main_v89, val_main_v88, val_main_v87, val_main_v86, val_main_v85, val_main_v84, val_main_v83, val_main_v82, val_main_v81, val_main_cst_3, val_main_cst_4]
  rfl

theorem ks_rest (b : Fin 2) (s : Fin 8192) (h : Fin 4) (i : Fin 96) :
    val_main_v111 (F := Ideal) x w (ix4 b s h i) = val_main_v2 (F := Ideal) x w (ix3 b s ⟨3072 + (h.val * 128 + (32 + i.val)), by omega⟩) := by
  pointwise [val_main_v111, val_main_v80, val_main_v6]

theorem ks_turn (b : Fin 2) (s : Fin 8192) (h : Fin 4) (l : Fin 128) :
    val_main_v112 (F := Ideal) x p w (ix4 b s h l) = RopeSpec.turn (fun l => col x w b s (3072 + (h.val * 128 + l))) (place p b s) l.val := by
  have hl := l.isLt
  have hh := h.isLt
  unfold RopeSpec.turn
  beta_reduce
  rcases lt_or_ge l.val 16 with h1 | h1
  · have e : val_main_v112 (F := Ideal) x p w (ix4 b s h l) = val_main_v104 (F := Ideal) x p w (ix4 b s h ⟨l.val, h1⟩) := by
      pointwise [val_main_v112, val_main_v110]
      rw [dif_pos (by omega), dif_pos (by omega)]
    rw [e, ks_low, if_pos h1, col_at x w b s (3072 + (h.val * 128 + l.val)) (by omega), col_at x w b s (3072 + (h.val * 128 + (16 + l.val))) (by omega)]
  rcases lt_or_ge l.val 32 with h2 | h2
  · have e : val_main_v112 (F := Ideal) x p w (ix4 b s h l) = val_main_v109 (F := Ideal) x p w (ix4 b s h ⟨l.val - 16, by omega⟩) := by
      pointwise [val_main_v112, val_main_v110]
      rw [dif_pos (by omega), dif_neg (by omega)]
    have k : 16 + (l.val - 16) = l.val := by omega
    rw [e, ks_high, if_neg (by omega), if_pos h2, col_at x w b s (3072 + (h.val * 128 + l.val)) (by omega), col_at x w b s (3072 + (h.val * 128 + (l.val - 16))) (by omega)]
    simp only [k]
  · have e : val_main_v112 (F := Ideal) x p w (ix4 b s h l) = val_main_v111 (F := Ideal) x w (ix4 b s h ⟨l.val - 32, by omega⟩) := by
      pointwise [val_main_v112]
      rw [dif_neg (by omega)]
    have k : 32 + (l.val - 32) = l.val := by omega
    rw [e, ks_rest, if_neg (by omega), if_neg (by omega), col_at x w b s (3072 + (h.val * 128 + l.val)) (by omega)]
    simp only [k]

/-- Heads from column 4096: the lanes as `RopeSpec.turn` moves them. -/
theorem kw_low (b : Fin 2) (s : Fin 8192) (h : Fin 4) (i : Fin 16) :
    val_main_v138 (F := Ideal) x p w (ix4 b s h i)
      = val_main_v2 (F := Ideal) x w (ix3 b s ⟨4096 + (h.val * 128 + i.val), by omega⟩) * Ideal.cos (place p b s * RopeSpec.freq i.val)
        - val_main_v2 (F := Ideal) x w (ix3 b s ⟨4096 + (h.val * 128 + (16 + i.val)), by omega⟩) * Ideal.sin (place p b s * RopeSpec.freq i.val) := by
  pointwise [val_main_v138, val_main_v137, val_main_v136, val_main_v135, val_main_v134, val_main_v133, val_main_v132, val_main_v131, val_main_v114, val_main_v8, val_main_v130, val_main_v129, val_main_v128, val_main_v127, val_main_v126, val_main_v125, val_main_v124, val_main_v123, val_main_v122, val_main_v121, val_main_v120, val_main_v119, val_main_v118, val_main_v117, val_main_v116, val_main_v115, val_main_cst_5, val_main_cst_6]
  rfl

theorem kw_high (b : Fin 2) (s : Fin 8192) (h : Fin 4) (i : Fin 16) :
    val_main_v143 (F := Ideal) x p w (ix4 b s h i)
      = val_main_v2 (F := Ideal) x w (ix3 b s ⟨4096 + (h.val * 128 + (16 + i.val)), by omega⟩) * Ideal.cos (place p b s * RopeSpec.freq i.val)
        + val_main_v2 (F := Ideal) x w (ix3 b s ⟨4096 + (h.val * 128 + i.val), by omega⟩) * Ideal.sin (place p b s * RopeSpec.freq i.val) := by
  pointwise [val_main_v143, val_main_v142, val_main_v141, val_main_v140, val_main_v139, val_main_v133, val_main_v132, val_main_v131, val_main_v114, val_main_v8, val_main_v130, val_main_v129, val_main_v128, val_main_v127, val_main_v126, val_main_v125, val_main_v124, val_main_v123, val_main_v122, val_main_v121, val_main_v120, val_main_v119, val_main_v118, val_main_v117, val_main_v116, val_main_v115, val_main_cst_5, val_main_cst_6]
  rfl

theorem kw_rest (b : Fin 2) (s : Fin 8192) (h : Fin 4) (i : Fin 96) :
    val_main_v145 (F := Ideal) x w (ix4 b s h i) = val_main_v2 (F := Ideal) x w (ix3 b s ⟨4096 + (h.val * 128 + (32 + i.val)), by omega⟩) := by
  pointwise [val_main_v145, val_main_v114, val_main_v8]

theorem kw_turn (b : Fin 2) (s : Fin 8192) (h : Fin 4) (l : Fin 128) :
    val_main_v146 (F := Ideal) x p w (ix4 b s h l) = RopeSpec.turn (fun l => col x w b s (4096 + (h.val * 128 + l))) (place p b s) l.val := by
  have hl := l.isLt
  have hh := h.isLt
  unfold RopeSpec.turn
  beta_reduce
  rcases lt_or_ge l.val 16 with h1 | h1
  · have e : val_main_v146 (F := Ideal) x p w (ix4 b s h l) = val_main_v138 (F := Ideal) x p w (ix4 b s h ⟨l.val, h1⟩) := by
      pointwise [val_main_v146, val_main_v144]
      rw [dif_pos (by omega), dif_pos (by omega)]
    rw [e, kw_low, if_pos h1, col_at x w b s (4096 + (h.val * 128 + l.val)) (by omega), col_at x w b s (4096 + (h.val * 128 + (16 + l.val))) (by omega)]
  rcases lt_or_ge l.val 32 with h2 | h2
  · have e : val_main_v146 (F := Ideal) x p w (ix4 b s h l) = val_main_v143 (F := Ideal) x p w (ix4 b s h ⟨l.val - 16, by omega⟩) := by
      pointwise [val_main_v146, val_main_v144]
      rw [dif_pos (by omega), dif_neg (by omega)]
    have k : 16 + (l.val - 16) = l.val := by omega
    rw [e, kw_high, if_neg (by omega), if_pos h2, col_at x w b s (4096 + (h.val * 128 + l.val)) (by omega), col_at x w b s (4096 + (h.val * 128 + (l.val - 16))) (by omega)]
    simp only [k]
  · have e : val_main_v146 (F := Ideal) x p w (ix4 b s h l) = val_main_v145 (F := Ideal) x w (ix4 b s h ⟨l.val - 32, by omega⟩) := by
      pointwise [val_main_v146]
      rw [dif_neg (by omega)]
    have k : 32 + (l.val - 32) = l.val := by omega
    rw [e, kw_rest, if_neg (by omega), if_neg (by omega), col_at x w b s (4096 + (h.val * 128 + l.val)) (by omega)]
    simp only [k]

/-- The row and the column of the flattened result, in the batched one. -/
theorem flat_at (r : Fin 16384) (n : Fin 4096) :
    val_main_v156 (F := Ideal) x p w (ix2 r n) = val_main_v154 (F := Ideal) x p w (ix3 ⟨r.val / 8192, by omega⟩ ⟨r.val % 8192, by omega⟩ n) := by
  pointwise [val_main_v156, val_main_v155]

/-- The scale of the queries. -/
theorem scale_at : val_main_v151 (F := Ideal) ix0 = (((√128 * Real.log 2)⁻¹ : ℝ) : EReal) := by
  have e1 : Ideal.ofBits FTy.f32 0x43000000#32 = ((128 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have e3 : Ideal.ofBits FTy.f32 0x3F800000#32 = ((1 : ℝ) : EReal) := by
    simp [Ideal.ofBits, Ideal.ieee, -EReal.coe_mul]; norm_num
  show Ideal.div (Ideal.ofBits FTy.f32 0x3F800000#32) (Ideal.sqrt (Ideal.ofBits FTy.f32 0x43000000#32) * Ideal.log (Ideal.ofBits FTy.f32 0x40000000#32)) = _
  rw [e1, e2, e3, Ideal.sqrt_coe, if_neg (by norm_num), Ideal.log_coe, if_neg (by norm_num), ← EReal.coe_mul,
    Ideal.div_coe (mul_pos (by positivity) (Real.log_pos (by norm_num))).ne', ← EReal.coe_mul, one_mul, one_div]

theorem v152_at (i : S2x8192x2048.Idx) : val_main_v152 (F := Ideal) i = (((√128 * Real.log 2)⁻¹ : ℝ) : EReal) := by
  rw [val_main_v152_apply, show idx_main_v152 i = ix0 from funext fun a => a.elim0, scale_at]

theorem v45_at (b : Fin 2) (s : Fin 8192) (n : Fin 2048) :
    val_main_v45 (F := Ideal) x p w (ix3 b s n) = val_main_v44 (F := Ideal) x p w (ix4 b s ⟨n.val / 128, by omega⟩ ⟨n.val % 128, by omega⟩) := by
  pointwise [val_main_v45]

theorem times_at (u v : FVec Ideal S2x8192x2048 .f32) (i : S2x8192x2048.Idx) : mulf u v i = u i * v i := rfl

theorem v153_at (b : Fin 2) (s : Fin 8192) (n : Fin 2048) :
    val_main_v153 (F := Ideal) x p w (ix3 b s n) = val_main_v44 (F := Ideal) x p w (ix4 b s ⟨n.val / 128, by omega⟩ ⟨n.val % 128, by omega⟩) * (((√128 * Real.log 2)⁻¹ : ℝ) : EReal) := by
  unfold val_main_v153
  rw [times_at, v152_at, v45_at]

theorem v113_at (b : Fin 2) (s : Fin 8192) (n : Fin 512) :
    val_main_v113 (F := Ideal) x p w (ix3 b s n) = val_main_v112 (F := Ideal) x p w (ix4 b s ⟨n.val / 128, by omega⟩ ⟨n.val % 128, by omega⟩) := by
  pointwise [val_main_v113]

theorem v147_at (b : Fin 2) (s : Fin 8192) (n : Fin 512) :
    val_main_v147 (F := Ideal) x p w (ix3 b s n) = val_main_v146 (F := Ideal) x p w (ix4 b s ⟨n.val / 128, by omega⟩ ⟨n.val % 128, by omega⟩) := by
  pointwise [val_main_v147]

theorem v7_at (b : Fin 2) (s : Fin 8192) (n : Fin 512) :
    val_main_v7 (F := Ideal) x w (ix3 b s n) = val_main_v2 (F := Ideal) x w (ix3 b s ⟨3584 + n.val, by omega⟩) := by
  pointwise [val_main_v7]

theorem v9_at (b : Fin 2) (s : Fin 8192) (n : Fin 512) :
    val_main_v9 (F := Ideal) x w (ix3 b s n) = val_main_v2 (F := Ideal) x w (ix3 b s ⟨4608 + n.val, by omega⟩) := by
  pointwise [val_main_v9]

/-- Heads beside each other come from columns beside each other. -/
theorem turn_congr (r : Fin 16384) (f : ℕ → ℕ) (n l : ℕ) (hl : l = n % 128) (h : ∀ i, i < 128 → f i = RopeSpec.colB (n / 128 * 128 + i)) :
    RopeSpec.turn (fun l => col x w ⟨r.val / 8192, by omega⟩ ⟨r.val % 8192, by omega⟩ (f l)) (place p ⟨r.val / 8192, by omega⟩ ⟨r.val % 8192, by omega⟩) l
      = RopeSpec.turn (fun l => RopeSpec.proj x w r.val r.isLt (RopeSpec.colB (n / 128 * 128 + l))) (RopeSpec.pos p r.val r.isLt) (n % 128) := by
  subst hl
  have hp : place p ⟨r.val / 8192, by omega⟩ ⟨r.val % 8192, by omega⟩ = RopeSpec.pos p r.val r.isLt := rfl
  rw [hp]
  unfold RopeSpec.turn
  have hn : n % 128 < 128 := by omega
  rcases lt_or_ge (n % 128) 16 with h1 | h1
  · simp only [if_pos h1, col_proj, h _ hn, h (16 + n % 128) (by omega)]
  rcases lt_or_ge (n % 128) 32 with h2 | h2
  · simp only [if_neg (not_lt.mpr h1), if_pos h2, col_proj, h _ hn, h (n % 128 - 16) (by omega)]
  · simp only [if_neg (not_lt.mpr h1), if_neg (not_lt.mpr h2), col_proj, h _ hn]

/-- The array of the reference. -/
theorem array_at (r : Fin 16384) (n : Fin 4096) :
    val_main_v156 (F := Ideal) x p w (ix2 r n) = RopeSpec.specB x p w r.val r.isLt n.val := by
  have hr := r.isLt
  have hn := n.isLt
  rw [flat_at]
  unfold RopeSpec.specB
  rcases lt_or_ge n.val 2048 with h1 | h1
  · have e : val_main_v154 (F := Ideal) x p w (ix3 ⟨r.val / 8192, by omega⟩ ⟨r.val % 8192, by omega⟩ n) = val_main_v153 (F := Ideal) x p w (ix3 ⟨r.val / 8192, by omega⟩ ⟨r.val % 8192, by omega⟩ ⟨n.val, h1⟩) := by
      pointwise [val_main_v154]
      exact dif_pos h1
    rw [e, v153_at, q_turn, if_pos h1]
    refine congrArg (· * _) (turn_congr x p w r (fun l => n.val / 128 * 128 + l) n.val _ rfl fun i hi => ?_)
    unfold RopeSpec.colB
    split_ifs <;> omega
  rcases lt_or_ge n.val 2560 with h2 | h2
  · have e : val_main_v154 (F := Ideal) x p w (ix3 ⟨r.val / 8192, by omega⟩ ⟨r.val % 8192, by omega⟩ n) = val_main_v113 (F := Ideal) x p w (ix3 ⟨r.val / 8192, by omega⟩ ⟨r.val % 8192, by omega⟩ ⟨n.val - 2048, by omega⟩) := by
      pointwise [val_main_v154]
      rw [dif_neg (by omega), dif_pos (by omega)]
    rw [e, v113_at, ks_turn, if_neg (by omega), if_pos (by omega)]
    refine turn_congr x p w r (fun l => 3072 + ((n.val - 2048) / 128 * 128 + l)) n.val _ (by show (n.val - 2048) % 128 = n.val % 128; omega) fun i hi => ?_
    unfold RopeSpec.colB
    beta_reduce
    split_ifs <;> omega
  rcases lt_or_ge n.val 3072 with h3 | h3
  · have e : val_main_v154 (F := Ideal) x p w (ix3 ⟨r.val / 8192, by omega⟩ ⟨r.val % 8192, by omega⟩ n) = val_main_v147 (F := Ideal) x p w (ix3 ⟨r.val / 8192, by omega⟩ ⟨r.val % 8192, by omega⟩ ⟨n.val - 2048 - 512, by omega⟩) := by
      pointwise [val_main_v154]
      rw [dif_neg (by omega), dif_neg (by omega), dif_pos (by omega)]
    rw [e, v147_at, kw_turn, if_neg (by omega), if_pos (by omega)]
    refine turn_congr x p w r (fun l => 4096 + ((n.val - 2048 - 512) / 128 * 128 + l)) n.val _ (by show (n.val - 2048 - 512) % 128 = n.val % 128; omega) fun i hi => ?_
    unfold RopeSpec.colB
    beta_reduce
    split_ifs <;> omega
  rw [if_neg (by omega), if_neg (by omega), ← col_proj]
  rcases lt_or_ge n.val 3584 with h4 | h4
  · have e : val_main_v154 (F := Ideal) x p w (ix3 ⟨r.val / 8192, by omega⟩ ⟨r.val % 8192, by omega⟩ n) = val_main_v7 (F := Ideal) x w (ix3 ⟨r.val / 8192, by omega⟩ ⟨r.val % 8192, by omega⟩ ⟨n.val - 2048 - 512 - 512, by omega⟩) := by
      pointwise [val_main_v154]
      rw [dif_neg (by omega), dif_neg (by omega), dif_neg (by omega), dif_pos (by omega)]
    have k : RopeSpec.colB n.val = 3584 + (n.val - 2048 - 512 - 512) := by
      unfold RopeSpec.colB
      split_ifs <;> omega
    rw [e, v7_at, k, col_at x w _ _ _ (by omega)]
  · have e : val_main_v154 (F := Ideal) x p w (ix3 ⟨r.val / 8192, by omega⟩ ⟨r.val % 8192, by omega⟩ n) = val_main_v9 (F := Ideal) x w (ix3 ⟨r.val / 8192, by omega⟩ ⟨r.val % 8192, by omega⟩ ⟨n.val - 2048 - 512 - 512 - 512, by omega⟩) := by
      pointwise [val_main_v154]
      rw [dif_neg (by omega), dif_neg (by omega), dif_neg (by omega), dif_neg (by omega)]
    have k : RopeSpec.colB n.val = 4608 + (n.val - 2048 - 512 - 512 - 512) := by
      unfold RopeSpec.colB
      split_ifs <;> omega
    rw [e, v9_at, k, col_at x w _ _ _ (by omega)]

end Cert.PbRefIdeal.Math

end
-- ==== Proof.PbValue.lean ====
/- The result array of `Pb` (the attention half of an attention layer's input projection) is the reference's value at every index. -/
module

public import proofs.«01_k».proof.Proof.PbReads
public import proofs.«01_k».proof.Proof.PbRefValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PbIdeal.Math

open Cert.PbIdeal Cert.PbIdeal.Gen

variable (m : (ℓ : Loc nD τ sig) → Buf (Elt Ideal) ℓ)

theorem proj_of (x : FVec Ideal S2x8192x2048 .f32) (w : FVec Ideal S2x2048x7216 .f32) (r : ℕ) (hr : r < 16384) (k : ℕ) (hk : k < 7216) :
    RopeSpec.proj x w r hr k = ∑ j : Fin 2048, (x (ix3 ⟨r / 8192, by omega⟩ ⟨r % 8192, by omega⟩ j) : EReal) * w (ix3 1 j ⟨k, hk⟩) := dif_pos hk

section Tiles

variable (c : Dev nD) (t : Fin cfg0.N) (a : Fin 2048) (r : ℕ) (hr : r < 16384) (n : ℕ) (hn : n < 4096) (o : ℕ)

include hn

/-- The product at row `r` and column `n`, from the tile that holds them. -/
theorem mat_proj (inb) (b : Fin 256) (ho : o + 256 ≤ 1024) (er : r = t.val / 4 * 2048 + a.val) (en : n = t.val % 4 * 1024 + (o + b.val)) :
    mat (iblk m c 0 t) (View.ld (iblk m c 1 t) (Rect.unit (s := S1x2048x1024) ![0, 0, o] ![1, 2048, 256] inb)) (ix2 a b) = RopeSpec.proj (X m c) (W m c) r hr (RopeSpec.colB n) := by
  subst er en
  have hc : RopeSpec.colB (t.val % 4 * 1024 + (o + b.val)) < 7216 := by
    have := t.isLt
    unfold RopeSpec.colB
    split_ifs <;> omega
  rw [mat_at, proj_of _ _ _ _ _ hc]
  refine Finset.sum_congr rfl fun k _ => ?_
  rw [ld_w m c t o inb k b (by omega), read_x m c t a k (by omega) (by omega), read_w m c t k _ hc]

theorem left_proj (inb) (b : Fin 128) (ho : o + 256 ≤ 1024) (er : r = t.val / 4 * 2048 + a.val) (en : n = t.val % 4 * 1024 + (o + b.val)) :
    left (mat (iblk m c 0 t) (View.ld (iblk m c 1 t) (Rect.unit (s := S1x2048x1024) ![0, 0, o] ![1, 2048, 256] inb))) (ix2 a b) = RopeSpec.proj (X m c) (W m c) r hr (RopeSpec.colB n) := by
  rw [left_at]
  exact mat_proj m c t a r hr n hn o inb _ ho er en

theorem right_proj (inb) (b : Fin 128) (ho : o + 256 ≤ 1024) (er : r = t.val / 4 * 2048 + a.val) (en : n = t.val % 4 * 1024 + (o + 128 + b.val)) :
    right (mat (iblk m c 0 t) (View.ld (iblk m c 1 t) (Rect.unit (s := S1x2048x1024) ![0, 0, o] ![1, 2048, 256] inb))) (ix2 a b) = RopeSpec.proj (X m c) (W m c) r hr (RopeSpec.colB n) := by
  rw [right_at]
  exact mat_proj m c t a r hr n hn o inb _ ho er (by simp only []; omega)

/-- The rotation of a head whose lanes are columns of the product. -/
theorem rope_turn (p : FVec Ideal S2048x128 .f32) (b : Fin 128) (g : ℕ) (er : r = t.val / 4 * 2048 + a.val)
    (hp : ∀ l : Fin 128, p (ix2 a l) = RopeSpec.proj (X m c) (W m c) r hr (RopeSpec.colB (g * 128 + l.val))) (en : n = g * 128 + b.val) :
    rope p (iblk m c 2 t) (iblk m c 3 t) (iblk m c 4 t) (ix2 a b)
      = RopeSpec.turn (fun l => RopeSpec.proj (X m c) (W m c) r hr (RopeSpec.colB (n / 128 * 128 + l))) (RopeSpec.pos (P m c) r hr) (n % 128) := by
  have k1 : n / 128 = g := by omega
  have k2 : n % 128 = b.val := by omega
  rw [k1, k2, rope_at, hp, hp, hp]
  subst er
  rw [read_c m c t a b hr, read_l m c t a b hr, read_h m c t a b hr]
  exact RopeSpec.rolled (fun l => RopeSpec.proj (X m c) (W m c) (t.val / 4 * 2048 + a.val) hr (RopeSpec.colB (g * 128 + l))) _ b.val b.isLt

end Tiles

/-- What a point of the query columns leaves in its block. -/
theorem pointA (c : Dev nD) (t : Fin cfg0.N) (hA : t.val % 4 ≤ 1)
    (y : S2048x1024.Idx) (r : ℕ) (hr : r < 16384) (n : ℕ) (hn : n < 4096) (er : r = t.val / 4 * 2048 + (y 0).val) (en : n = t.val % 4 * 1024 + (y 1).val) :
    outsAt0 m c t.val t.isLt y = RopeSpec.specB (X m c) (P m c) (W m c) r hr n := by
  have y1 : (y 1).val < 1024 := (y 1).isLt
  have hN := lt_of_lt_of_eq t.isLt N_0
  rw [outsAt0_A m c t hA (by omega) (by omega)]
  frame_out
  canon_tiles x h
  case piece7 =>
    rw [eq_ix2 x]
    have hp : ∀ l : Fin 128, _ := fun l => left_proj m c t (x 0) r hr ((t.val % 4 * 8 + 0) * 128 + l.val) (by omega) 0 inb_S1x2048x1024_S1x2048x256_0_0_0 l (by omega) (by omega) (by omega)
    have hq := rope_turn m c t (x 0) r hr n hn (b := x 1) (g := t.val % 4 * 8 + 0) (er := by omega) (hp := hp) (en := by omega)
    unfold RopeSpec.specB
    rw [if_pos (by omega), ← hq]
    rfl
  case piece6 =>
    rw [eq_ix2 x]
    have hp : ∀ l : Fin 128, _ := fun l => right_proj m c t (x 0) r hr ((t.val % 4 * 8 + 1) * 128 + l.val) (by omega) 0 inb_S1x2048x1024_S1x2048x256_0_0_0 l (by omega) (by omega) (by omega)
    have hq := rope_turn m c t (x 0) r hr n hn (b := x 1) (g := t.val % 4 * 8 + 1) (er := by omega) (hp := hp) (en := by omega)
    unfold RopeSpec.specB
    rw [if_pos (by omega), ← hq]
    rfl
  case piece5 =>
    rw [eq_ix2 x]
    have hp : ∀ l : Fin 128, _ := fun l => left_proj m c t (x 0) r hr ((t.val % 4 * 8 + 2) * 128 + l.val) (by omega) 256 inb_S1x2048x1024_S1x2048x256_0_0_256 l (by omega) (by omega) (by omega)
    have hq := rope_turn m c t (x 0) r hr n hn (b := x 1) (g := t.val % 4 * 8 + 2) (er := by omega) (hp := hp) (en := by omega)
    unfold RopeSpec.specB
    rw [if_pos (by omega), ← hq]
    rfl
  case piece4 =>
    rw [eq_ix2 x]
    have hp : ∀ l : Fin 128, _ := fun l => right_proj m c t (x 0) r hr ((t.val % 4 * 8 + 3) * 128 + l.val) (by omega) 256 inb_S1x2048x1024_S1x2048x256_0_0_256 l (by omega) (by omega) (by omega)
    have hq := rope_turn m c t (x 0) r hr n hn (b := x 1) (g := t.val % 4 * 8 + 3) (er := by omega) (hp := hp) (en := by omega)
    unfold RopeSpec.specB
    rw [if_pos (by omega), ← hq]
    rfl
  case piece3 =>
    rw [eq_ix2 x]
    have hp : ∀ l : Fin 128, _ := fun l => left_proj m c t (x 0) r hr ((t.val % 4 * 8 + 4) * 128 + l.val) (by omega) 512 inb_S1x2048x1024_S1x2048x256_0_0_512 l (by omega) (by omega) (by omega)
    have hq := rope_turn m c t (x 0) r hr n hn (b := x 1) (g := t.val % 4 * 8 + 4) (er := by omega) (hp := hp) (en := by omega)
    unfold RopeSpec.specB
    rw [if_pos (by omega), ← hq]
    rfl
  case piece2 =>
    rw [eq_ix2 x]
    have hp : ∀ l : Fin 128, _ := fun l => right_proj m c t (x 0) r hr ((t.val % 4 * 8 + 5) * 128 + l.val) (by omega) 512 inb_S1x2048x1024_S1x2048x256_0_0_512 l (by omega) (by omega) (by omega)
    have hq := rope_turn m c t (x 0) r hr n hn (b := x 1) (g := t.val % 4 * 8 + 5) (er := by omega) (hp := hp) (en := by omega)
    unfold RopeSpec.specB
    rw [if_pos (by omega), ← hq]
    rfl
  case piece1 =>
    rw [eq_ix2 x]
    have hp : ∀ l : Fin 128, _ := fun l => left_proj m c t (x 0) r hr ((t.val % 4 * 8 + 6) * 128 + l.val) (by omega) 768 inb_S1x2048x1024_S1x2048x256_0_0_768 l (by omega) (by omega) (by omega)
    have hq := rope_turn m c t (x 0) r hr n hn (b := x 1) (g := t.val % 4 * 8 + 6) (er := by omega) (hp := hp) (en := by omega)
    unfold RopeSpec.specB
    rw [if_pos (by omega), ← hq]
    rfl
  case piece0 =>
    rw [eq_ix2 x]
    have hp : ∀ l : Fin 128, _ := fun l => right_proj m c t (x 0) r hr ((t.val % 4 * 8 + 7) * 128 + l.val) (by omega) 768 inb_S1x2048x1024_S1x2048x256_0_0_768 l (by omega) (by omega) (by omega)
    have hq := rope_turn m c t (x 0) r hr n hn (b := x 1) (g := t.val % 4 * 8 + 7) (er := by omega) (hp := hp) (en := by omega)
    unfold RopeSpec.specB
    rw [if_pos (by omega), ← hq]
    rfl

/-- What a point of the key columns leaves in its block. -/
theorem pointB (c : Dev nD) (t : Fin cfg0.N) (hA : t.val % 4 = 2)
    (y : S2048x1024.Idx) (r : ℕ) (hr : r < 16384) (n : ℕ) (hn : n < 4096) (er : r = t.val / 4 * 2048 + (y 0).val) (en : n = t.val % 4 * 1024 + (y 1).val) :
    outsAt0 m c t.val t.isLt y = RopeSpec.specB (X m c) (P m c) (W m c) r hr n := by
  have y1 : (y 1).val < 1024 := (y 1).isLt
  have hN := lt_of_lt_of_eq t.isLt N_0
  rw [outsAt0_B m c t (by omega) hA (by omega)]
  frame_out
  canon_tiles x h
  case piece7 =>
    rw [eq_ix2 x]
    have hp : ∀ l : Fin 128, _ := fun l => left_proj m c t (x 0) r hr ((t.val % 4 * 8 + 0) * 128 + l.val) (by omega) 0 inb_S1x2048x1024_S1x2048x256_0_0_0 l (by omega) (by omega) (by omega)
    have hq := rope_turn m c t (x 0) r hr n hn (b := x 1) (g := t.val % 4 * 8 + 0) (er := by omega) (hp := hp) (en := by omega)
    unfold RopeSpec.specB
    rw [if_neg (by omega), if_pos (by omega)]
    exact hq
  case piece6 =>
    rw [eq_ix2 x]
    have hp : ∀ l : Fin 128, _ := fun l => right_proj m c t (x 0) r hr ((t.val % 4 * 8 + 1) * 128 + l.val) (by omega) 0 inb_S1x2048x1024_S1x2048x256_0_0_0 l (by omega) (by omega) (by omega)
    have hq := rope_turn m c t (x 0) r hr n hn (b := x 1) (g := t.val % 4 * 8 + 1) (er := by omega) (hp := hp) (en := by omega)
    unfold RopeSpec.specB
    rw [if_neg (by omega), if_pos (by omega)]
    exact hq
  case piece5 =>
    rw [eq_ix2 x]
    have hp : ∀ l : Fin 128, _ := fun l => left_proj m c t (x 0) r hr ((t.val % 4 * 8 + 2) * 128 + l.val) (by omega) 256 inb_S1x2048x1024_S1x2048x256_0_0_256 l (by omega) (by omega) (by omega)
    have hq := rope_turn m c t (x 0) r hr n hn (b := x 1) (g := t.val % 4 * 8 + 2) (er := by omega) (hp := hp) (en := by omega)
    unfold RopeSpec.specB
    rw [if_neg (by omega), if_pos (by omega)]
    exact hq
  case piece4 =>
    rw [eq_ix2 x]
    have hp : ∀ l : Fin 128, _ := fun l => right_proj m c t (x 0) r hr ((t.val % 4 * 8 + 3) * 128 + l.val) (by omega) 256 inb_S1x2048x1024_S1x2048x256_0_0_256 l (by omega) (by omega) (by omega)
    have hq := rope_turn m c t (x 0) r hr n hn (b := x 1) (g := t.val % 4 * 8 + 3) (er := by omega) (hp := hp) (en := by omega)
    unfold RopeSpec.specB
    rw [if_neg (by omega), if_pos (by omega)]
    exact hq
  case piece3 =>
    rw [eq_ix2 x]
    have hp : ∀ l : Fin 128, _ := fun l => left_proj m c t (x 0) r hr ((t.val % 4 * 8 + 4) * 128 + l.val) (by omega) 512 inb_S1x2048x1024_S1x2048x256_0_0_512 l (by omega) (by omega) (by omega)
    have hq := rope_turn m c t (x 0) r hr n hn (b := x 1) (g := t.val % 4 * 8 + 4) (er := by omega) (hp := hp) (en := by omega)
    unfold RopeSpec.specB
    rw [if_neg (by omega), if_pos (by omega)]
    exact hq
  case piece2 =>
    rw [eq_ix2 x]
    have hp : ∀ l : Fin 128, _ := fun l => right_proj m c t (x 0) r hr ((t.val % 4 * 8 + 5) * 128 + l.val) (by omega) 512 inb_S1x2048x1024_S1x2048x256_0_0_512 l (by omega) (by omega) (by omega)
    have hq := rope_turn m c t (x 0) r hr n hn (b := x 1) (g := t.val % 4 * 8 + 5) (er := by omega) (hp := hp) (en := by omega)
    unfold RopeSpec.specB
    rw [if_neg (by omega), if_pos (by omega)]
    exact hq
  case piece1 =>
    rw [eq_ix2 x]
    have hp : ∀ l : Fin 128, _ := fun l => left_proj m c t (x 0) r hr ((t.val % 4 * 8 + 6) * 128 + l.val) (by omega) 768 inb_S1x2048x1024_S1x2048x256_0_0_768 l (by omega) (by omega) (by omega)
    have hq := rope_turn m c t (x 0) r hr n hn (b := x 1) (g := t.val % 4 * 8 + 6) (er := by omega) (hp := hp) (en := by omega)
    unfold RopeSpec.specB
    rw [if_neg (by omega), if_pos (by omega)]
    exact hq
  case piece0 =>
    rw [eq_ix2 x]
    have hp : ∀ l : Fin 128, _ := fun l => right_proj m c t (x 0) r hr ((t.val % 4 * 8 + 7) * 128 + l.val) (by omega) 768 inb_S1x2048x1024_S1x2048x256_0_0_768 l (by omega) (by omega) (by omega)
    have hq := rope_turn m c t (x 0) r hr n hn (b := x 1) (g := t.val % 4 * 8 + 7) (er := by omega) (hp := hp) (en := by omega)
    unfold RopeSpec.specB
    rw [if_neg (by omega), if_pos (by omega)]
    exact hq

/-- What a point of the value columns leaves in its block. -/
theorem pointC (c : Dev nD) (t : Fin cfg0.N) (hA : t.val % 4 = 3)
    (y : S2048x1024.Idx) (r : ℕ) (hr : r < 16384) (n : ℕ) (hn : n < 4096) (er : r = t.val / 4 * 2048 + (y 0).val) (en : n = t.val % 4 * 1024 + (y 1).val) :
    outsAt0 m c t.val t.isLt y = RopeSpec.specB (X m c) (P m c) (W m c) r hr n := by
  have y1 : (y 1).val < 1024 := (y 1).isLt
  have hN := lt_of_lt_of_eq t.isLt N_0
  rw [outsAt0_C m c t (by omega) (by omega) hA]
  frame_out
  canon_tiles x h
  case piece7 =>
    rw [eq_ix2 x]
    have hp := left_proj m c t (x 0) r hr n hn 0 inb_S1x2048x1024_S1x2048x256_0_0_0 (x 1) (by omega) (by omega) (by omega)
    unfold RopeSpec.specB
    rw [if_neg (by omega), if_neg (by omega)]
    exact hp
  case piece6 =>
    rw [eq_ix2 x]
    have hp := right_proj m c t (x 0) r hr n hn 0 inb_S1x2048x1024_S1x2048x256_0_0_0 (x 1) (by omega) (by omega) (by omega)
    unfold RopeSpec.specB
    rw [if_neg (by omega), if_neg (by omega)]
    exact hp
  case piece5 =>
    rw [eq_ix2 x]
    have hp := left_proj m c t (x 0) r hr n hn 256 inb_S1x2048x1024_S1x2048x256_0_0_256 (x 1) (by omega) (by omega) (by omega)
    unfold RopeSpec.specB
    rw [if_neg (by omega), if_neg (by omega)]
    exact hp
  case piece4 =>
    rw [eq_ix2 x]
    have hp := right_proj m c t (x 0) r hr n hn 256 inb_S1x2048x1024_S1x2048x256_0_0_256 (x 1) (by omega) (by omega) (by omega)
    unfold RopeSpec.specB
    rw [if_neg (by omega), if_neg (by omega)]
    exact hp
  case piece3 =>
    rw [eq_ix2 x]
    have hp := left_proj m c t (x 0) r hr n hn 512 inb_S1x2048x1024_S1x2048x256_0_0_512 (x 1) (by omega) (by omega) (by omega)
    unfold RopeSpec.specB
    rw [if_neg (by omega), if_neg (by omega)]
    exact hp
  case piece2 =>
    rw [eq_ix2 x]
    have hp := right_proj m c t (x 0) r hr n hn 512 inb_S1x2048x1024_S1x2048x256_0_0_512 (x 1) (by omega) (by omega) (by omega)
    unfold RopeSpec.specB
    rw [if_neg (by omega), if_neg (by omega)]
    exact hp
  case piece1 =>
    rw [eq_ix2 x]
    have hp := left_proj m c t (x 0) r hr n hn 768 inb_S1x2048x1024_S1x2048x256_0_0_768 (x 1) (by omega) (by omega) (by omega)
    unfold RopeSpec.specB
    rw [if_neg (by omega), if_neg (by omega)]
    exact hp
  case piece0 =>
    rw [eq_ix2 x]
    have hp := right_proj m c t (x 0) r hr n hn 768 inb_S1x2048x1024_S1x2048x256_0_0_768 (x 1) (by omega) (by omega) (by omega)
    unfold RopeSpec.specB
    rw [if_neg (by omega), if_neg (by omega)]
    exact hp

/-- The array of the kernel is the array of the reference. -/
theorem final (c : Dev nD) :
    (dats m 0 c).arrAt 5 (cfgs 0).N = Cert.PbRefIdeal.Read.val_main_v156 (F := Ideal) (X m c) (P m c) (W m c) := by
  refine (dats m 0 c).arrAt_eq_of_covers 5 _ (by decide +kernel) fun t hf y => ?_
  have hN := lt_of_lt_of_eq t.isLt N_0
  have y0 : (y 0).val < 2048 := (y 0).isLt
  have y1 : (y 1).val < 1024 := (y 1).isLt
  blk_simp
  rw [after0_5]
  have hi : ((cfg0.win 5).blk t).view.emb y = (ix2 ⟨t.val / 4 * 2048 + (y 0).val, by omega⟩ ⟨t.val % 4 * 1024 + (y 1).val, by omega⟩ : S16384x4096.Idx) := by
    blk_ext [where_blocks t]
  refine Eq.trans ?_ (congrArg (Cert.PbRefIdeal.Read.val_main_v156 (F := Ideal) (X m c) (P m c) (W m c)) hi).symm
  rw [Cert.PbRefIdeal.Math.array_at]
  rcases (by omega : t.val % 4 ≤ 1 ∨ t.val % 4 = 2 ∨ t.val % 4 = 3) with h | h | h
  · exact pointA m c t h y _ _ _ (by show t.val % 4 * 1024 + (y 1).val < 4096; omega) rfl rfl
  · exact pointB m c t h y _ _ _ (by show t.val % 4 * 1024 + (y 1).val < 4096; omega) rfl rfl
  · exact pointC m c t h y _ _ _ (by show t.val % 4 * 1024 + (y 1).val < 4096; omega) rfl rfl

end Cert.PbIdeal.Math

end
-- ==== Proof.PfTiles.lean ====
/- The work of one tile of `Pf`, as the kernel's operations name it, and its value at an index. -/
module

public import proofs.«01_k».proof.Proof.Gen.PfIdeal.Value
public import proofs.«01_k».proof.Proof.RopeSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PfIdeal.Math

open Cert.PfIdeal Cert.PfIdeal.Gen

/-- The product of the row tile with 256 columns of the weight. -/
def mat (x : Vec Ideal S2048x2048 .bf16) (w : Vec Ideal S1x2048x256 .bf16) : FVec Ideal S2048x256 .f32 :=
  matmul (F := Ideal) (φ₁ := .bf16) (φ₂ := .bf16) dot_S2048x2048_S2048x256_S2048x256_1_0_0_1_n_n none (shapeCast S2048x2048 x shapeCasts_S2048x2048_S2048x2048)
    (shapeCast S2048x256 w shapeCasts_S1x2048x256_S2048x256) (constant S2048x256 .f32 0x00000000#32)

/-- Its left and right halves. -/
def left (p : FVec Ideal S2048x256 .f32) : FVec Ideal S2048x128 .f32 :=
  extractStridedSlice S2048x128 ![0, 0] p slices_S2048x256_o0_0_S2048x128
def right (p : FVec Ideal S2048x256 .f32) : FVec Ideal S2048x128 .f32 :=
  extractStridedSlice S2048x128 ![0, 128] p slices_S2048x256_o0_128_S2048x128

/-- The rotation of one head by the three tables. -/
def rope (t : FVec Ideal S2048x128 .f32) (u v w : Vec Ideal S2048x128 .f32) : FVec Ideal S2048x128 .f32 :=
  have a1 : FVec Ideal S2048x128 .f32 := shapeCast S2048x128 u shapeCasts_S2048x128_S2048x128
  have a2 : FVec Ideal S2048x128 .f32 := mulf t a1
  have a3 : FVec Ideal S2048x128 .f32 := dynamicRotate 1 112#32 none t rotates_S2048x128_d1
  have a4 : FVec Ideal S2048x128 .f32 := shapeCast S2048x128 v shapeCasts_S2048x128_S2048x128
  have a5 : FVec Ideal S2048x128 .f32 := mulf a3 a4
  have a6 : FVec Ideal S2048x128 .f32 := addf a2 a5
  have a7 : FVec Ideal S2048x128 .f32 := dynamicRotate 1 16#32 none t rotates_S2048x128_d1
  have a8 : FVec Ideal S2048x128 .f32 := shapeCast S2048x128 w shapeCasts_S2048x128_S2048x128
  have a9 : FVec Ideal S2048x128 .f32 := mulf a7 a8
  addf a6 a9

/-- The product with the last 128 columns of the tile. -/
def half (x : Vec Ideal S2048x2048 .bf16) (w : Vec Ideal S1x2048x128 .bf16) : FVec Ideal S2048x128 .f32 :=
  matmul (F := Ideal) (φ₁ := .bf16) (φ₂ := .bf16) dot_S2048x2048_S2048x128_S2048x128_1_0_0_1_n_n none (shapeCast S2048x2048 x shapeCasts_S2048x2048_S2048x2048)
    (shapeCast S2048x128 w shapeCasts_S1x2048x128_S2048x128) (constant S2048x128 .f32 0x00000000#32)

theorem left_at (p : FVec Ideal S2048x256 .f32) (a : Fin 2048) (b : Fin 128) : left p (ix2 a b) = p (ix2 a ⟨b.val, by omega⟩) := by
  pointwise [left]

theorem right_at (p : FVec Ideal S2048x256 .f32) (a : Fin 2048) (b : Fin 128) : right p (ix2 a b) = p (ix2 a ⟨128 + b.val, by omega⟩) := by
  pointwise [right]

theorem mat_at (x : Vec Ideal S2048x2048 .bf16) (w : Vec Ideal S1x2048x256 .bf16) (a : Fin 2048) (b : Fin 256) :
    mat x w (ix2 a b) = ∑ k : Fin 2048, (x (ix2 a k) : EReal) * w (ix3 0 k b) := by
  pointwise [mat]

theorem half_at (x : Vec Ideal S2048x2048 .bf16) (w : Vec Ideal S1x2048x128 .bf16) (a : Fin 2048) (b : Fin 128) :
    half x w (ix2 a b) = ∑ k : Fin 2048, (x (ix2 a k) : EReal) * w (ix3 0 k b) := by
  pointwise [half]

theorem rope_at (t : FVec Ideal S2048x128 .f32) (u v w : Vec Ideal S2048x128 .f32) (a : Fin 2048) (b : Fin 128) :
    rope t u v w (ix2 a b) = t (ix2 a b) * u (ix2 a b) + t (ix2 a ⟨(b.val + 16) % 128, by omega⟩) * v (ix2 a b)
      + t (ix2 a ⟨(b.val + 112) % 128, by omega⟩) * w (ix2 a b) := by
  pointwise [rope]
  have e1 : (b.val + 128 - 112) % 128 = (b.val + 16) % 128 := by omega
  have e2 : (b.val + 128 - 16) % 128 = (b.val + 112) % 128 := by omega
  simp only [e1, e2]

end Cert.PfIdeal.Math

end
-- ==== Proof.PfReads.lean ====
/- The blocks that `Pf` reads, in terms of its arguments: the input, the columns of the weight, and the tables of the rotation. -/
module

public import proofs.«01_k».proof.Proof.PfTiles

@[expose] public section

set_option maxRecDepth 16384

noncomputable section

open Idealize.ShloMosaic Idealize.ShloMosaic.TcCoe Idealize.SL.Sem

namespace Cert.PfIdeal.Math

open Cert.PfIdeal Cert.PfIdeal.Gen

variable (m : (ℓ : Loc nD τ sig) → Buf (Elt Ideal) ℓ)

/-- The normed input, the positions and the weight of a launch. -/
abbrev X (c : Dev nD) : FVec Ideal S2x8192x2048 .f32 := m ((c : Thread nD τ).loc main_arg0)
abbrev P (c : Dev nD) : IVec S2x8192 32 := m ((c : Thread nD τ).loc main_arg1)
abbrev W (c : Dev nD) : FVec Ideal S2x2048x7216 .f32 := m ((c : Thread nD τ).loc main_arg2)

/-- Where each window's block stands at each grid point. -/
theorem where_blocks : ∀ t : Fin cfg0.N, win0_0.index t = ![t.val / 5, 0] ∧ win0_1.index t = ![1, 0, t.val % 5]
    ∧ win0_2.index t = ![t.val / 5, 0] ∧ win0_3.index t = ![t.val / 5, 0] ∧ win0_4.index t = ![t.val / 5, 0]
    ∧ win0_5.index t = ![t.val / 5, t.val % 5] :=
  (by decide +kernel : ∀ t : Fin grid0.N, _)

theorem flat_x (x : FVec Ideal S2x8192x2048 .f32) (r : Fin 16384) (b : Fin 2048) (h0 : r.val / 8192 < 2) (h1 : r.val % 8192 < 8192) :
    shapeCast S16384x2048 x shapeCasts_S2x8192x2048_S16384x2048 (ix2 r b) = x (ix3 ⟨r.val / 8192, h0⟩ ⟨r.val % 8192, h1⟩ b) := by
  pointwise

/-- The input's block: rows of the flattened input. -/
theorem read_x (c : Dev nD) (t : Fin cfg0.N) (a b : Fin 2048) (h0 : (t.val / 5 * 2048 + a.val) / 8192 < 2)
    (h1 : (t.val / 5 * 2048 + a.val) % 8192 < 8192) :
    iblk m c 0 t (ix2 a b) = X m c (ix3 ⟨(t.val / 5 * 2048 + a.val) / 8192, h0⟩ ⟨(t.val / 5 * 2048 + a.val) % 8192, h1⟩ b) := by
  have e : (show FVec Ideal S16384x2048 .bf16 from V m c main_v13) = truncf (F := Ideal) .bf16 (shapeCast S16384x2048 (X m c) shapeCasts_S2x8192x2048_S16384x2048) bitsLt_bf16_f32 := by
    entry_read; rfl
  have hb : t.val / 5 * 2048 + a.val < 16384 := by have := lt_of_lt_of_eq t.isLt N_0; omega
  have hi : ((cfg0.win 0).blk t).view.emb (ix2 a b) = (ix2 ⟨t.val / 5 * 2048 + a.val, hb⟩ b : S16384x2048.Idx) := by
    blk_ext [where_blocks t]
  refine (congrArg (V m c main_v13) hi).trans ?_
  exact (congrFun e _).trans (flat_x _ _ _ h0 h1)

theorem ld_w (c : Dev nD) (t : Fin cfg0.N) (o : ℕ) (inb) (a : Fin 2048) (b : Fin 256) (h : o + b.val < 640) :
    View.ld (iblk m c 1 t) (Rect.unit (s := S1x2048x640) ![0, 0, o] ![1, 2048, 256] inb) (ix3 0 a b) = iblk m c 1 t (ix3 0 a ⟨o + b.val, h⟩) := by
  pointwise

theorem ld_t (x : Vec Ideal S2048x128 .f32) (a : Fin 2048) (b : Fin 128) :
    View.ld x (Rect.unit (s := S2048x128) ![0, 0] ![2048, 128] inb_S2048x128_S2048x128_0_0) (ix2 a b) = x (ix2 a b) := by
  pointwise

theorem ld_v (c : Dev nD) (t : Fin cfg0.N) (o : ℕ) (inb) (a : Fin 2048) (b : Fin 128) (h : o + b.val < 640) :
    View.ld (iblk m c 1 t) (Rect.unit (s := S1x2048x640) ![0, 0, o] ![1, 2048, 128] inb) (ix3 0 a b) = iblk m c 1 t (ix3 0 a ⟨o + b.val, h⟩) := by
  pointwise

/-- The weight with its columns in the order of the result, and columns of zeros. -/
def packed (w : FVec Ideal S2x2048x7216 .f32) : FVec Ideal S2x2048x3200 .f32 :=
  concatenate S2x2048x3200 2
    [⟨S2x2048x2048, extractStridedSlice S2x2048x2048 ![0, 0, 5168] w slices_S2x2048x7216_S2x2048x2048_0_0_5168⟩,
     ⟨S2x2048x512, extractStridedSlice S2x2048x512 ![0, 0, 2048] w slices_S2x2048x7216_S2x2048x512_0_0_2048⟩,
     ⟨S2x2048x512, extractStridedSlice S2x2048x512 ![0, 0, 2560] w slices_S2x2048x7216_S2x2048x512_0_0_2560⟩,
     ⟨S2x2048x48, extractStridedSlice S2x2048x48 ![0, 0, 5120] w slices_S2x2048x7216_S2x2048x48_0_0_5120⟩,
     ⟨S2x2048x80, broadcastInDim S2x2048x80 ![] bcast_S_S2x2048x80 (constant (F := Ideal) S_ .f32 0x00000000#32)⟩]
    concatenates_S2x2048x2048_S2x2048x512_S2x2048x512_S2x2048x48_S2x2048x80_S2x2048x3200_d2

theorem packed_at (w : FVec Ideal S2x2048x7216 .f32) (k : Fin 2048) (n : Fin 3200) :
    packed w (ix3 1 k n) = if h : RopeSpec.colF n.val < 7216 then w (ix3 1 k ⟨RopeSpec.colF n.val, h⟩) else 0 := by
  have hn := n.isLt
  unfold RopeSpec.colF
  rcases lt_or_ge n.val 2048 with h1 | h1
  · simp only [if_pos h1]
    rw [dif_pos (by omega)]
    pointwise [packed]
    rw [dif_pos (by omega)]
  rcases lt_or_ge n.val 3072 with h3 | h3
  · simp only [if_neg (not_lt.mpr h1), if_pos h3]
    rw [dif_pos (by omega)]
    pointwise [packed]
    rcases lt_or_ge n.val 2560 with h2 | h2
    · rw [dif_neg (by omega), dif_pos (by omega)]
      exact congrArg w (congrArg (ix3 _ _) (Fin.ext (by simp only []; omega)))
    · rw [dif_neg (by omega), dif_neg (by omega), dif_pos (by omega)]
      exact congrArg w (congrArg (ix3 _ _) (Fin.ext (by simp only []; omega)))
  rcases lt_or_ge n.val 3120 with h4 | h4
  · simp only [if_neg (not_lt.mpr h1), if_neg (not_lt.mpr h3), if_pos h4]
    rw [dif_pos (by omega)]
    pointwise [packed]
    rw [dif_neg (by omega), dif_neg (by omega), dif_neg (by omega), dif_pos (by omega)]
    exact congrArg w (congrArg (ix3 _ _) (Fin.ext (by simp only []; omega)))
  · simp only [if_neg (not_lt.mpr h1), if_neg (not_lt.mpr h3), if_neg (not_lt.mpr h4)]
    rw [dif_neg (by omega)]
    pointwise [packed]
    rw [dif_neg (by omega), dif_neg (by omega), dif_neg (by omega), dif_neg (by omega)]

theorem packed_proj (x : FVec Ideal S2x8192x2048 .f32) (w : FVec Ideal S2x2048x7216 .f32) (r : ℕ) (hr : r < 16384) (n : Fin 3200) :
    (∑ k : Fin 2048, (x (ix3 ⟨r / 8192, by omega⟩ ⟨r % 8192, by omega⟩ k) : EReal) * packed w (ix3 1 k n)) = RopeSpec.proj x w r hr (RopeSpec.colF n.val) := by
  simp only [packed_at]
  unfold RopeSpec.proj
  split_ifs
  · rfl
  · simp only [mul_zero, Finset.sum_const_zero]

theorem entry_w (c : Dev nD) : (show FVec Ideal S2x2048x3200 .bf16 from V m c main_v11) = packed (W m c) := by
  entry_read; rfl

/-- The weight's block: columns of layer 1's matrix, reordered. -/
theorem read_w (c : Dev nD) (t : Fin cfg0.N) (a : Fin 2048) (b : Fin 640) (h : t.val % 5 * 640 + b.val < 3200) :
    iblk m c 1 t (ix3 0 a b) = packed (W m c) (ix3 1 a ⟨t.val % 5 * 640 + b.val, h⟩) := by
  have hi : ((cfg0.win 1).blk t).view.emb (ix3 0 a b) = (ix3 1 a ⟨t.val % 5 * 640 + b.val, h⟩ : S2x2048x3200.Idx) := by
    blk_ext [where_blocks t]
  exact (congrArg (V m c main_v11) hi).trans (congrFun (entry_w m c) _)

/-- The frequencies of the sixteen pairs. -/
def freqs : FVec Ideal S16 .f32 :=
  Host.powf (broadcastInDim S16 ![] bcast_S_S16 (constant (F := Ideal) S_ .f32 0x48F42400#32))
    (Host.divf (Host.negf (sitofp (F := Ideal) .f32 (iotaInDim S16 32 0))) (broadcastInDim S16 ![] bcast_S_S16 (constant (F := Ideal) S_ .f32 0x41800000#32)))

/-- The frequency by lane. -/
def lanes : FVec Ideal S128 .f32 :=
  concatenate S128 0 [⟨S16, freqs⟩, ⟨S16, freqs⟩, ⟨S96, broadcastInDim S96 ![] bcast_S_S96 (constant (F := Ideal) S_ .f32 0x00000000#32)⟩]
    concatenates_S16_S16_S96_S128_d0

theorem freqs_at (i : Fin 16) : freqs (ix1 i) = RopeSpec.freq i.val := by
  pointwise [freqs]
  rfl

theorem lanes_at (l : Fin 128) : lanes (ix1 l) = RopeSpec.lane l.val := by
  have hl := l.isLt
  have z : Ideal.ofBits FTy.f32 0x00000000#32 = (0 : EReal) := by simp [Ideal.ofBits, Ideal.ieee]
  unfold RopeSpec.lane
  rcases lt_or_ge l.val 16 with h1 | h1
  · have e : lanes (ix1 l) = freqs (ix1 ⟨l.val, h1⟩) := by
      pointwise [lanes]
      rw [dif_pos (by omega)]
    rw [e, freqs_at, if_pos h1]
  rcases lt_or_ge l.val 32 with h2 | h2
  · have e : lanes (ix1 l) = freqs (ix1 ⟨l.val - 16, by omega⟩) := by
      pointwise [lanes]
      rw [dif_neg (by omega), dif_pos (by omega)]
    rw [e, freqs_at, if_neg (by omega), if_pos h2]
  · have e : lanes (ix1 l) = 0 := by
      pointwise [lanes]
      rw [dif_neg (by omega), dif_neg (by omega)]
    rw [e, if_neg (by omega), if_neg (by omega)]

/-- The angles by row and lane. -/
def angles (p : IVec S2x8192 32) : FVec Ideal S16384x128 .f32 :=
  mulf (broadcastInDim S16384x128 ![0, 1] bcast_S16384x1_S16384x128_0_1 (shapeCast S16384x1 (sitofp (F := Ideal) .f32 p) shapeCasts_S2x8192_S16384x1))
    (broadcastInDim S16384x128 ![0, 1] bcast_S1x128_S16384x128_0_1 (shapeCast S1x128 lanes shapeCasts_S128_S1x128))

theorem angles_at (p : IVec S2x8192 32) (r : Fin 16384) (l : Fin 128) :
    angles p (ix2 r l) = RopeSpec.pos p r.val r.isLt * RopeSpec.lane l.val := by
  rw [← lanes_at]
  pointwise [angles]
  rfl

theorem entry_26 (c : Dev nD) : V m c main_v27 = angles (P m c) := by
  entry_read; rfl

/-- The lanes below sixteen. -/
def below : IVec S16384x128 1 :=
  cmpi .slt (iotaInDim S16384x128 32 1) (broadcastInDim S16384x128 ![] bcast_S_S16384x128 (constantI S_ 32 16#32))

/-- The three tables. -/
def tabC (p : IVec S2x8192 32) : FVec Ideal S16384x128 .f32 := Host.cos (angles p)
def tabL (p : IVec S2x8192 32) : FVec Ideal S16384x128 .f32 :=
  select below (Host.negf (Host.sin (angles p))) (broadcastInDim S16384x128 ![] bcast_S_S16384x128 (constant (F := Ideal) S_ .f32 0x00000000#32))
def tabH (p : IVec S2x8192 32) : FVec Ideal S16384x128 .f32 :=
  select below (broadcastInDim S16384x128 ![] bcast_S_S16384x128 (constant (F := Ideal) S_ .f32 0x00000000#32)) (Host.sin (angles p))

theorem below_at (r : Fin 16384) (l : Fin 128) : below (ix2 r l) = if l.val < 16 then 1#1 else 0#1 := by
  have e : below (ix2 r l) = IntOp.cmpi CmpIPredicate.slt (BitVec.ofNat 32 l.val) 16#32 := by
    pointwise [below]
  rw [e]
  clear e
  revert l
  decide +kernel

theorem tabC_at (p : IVec S2x8192 32) (r : Fin 16384) (l : Fin 128) : tabC p (ix2 r l) = Ideal.cos (RopeSpec.pos p r.val r.isLt * RopeSpec.lane l.val) := by
  rw [← angles_at]
  rfl

theorem tabL_at (p : IVec S2x8192 32) (r : Fin 16384) (l : Fin 128) :
    tabL p (ix2 r l) = if l.val < 16 then -Ideal.sin (RopeSpec.pos p r.val r.isLt * RopeSpec.lane l.val) else 0 := by
  have z : Ideal.ofBits FTy.f32 0x00000000#32 = (0 : EReal) := by simp [Ideal.ofBits, Ideal.ieee]
  rw [← angles_at]
  show (if below (ix2 r l) = 1#1 then -Ideal.sin (angles p (ix2 r l)) else Ideal.ofBits FTy.f32 0x00000000#32) = _
  rw [below_at, z]
  split_ifs <;> simp_all

theorem tabH_at (p : IVec S2x8192 32) (r : Fin 16384) (l : Fin 128) :
    tabH p (ix2 r l) = if l.val < 16 then 0 else Ideal.sin (RopeSpec.pos p r.val r.isLt * RopeSpec.lane l.val) := by
  have z : Ideal.ofBits FTy.f32 0x00000000#32 = (0 : EReal) := by simp [Ideal.ofBits, Ideal.ieee]
  rw [← angles_at]
  show (if below (ix2 r l) = 1#1 then Ideal.ofBits FTy.f32 0x00000000#32 else Ideal.sin (angles p (ix2 r l))) = _
  rw [below_at, z]
  split_ifs <;> simp_all

theorem entry_c (c : Dev nD) : V m c main_v30 = tabC (P m c) := by
  entry_read; rfl
theorem entry_l (c : Dev nD) : V m c main_v34 = tabL (P m c) := by
  entry_read; rfl
theorem entry_h (c : Dev nD) : V m c main_v37 = tabH (P m c) := by
  entry_read; rfl

section Tables

variable (c : Dev nD) (t : Fin cfg0.N) (a : Fin 2048) (b : Fin 128) (h : t.val / 5 * 2048 + a.val < 16384)

theorem read_c : iblk m c 2 t (ix2 a b) = Ideal.cos (RopeSpec.pos (P m c) (t.val / 5 * 2048 + a.val) h * RopeSpec.lane b.val) := by
  have hi : ((cfg0.win 2).blk t).view.emb (ix2 a b) = (ix2 ⟨t.val / 5 * 2048 + a.val, h⟩ b : S16384x128.Idx) := by
    blk_ext [where_blocks t]
  exact (congrArg (V m c main_v30) hi).trans ((congrFun (entry_c m c) _).trans (tabC_at _ ⟨_, h⟩ b))

theorem read_l : iblk m c 3 t (ix2 a b) = if b.val < 16 then -Ideal.sin (RopeSpec.pos (P m c) (t.val / 5 * 2048 + a.val) h * RopeSpec.lane b.val) else 0 := by
  have hi : ((cfg0.win 3).blk t).view.emb (ix2 a b) = (ix2 ⟨t.val / 5 * 2048 + a.val, h⟩ b : S16384x128.Idx) := by
    blk_ext [where_blocks t]
  exact (congrArg (V m c main_v34) hi).trans ((congrFun (entry_l m c) _).trans (tabL_at _ ⟨_, h⟩ b))

theorem read_h : iblk m c 4 t (ix2 a b) = if b.val < 16 then 0 else Ideal.sin (RopeSpec.pos (P m c) (t.val / 5 * 2048 + a.val) h * RopeSpec.lane b.val) := by
  have hi : ((cfg0.win 4).blk t).view.emb (ix2 a b) = (ix2 ⟨t.val / 5 * 2048 + a.val, h⟩ b : S16384x128.Idx) := by
    blk_ext [where_blocks t]
  exact (congrArg (V m c main_v37) hi).trans ((congrFun (entry_h m c) _).trans (tabH_at _ ⟨_, h⟩ b))

end Tables

end Cert.PfIdeal.Math

end
-- ==== Proof.PfRefValue.lean ====
/- The reference of `Pf` at a row and a column: the number of `RopeSpec`. -/
module

public import proofs.«01_k».proof.Proof.Gen.PfRefIdeal.Read
public import proofs.«01_k».proof.Proof.RopeSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PfRefIdeal.Math

open Cert.PfRefIdeal Cert.PfRefIdeal.Gen
open Cert.PfRefIdeal.Read

variable (x : FVec Ideal S2x8192x2048 .f32) (p : IVec S2x8192 32) (w : FVec Ideal S2x2048x7216 .f32)

/-- The position as a number. -/
def place (b : Fin 2) (s : Fin 8192) : EReal := (((p (ix2 b s)).toInt : ℝ) : EReal)

/-- Column `n` of the projection, nothing beyond the weight. -/
def col (b : Fin 2) (s : Fin 8192) (n : ℕ) : EReal := if hn : n < 7216 then val_main_v2 (F := Ideal) x w (ix3 b s ⟨n, hn⟩) else 0

theorem col_at (b : Fin 2) (s : Fin 8192) (n : ℕ) (hn : n < 7216) : col x w b s n = val_main_v2 (F := Ideal) x w (ix3 b s ⟨n, hn⟩) := dif_pos hn

theorem proj_at (b : Fin 2) (s : Fin 8192) (n : Fin 7216) :
    val_main_v2 (F := Ideal) x w (ix3 b s n) = ∑ k : Fin 2048, (x (ix3 b s k) : EReal) * w (ix3 1 k n) := by
  pointwise [val_main_v2, val_main_v1, val_main_v0]

theorem col_proj (r : Fin 16384) (n : ℕ) : col x w ⟨r.val / 8192, by omega⟩ ⟨r.val % 8192, by omega⟩ n = RopeSpec.proj x w r.val r.isLt n := by
  unfold col RopeSpec.proj
  split_ifs
  · exact proj_at x w _ _ _
  · rfl

/-- Heads from column 2048: the lanes as `RopeSpec.turn` moves them. -/
theorem kc_low (b : Fin 2) (s : Fin 8192) (h : Fin 4) (i : Fin 16) :
    val_main_v70 (F := Ideal) x p w (ix4 b s h i)
      = val_main_v2 (F := Ideal) x w (ix3 b s ⟨2048 + (h.val * 128 + i.val), by omega⟩) * Ideal.cos (place p b s * RopeSpec.freq i.val)
        - val_main_v2 (F := Ideal) x w (ix3 b s ⟨2048 + (h.val * 128 + (16 + i.val)), by omega⟩) * Ideal.sin (place p b s * RopeSpec.freq i.val) := by
  pointwise [val_main_v70, val_main_v69, val_main_v68, val_main_v67, val_main_v66, val_main_v65, val_main_v64, val_main_v63, val_main_v46, val_main_v4, val_main_v62, val_main_v61, val_main_v60, val_main_v59, val_main_v58, val_main_v57, val_main_v56, val_main_v55, val_main_v54, val_main_v53, val_main_v52, val_main_v51, val_main_v50, val_main_v49, val_main_v48, val_main_v47, val_main_cst_1, val_main_cst_2]
  rfl

theorem kc_high (b : Fin 2) (s : Fin 8192) (h : Fin 4) (i : Fin 16) :
    val_main_v75 (F := Ideal) x p w (ix4 b s h i)
      = val_main_v2 (F := Ideal) x w (ix3 b s ⟨2048 + (h.val * 128 + (16 + i.val)), by omega⟩) * Ideal.cos (place p b s * RopeSpec.freq i.val)
        + val_main_v2 (F := Ideal) x w (ix3 b s ⟨2048 + (h.val * 128 + i.val), by omega⟩) * Ideal.sin (place p b s * RopeSpec.freq i.val) := by
  pointwise [val_main_v75, val_main_v74, val_main_v73, val_main_v72, val_main_v71, val_main_v65, val_main_v64, val_main_v63, val_main_v46, val_main_v4, val_main_v62, val_main_v61, val_main_v60, val_main_v59, val_main_v58, val_main_v57, val_main_v56, val_main_v55, val_main_v54, val_main_v53, val_main_v52, val_main_v51, val_main_v50, val_main_v49, val_main_v48, val_main_v47, val_main_cst_1, val_main_cst_2]
  rfl

theorem kc_rest (b : Fin 2) (s : Fin 8192) (h : Fin 4) (i : Fin 96) :
    val_main_v77 (F := Ideal) x w (ix4 b s h i) = val_main_v2 (F := Ideal) x w (ix3 b s ⟨2048 + (h.val * 128 + (32 + i.val)), by omega⟩) := by
  pointwise [val_main_v77, val_main_v46, val_main_v4]

theorem kc_turn (b : Fin 2) (s : Fin 8192) (h : Fin 4) (l : Fin 128) :
    val_main_v78 (F := Ideal) x p w (ix4 b s h l) = RopeSpec.turn (fun l => col x w b s (2048 + (h.val * 128 + l))) (place p b s) l.val := by
  have hl := l.isLt
  have hh := h.isLt
  unfold RopeSpec.turn
  beta_reduce
  rcases lt_or_ge l.val 16 with h1 | h1
  · have e : val_main_v78 (F := Ideal) x p w (ix4 b s h l) = val_main_v70 (F := Ideal) x p w (ix4 b s h ⟨l.val, h1⟩) := by
      pointwise [val_main_v78, val_main_v76]
      rw [dif_pos (by omega), dif_pos (by omega)]
    rw [e, kc_low, if_pos h1, col_at x w b s (2048 + (h.val * 128 + l.val)) (by omega), col_at x w b s (2048 + (h.val * 128 + (16 + l.val))) (by omega)]
  rcases lt_or_ge l.val 32 with h2 | h2
  · have e : val_main_v78 (F := Ideal) x p w (ix4 b s h l) = val_main_v75 (F := Ideal) x p w (ix4 b s h ⟨l.val - 16, by omega⟩) := by
      pointwise [val_main_v78, val_main_v76]
      rw [dif_pos (by omega), dif_neg (by omega)]
    have k : 16 + (l.val - 16) = l.val := by omega
    rw [e, kc_high, if_neg (by omega), if_pos h2, col_at x w b s (2048 + (h.val * 128 + l.val)) (by omega), col_at x w b s (2048 + (h.val * 128 + (l.val - 16))) (by omega)]
    simp only [k]
  · have e : val_main_v78 (F := Ideal) x p w (ix4 b s h l) = val_main_v77 (F := Ideal) x w (ix4 b s h ⟨l.val - 32, by omega⟩) := by
      pointwise [val_main_v78]
      rw [dif_neg (by omega)]
    have k : 32 + (l.val - 32) = l.val := by omega
    rw [e, kc_rest, if_neg (by omega), if_neg (by omega), col_at x w b s (2048 + (h.val * 128 + l.val)) (by omega)]
    simp only [k]

/-- The row and the column of the flattened result, in the batched one. -/
theorem flat_at (r : Fin 16384) (n : Fin 3200) :
    val_main_v150 (F := Ideal) x p w (ix2 r n) = val_main_v149 (F := Ideal) x p w (ix3 ⟨r.val / 8192, by omega⟩ ⟨r.val % 8192, by omega⟩ n) := by
  pointwise [val_main_v150]

theorem v79_at (b : Fin 2) (s : Fin 8192) (n : Fin 512) :
    val_main_v79 (F := Ideal) x p w (ix3 b s n) = val_main_v78 (F := Ideal) x p w (ix4 b s ⟨n.val / 128, by omega⟩ ⟨n.val % 128, by omega⟩) := by
  pointwise [val_main_v79]

theorem v5_at (b : Fin 2) (s : Fin 8192) (n : Fin 512) :
    val_main_v5 (F := Ideal) x w (ix3 b s n) = val_main_v2 (F := Ideal) x w (ix3 b s ⟨2560 + n.val, by omega⟩) := by
  pointwise [val_main_v5]

theorem v10_at (b : Fin 2) (s : Fin 8192) (n : Fin 48) :
    val_main_v10 (F := Ideal) x w (ix3 b s n) = val_main_v2 (F := Ideal) x w (ix3 b s ⟨5120 + n.val, by omega⟩) := by
  pointwise [val_main_v10]

theorem v11_at (b : Fin 2) (s : Fin 8192) (n : Fin 2048) :
    val_main_v11 (F := Ideal) x w (ix3 b s n) = val_main_v2 (F := Ideal) x w (ix3 b s ⟨5168 + n.val, by omega⟩) := by
  pointwise [val_main_v11]

/-- Heads beside each other come from columns beside each other. -/
theorem turn_congr (r : Fin 16384) (f : ℕ → ℕ) (n l : ℕ) (hl : l = n % 128) (h : ∀ i, i < 128 → f i = RopeSpec.colF (n / 128 * 128 + i)) :
    RopeSpec.turn (fun l => col x w ⟨r.val / 8192, by omega⟩ ⟨r.val % 8192, by omega⟩ (f l)) (place p ⟨r.val / 8192, by omega⟩ ⟨r.val % 8192, by omega⟩) l
      = RopeSpec.turn (fun l => RopeSpec.proj x w r.val r.isLt (RopeSpec.colF (n / 128 * 128 + l))) (RopeSpec.pos p r.val r.isLt) (n % 128) := by
  subst hl
  have hp : place p ⟨r.val / 8192, by omega⟩ ⟨r.val % 8192, by omega⟩ = RopeSpec.pos p r.val r.isLt := rfl
  rw [hp]
  unfold RopeSpec.turn
  have hn : n % 128 < 128 := by omega
  rcases lt_or_ge (n % 128) 16 with h1 | h1
  · simp only [if_pos h1, col_proj, h _ hn, h (16 + n % 128) (by omega)]
  rcases lt_or_ge (n % 128) 32 with h2 | h2
  · simp only [if_neg (not_lt.mpr h1), if_pos h2, col_proj, h _ hn, h (n % 128 - 16) (by omega)]
  · simp only [if_neg (not_lt.mpr h1), if_neg (not_lt.mpr h2), col_proj, h _ hn]

/-- The array of the reference. -/
theorem array_at (r : Fin 16384) (n : Fin 3200) :
    val_main_v150 (F := Ideal) x p w (ix2 r n) = RopeSpec.specF x p w r.val r.isLt n.val := by
  have hr := r.isLt
  have hn := n.isLt
  rw [flat_at]
  unfold RopeSpec.specF
  rcases lt_or_ge n.val 2048 with h1 | h1
  · have e : val_main_v149 (F := Ideal) x p w (ix3 ⟨r.val / 8192, by omega⟩ ⟨r.val % 8192, by omega⟩ n) = val_main_v11 (F := Ideal) x w (ix3 ⟨r.val / 8192, by omega⟩ ⟨r.val % 8192, by omega⟩ ⟨n.val, h1⟩) := by
      pointwise [val_main_v149]
      exact dif_pos h1
    have k : RopeSpec.colF n.val = 5168 + n.val := by
      unfold RopeSpec.colF
      split_ifs <;> omega
    rw [if_neg (by omega), ← col_proj, e, v11_at, k, col_at x w _ _ _ (by omega)]
  rcases lt_or_ge n.val 2560 with h2 | h2
  · have e : val_main_v149 (F := Ideal) x p w (ix3 ⟨r.val / 8192, by omega⟩ ⟨r.val % 8192, by omega⟩ n) = val_main_v79 (F := Ideal) x p w (ix3 ⟨r.val / 8192, by omega⟩ ⟨r.val % 8192, by omega⟩ ⟨n.val - 2048, by omega⟩) := by
      pointwise [val_main_v149]
      rw [dif_neg (by omega), dif_pos (by omega)]
    rw [e, v79_at, kc_turn, if_pos (by omega)]
    refine turn_congr x p w r (fun l => 2048 + ((n.val - 2048) / 128 * 128 + l)) n.val _ (by show (n.val - 2048) % 128 = n.val % 128; omega) fun i hi => ?_
    unfold RopeSpec.colF
    beta_reduce
    split_ifs <;> omega
  rw [if_neg (by omega), ← col_proj]
  rcases lt_or_ge n.val 3072 with h3 | h3
  · have e : val_main_v149 (F := Ideal) x p w (ix3 ⟨r.val / 8192, by omega⟩ ⟨r.val % 8192, by omega⟩ n) = val_main_v5 (F := Ideal) x w (ix3 ⟨r.val / 8192, by omega⟩ ⟨r.val % 8192, by omega⟩ ⟨n.val - 2048 - 512, by omega⟩) := by
      pointwise [val_main_v149]
      rw [dif_neg (by omega), dif_neg (by omega), dif_pos (by omega)]
    have k : RopeSpec.colF n.val = 2560 + (n.val - 2048 - 512) := by
      unfold RopeSpec.colF
      split_ifs <;> omega
    rw [e, v5_at, k, col_at x w _ _ _ (by omega)]
  rcases lt_or_ge n.val 3120 with h4 | h4
  · have e : val_main_v149 (F := Ideal) x p w (ix3 ⟨r.val / 8192, by omega⟩ ⟨r.val % 8192, by omega⟩ n) = val_main_v10 (F := Ideal) x w (ix3 ⟨r.val / 8192, by omega⟩ ⟨r.val % 8192, by omega⟩ ⟨n.val - 2048 - 512 - 512, by omega⟩) := by
      pointwise [val_main_v149]
      rw [dif_neg (by omega), dif_neg (by omega), dif_neg (by omega), dif_pos (by omega)]
    have k : RopeSpec.colF n.val = 5120 + (n.val - 2048 - 512 - 512) := by
      unfold RopeSpec.colF
      split_ifs <;> omega
    rw [e, v10_at, k, col_at x w _ _ _ (by omega)]
  · have e : val_main_v149 (F := Ideal) x p w (ix3 ⟨r.val / 8192, by omega⟩ ⟨r.val % 8192, by omega⟩ n) = (0 : EReal) := by
      pointwise [val_main_v149, val_main_v148, val_main_cst_7]
      rw [dif_neg (by omega), dif_neg (by omega), dif_neg (by omega), dif_neg (by omega)]
    have k : RopeSpec.colF n.val = 7216 := by
      unfold RopeSpec.colF
      split_ifs <;> omega
    rw [e, k]
    unfold col
    rw [dif_neg (by omega)]

end Cert.PfRefIdeal.Math

end
-- ==== Proof.PfValue.lean ====
/- The result array of `Pf` (the other half of an attention layer's input projection) is the reference's value at every index. -/
module

public import proofs.«01_k».proof.Proof.PfReads
public import proofs.«01_k».proof.Proof.PfRefValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PfIdeal.Math

open Cert.PfIdeal Cert.PfIdeal.Gen

variable (m : (ℓ : Loc nD τ sig) → Buf (Elt Ideal) ℓ)

theorem proj_of (x : FVec Ideal S2x8192x2048 .f32) (w : FVec Ideal S2x2048x7216 .f32) (r : ℕ) (hr : r < 16384) (k : ℕ) (hk : k < 7216) :
    RopeSpec.proj x w r hr k = ∑ j : Fin 2048, (x (ix3 ⟨r / 8192, by omega⟩ ⟨r % 8192, by omega⟩ j) : EReal) * w (ix3 1 j ⟨k, hk⟩) := dif_pos hk

section Tiles

variable (c : Dev nD) (t : Fin cfg0.N) (a : Fin 2048) (r : ℕ) (hr : r < 16384) (n : ℕ) (hn : n < 3200) (o : ℕ)

include hn

/-- The product at row `r` and column `n`, from the tile that holds them. -/
theorem mat_proj (inb) (b : Fin 256) (ho : o + 256 ≤ 640) (er : r = t.val / 5 * 2048 + a.val) (en : n = t.val % 5 * 640 + (o + b.val)) :
    mat (iblk m c 0 t) (View.ld (iblk m c 1 t) (Rect.unit (s := S1x2048x640) ![0, 0, o] ![1, 2048, 256] inb)) (ix2 a b) = RopeSpec.proj (X m c) (W m c) r hr (RopeSpec.colF n) := by
  subst er en
  have hb : o + b.val < 640 := by omega
  rw [mat_at]
  refine Eq.trans (Finset.sum_congr rfl fun k _ => ?_) (packed_proj (X m c) (W m c) (t.val / 5 * 2048 + a.val) hr ⟨t.val % 5 * 640 + (o + b.val), by omega⟩)
  rw [ld_w m c t o inb k b hb, read_x m c t a k (by omega) (by omega), read_w m c t k ⟨o + b.val, hb⟩ (by simp only []; omega)]

theorem left_proj (inb) (b : Fin 128) (ho : o + 256 ≤ 640) (er : r = t.val / 5 * 2048 + a.val) (en : n = t.val % 5 * 640 + (o + b.val)) :
    left (mat (iblk m c 0 t) (View.ld (iblk m c 1 t) (Rect.unit (s := S1x2048x640) ![0, 0, o] ![1, 2048, 256] inb))) (ix2 a b) = RopeSpec.proj (X m c) (W m c) r hr (RopeSpec.colF n) := by
  rw [left_at]
  exact mat_proj m c t a r hr n hn o inb _ ho er en

theorem right_proj (inb) (b : Fin 128) (ho : o + 256 ≤ 640) (er : r = t.val / 5 * 2048 + a.val) (en : n = t.val % 5 * 640 + (o + 128 + b.val)) :
    right (mat (iblk m c 0 t) (View.ld (iblk m c 1 t) (Rect.unit (s := S1x2048x640) ![0, 0, o] ![1, 2048, 256] inb))) (ix2 a b) = RopeSpec.proj (X m c) (W m c) r hr (RopeSpec.colF n) := by
  rw [right_at]
  exact mat_proj m c t a r hr n hn o inb _ ho er (by simp only []; omega)

theorem half_proj (inb) (b : Fin 128) (ho : o + 128 ≤ 640) (er : r = t.val / 5 * 2048 + a.val) (en : n = t.val % 5 * 640 + (o + b.val)) :
    half (iblk m c 0 t) (View.ld (iblk m c 1 t) (Rect.unit (s := S1x2048x640) ![0, 0, o] ![1, 2048, 128] inb)) (ix2 a b) = RopeSpec.proj (X m c) (W m c) r hr (RopeSpec.colF n) := by
  subst er en
  have hb : o + b.val < 640 := by omega
  rw [half_at]
  refine Eq.trans (Finset.sum_congr rfl fun k _ => ?_) (packed_proj (X m c) (W m c) (t.val / 5 * 2048 + a.val) hr ⟨t.val % 5 * 640 + (o + b.val), by omega⟩)
  rw [ld_v m c t o inb k b hb, read_x m c t a k (by omega) (by omega), read_w m c t k ⟨o + b.val, hb⟩ (by simp only []; omega)]

/-- The rotation of a head whose lanes are columns of the product. -/
theorem rope_turn (p : FVec Ideal S2048x128 .f32) (b : Fin 128) (g : ℕ) (er : r = t.val / 5 * 2048 + a.val)
    (hp : ∀ l : Fin 128, p (ix2 a l) = RopeSpec.proj (X m c) (W m c) r hr (RopeSpec.colF (g * 128 + l.val))) (en : n = g * 128 + b.val) :
    rope p (iblk m c 2 t) (iblk m c 3 t) (iblk m c 4 t) (ix2 a b)
      = RopeSpec.turn (fun l => RopeSpec.proj (X m c) (W m c) r hr (RopeSpec.colF (n / 128 * 128 + l))) (RopeSpec.pos (P m c) r hr) (n % 128) := by
  have k1 : n / 128 = g := by omega
  have k2 : n % 128 = b.val := by omega
  rw [k1, k2, rope_at, hp, hp, hp]
  subst er
  rw [read_c m c t a b hr, read_l m c t a b hr, read_h m c t a b hr]
  exact RopeSpec.rolled (fun l => RopeSpec.proj (X m c) (W m c) (t.val / 5 * 2048 + a.val) hr (RopeSpec.colF (g * 128 + l))) _ b.val b.isLt

end Tiles

/-- What a point of the plain columns leaves in its block. -/
theorem pointA (c : Dev nD) (t : Fin cfg0.N) (hA : t.val % 5 ≠ 3)
    (y : S2048x640.Idx) (r : ℕ) (hr : r < 16384) (n : ℕ) (hn : n < 3200) (er : r = t.val / 5 * 2048 + (y 0).val) (en : n = t.val % 5 * 640 + (y 1).val) :
    outsAt0 m c t.val t.isLt y = RopeSpec.specF (X m c) (P m c) (W m c) r hr n := by
  have y1 : (y 1).val < 640 := (y 1).isLt
  have hN := lt_of_lt_of_eq t.isLt N_0
  rw [outsAt0_A m c t hA (by omega)]
  frame_out
  canon_tiles x h
  case piece4 =>
    rw [eq_ix2 x]
    have hp := left_proj m c t (x 0) r hr n hn 0 inb_S1x2048x640_S1x2048x256_0_0_0 (x 1) (by omega) (by omega) (by omega)
    unfold RopeSpec.specF
    rw [if_neg (by omega)]
    exact hp
  case piece3 =>
    rw [eq_ix2 x]
    have hp := right_proj m c t (x 0) r hr n hn 0 inb_S1x2048x640_S1x2048x256_0_0_0 (x 1) (by omega) (by omega) (by omega)
    unfold RopeSpec.specF
    rw [if_neg (by omega)]
    exact hp
  case piece2 =>
    rw [eq_ix2 x]
    have hp := left_proj m c t (x 0) r hr n hn 256 inb_S1x2048x640_S1x2048x256_0_0_256 (x 1) (by omega) (by omega) (by omega)
    unfold RopeSpec.specF
    rw [if_neg (by omega)]
    exact hp
  case piece1 =>
    rw [eq_ix2 x]
    have hp := right_proj m c t (x 0) r hr n hn 256 inb_S1x2048x640_S1x2048x256_0_0_256 (x 1) (by omega) (by omega) (by omega)
    unfold RopeSpec.specF
    rw [if_neg (by omega)]
    exact hp
  case piece0 =>
    rw [eq_ix2 x]
    have hp := half_proj m c t (x 0) r hr n hn 512 inb_S1x2048x640_S1x2048x128_0_0_512 (x 1) (by omega) (by omega) (by omega)
    unfold RopeSpec.specF
    rw [if_neg (by omega)]
    exact hp

/-- What a point of the key columns leaves in its block. -/
theorem pointB (c : Dev nD) (t : Fin cfg0.N) (hA : t.val % 5 = 3)
    (y : S2048x640.Idx) (r : ℕ) (hr : r < 16384) (n : ℕ) (hn : n < 3200) (er : r = t.val / 5 * 2048 + (y 0).val) (en : n = t.val % 5 * 640 + (y 1).val) :
    outsAt0 m c t.val t.isLt y = RopeSpec.specF (X m c) (P m c) (W m c) r hr n := by
  have y1 : (y 1).val < 640 := (y 1).isLt
  have hN := lt_of_lt_of_eq t.isLt N_0
  rw [outsAt0_B m c t (by omega) hA]
  frame_out
  canon_tiles x h
  case piece4 =>
    rw [eq_ix2 x]
    have hp := left_proj m c t (x 0) r hr n hn 0 inb_S1x2048x640_S1x2048x256_0_0_0 (x 1) (by omega) (by omega) (by omega)
    unfold RopeSpec.specF
    rw [if_neg (by omega)]
    exact hp
  case piece3 =>
    rw [eq_ix2 x]
    have hp : ∀ l : Fin 128, _ := fun l => right_proj m c t (x 0) r hr ((t.val % 5 * 5 + 1) * 128 + l.val) (by omega) 0 inb_S1x2048x640_S1x2048x256_0_0_0 l (by omega) (by omega) (by omega)
    have hq := rope_turn m c t (x 0) r hr n hn (b := x 1) (g := t.val % 5 * 5 + 1) (er := by omega) (hp := hp) (en := by omega)
    unfold RopeSpec.specF
    rw [if_pos (by omega)]
    exact hq
  case piece2 =>
    rw [eq_ix2 x]
    have hp : ∀ l : Fin 128, _ := fun l => left_proj m c t (x 0) r hr ((t.val % 5 * 5 + 2) * 128 + l.val) (by omega) 256 inb_S1x2048x640_S1x2048x256_0_0_256 l (by omega) (by omega) (by omega)
    have hq := rope_turn m c t (x 0) r hr n hn (b := x 1) (g := t.val % 5 * 5 + 2) (er := by omega) (hp := hp) (en := by omega)
    unfold RopeSpec.specF
    rw [if_pos (by omega)]
    exact hq
  case piece1 =>
    rw [eq_ix2 x]
    have hp : ∀ l : Fin 128, _ := fun l => right_proj m c t (x 0) r hr ((t.val % 5 * 5 + 3) * 128 + l.val) (by omega) 256 inb_S1x2048x640_S1x2048x256_0_0_256 l (by omega) (by omega) (by omega)
    have hq := rope_turn m c t (x 0) r hr n hn (b := x 1) (g := t.val % 5 * 5 + 3) (er := by omega) (hp := hp) (en := by omega)
    unfold RopeSpec.specF
    rw [if_pos (by omega)]
    exact hq
  case piece0 =>
    rw [eq_ix2 x]
    have hp : ∀ l : Fin 128, _ := fun l => half_proj m c t (x 0) r hr ((t.val % 5 * 5 + 4) * 128 + l.val) (by omega) 512 inb_S1x2048x640_S1x2048x128_0_0_512 l (by omega) (by omega) (by omega)
    have hq := rope_turn m c t (x 0) r hr n hn (b := x 1) (g := t.val % 5 * 5 + 4) (er := by omega) (hp := hp) (en := by omega)
    unfold RopeSpec.specF
    rw [if_pos (by omega)]
    exact hq

/-- The array of the kernel is the array of the reference. -/
theorem final (c : Dev nD) :
    (dats m 0 c).arrAt 5 (cfgs 0).N = Cert.PfRefIdeal.Read.val_main_v150 (F := Ideal) (X m c) (P m c) (W m c) := by
  refine (dats m 0 c).arrAt_eq_of_covers 5 _ (by decide +kernel) fun t hf y => ?_
  have hN := lt_of_lt_of_eq t.isLt N_0
  have y0 : (y 0).val < 2048 := (y 0).isLt
  have y1 : (y 1).val < 640 := (y 1).isLt
  blk_simp
  rw [after0_5]
  have hi : ((cfg0.win 5).blk t).view.emb y = (ix2 ⟨t.val / 5 * 2048 + (y 0).val, by omega⟩ ⟨t.val % 5 * 640 + (y 1).val, by omega⟩ : S16384x3200.Idx) := by
    blk_ext [where_blocks t]
  refine Eq.trans ?_ (congrArg (Cert.PfRefIdeal.Read.val_main_v150 (F := Ideal) (X m c) (P m c) (W m c)) hi).symm
  rw [Cert.PfRefIdeal.Math.array_at]
  rcases (by omega : t.val % 5 ≠ 3 ∨ t.val % 5 = 3) with h | h
  · exact pointA m c t h y _ _ _ (by show t.val % 5 * 640 + (y 1).val < 3200; omega) rfl rfl
  · exact pointB m c t h y _ _ _ (by show t.val % 5 * 640 + (y 1).val < 3200; omega) rfl rfl

end Cert.PfIdeal.Math

end
-- ==== Proof.NoutSpec.lean ====
/- One number of the end of the attention layer: three branches weighted by their gates, times the gated activation, times
   the output weight, added to the residual. -/
module

public import Idealize.ShloMosaic.Lib.Pipeline.ValueKit

@[expose] public section

set_option maxRecDepth 16384

noncomputable section

open Idealize.ShloMosaic

namespace Cert.NoutSpec

/-- Column `k` of the gated mixture at row `r` of the flattened batch. -/
def gated (o1 o2 o3 : FVec Ideal ⟨4, ![2, 8192, 16, 128]⟩ .f32) (g : FVec Ideal ⟨3, ![2, 8192, 48]⟩ .f32)
    (z : FVec Ideal ⟨3, ![2, 8192, 2048]⟩ .f32) (r : ℕ) (hr : r < 16384) (k : ℕ) : EReal :=
  if hk : k < 2048 then
    (Ideal.logistic (g (ix3 ⟨r / 8192, by omega⟩ ⟨r % 8192, by omega⟩ ⟨k / 128, by omega⟩))
        * o1 (ix4 ⟨r / 8192, by omega⟩ ⟨r % 8192, by omega⟩ ⟨k / 128, by omega⟩ ⟨k % 128, by omega⟩)
      + Ideal.logistic (g (ix3 ⟨r / 8192, by omega⟩ ⟨r % 8192, by omega⟩ ⟨16 + k / 128, by omega⟩))
        * o2 (ix4 ⟨r / 8192, by omega⟩ ⟨r % 8192, by omega⟩ ⟨k / 128, by omega⟩ ⟨k % 128, by omega⟩)
      + Ideal.logistic (g (ix3 ⟨r / 8192, by omega⟩ ⟨r % 8192, by omega⟩ ⟨32 + k / 128, by omega⟩))
        * o3 (ix4 ⟨r / 8192, by omega⟩ ⟨r % 8192, by omega⟩ ⟨k / 128, by omega⟩ ⟨k % 128, by omega⟩))
      * (z (ix3 ⟨r / 8192, by omega⟩ ⟨r % 8192, by omega⟩ ⟨k, hk⟩)
        * Ideal.logistic (z (ix3 ⟨r / 8192, by omega⟩ ⟨r % 8192, by omega⟩ ⟨k, hk⟩)))
  else 0

/-- Row `k` of column `n` of layer 1's output weight. -/
def weight (w : FVec Ideal ⟨3, ![2, 2048, 2048]⟩ .f32) (n : Fin 2048) (k : ℕ) : EReal :=
  if hk : k < 2048 then w (ix3 1 ⟨k, hk⟩ n) else 0

/-- The layer's result at row `r`, column `n`. -/
def res (x : FVec Ideal ⟨3, ![2, 8192, 2048]⟩ .f32) (o1 o2 o3 : FVec Ideal ⟨4, ![2, 8192, 16, 128]⟩ .f32) (g : FVec Ideal ⟨3, ![2, 8192, 48]⟩ .f32)
    (z : FVec Ideal ⟨3, ![2, 8192, 2048]⟩ .f32) (w : FVec Ideal ⟨3, ![2, 2048, 2048]⟩ .f32) (r : ℕ) (hr : r < 16384) (n : Fin 2048) : EReal :=
  (x (ix3 ⟨r / 8192, by omega⟩ ⟨r % 8192, by omega⟩ n) : EReal) + ∑ k : Fin 2048, gated o1 o2 o3 g z r hr k.val * weight w n k.val

theorem split (f : ℕ → EReal) (n m : ℕ) : ∑ k ∈ Finset.range (n + m), f k = ∑ k ∈ Finset.range n, f k + ∑ k : Fin m, f (n + k.val) := by
  rw [Fin.sum_univ_eq_sum_range (fun k => f (n + k)) m]
  exact Finset.sum_range_add f n m

/-- Eight pieces of 256 terms, added one after the other, are the whole sum. -/
theorem pieces (f : ℕ → EReal) (x : EReal) :
    x + ∑ k : Fin 256, f (0 + k.val) + ∑ k : Fin 256, f (256 + k.val) + ∑ k : Fin 256, f (512 + k.val) + ∑ k : Fin 256, f (768 + k.val)
      + ∑ k : Fin 256, f (1024 + k.val) + ∑ k : Fin 256, f (1280 + k.val) + ∑ k : Fin 256, f (1536 + k.val) + ∑ k : Fin 256, f (1792 + k.val)
      = x + ∑ k : Fin 2048, f k.val := by
  have e := split f 1792 256
  rw [split f 1536 256, split f 1280 256, split f 1024 256, split f 768 256, split f 512 256, split f 256 256, split f 0 256, Finset.sum_range_zero, zero_add] at e
  rw [Fin.sum_univ_eq_sum_range f 2048, show (2048 : ℕ) = 1792 + 256 from rfl, e]
  simp only [add_assoc]

/-- The row's norm at column `n`. -/
def norm (y : Fin 2048 → EReal) (v : EReal) (n : Fin 2048) : EReal :=
  y n * Ideal.rsqrt (Ideal.div (∑ k : Fin 2048, y k * y k) (Ideal.ofBits .f32 0x45000000#32) + Ideal.ofBits .f32 0x358637BD#32) * v

end Cert.NoutSpec

end
-- ==== Proof.NoutTiles.lean ====
/- The work of one row block of `Nout`, as the kernel's operations name it, and its value at an index. -/
module

public import proofs.«01_k».proof.Proof.Gen.NoutIdeal.Value
public import proofs.«01_k».proof.Proof.NoutSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.NoutIdeal.Math

open Cert.NoutIdeal Cert.NoutIdeal.Gen

/-- One head: the three branches weighted by columns `i`, `j` and `k` of the gates, times the gated activation. -/
def head (i j k : ℕ) (hi : S256x128.Slices ![0, i] S256x1) (hj : S256x128.Slices ![0, j] S256x1) (hk : S256x128.Slices ![0, k] S256x1)
    (g : FVec Ideal S256x128 .f32) (o1 o2 o3 z : Vec Ideal S256x128 .f32) : FVec Ideal S256x128 .bf16 :=
  have a1 : FVec Ideal S256x1 .f32 := extractStridedSlice S256x1 ![0, i] g hi
  have a2 : FVec Ideal S256x128 .f32 := shapeCast S256x128 o1 shapeCasts_S256x128_S256x128
  have a3 : FVec Ideal S256x128 .f32 := broadcastTo S256x128 a1 broadcasts_S256x1_S256x128
  have a4 : FVec Ideal S256x128 .f32 := mulf a3 a2
  have b1 : FVec Ideal S256x1 .f32 := extractStridedSlice S256x1 ![0, j] g hj
  have b2 : FVec Ideal S256x128 .f32 := shapeCast S256x128 o2 shapeCasts_S256x128_S256x128
  have b3 : FVec Ideal S256x128 .f32 := broadcastTo S256x128 b1 broadcasts_S256x1_S256x128
  have b4 : FVec Ideal S256x128 .f32 := mulf b3 b2
  have b5 : FVec Ideal S256x128 .f32 := addf a4 b4
  have c1 : FVec Ideal S256x1 .f32 := extractStridedSlice S256x1 ![0, k] g hk
  have c2 : FVec Ideal S256x128 .f32 := shapeCast S256x128 o3 shapeCasts_S256x128_S256x128
  have c3 : FVec Ideal S256x128 .f32 := broadcastTo S256x128 c1 broadcasts_S256x1_S256x128
  have c4 : FVec Ideal S256x128 .f32 := mulf c3 c2
  have c5 : FVec Ideal S256x128 .f32 := addf b5 c4
  have d1 : FVec Ideal S256x128 .f32 := shapeCast S256x128 z shapeCasts_S256x128_S256x128
  have d2 : FVec Ideal S256x128 .f32 := logistic d1
  have d3 : FVec Ideal S256x128 .f32 := mulf d1 d2
  have d4 : FVec Ideal S256x128 .f32 := mulf c5 d3
  truncf .bf16 d4 bitsLt_bf16_f32

/-- Two heads times their 256 rows of the weight, added to what is there. -/
def step (y : FVec Ideal S256x2048 .f32) (p q : FVec Ideal S256x128 .bf16) (w : Vec Ideal S1x256x2048 .bf16) : FVec Ideal S256x2048 .f32 :=
  have a1 : FVec Ideal S256x256 .bf16 := concatenate S256x256 1 [⟨S256x128, p⟩, ⟨S256x128, q⟩] concatenates_S256x128_S256x128_S256x256_d1
  have a2 : FVec Ideal S256x2048 .bf16 := shapeCast S256x2048 w shapeCasts_S1x256x2048_S256x2048
  have a3 : FVec Ideal S256x2048 .f32 := constant S256x2048 .f32 0x00000000#32
  have a4 : FVec Ideal S256x2048 .f32 := matmul (F := Ideal) (φ₁ := .bf16) (φ₂ := .bf16) dot_S256x256_S256x2048_S256x2048_1_0_0_1_n_n none a1 a2 a3
  addf y a4

/-- The norm of the rows. -/
def normed (y : FVec Ideal S256x2048 .f32) (v : Vec Ideal S1x2048 .f32) : FVec Ideal S256x2048 .bf16 :=
  have a1 : FVec Ideal S1x2048 .f32 := shapeCast S1x2048 v shapeCasts_S1x2048_S1x2048
  have a2 : FVec Ideal S256x2048 .f32 := mulf y y
  have a3 : FVec Ideal S256 .f32 := multiReduction .add [1] S256 a2 0x00000000#32 reduces_S256x2048_S256 (.inl rfl) rfl
  have a4 : FVec Ideal S256x1 .f32 := shapeCast S256x1 a3 shapeCasts_S256_S256x1
  have c1 : Ideal .f32 := Scalar.ofBits .f32 0x45000000#32
  have a5 : FVec Ideal S256x1 .f32 := broadcast S256x1 c1
  have a6 : FVec Ideal S256x1 .f32 := divf a4 a5
  have c2 : Ideal .f32 := Scalar.ofBits .f32 0x358637BD#32
  have a7 : FVec Ideal S256x1 .f32 := broadcast S256x1 c2
  have a8 : FVec Ideal S256x1 .f32 := addf a6 a7
  have a9 : FVec Ideal S256x1 .f32 := rsqrt a8
  have b1 : FVec Ideal S256x2048 .f32 := broadcastTo S256x2048 a9 broadcasts_S256x1_S256x2048
  have b2 : FVec Ideal S256x2048 .f32 := mulf y b1
  have b3 : FVec Ideal S256x2048 .f32 := broadcastTo S256x2048 a1 broadcasts_S1x2048_S256x2048
  have b4 : FVec Ideal S256x2048 .f32 := mulf b2 b3
  truncf .bf16 b4 bitsLt_bf16_f32

theorem head_at (i j k : ℕ) (hi hj hk) (g : FVec Ideal S256x128 .f32) (o1 o2 o3 z : Vec Ideal S256x128 .f32) (a : Fin 256) (b : Fin 128)
    (li : i < 128) (lj : j < 128) (lk : k < 128) :
    head i j k hi hj hk g o1 o2 o3 z (ix2 a b)
      = (g (ix2 a ⟨i, li⟩) * o1 (ix2 a b) + g (ix2 a ⟨j, lj⟩) * o2 (ix2 a b) + g (ix2 a ⟨k, lk⟩) * o3 (ix2 a b))
        * (z (ix2 a b) * Ideal.logistic (z (ix2 a b))) := by
  pointwise [head]

theorem step_at (y : FVec Ideal S256x2048 .f32) (p q : FVec Ideal S256x128 .bf16) (w : Vec Ideal S1x256x2048 .bf16) (a : Fin 256) (n : Fin 2048) :
    step y p q w (ix2 a n) = (y (ix2 a n) : EReal) + ∑ k : Fin 256,
      ((if h : k.val < 128 then p (ix2 a ⟨k.val, h⟩) else q (ix2 a ⟨k.val - 128, by omega⟩) : EReal)) * w (ix3 0 k n) := by
  pointwise [step]

theorem normed_at (y : FVec Ideal S256x2048 .f32) (v : Vec Ideal S1x2048 .f32) (a : Fin 256) (n : Fin 2048) :
    normed y v (ix2 a n) = NoutSpec.norm (fun k => y (ix2 a k)) (v (ix2 0 n)) n := by
  unfold NoutSpec.norm
  pointwise [normed]

/-! The eight steps, as the kernel forms them. -/

theorem pair0 (e : Vec Ideal S256x128 .f32) (y : FVec Ideal S256x2048 .f32) (o1 o2 o3 z u1 u2 u3 v : Vec Ideal S256x128 .f32) (w : Vec Ideal S1x256x2048 .bf16) :
    k0_pay7 (F := Ideal) y (k0_pay4 e o1 o2 o3 z) (k0_pay5 e u1 u2) (k0_pay6 e) u3 v w = step y (head 0 16 32 slices_S256x128_o0_0_S256x1 slices_S256x128_o0_16_S256x1 slices_S256x128_o0_32_S256x1 (k0_pay2 (F := Ideal) e) o1 o2 o3 z) (head 1 17 33 slices_S256x128_o0_1_S256x1 slices_S256x128_o0_17_S256x1 slices_S256x128_o0_33_S256x1 (k0_pay2 (F := Ideal) e) u1 u2 u3 v) w := rfl

theorem pair1 (g : FVec Ideal S256x128 .f32) (y : FVec Ideal S256x2048 .f32) (o1 o2 o3 z u1 u2 u3 v : Vec Ideal S256x128 .f32) (w : Vec Ideal S1x256x2048 .bf16) :
    k0_pay11 (F := Ideal) g y (k0_pay8 g o1 o2 o3 z) (k0_pay9 g u1) (k0_pay10 g) u2 u3 v w = step y (head 2 18 34 slices_S256x128_o0_2_S256x1 slices_S256x128_o0_18_S256x1 slices_S256x128_o0_34_S256x1 g o1 o2 o3 z) (head 3 19 35 slices_S256x128_o0_3_S256x1 slices_S256x128_o0_19_S256x1 slices_S256x128_o0_35_S256x1 g u1 u2 u3 v) w := rfl

theorem pair2 (g : FVec Ideal S256x128 .f32) (y : FVec Ideal S256x2048 .f32) (o1 o2 o3 z u1 u2 u3 v : Vec Ideal S256x128 .f32) (w : Vec Ideal S1x256x2048 .bf16) :
    k0_pay15 (F := Ideal) g y (k0_pay12 g o1 o2 o3) (k0_pay13 z) (k0_pay14 z) u1 u2 u3 v w = step y (head 4 20 36 slices_S256x128_o0_4_S256x1 slices_S256x128_o0_20_S256x1 slices_S256x128_o0_36_S256x1 g o1 o2 o3 z) (head 5 21 37 slices_S256x128_o0_5_S256x1 slices_S256x128_o0_21_S256x1 slices_S256x128_o0_37_S256x1 g u1 u2 u3 v) w := rfl

theorem pair3 (g : FVec Ideal S256x128 .f32) (y : FVec Ideal S256x2048 .f32) (o1 o2 o3 z u1 u2 u3 v : Vec Ideal S256x128 .f32) (w : Vec Ideal S1x256x2048 .bf16) :
    k0_pay18 (F := Ideal) g y (k0_pay16 g o1 o2) (k0_pay17 g) o3 z u1 u2 u3 v w = step y (head 6 22 38 slices_S256x128_o0_6_S256x1 slices_S256x128_o0_22_S256x1 slices_S256x128_o0_38_S256x1 g o1 o2 o3 z) (head 7 23 39 slices_S256x128_o0_7_S256x1 slices_S256x128_o0_23_S256x1 slices_S256x128_o0_39_S256x1 g u1 u2 u3 v) w := rfl

theorem pair4 (g : FVec Ideal S256x128 .f32) (y : FVec Ideal S256x2048 .f32) (o1 o2 o3 z u1 u2 u3 v : Vec Ideal S256x128 .f32) (w : Vec Ideal S1x256x2048 .bf16) :
    k0_pay22 (F := Ideal) y (k0_pay21 g (k0_pay19 o1) (k0_pay20 g) o2 o3 z u1 u2 u3 v) w = step y (head 8 24 40 slices_S256x128_o0_8_S256x1 slices_S256x128_o0_24_S256x1 slices_S256x128_o0_40_S256x1 g o1 o2 o3 z) (head 9 25 41 slices_S256x128_o0_9_S256x1 slices_S256x128_o0_25_S256x1 slices_S256x128_o0_41_S256x1 g u1 u2 u3 v) w := rfl

theorem pair5 (g : FVec Ideal S256x128 .f32) (y : FVec Ideal S256x2048 .f32) (o1 o2 o3 z u1 u2 u3 v : Vec Ideal S256x128 .f32) (w : Vec Ideal S1x256x2048 .bf16) :
    k0_pay25 (F := Ideal) y (k0_pay23 g o1 o2 o3 z) (k0_pay24 g u1 u2 u3) v w = step y (head 10 26 42 slices_S256x128_o0_10_S256x1 slices_S256x128_o0_26_S256x1 slices_S256x128_o0_42_S256x1 g o1 o2 o3 z) (head 11 27 43 slices_S256x128_o0_11_S256x1 slices_S256x128_o0_27_S256x1 slices_S256x128_o0_43_S256x1 g u1 u2 u3 v) w := rfl

theorem pair6 (g : FVec Ideal S256x128 .f32) (y : FVec Ideal S256x2048 .f32) (o1 o2 o3 z u1 u2 u3 v : Vec Ideal S256x128 .f32) (w : Vec Ideal S1x256x2048 .bf16) :
    k0_pay30 (F := Ideal) g y (k0_pay26 g o1 o2 o3 z) (k0_pay27 g u1) (k0_pay28 u2) (k0_pay29 g) u3 v w = step y (head 12 28 44 slices_S256x128_o0_12_S256x1 slices_S256x128_o0_28_S256x1 slices_S256x128_o0_44_S256x1 g o1 o2 o3 z) (head 13 29 45 slices_S256x128_o0_13_S256x1 slices_S256x128_o0_29_S256x1 slices_S256x128_o0_45_S256x1 g u1 u2 u3 v) w := rfl

theorem pair7 (g : FVec Ideal S256x128 .f32) (y : FVec Ideal S256x2048 .f32) (o1 o2 o3 z u1 u2 u3 v : Vec Ideal S256x128 .f32) (w : Vec Ideal S1x256x2048 .bf16) :
    k0_pay33 (F := Ideal) g y (k0_pay31 g o1 o2 o3 z) (k0_pay32 g) u1 u2 u3 v w = step y (head 14 30 46 slices_S256x128_o0_14_S256x1 slices_S256x128_o0_30_S256x1 slices_S256x128_o0_46_S256x1 g o1 o2 o3 z) (head 15 31 47 slices_S256x128_o0_15_S256x1 slices_S256x128_o0_31_S256x1 slices_S256x128_o0_47_S256x1 g u1 u2 u3 v) w := rfl

theorem normed_eq (g : FVec Ideal S256x128 .f32) (y : FVec Ideal S256x2048 .f32) (p : FVec Ideal S256x128 .bf16) (q : FVec Ideal S256x1 .f32)
    (u1 u2 u3 v : Vec Ideal S256x128 .f32) (w : Vec Ideal S1x256x2048 .bf16) (n : Vec Ideal S1x2048 .f32) :
    k0_pay1 (F := Ideal) (k0_pay34 g y p q u1 u2 u3 v w) (k0_pay35 n) = normed (k0_pay33 g y p q u1 u2 u3 v w) n := rfl

end Cert.NoutIdeal.Math

end
-- ==== Proof.NoutReads.lean ====
/- The blocks that `Nout` reads, in terms of its arguments. -/
module

public import proofs.«01_k».proof.Proof.NoutTiles

@[expose] public section

set_option maxRecDepth 16384

noncomputable section

open Idealize.ShloMosaic Idealize.ShloMosaic.TcCoe Idealize.SL.Sem

namespace Cert.NoutIdeal.Math

open Cert.NoutIdeal Cert.NoutIdeal.Gen

variable (m : (ℓ : Loc nD τ sig) → Buf (Elt Ideal) ℓ)

/-- The residual, the three branches, the gates, the activation, the weight and the norm's weight of a launch. -/
abbrev X (c : Dev nD) : FVec Ideal S2x8192x2048 .f32 := m ((c : Thread nD τ).loc main_arg0)
abbrev O1 (c : Dev nD) : FVec Ideal S2x8192x16x128 .f32 := m ((c : Thread nD τ).loc main_arg1)
abbrev O2 (c : Dev nD) : FVec Ideal S2x8192x16x128 .f32 := m ((c : Thread nD τ).loc main_arg2)
abbrev O3 (c : Dev nD) : FVec Ideal S2x8192x16x128 .f32 := m ((c : Thread nD τ).loc main_arg3)
abbrev G (c : Dev nD) : FVec Ideal S2x8192x48 .f32 := m ((c : Thread nD τ).loc main_arg4)
abbrev Z (c : Dev nD) : FVec Ideal S2x8192x2048 .f32 := m ((c : Thread nD τ).loc main_arg5)
abbrev W (c : Dev nD) : FVec Ideal S2x2048x2048 .f32 := m ((c : Thread nD τ).loc main_arg6)
abbrev N (c : Dev nD) : FVec Ideal S2048 .f32 := m ((c : Thread nD τ).loc main_arg7)

/-- Where each window's block stands at each grid point. -/
theorem where_blocks : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 24]
    ∧ win0_6.index t = ![1, 0, 0] ∧ win0_7.index t = ![0, 0] ∧ win0_8.index t = ![t.val, 0] ∧ win0_9.index t = ![t.val, 0] :=
  (by decide +kernel : ∀ t : Fin grid0.N, _)

theorem flat_x (x : FVec Ideal S2x8192x2048 .f32) (r : Fin 16384) (b : Fin 2048) (h0 : r.val / 8192 < 2) (h1 : r.val % 8192 < 8192) :
    shapeCast S16384x2048 x shapeCasts_S2x8192x2048_S16384x2048 (ix2 r b) = x (ix3 ⟨r.val / 8192, h0⟩ ⟨r.val % 8192, h1⟩ b) := by
  pointwise

theorem flat_o (x : FVec Ideal S2x8192x16x128 .f32) (r : Fin 16384) (b : Fin 2048) (h0 : r.val / 8192 < 2) (h1 : r.val % 8192 < 8192)
    (h2 : b.val / 128 < 16) (h3 : b.val % 128 < 128) :
    shapeCast S16384x2048 x shapeCasts_S2x8192x16x128_S16384x2048 (ix2 r b) = x (ix4 ⟨r.val / 8192, h0⟩ ⟨r.val % 8192, h1⟩ ⟨b.val / 128, h2⟩ ⟨b.val % 128, h3⟩) := by
  pointwise

/-- The residual's block: rows of the flattened input. -/
theorem read_x (c : Dev nD) (t : Fin cfg0.N) (a : Fin 256) (b : Fin 2048) (h0 : (t.val * 256 + a.val) / 8192 < 2)
    (h1 : (t.val * 256 + a.val) % 8192 < 8192) :
    iblk m c 0 t (ix2 a b) = X m c (ix3 ⟨(t.val * 256 + a.val) / 8192, h0⟩ ⟨(t.val * 256 + a.val) % 8192, h1⟩ b) := by
  have e : (show FVec Ideal S16384x2048 .f32 from V m c main_v5) = shapeCast S16384x2048 (X m c) shapeCasts_S2x8192x2048_S16384x2048 := by
    entry_read; rfl
  have hb : t.val * 256 + a.val < 16384 := by have := lt_of_lt_of_eq t.isLt N_0; omega
  have hi : ((cfg0.win 0).blk t).view.emb (ix2 a b) = (ix2 ⟨t.val * 256 + a.val, hb⟩ b : S16384x2048.Idx) := by
    blk_ext [where_blocks t]
  refine (congrArg (V m c main_v5) hi).trans ?_
  exact (congrFun e _).trans (flat_x _ _ _ h0 h1)

/-- A branch's block: rows of the flattened heads. -/
theorem read_o1 (c : Dev nD) (t : Fin cfg0.N) (a : Fin 256) (b : Fin 2048) (h0 : (t.val * 256 + a.val) / 8192 < 2)
    (h1 : (t.val * 256 + a.val) % 8192 < 8192) (h2 : b.val / 128 < 16) (h3 : b.val % 128 < 128) :
    iblk m c 1 t (ix2 a b) = O1 m c (ix4 ⟨(t.val * 256 + a.val) / 8192, h0⟩ ⟨(t.val * 256 + a.val) % 8192, h1⟩ ⟨b.val / 128, h2⟩ ⟨b.val % 128, h3⟩) := by
  have e : (show FVec Ideal S16384x2048 .f32 from V m c main_v6) = shapeCast S16384x2048 (O1 m c) shapeCasts_S2x8192x16x128_S16384x2048 := by
    entry_read; rfl
  have hb : t.val * 256 + a.val < 16384 := by have := lt_of_lt_of_eq t.isLt N_0; omega
  have hi : ((cfg0.win 1).blk t).view.emb (ix2 a b) = (ix2 ⟨t.val * 256 + a.val, hb⟩ b : S16384x2048.Idx) := by
    blk_ext [where_blocks t]
  refine (congrArg (V m c main_v6) hi).trans ?_
  exact (congrFun e _).trans (flat_o _ _ _ h0 h1 h2 h3)

/-- A branch's block: rows of the flattened heads. -/
theorem read_o2 (c : Dev nD) (t : Fin cfg0.N) (a : Fin 256) (b : Fin 2048) (h0 : (t.val * 256 + a.val) / 8192 < 2)
    (h1 : (t.val * 256 + a.val) % 8192 < 8192) (h2 : b.val / 128 < 16) (h3 : b.val % 128 < 128) :
    iblk m c 2 t (ix2 a b) = O2 m c (ix4 ⟨(t.val * 256 + a.val) / 8192, h0⟩ ⟨(t.val * 256 + a.val) % 8192, h1⟩ ⟨b.val / 128, h2⟩ ⟨b.val % 128, h3⟩) := by
  have e : (show FVec Ideal S16384x2048 .f32 from V m c main_v7) = shapeCast S16384x2048 (O2 m c) shapeCasts_S2x8192x16x128_S16384x2048 := by
    entry_read; rfl
  have hb : t.val * 256 + a.val < 16384 := by have := lt_of_lt_of_eq t.isLt N_0; omega
  have hi : ((cfg0.win 2).blk t).view.emb (ix2 a b) = (ix2 ⟨t.val * 256 + a.val, hb⟩ b : S16384x2048.Idx) := by
    blk_ext [where_blocks t]
  refine (congrArg (V m c main_v7) hi).trans ?_
  exact (congrFun e _).trans (flat_o _ _ _ h0 h1 h2 h3)

/-- A branch's block: rows of the flattened heads. -/
theorem read_o3 (c : Dev nD) (t : Fin cfg0.N) (a : Fin 256) (b : Fin 2048) (h0 : (t.val * 256 + a.val) / 8192 < 2)
    (h1 : (t.val * 256 + a.val) % 8192 < 8192) (h2 : b.val / 128 < 16) (h3 : b.val % 128 < 128) :
    iblk m c 3 t (ix2 a b) = O3 m c (ix4 ⟨(t.val * 256 + a.val) / 8192, h0⟩ ⟨(t.val * 256 + a.val) % 8192, h1⟩ ⟨b.val / 128, h2⟩ ⟨b.val % 128, h3⟩) := by
  have e : (show FVec Ideal S16384x2048 .f32 from V m c main_v8) = shapeCast S16384x2048 (O3 m c) shapeCasts_S2x8192x16x128_S16384x2048 := by
    entry_read; rfl
  have hb : t.val * 256 + a.val < 16384 := by have := lt_of_lt_of_eq t.isLt N_0; omega
  have hi : ((cfg0.win 3).blk t).view.emb (ix2 a b) = (ix2 ⟨t.val * 256 + a.val, hb⟩ b : S16384x2048.Idx) := by
    blk_ext [where_blocks t]
  refine (congrArg (V m c main_v8) hi).trans ?_
  exact (congrFun e _).trans (flat_o _ _ _ h0 h1 h2 h3)

/-- The activation, columns of zeros, the gates and more zeros, side by side. -/
def packed (z : FVec Ideal S2x8192x2048 .f32) (g : FVec Ideal S2x8192x48 .f32) : FVec Ideal S16384x3200 .f32 :=
  concatenate S16384x3200 1
    [⟨S16384x2048, shapeCast S16384x2048 z shapeCasts_S2x8192x2048_S16384x2048⟩,
     ⟨S16384x1024, broadcastInDim S16384x1024 ![] bcast_S_S16384x1024 (constant (F := Ideal) S_ .f32 0x00000000#32)⟩,
     ⟨S16384x48, shapeCast S16384x48 g shapeCasts_S2x8192x48_S16384x48⟩,
     ⟨S16384x80, broadcastInDim S16384x80 ![] bcast_S_S16384x80 (constant (F := Ideal) S_ .f32 0x00000000#32)⟩]
    concatenates_S16384x2048_S16384x1024_S16384x48_S16384x80_S16384x3200_d1

theorem packed_z (z : FVec Ideal S2x8192x2048 .f32) (g : FVec Ideal S2x8192x48 .f32) (r : Fin 16384) (b : Fin 2048) (h0 : r.val / 8192 < 2) (h1 : r.val % 8192 < 8192) (h : b.val < 3200) :
    packed z g (ix2 r ⟨b.val, h⟩) = z (ix3 ⟨r.val / 8192, h0⟩ ⟨r.val % 8192, h1⟩ b) := by
  have hb := b.isLt
  pointwise [packed]

theorem packed_g (z : FVec Ideal S2x8192x2048 .f32) (g : FVec Ideal S2x8192x48 .f32) (r : Fin 16384) (b : Fin 48) (n : Fin 3200) (h0 : r.val / 8192 < 2) (h1 : r.val % 8192 < 8192) (h : n.val = 3072 + b.val) :
    packed z g (ix2 r n) = g (ix3 ⟨r.val / 8192, h0⟩ ⟨r.val % 8192, h1⟩ b) := by
  have hb := b.isLt
  pointwise [packed]
  rw [dif_neg (by omega), dif_neg (by omega), dif_pos (by omega)]
  exact congrArg g (congrArg (ix3 _ _) (Fin.ext (by simp only []; omega)))

theorem packed_entry (c : Dev nD) : (show FVec Ideal S16384x3200 .f32 from V m c main_v4) = packed (Z m c) (G m c) := by
  unfold packed
  rfl

/-- The gates' block. -/
theorem read_g (c : Dev nD) (t : Fin cfg0.N) (a : Fin 256) (b : Fin 48) (h0 : (t.val * 256 + a.val) / 8192 < 2)
    (h1 : (t.val * 256 + a.val) % 8192 < 8192) (h : b.val < 128) :
    iblk m c 5 t (ix2 a ⟨b.val, h⟩) = G m c (ix3 ⟨(t.val * 256 + a.val) / 8192, h0⟩ ⟨(t.val * 256 + a.val) % 8192, h1⟩ b) := by
  have hb : t.val * 256 + a.val < 16384 := by have := lt_of_lt_of_eq t.isLt N_0; omega
  have hi : ((cfg0.win 5).blk t).view.emb (ix2 a ⟨b.val, h⟩) = (ix2 ⟨t.val * 256 + a.val, hb⟩ ⟨3072 + b.val, by omega⟩ : S16384x3200.Idx) := by
    blk_ext [where_blocks t]
  refine (congrArg (V m c main_v4) hi).trans ?_
  exact (congrFun (packed_entry m c) _).trans (packed_g _ _ _ _ _ h0 h1 rfl)

/-- The activation's block. -/
theorem read_z (c : Dev nD) (t : Fin cfg0.N) (a : Fin 256) (b : Fin 2048) (h0 : (t.val * 256 + a.val) / 8192 < 2)
    (h1 : (t.val * 256 + a.val) % 8192 < 8192) :
    X0_4 m c t (ix2 a b) = Z m c (ix3 ⟨(t.val * 256 + a.val) / 8192, h0⟩ ⟨(t.val * 256 + a.val) % 8192, h1⟩ b) := by
  have hb : t.val * 256 + a.val < 16384 := by have := lt_of_lt_of_eq t.isLt N_0; omega
  unfold X0_4 Pipeline.Window.fill
  rw [dif_pos (moved0_4 t _)]
  have hi : ∀ j, (∀ d, (j d).val = ((ix2 a b : S256x2048.Idx) d).val) →
      ((cfg0.win 4).blk t).view.emb j = (ix2 ⟨t.val * 256 + a.val, hb⟩ ⟨b.val, by omega⟩ : S16384x3200.Idx) := by
    intro j hj
    have j0 : (j 0).val = a.val := hj 0
    have j1 : (j 1).val = b.val := hj 1
    blk_ext [where_blocks t]
  refine (congrArg (V m c main_v4) (hi _ fun d => rfl)).trans ?_
  exact (congrFun (packed_entry m c) _).trans (packed_z _ _ _ _ h0 h1 _)

/-- The weight's block is layer 1's matrix at every point. -/
theorem read_w (c : Dev nD) (t : Fin cfg0.N) (a b : Fin 2048) :
    iblk m c 6 t (ix3 0 a b) = W m c (ix3 1 a b) := by
  have e : (show FVec Ideal S2x2048x2048 .bf16 from V m c main_v9) = truncf (F := Ideal) .bf16 (W m c) bitsLt_bf16_f32 := by
    entry_read; rfl
  refine (congrFun e (((cfg0.win 6).blk t).view.emb _)).trans ?_
  pointwise
  blk_ext [where_blocks t]

/-- The norm's weight is whole at every point. -/
theorem read_n (c : Dev nD) (t : Fin cfg0.N) (b : Fin 2048) :
    iblk m c 7 t (ix2 0 b) = N m c (ix1 b) := by
  have e : (show FVec Ideal S1x2048 .f32 from V m c main_v10) = shapeCast S1x2048 (N m c) shapeCasts_S2048_S1x2048 := by
    entry_read; rfl
  refine (congrFun e (((cfg0.win 7).blk t).view.emb _)).trans ?_
  pointwise
  blk_ext [where_blocks t]

theorem ld_col (x : Vec Ideal S256x2048 .f32) (o : ℕ) (inb) (a : Fin 256) (b : Fin 128) (h : o + b.val < 2048) :
    View.ld x (Rect.unit (s := S256x2048) ![0, o] ![256, 128] inb) (ix2 a b) = x (ix2 a ⟨o + b.val, h⟩) := by
  pointwise

theorem ld_row (x : Vec Ideal S1x2048x2048 .bf16) (o : ℕ) (inb) (a : Fin 256) (b : Fin 2048) (h : o + a.val < 2048) :
    View.ld x (Rect.unit (s := S1x2048x2048) ![0, o, 0] ![1, 256, 2048] inb) (ix3 0 a b) = x (ix3 0 ⟨o + a.val, h⟩ b) := by
  pointwise

end Cert.NoutIdeal.Math

end
-- ==== Proof.NoutRefValue.lean ====
/- The reference of `Nout` at a row and a column: the numbers of `NoutSpec`. -/
module

public import proofs.«01_k».proof.Proof.Gen.NoutRefIdeal.Read
public import proofs.«01_k».proof.Proof.NoutSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.NoutRefIdeal.Math

open Cert.NoutRefIdeal Cert.NoutRefIdeal.Gen
open Cert.NoutRefIdeal.Read

variable (x0 : FVec Ideal S2x8192x2048 .f32) (x1 x2 x3 : FVec Ideal S2x8192x16x128 .f32) (x4 : FVec Ideal S2x8192x48 .f32)
  (x5 : FVec Ideal S2x8192x2048 .f32) (x6 : FVec Ideal S2x2048x2048 .f32) (x7 : FVec Ideal S2048 .f32)

theorem gate_at (b : Fin 2) (s : Fin 8192) (n : Fin 48) : val_main_v5 (F := Ideal) x4 (ix3 b s n) = Ideal.logistic (x4 (ix3 b s n)) := by
  pointwise [val_main_v5, val_main_v4, val_main_v3, val_main_v2, val_main_v1, val_main_v0, val_main_cst, val_main_cst_0]
  rfl

theorem mixed_at (b : Fin 2) (s : Fin 8192) (h : Fin 16) (l : Fin 128) : val_main_v21 (F := Ideal) x1 x2 x3 x4 (ix4 b s h l)
    = Ideal.logistic (x4 (ix3 b s ⟨h.val, by omega⟩)) * x1 (ix4 b s h l) + Ideal.logistic (x4 (ix3 b s ⟨16 + h.val, by omega⟩)) * x2 (ix4 b s h l)
      + Ideal.logistic (x4 (ix3 b s ⟨32 + h.val, by omega⟩)) * x3 (ix4 b s h l) := by
  pointwise [val_main_v21, val_main_v20, val_main_v19, val_main_v18, val_main_v17, val_main_v16, val_main_v15, val_main_v14, val_main_v13, val_main_v12, val_main_v11, val_main_v10, val_main_v9, val_main_v8, val_main_v7, val_main_v6]
  simp only [gate_at]

theorem silu_at (b : Fin 2) (s : Fin 8192) (n : Fin 2048) : val_main_v23 (F := Ideal) x5 (ix3 b s n) = x5 (ix3 b s n) * Ideal.logistic (x5 (ix3 b s n)) := by
  pointwise [val_main_v23, val_main_call0_v5, val_main_call0_v4, val_main_call0_v3, val_main_call0_v2, val_main_call0_v1, val_main_call0_v0, val_main_call0_cst, val_main_call0_cst_0]
  rfl

theorem gated_at (r : ℕ) (hr : r < 16384) (k : Fin 2048) :
    val_main_v24 (F := Ideal) x1 x2 x3 x4 x5 (ix3 ⟨r / 8192, by omega⟩ ⟨r % 8192, by omega⟩ k) = NoutSpec.gated x1 x2 x3 x4 x5 r hr k.val := by
  unfold NoutSpec.gated
  rw [dif_pos k.isLt]
  pointwise [val_main_v24, val_main_v22]
  simp only [mixed_at, silu_at]

theorem sum_at (r : ℕ) (hr : r < 16384) (n : Fin 2048) :
    val_main_v28 (F := Ideal) x0 x1 x2 x3 x4 x5 x6 (ix3 ⟨r / 8192, by omega⟩ ⟨r % 8192, by omega⟩ n) = NoutSpec.res x0 x1 x2 x3 x4 x5 x6 r hr n := by
  unfold NoutSpec.res
  pointwise [val_main_v28, val_main_v27, val_main_v26, val_main_v25]
  refine congrArg _ (Finset.sum_congr rfl fun k _ => ?_)
  unfold NoutSpec.weight
  rw [gated_at x1 x2 x3 x4 x5 r hr k, dif_pos k.isLt]

theorem v29_at (r : Fin 16384) (n : Fin 2048) :
    val_main_v29 (F := Ideal) x0 x1 x2 x3 x4 x5 x6 (ix2 r n) = NoutSpec.res x0 x1 x2 x3 x4 x5 x6 r.val r.isLt n := by
  rw [← sum_at]
  pointwise [val_main_v29]

theorem v44_at (r : Fin 16384) (n : Fin 2048) :
    val_main_v44 (F := Ideal) x0 x1 x2 x3 x4 x5 x6 x7 (ix2 r n)
      = NoutSpec.norm (fun k => NoutSpec.res x0 x1 x2 x3 x4 x5 x6 r.val r.isLt k) (x7 (ix1 n)) n := by
  unfold NoutSpec.norm
  simp only [← sum_at]
  pointwise [val_main_v44, val_main_v43, val_main_v42, val_main_v41, val_main_v40, val_main_v39, val_main_v38, val_main_v37, val_main_v36, val_main_v35, val_main_v34, val_main_v33, val_main_v32, val_main_v31, val_main_v30, val_main_cst_1, val_main_cst_2, val_main_cst_3]

end Cert.NoutRefIdeal.Math

end
-- ==== Proof.NoutValue.lean ====
/- The two result arrays of `Nout` (the end of an attention layer) are the reference's values at every index. -/
module

public import proofs.«01_k».proof.Proof.NoutReads
public import proofs.«01_k».proof.Proof.NoutRefValue

@[expose] public section

set_option maxRecDepth 16384

noncomputable section

open Idealize.ShloMosaic Idealize.ShloMosaic.TcCoe Idealize.SL.Sem

namespace Cert.NoutIdeal.Math

open Cert.NoutIdeal Cert.NoutIdeal.Gen
open Cert.NoutRefIdeal.Read

variable (m : (ℓ : Loc nD τ sig) → Buf (Elt Ideal) ℓ)

section Tiles

variable (c : Dev nD) (t : Fin cfg0.N) (a : Fin 256) (r : ℕ) (hr : r < 16384) (er : r = t.val * 256 + a.val)

theorem gate_at (v : Vec Ideal S256x128 .f32) (b : Fin 128) : k0_pay2 (F := Ideal) v (ix2 a b) = Ideal.logistic (v (ix2 a b)) := by
  pointwise [k0_pay2]

include er

/-- A head's columns of the gated mixture. -/
theorem head_gated (i j k o : ℕ) (hi hj hk inb) (b : Fin 128) (ho : o + 128 ≤ 2048) (hm : o % 128 = 0) (ei : i = o / 128) (ej : j = 16 + o / 128)
    (ek : k = 32 + o / 128) :
    head i j k hi hj hk (k0_pay2 (F := Ideal) (iblk m c 5 t)) (View.ld (iblk m c 1 t) (Rect.unit (s := S256x2048) ![0, o] ![256, 128] inb))
      (View.ld (iblk m c 2 t) (Rect.unit (s := S256x2048) ![0, o] ![256, 128] inb)) (View.ld (iblk m c 3 t) (Rect.unit (s := S256x2048) ![0, o] ![256, 128] inb))
      (View.ld (X0_4 m c t) (Rect.unit (s := S256x2048) ![0, o] ![256, 128] inb)) (ix2 a b)
      = NoutSpec.gated (O1 m c) (O2 m c) (O3 m c) (G m c) (Z m c) r hr (o + b.val) := by
  subst er
  have hb : o + b.val < 2048 := by have := b.isLt; omega
  have e1 : i = (o + b.val) / 128 := by have := b.isLt; omega
  have e2 : j = 16 + (o + b.val) / 128 := by have := b.isLt; omega
  have e3 : k = 32 + (o + b.val) / 128 := by have := b.isLt; omega
  clear ei ej ek
  subst e1 e2 e3
  unfold NoutSpec.gated
  rw [head_at _ _ _ _ _ _ _ _ _ _ _ a b (by omega) (by omega) (by omega), dif_pos hb, gate_at, gate_at, gate_at]
  rw [ld_col (iblk m c 1 t) o inb a b hb, ld_col (iblk m c 2 t) o inb a b hb, ld_col (iblk m c 3 t) o inb a b hb, ld_col (X0_4 m c t) o inb a b hb]
  rw [read_o1 m c t a ⟨o + b.val, hb⟩ (by omega) (by omega) (by simp only []; omega) (by simp only []; omega),
    read_o2 m c t a ⟨o + b.val, hb⟩ (by omega) (by omega) (by simp only []; omega) (by simp only []; omega),
    read_o3 m c t a ⟨o + b.val, hb⟩ (by omega) (by omega) (by simp only []; omega) (by simp only []; omega),
    read_z m c t a ⟨o + b.val, hb⟩ (by omega) (by omega),
    read_g m c t a ⟨(o + b.val) / 128, by omega⟩ (by omega) (by omega) (by simp only []; omega),
    read_g m c t a ⟨16 + (o + b.val) / 128, by omega⟩ (by omega) (by omega) (by simp only []; omega),
    read_g m c t a ⟨32 + (o + b.val) / 128, by omega⟩ (by omega) (by omega) (by simp only []; omega)]

/-- One step adds 256 terms of the sum. -/
theorem step_gated (o : ℕ) (inb) (y : FVec Ideal S256x2048 .f32) (p q : FVec Ideal S256x128 .bf16) (n : Fin 2048) (ho : o + 256 ≤ 2048)
    (hp : ∀ b : Fin 128, p (ix2 a b) = NoutSpec.gated (O1 m c) (O2 m c) (O3 m c) (G m c) (Z m c) r hr (o + b.val))
    (hq : ∀ b : Fin 128, q (ix2 a b) = NoutSpec.gated (O1 m c) (O2 m c) (O3 m c) (G m c) (Z m c) r hr (o + 128 + b.val)) :
    step y p q (View.ld (iblk m c 6 t) (Rect.unit (s := S1x2048x2048) ![0, o, 0] ![1, 256, 2048] inb)) (ix2 a n)
      = (y (ix2 a n) : EReal) + ∑ k : Fin 256, NoutSpec.gated (O1 m c) (O2 m c) (O3 m c) (G m c) (Z m c) r hr (o + k.val) * NoutSpec.weight (W m c) n (o + k.val) := by
  rw [step_at]
  refine congrArg _ (Finset.sum_congr rfl fun k _ => ?_)
  have hk : o + k.val < 2048 := by have := k.isLt; omega
  have e : (if h : k.val < 128 then p (ix2 a ⟨k.val, h⟩) else q (ix2 a ⟨k.val - 128, by omega⟩) : EReal)
      = NoutSpec.gated (O1 m c) (O2 m c) (O3 m c) (G m c) (Z m c) r hr (o + k.val) := by
    split_ifs with h
    · exact hp ⟨k.val, h⟩
    · refine (hq ⟨k.val - 128, by omega⟩).trans ?_
      have e : o + 128 + (k.val - 128) = o + k.val := by omega
      simp only [e]
  unfold NoutSpec.weight
  rw [e, ld_row (iblk m c 6 t) o inb k n hk, read_w m c t ⟨o + k.val, hk⟩ n, dif_pos hk]

end Tiles

/-- The whole row block: the residual and the eight steps. -/
def block (c : Dev nD) (t : Fin cfg0.N) : FVec Ideal S256x2048 .f32 :=
  have y0 : FVec Ideal S256x2048 .f32 := step (k0_pay3 (F := Ideal) (iblk m c 0 t))
    (head 0 16 32 slices_S256x128_o0_0_S256x1 slices_S256x128_o0_16_S256x1 slices_S256x128_o0_32_S256x1 (k0_pay2 (F := Ideal) (iblk m c 5 t))
      (View.ld (iblk m c 1 t) (Rect.unit (s := S256x2048) ![0, 0] ![256, 128] inb_S256x2048_S256x128_0_0)) (View.ld (iblk m c 2 t) (Rect.unit (s := S256x2048) ![0, 0] ![256, 128] inb_S256x2048_S256x128_0_0))
      (View.ld (iblk m c 3 t) (Rect.unit (s := S256x2048) ![0, 0] ![256, 128] inb_S256x2048_S256x128_0_0)) (View.ld (X0_4 m c t) (Rect.unit (s := S256x2048) ![0, 0] ![256, 128] inb_S256x2048_S256x128_0_0)))
    (head 1 17 33 slices_S256x128_o0_1_S256x1 slices_S256x128_o0_17_S256x1 slices_S256x128_o0_33_S256x1 (k0_pay2 (F := Ideal) (iblk m c 5 t))
      (View.ld (iblk m c 1 t) (Rect.unit (s := S256x2048) ![0, 128] ![256, 128] inb_S256x2048_S256x128_0_128)) (View.ld (iblk m c 2 t) (Rect.unit (s := S256x2048) ![0, 128] ![256, 128] inb_S256x2048_S256x128_0_128))
      (View.ld (iblk m c 3 t) (Rect.unit (s := S256x2048) ![0, 128] ![256, 128] inb_S256x2048_S256x128_0_128)) (View.ld (X0_4 m c t) (Rect.unit (s := S256x2048) ![0, 128] ![256, 128] inb_S256x2048_S256x128_0_128)))
    (View.ld (iblk m c 6 t) (Rect.unit (s := S1x2048x2048) ![0, 0, 0] ![1, 256, 2048] inb_S1x2048x2048_S1x256x2048_0_0_0))
  have y1 : FVec Ideal S256x2048 .f32 := step y0
    (head 2 18 34 slices_S256x128_o0_2_S256x1 slices_S256x128_o0_18_S256x1 slices_S256x128_o0_34_S256x1 (k0_pay2 (F := Ideal) (iblk m c 5 t))
      (View.ld (iblk m c 1 t) (Rect.unit (s := S256x2048) ![0, 256] ![256, 128] inb_S256x2048_S256x128_0_256)) (View.ld (iblk m c 2 t) (Rect.unit (s := S256x2048) ![0, 256] ![256, 128] inb_S256x2048_S256x128_0_256))
      (View.ld (iblk m c 3 t) (Rect.unit (s := S256x2048) ![0, 256] ![256, 128] inb_S256x2048_S256x128_0_256)) (View.ld (X0_4 m c t) (Rect.unit (s := S256x2048) ![0, 256] ![256, 128] inb_S256x2048_S256x128_0_256)))
    (head 3 19 35 slices_S256x128_o0_3_S256x1 slices_S256x128_o0_19_S256x1 slices_S256x128_o0_35_S256x1 (k0_pay2 (F := Ideal) (iblk m c 5 t))
      (View.ld (iblk m c 1 t) (Rect.unit (s := S256x2048) ![0, 384] ![256, 128] inb_S256x2048_S256x128_0_384)) (View.ld (iblk m c 2 t) (Rect.unit (s := S256x2048) ![0, 384] ![256, 128] inb_S256x2048_S256x128_0_384))
      (View.ld (iblk m c 3 t) (Rect.unit (s := S256x2048) ![0, 384] ![256, 128] inb_S256x2048_S256x128_0_384)) (View.ld (X0_4 m c t) (Rect.unit (s := S256x2048) ![0, 384] ![256, 128] inb_S256x2048_S256x128_0_384)))
    (View.ld (iblk m c 6 t) (Rect.unit (s := S1x2048x2048) ![0, 256, 0] ![1, 256, 2048] inb_S1x2048x2048_S1x256x2048_0_256_0))
  have y2 : FVec Ideal S256x2048 .f32 := step y1
    (head 4 20 36 slices_S256x128_o0_4_S256x1 slices_S256x128_o0_20_S256x1 slices_S256x128_o0_36_S256x1 (k0_pay2 (F := Ideal) (iblk m c 5 t))
      (View.ld (iblk m c 1 t) (Rect.unit (s := S256x2048) ![0, 512] ![256, 128] inb_S256x2048_S256x128_0_512)) (View.ld (iblk m c 2 t) (Rect.unit (s := S256x2048) ![0, 512] ![256, 128] inb_S256x2048_S256x128_0_512))
      (View.ld (iblk m c 3 t) (Rect.unit (s := S256x2048) ![0, 512] ![256, 128] inb_S256x2048_S256x128_0_512)) (View.ld (X0_4 m c t) (Rect.unit (s := S256x2048) ![0, 512] ![256, 128] inb_S256x2048_S256x128_0_512)))
    (head 5 21 37 slices_S256x128_o0_5_S256x1 slices_S256x128_o0_21_S256x1 slices_S256x128_o0_37_S256x1 (k0_pay2 (F := Ideal) (iblk m c 5 t))
      (View.ld (iblk m c 1 t) (Rect.unit (s := S256x2048) ![0, 640] ![256, 128] inb_S256x2048_S256x128_0_640)) (View.ld (iblk m c 2 t) (Rect.unit (s := S256x2048) ![0, 640] ![256, 128] inb_S256x2048_S256x128_0_640))
      (View.ld (iblk m c 3 t) (Rect.unit (s := S256x2048) ![0, 640] ![256, 128] inb_S256x2048_S256x128_0_640)) (View.ld (X0_4 m c t) (Rect.unit (s := S256x2048) ![0, 640] ![256, 128] inb_S256x2048_S256x128_0_640)))
    (View.ld (iblk m c 6 t) (Rect.unit (s := S1x2048x2048) ![0, 512, 0] ![1, 256, 2048] inb_S1x2048x2048_S1x256x2048_0_512_0))
  have y3 : FVec Ideal S256x2048 .f32 := step y2
    (head 6 22 38 slices_S256x128_o0_6_S256x1 slices_S256x128_o0_22_S256x1 slices_S256x128_o0_38_S256x1 (k0_pay2 (F := Ideal) (iblk m c 5 t))
      (View.ld (iblk m c 1 t) (Rect.unit (s := S256x2048) ![0, 768] ![256, 128] inb_S256x2048_S256x128_0_768)) (View.ld (iblk m c 2 t) (Rect.unit (s := S256x2048) ![0, 768] ![256, 128] inb_S256x2048_S256x128_0_768))
      (View.ld (iblk m c 3 t) (Rect.unit (s := S256x2048) ![0, 768] ![256, 128] inb_S256x2048_S256x128_0_768)) (View.ld (X0_4 m c t) (Rect.unit (s := S256x2048) ![0, 768] ![256, 128] inb_S256x2048_S256x128_0_768)))
    (head 7 23 39 slices_S256x128_o0_7_S256x1 slices_S256x128_o0_23_S256x1 slices_S256x128_o0_39_S256x1 (k0_pay2 (F := Ideal) (iblk m c 5 t))
      (View.ld (iblk m c 1 t) (Rect.unit (s := S256x2048) ![0, 896] ![256, 128] inb_S256x2048_S256x128_0_896)) (View.ld (iblk m c 2 t) (Rect.unit (s := S256x2048) ![0, 896] ![256, 128] inb_S256x2048_S256x128_0_896))
      (View.ld (iblk m c 3 t) (Rect.unit (s := S256x2048) ![0, 896] ![256, 128] inb_S256x2048_S256x128_0_896)) (View.ld (X0_4 m c t) (Rect.unit (s := S256x2048) ![0, 896] ![256, 128] inb_S256x2048_S256x128_0_896)))
    (View.ld (iblk m c 6 t) (Rect.unit (s := S1x2048x2048) ![0, 768, 0] ![1, 256, 2048] inb_S1x2048x2048_S1x256x2048_0_768_0))
  have y4 : FVec Ideal S256x2048 .f32 := step y3
    (head 8 24 40 slices_S256x128_o0_8_S256x1 slices_S256x128_o0_24_S256x1 slices_S256x128_o0_40_S256x1 (k0_pay2 (F := Ideal) (iblk m c 5 t))
      (View.ld (iblk m c 1 t) (Rect.unit (s := S256x2048) ![0, 1024] ![256, 128] inb_S256x2048_S256x128_0_1024)) (View.ld (iblk m c 2 t) (Rect.unit (s := S256x2048) ![0, 1024] ![256, 128] inb_S256x2048_S256x128_0_1024))
      (View.ld (iblk m c 3 t) (Rect.unit (s := S256x2048) ![0, 1024] ![256, 128] inb_S256x2048_S256x128_0_1024)) (View.ld (X0_4 m c t) (Rect.unit (s := S256x2048) ![0, 1024] ![256, 128] inb_S256x2048_S256x128_0_1024)))
    (head 9 25 41 slices_S256x128_o0_9_S256x1 slices_S256x128_o0_25_S256x1 slices_S256x128_o0_41_S256x1 (k0_pay2 (F := Ideal) (iblk m c 5 t))
      (View.ld (iblk m c 1 t) (Rect.unit (s := S256x2048) ![0, 1152] ![256, 128] inb_S256x2048_S256x128_0_1152)) (View.ld (iblk m c 2 t) (Rect.unit (s := S256x2048) ![0, 1152] ![256, 128] inb_S256x2048_S256x128_0_1152))
      (View.ld (iblk m c 3 t) (Rect.unit (s := S256x2048) ![0, 1152] ![256, 128] inb_S256x2048_S256x128_0_1152)) (View.ld (X0_4 m c t) (Rect.unit (s := S256x2048) ![0, 1152] ![256, 128] inb_S256x2048_S256x128_0_1152)))
    (View.ld (iblk m c 6 t) (Rect.unit (s := S1x2048x2048) ![0, 1024, 0] ![1, 256, 2048] inb_S1x2048x2048_S1x256x2048_0_1024_0))
  have y5 : FVec Ideal S256x2048 .f32 := step y4
    (head 10 26 42 slices_S256x128_o0_10_S256x1 slices_S256x128_o0_26_S256x1 slices_S256x128_o0_42_S256x1 (k0_pay2 (F := Ideal) (iblk m c 5 t))
      (View.ld (iblk m c 1 t) (Rect.unit (s := S256x2048) ![0, 1280] ![256, 128] inb_S256x2048_S256x128_0_1280)) (View.ld (iblk m c 2 t) (Rect.unit (s := S256x2048) ![0, 1280] ![256, 128] inb_S256x2048_S256x128_0_1280))
      (View.ld (iblk m c 3 t) (Rect.unit (s := S256x2048) ![0, 1280] ![256, 128] inb_S256x2048_S256x128_0_1280)) (View.ld (X0_4 m c t) (Rect.unit (s := S256x2048) ![0, 1280] ![256, 128] inb_S256x2048_S256x128_0_1280)))
    (head 11 27 43 slices_S256x128_o0_11_S256x1 slices_S256x128_o0_27_S256x1 slices_S256x128_o0_43_S256x1 (k0_pay2 (F := Ideal) (iblk m c 5 t))
      (View.ld (iblk m c 1 t) (Rect.unit (s := S256x2048) ![0, 1408] ![256, 128] inb_S256x2048_S256x128_0_1408)) (View.ld (iblk m c 2 t) (Rect.unit (s := S256x2048) ![0, 1408] ![256, 128] inb_S256x2048_S256x128_0_1408))
      (View.ld (iblk m c 3 t) (Rect.unit (s := S256x2048) ![0, 1408] ![256, 128] inb_S256x2048_S256x128_0_1408)) (View.ld (X0_4 m c t) (Rect.unit (s := S256x2048) ![0, 1408] ![256, 128] inb_S256x2048_S256x128_0_1408)))
    (View.ld (iblk m c 6 t) (Rect.unit (s := S1x2048x2048) ![0, 1280, 0] ![1, 256, 2048] inb_S1x2048x2048_S1x256x2048_0_1280_0))
  have y6 : FVec Ideal S256x2048 .f32 := step y5
    (head 12 28 44 slices_S256x128_o0_12_S256x1 slices_S256x128_o0_28_S256x1 slices_S256x128_o0_44_S256x1 (k0_pay2 (F := Ideal) (iblk m c 5 t))
      (View.ld (iblk m c 1 t) (Rect.unit (s := S256x2048) ![0, 1536] ![256, 128] inb_S256x2048_S256x128_0_1536)) (View.ld (iblk m c 2 t) (Rect.unit (s := S256x2048) ![0, 1536] ![256, 128] inb_S256x2048_S256x128_0_1536))
      (View.ld (iblk m c 3 t) (Rect.unit (s := S256x2048) ![0, 1536] ![256, 128] inb_S256x2048_S256x128_0_1536)) (View.ld (X0_4 m c t) (Rect.unit (s := S256x2048) ![0, 1536] ![256, 128] inb_S256x2048_S256x128_0_1536)))
    (head 13 29 45 slices_S256x128_o0_13_S256x1 slices_S256x128_o0_29_S256x1 slices_S256x128_o0_45_S256x1 (k0_pay2 (F := Ideal) (iblk m c 5 t))
      (View.ld (iblk m c 1 t) (Rect.unit (s := S256x2048) ![0, 1664] ![256, 128] inb_S256x2048_S256x128_0_1664)) (View.ld (iblk m c 2 t) (Rect.unit (s := S256x2048) ![0, 1664] ![256, 128] inb_S256x2048_S256x128_0_1664))
      (View.ld (iblk m c 3 t) (Rect.unit (s := S256x2048) ![0, 1664] ![256, 128] inb_S256x2048_S256x128_0_1664)) (View.ld (X0_4 m c t) (Rect.unit (s := S256x2048) ![0, 1664] ![256, 128] inb_S256x2048_S256x128_0_1664)))
    (View.ld (iblk m c 6 t) (Rect.unit (s := S1x2048x2048) ![0, 1536, 0] ![1, 256, 2048] inb_S1x2048x2048_S1x256x2048_0_1536_0))
  step y6
    (head 14 30 46 slices_S256x128_o0_14_S256x1 slices_S256x128_o0_30_S256x1 slices_S256x128_o0_46_S256x1 (k0_pay2 (F := Ideal) (iblk m c 5 t))
      (View.ld (iblk m c 1 t) (Rect.unit (s := S256x2048) ![0, 1792] ![256, 128] inb_S256x2048_S256x128_0_1792)) (View.ld (iblk m c 2 t) (Rect.unit (s := S256x2048) ![0, 1792] ![256, 128] inb_S256x2048_S256x128_0_1792))
      (View.ld (iblk m c 3 t) (Rect.unit (s := S256x2048) ![0, 1792] ![256, 128] inb_S256x2048_S256x128_0_1792)) (View.ld (X0_4 m c t) (Rect.unit (s := S256x2048) ![0, 1792] ![256, 128] inb_S256x2048_S256x128_0_1792)))
    (head 15 31 47 slices_S256x128_o0_15_S256x1 slices_S256x128_o0_31_S256x1 slices_S256x128_o0_47_S256x1 (k0_pay2 (F := Ideal) (iblk m c 5 t))
      (View.ld (iblk m c 1 t) (Rect.unit (s := S256x2048) ![0, 1920] ![256, 128] inb_S256x2048_S256x128_0_1920)) (View.ld (iblk m c 2 t) (Rect.unit (s := S256x2048) ![0, 1920] ![256, 128] inb_S256x2048_S256x128_0_1920))
      (View.ld (iblk m c 3 t) (Rect.unit (s := S256x2048) ![0, 1920] ![256, 128] inb_S256x2048_S256x128_0_1920)) (View.ld (X0_4 m c t) (Rect.unit (s := S256x2048) ![0, 1920] ![256, 128] inb_S256x2048_S256x128_0_1920)))
    (View.ld (iblk m c 6 t) (Rect.unit (s := S1x2048x2048) ![0, 1792, 0] ![1, 256, 2048] inb_S1x2048x2048_S1x256x2048_0_1792_0))

theorem block_at (c : Dev nD) (t : Fin cfg0.N) (a : Fin 256) (n : Fin 2048) (hr : t.val * 256 + a.val < 16384) :
    block m c t (ix2 a n) = NoutSpec.res (X m c) (O1 m c) (O2 m c) (O3 m c) (G m c) (Z m c) (W m c) (t.val * 256 + a.val) hr n := by
  have e0 : k0_pay3 (F := Ideal) (iblk m c 0 t) (ix2 a n) = X m c (ix3 ⟨(t.val * 256 + a.val) / 8192, by omega⟩ ⟨(t.val * 256 + a.val) % 8192, by omega⟩ n) := by
    rw [← read_x m c t a n (by omega) (by omega)]
    pointwise [k0_pay3]
  unfold block NoutSpec.res
  dsimp only
  rw [step_gated m c t a _ hr rfl 1792 _ _ _ _ n (by omega) (fun b => head_gated m c t a _ hr rfl 14 30 46 1792 _ _ _ _ b (by omega) (by omega) (by omega) (by omega) (by omega))
    (fun b => head_gated m c t a _ hr rfl 15 31 47 1920 _ _ _ _ b (by omega) (by omega) (by omega) (by omega) (by omega))]
  rw [step_gated m c t a _ hr rfl 1536 _ _ _ _ n (by omega) (fun b => head_gated m c t a _ hr rfl 12 28 44 1536 _ _ _ _ b (by omega) (by omega) (by omega) (by omega) (by omega))
    (fun b => head_gated m c t a _ hr rfl 13 29 45 1664 _ _ _ _ b (by omega) (by omega) (by omega) (by omega) (by omega))]
  rw [step_gated m c t a _ hr rfl 1280 _ _ _ _ n (by omega) (fun b => head_gated m c t a _ hr rfl 10 26 42 1280 _ _ _ _ b (by omega) (by omega) (by omega) (by omega) (by omega))
    (fun b => head_gated m c t a _ hr rfl 11 27 43 1408 _ _ _ _ b (by omega) (by omega) (by omega) (by omega) (by omega))]
  rw [step_gated m c t a _ hr rfl 1024 _ _ _ _ n (by omega) (fun b => head_gated m c t a _ hr rfl 8 24 40 1024 _ _ _ _ b (by omega) (by omega) (by omega) (by omega) (by omega))
    (fun b => head_gated m c t a _ hr rfl 9 25 41 1152 _ _ _ _ b (by omega) (by omega) (by omega) (by omega) (by omega))]
  rw [step_gated m c t a _ hr rfl 768 _ _ _ _ n (by omega) (fun b => head_gated m c t a _ hr rfl 6 22 38 768 _ _ _ _ b (by omega) (by omega) (by omega) (by omega) (by omega))
    (fun b => head_gated m c t a _ hr rfl 7 23 39 896 _ _ _ _ b (by omega) (by omega) (by omega) (by omega) (by omega))]
  rw [step_gated m c t a _ hr rfl 512 _ _ _ _ n (by omega) (fun b => head_gated m c t a _ hr rfl 4 20 36 512 _ _ _ _ b (by omega) (by omega) (by omega) (by omega) (by omega))
    (fun b => head_gated m c t a _ hr rfl 5 21 37 640 _ _ _ _ b (by omega) (by omega) (by omega) (by omega) (by omega))]
  rw [step_gated m c t a _ hr rfl 256 _ _ _ _ n (by omega) (fun b => head_gated m c t a _ hr rfl 2 18 34 256 _ _ _ _ b (by omega) (by omega) (by omega) (by omega) (by omega))
    (fun b => head_gated m c t a _ hr rfl 3 19 35 384 _ _ _ _ b (by omega) (by omega) (by omega) (by omega) (by omega))]
  rw [step_gated m c t a _ hr rfl 0 _ _ _ _ n (by omega) (fun b => head_gated m c t a _ hr rfl 0 16 32 0 _ _ _ _ b (by omega) (by omega) (by omega) (by omega) (by omega))
    (fun b => head_gated m c t a _ hr rfl 1 17 33 128 _ _ _ _ b (by omega) (by omega) (by omega) (by omega) (by omega))]
  rw [e0]
  exact NoutSpec.pieces (fun k => NoutSpec.gated (O1 m c) (O2 m c) (O3 m c) (G m c) (Z m c) (t.val * 256 + a.val) hr k * NoutSpec.weight (W m c) n k) _

theorem normed_block (c : Dev nD) (t : Fin cfg0.N) (a : Fin 256) (n : Fin 2048) (hr : t.val * 256 + a.val < 16384) :
    normed (block m c t) (iblk m c 7 t) (ix2 a n)
      = val_main_v44 (F := Ideal) (X m c) (O1 m c) (O2 m c) (O3 m c) (G m c) (Z m c) (W m c) (N m c) (ix2 ⟨t.val * 256 + a.val, hr⟩ n) := by
  rw [Cert.NoutRefIdeal.Math.v44_at, normed_at, read_n]
  simp only [block_at m c t a _ hr]

theorem final_8 (c : Dev nD) : (dats m 0 c).arrAt 8 (cfgs 0).N
    = val_main_v29 (F := Ideal) (X m c) (O1 m c) (O2 m c) (O3 m c) (G m c) (Z m c) (W m c) := by
  refine (dats m 0 c).arrAt_eq_of_covers 8 _ (by decide +kernel) fun t hf y => ?_
  blk_simp
  rw [after0_8]
  simp only [outsAt0]
  frame_out
  rw [pair7, pair6, pair5, pair4, pair3, pair2, pair1, pair0]
  have hy0 : (y 0).val < 256 := (y 0).isLt
  have hr : t.val * 256 + (y 0).val < 16384 := by have := lt_of_lt_of_eq t.isLt N_0; omega
  have hy := block_at m c t (y 0) (y 1) hr
  rw [← eq_ix2 y] at hy
  refine Eq.trans hy ?_
  rw [← Cert.NoutRefIdeal.Math.v29_at (X m c) (O1 m c) (O2 m c) (O3 m c) (G m c) (Z m c) (W m c) ⟨t.val * 256 + (y 0).val, hr⟩ (y 1)]
  congr 1
  blk_ext [where_blocks t]

theorem final_9 (c : Dev nD) : (dats m 0 c).arrAt 9 (cfgs 0).N
    = val_main_v44 (F := Ideal) (X m c) (O1 m c) (O2 m c) (O3 m c) (G m c) (Z m c) (W m c) (N m c) := by
  refine (dats m 0 c).arrAt_eq_of_covers 9 _ (by decide +kernel) fun t hf y => ?_
  blk_simp
  rw [after0_9]
  simp only [outsAt0]
  frame_out
  rw [normed_eq, pair7, pair6, pair5, pair4, pair3, pair2, pair1, pair0]
  have hy0 : (y 0).val < 256 := (y 0).isLt
  have hr : t.val * 256 + (y 0).val < 16384 := by have := lt_of_lt_of_eq t.isLt N_0; omega
  have hy := normed_block m c t (y 0) (y 1) hr
  rw [← eq_ix2 y] at hy
  refine Eq.trans hy ?_
  congr 1
  blk_ext [where_blocks t]

end Cert.NoutIdeal.Math

end
-- ==== Proof.CmpTiles.lean ====
/- The arithmetic of one grid point of `Cmp`, in closed form. A point holds one key/value head of one batch. It forms two sums
   of sixteen products over rows `16 n + l`, one with the first half of the weights and one with the second half, moves the
   second sum up by one row through a scratch, adds the two, applies `x · σ(x)`, and multiplies once more. -/
module

public import proofs.«01_k».proof.Proof.Gen.CmpIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.CmpIdeal.Math

open Cert.CmpIdeal Cert.CmpIdeal.Gen

variable (m : (ℓ : Loc nD τ sig) → Buf (Elt Ideal) ℓ)

/-- Every sixteenth row of `X`, from row `l` on. -/
def strided (X : Vec Ideal S8192x128 .f32) (l : ℕ) : Vec Ideal S512x128 .f32 := fun y =>
  X (ix2 ⟨(16 * (y 0).val + l) % 8192, Nat.mod_lt _ (by omega)⟩ ⟨(y 1).val, (y 1).isLt⟩)

/-- Row `l` of the position table. -/
def posRow (P : Vec Ideal S1x32x128 .f32) (l : ℕ) : Vec Ideal S1x1x128 .f32 := fun y =>
  P (ix3 0 ⟨l % 32, Nat.mod_lt _ (by omega)⟩ ⟨(y 2).val, (y 2).isLt⟩)

/-- Matrix `l` of the first weight. -/
def matAt (W : Vec Ideal S1x32x128x128 .bf16) (l : ℕ) : Vec Ideal S1x1x128x128 .bf16 := fun y =>
  W (ix4 0 ⟨l % 32, Nat.mod_lt _ (by omega)⟩ ⟨(y 2).val, (y 2).isLt⟩ ⟨(y 3).val, (y 3).isLt⟩)

/-- A strided load of a whole buffer is its strided rows. -/
theorem strided_load {v : Memref sig .tc .vmem S8192x128 .f32} (hv : v.IsWhole) (X : Vec Ideal S8192x128 .f32) (l : ℕ) (h) :
    View.readAt (Elt Ideal) v.view (⟨![l, 0], ![512, 128], ![16, 1], h⟩ : LoadRect S8192x128) (hv.unread X) = strided X l := by
  funext y
  rw [View.readAt_apply, hv.read_unread]
  have hl : l + 16 * 511 < 8192 := by simpa using h 0
  have h0 : (y 0).val < 512 := (y 0).isLt
  refine congrArg X (funext fun a => Fin.ext ?_)
  match a with
  | ⟨0, _⟩ => exact (show l + 16 * (y 0).val = (16 * (y 0).val + l) % 8192 by omega)
  | ⟨1, _⟩ => exact (show 0 + 1 * (y 1).val = (y 1).val by omega)

/-- A load of one row of the position table. -/
theorem row_load (P : Vec Ideal S1x32x128 .f32) (l : ℕ) (h) :
    View.ld P (Rect.unit (s := S1x32x128) ![0, l, 0] ![1, 1, 128] h) = posRow P l := by
  funext y
  have hl : l < 32 := by have := h 1; simp at this; omega
  have h0 : (y 0).val < 1 := (y 0).isLt
  have h1 : (y 1).val < 1 := (y 1).isLt
  refine congrArg P (funext fun a => Fin.ext ?_)
  match a with
  | ⟨0, _⟩ => exact (show 0 + 1 * (y 0).val = 0 by omega)
  | ⟨1, _⟩ => exact (show l + 1 * (y 1).val = l % 32 by omega)
  | ⟨2, _⟩ => exact (show 0 + 1 * (y 2).val = (y 2).val by omega)

/-- A load of one matrix of the first weight. -/
theorem mat_load (W : Vec Ideal S1x32x128x128 .bf16) (l : ℕ) (h) :
    View.ld W (Rect.unit (s := S1x32x128x128) ![0, l, 0, 0] ![1, 1, 128, 128] h) = matAt W l := by
  funext y
  have hl : l < 32 := by have := h 1; simp at this; omega
  have h0 : (y 0).val < 1 := (y 0).isLt
  have h1 : (y 1).val < 1 := (y 1).isLt
  refine congrArg W (funext fun a => Fin.ext ?_)
  match a with
  | ⟨0, _⟩ => exact (show 0 + 1 * (y 0).val = 0 by omega)
  | ⟨1, _⟩ => exact (show l + 1 * (y 1).val = l % 32 by omega)
  | ⟨2, _⟩ => exact (show 0 + 1 * (y 2).val = (y 2).val by omega)
  | ⟨3, _⟩ => exact (show 0 + 1 * (y 3).val = (y 3).val by omega)

/-- One product: rows plus their position row, times one matrix. -/
def term (X : Vec Ideal S512x128 .f32) (p : Vec Ideal S1x1x128 .f32) (w : Vec Ideal S1x1x128x128 .bf16) : FVec Ideal S512x128 .f32 :=
  matmul dot_S512x128_S128x128_S512x128_1_0_0_1_n_n none
    (truncf .bf16 (addf (shapeCast S512x128 X shapeCasts_S512x128_S512x128)
      (broadcastTo S512x128 (shapeCast S1x128 p shapeCasts_S1x1x128_S1x128) broadcasts_S1x128_S512x128)) bitsLt_bf16_f32)
    (shapeCast S128x128 (w : FVec Ideal S1x1x128x128 .bf16) shapeCasts_S1x1x128x128_S128x128 : FVec Ideal S128x128 .bf16) (constant S512x128 .f32 0x00000000#32)

/-- The sum of the first `n` products with the weights from `o` on. -/
def half (X : Vec Ideal S8192x128 .f32) (P : Vec Ideal S1x32x128 .f32) (W : Vec Ideal S1x32x128x128 .bf16) (o : ℕ) : ℕ → FVec Ideal S512x128 .f32
  | 0 => broadcast S512x128 (Scalar.ofBits .f32 0x00000000#32)
  | n + 1 => addf (half X P W o n) (term (strided X n) (posRow P (o + n)) (matAt W (o + n)))

/-- The scratch read one row down: what is read at row `n` is what was written at row `n + 1`. -/
def shifted (A : FVec Ideal S512x128 .f32) (L : List (View.Piece (Elt Ideal) S520x128 .f32)) : Vec Ideal S512x128 .f32 :=
  (View.whole cc0_scratch0).readCov (Val := Elt Ideal) (⟨Rect.unit (s := S520x128) ![512, 0] S8x128.size inb_S520x128_S8x128_512_0, k0_pay91 (F := Ideal)⟩ ::
    ⟨Rect.unit (s := S520x128) ![0, 0] S512x128.size inb_S520x128_S512x128_0_0, shapeCast S512x128 A shapeCasts_S512x128_S512x128⟩ :: L)
    (Rect.unit (s := S520x128) ![1, 0] S512x128.size inb_S520x128_S512x128_1_0).toLoadRect

theorem shifted_apply (A : FVec Ideal S512x128 .f32) (L) (n : Fin 512) (d : Fin 128) (h : n.val + 1 < 512) :
    shifted A L (ix2 n d) = A (ix2 ⟨n.val + 1, h⟩ d) := by
  unfold shifted
  rw [View.readCov_eq_canon']
  have hi : (Rect.unit (s := S520x128) ![1, 0] S512x128.size inb_S520x128_S512x128_1_0).toLoadRect.idx (ix2 n d)
      = (Rect.unit (s := S520x128) ![0, 0] S512x128.size inb_S520x128_S512x128_0_0).emb (ix2 ⟨n.val + 1, h⟩ d) := by
    funext a; refine Fin.ext ?_
    match a with
    | ⟨0, _⟩ => exact (show 1 + 1 * n.val = 0 + 1 * (n.val + 1) by omega)
    | ⟨1, _⟩ => rfl
  show View.canon _ ((Rect.unit (s := S520x128) ![1, 0] S512x128.size inb_S520x128_S512x128_1_0).toLoadRect.idx (ix2 n d)) = _
  rw [hi, View.canon_cons_of_not_mem, View.canon_cons_emb]
  · pointwise
  · intro hm
    have h' : 512 ≤ 0 + 1 * (n.val + 1) := (((Rect.mem_set_unit (inb := inb_S520x128_S8x128_512_0)).mp hm) 0).1
    omega

theorem snd_eq (c : Dev nD) (t : Fin cfg0.N) : ∃ L, (outsAt0 m c t).2
    = k0_pay1 (k0_pay92 (half (iblk m c 1 t) (iblk m c 5 t) (iblk m c 6 t) 0 16)
        (shifted (half (iblk m c 1 t) (iblk m c 5 t) (iblk m c 6 t) 16 16) L) (iblk m c 7 t)) := by
  refine ⟨[⟨Rect.unit (s := S520x128) ![512, 0] S8x128.size inb_S520x128_S8x128_512_0, k0_pay45 (F := Ideal)⟩,
    ⟨Rect.unit (s := S520x128) ![0, 0] S512x128.size inb_S520x128_S512x128_0_0, shapeCast S512x128 (half (iblk m c 0 t) (iblk m c 2 t) (iblk m c 3 t) 16 16) shapeCasts_S512x128_S512x128⟩], ?_⟩
  funext y
  simp only [outsAt0]
  frame_out
  simp only [strided_load, row_load, mat_load]
  rfl

theorem fst_eq (c : Dev nD) (t : Fin cfg0.N) : (outsAt0 m c t).1
    = k0_pay46 (half (iblk m c 0 t) (iblk m c 2 t) (iblk m c 3 t) 0 16)
        (shifted (half (iblk m c 0 t) (iblk m c 2 t) (iblk m c 3 t) 16 16) []) (iblk m c 4 t) := by
  funext y
  simp only [outsAt0]
  frame_out
  simp only [strided_load, row_load, mat_load]
  rfl

/-- One summand of the first stage at hidden column `d`: the product over row `16 n + l`. -/
def hid1 (X : Vec Ideal S8192x128 .f32) (P : Vec Ideal S1x32x128 .f32) (W : Vec Ideal S1x32x128x128 .bf16) (n : ℕ) (d : Fin 128) (o l : ℕ) : EReal :=
  ∑ e : Fin 128,
    (X (ix2 ⟨(16 * n + l) % 8192, Nat.mod_lt _ (by omega)⟩ e) + P (ix3 0 ⟨(o + l) % 32, Nat.mod_lt _ (by omega)⟩ e))
      * W (ix4 0 ⟨(o + l) % 32, Nat.mod_lt _ (by omega)⟩ e d)

/-- The sum of the first `k` of them. -/
def hid (X : Vec Ideal S8192x128 .f32) (P : Vec Ideal S1x32x128 .f32) (W : Vec Ideal S1x32x128x128 .bf16) (n : ℕ) (d : Fin 128) (o k : ℕ) : EReal :=
  ∑ l ∈ Finset.range k, hid1 X P W n d o l

theorem term_apply (X : Vec Ideal S512x128 .f32) (p : Vec Ideal S1x1x128 .f32) (w : Vec Ideal S1x1x128x128 .bf16) (n : Fin 512) (d : Fin 128) :
    term X p w (ix2 n d) = (∑ e : Fin 128, (X (ix2 n e) + p (ix3 0 0 e)) * w (ix4 0 0 e d) : EReal) := by
  pointwise [term]

theorem half_apply (X : Vec Ideal S8192x128 .f32) (P : Vec Ideal S1x32x128 .f32) (W : Vec Ideal S1x32x128x128 .bf16) (o k : ℕ) (n : Fin 512) (d : Fin 128) :
    half X P W o k (ix2 n d) = hid X P W n.val d o k := by
  induction k with
  | zero =>
    unfold hid
    rw [Finset.range_zero, Finset.sum_empty]
    pointwise [half]
  | succ k ih =>
    show half X P W o k (ix2 n d) + term _ _ _ (ix2 n d) = _
    rw [ih, term_apply]
    unfold hid
    rw [Finset.sum_range_succ]
    rfl

/-- The two halves, the second from sixteen rows on, are the sum over all thirty-two. -/
theorem hid_halves (X : Vec Ideal S8192x128 .f32) (P : Vec Ideal S1x32x128 .f32) (W : Vec Ideal S1x32x128x128 .bf16) (n : ℕ) (d : Fin 128) :
    hid X P W n d 0 16 + hid X P W (n + 1) d 16 16 = hid X P W n d 0 32 := by
  unfold hid
  have h : ∑ l ∈ Finset.range 32, hid1 X P W n d 0 l
      = ∑ l ∈ Finset.range 16, hid1 X P W n d 0 l + ∑ l ∈ Finset.range 16, hid1 X P W n d 0 (16 + l) :=
    Finset.sum_range_add (hid1 X P W n d 0) 16 16
  have h2 : ∑ l ∈ Finset.range 16, hid1 X P W (n + 1) d 16 l = ∑ l ∈ Finset.range 16, hid1 X P W n d 0 (16 + l) := by
    refine Finset.sum_congr rfl fun l _ => ?_
    unfold hid1
    simp only [show 16 * (n + 1) + l = 16 * n + (16 + l) by omega, Nat.zero_add]
  rw [h, h2]

theorem k0_pay92_apply (S B : FVec Ideal S512x128 .f32) (W2 : Vec Ideal S1x128x128 .bf16) (n : Fin 512) (d : Fin 128) :
    k0_pay92 S B W2 (ix2 n d)
      = (∑ x : Fin 128, (S (ix2 n x) + B (ix2 n x)) * Ideal.logistic (S (ix2 n x) + B (ix2 n x)) * W2 (ix3 0 x d) : EReal) := by
  pointwise [k0_pay92]

/-- The last row holds no whole block and is stored as zero. -/
theorem k0_pay1_apply (S : FVec Ideal S512x128 .f32) (n : Fin 512) (d : Fin 128) :
    k0_pay1 S (ix4 0 0 n d) = (if n.val < 511 then S (ix2 n d) else 0 : EReal) := by
  have e : k0_pay1 S (ix4 0 0 n d) = Scalar.select (IntOp.cmpi CmpIPredicate.slt (BitVec.ofNat 32 n.val) 511#32) (S (ix2 n d)) (0 : EReal) := by
    pointwise [k0_pay1]
  have h : IntOp.cmpi CmpIPredicate.slt (BitVec.ofNat 32 n.val) 511#32 = BitVec.ofBool (decide (n.val < 511)) := by
    have := n.isLt
    simp only [IntOp.cmpi, BitVec.slt_eq_decide]
    congr 1
    have h1 : (BitVec.ofNat 32 n.val).toInt = n.val := by
      rw [BitVec.toInt_eq_toNat_of_lt (by simp; omega)]; simp; omega
    have h2 : (511#32 : BitVec 32).toInt = 511 := by decide
    rw [h1, h2]
    simp
  rw [e, h]
  by_cases hn : n.val < 511
  · rw [if_pos hn, decide_eq_true hn]; rfl
  · rw [if_neg hn, decide_eq_false hn]; rfl

/-- The keys' tile is the same rows, transposed. -/
theorem k0_pay46_eq (S B : FVec Ideal S512x128 .f32) (W2 : Vec Ideal S1x128x128 .bf16) (n : Fin 512) (d : Fin 128) :
    k0_pay46 S B W2 (ix4 0 0 d n) = k0_pay1 (k0_pay92 S B W2) (ix4 0 0 n d) := by
  pointwise [k0_pay46, k0_pay1, k0_pay92]

/-- What a point stores at block `n`, column `d`, of its head: the compressed block, and zero in the last row. -/
def blockVal (X : Vec Ideal S8192x128 .f32) (P : Vec Ideal S1x32x128 .f32) (W : Vec Ideal S1x32x128x128 .bf16) (W2 : Vec Ideal S1x128x128 .bf16) (n : ℕ) (d : Fin 128) : EReal :=
  if n < 511 then ∑ x : Fin 128, hid X P W n x 0 32 * Ideal.logistic (hid X P W n x 0 32) * W2 (ix3 0 x d) else 0

theorem rows_apply (X : Vec Ideal S8192x128 .f32) (P : Vec Ideal S1x32x128 .f32) (W : Vec Ideal S1x32x128x128 .bf16) (W2 : Vec Ideal S1x128x128 .bf16) (L) (n : Fin 512) (d : Fin 128) :
    k0_pay1 (k0_pay92 (half X P W 0 16) (shifted (half X P W 16 16) L) W2) (ix4 0 0 n d) = blockVal X P W W2 n.val d := by
  rw [k0_pay1_apply, blockVal]
  by_cases hn : n.val < 511
  · rw [if_pos hn, if_pos hn, k0_pay92_apply]
    refine Finset.sum_congr rfl fun x _ => ?_
    rw [shifted_apply _ _ _ _ (by omega), half_apply, half_apply, hid_halves]
  · rw [if_neg hn, if_neg hn]

theorem snd_apply (c : Dev nD) (t : Fin cfg0.N) (n : Fin 512) (d : Fin 128) :
    (outsAt0 m c t).2 (ix4 0 0 n d) = blockVal (iblk m c 1 t) (iblk m c 5 t) (iblk m c 6 t) (iblk m c 7 t) n.val d := by
  obtain ⟨L, h⟩ := snd_eq m c t
  rw [h]
  exact rows_apply _ _ _ _ L n d

theorem fst_apply (c : Dev nD) (t : Fin cfg0.N) (n : Fin 512) (d : Fin 128) :
    (outsAt0 m c t).1 (ix4 0 0 d n) = blockVal (iblk m c 0 t) (iblk m c 2 t) (iblk m c 3 t) (iblk m c 4 t) n.val d := by
  rw [fst_eq, k0_pay46_eq]
  exact rows_apply _ _ _ _ [] n d

end Cert.CmpIdeal.Math

end
-- ==== Proof.CmpRefValue.lean ====
/- The reference of `Cmp` read at an index. A block is thirty-two rows of a head, sixteen rows after the block before it; the
   reference gathers the rows, adds the positions, contracts rows and columns with the first weight, applies `x · σ(x)` and
   the second weight, and appends one zero row. -/
module

public import proofs.«01_k».proof.Proof.Gen.CmpRefIdeal.Read
public import Idealize.ShloMosaic.Lib.Pipeline.ValueKit
public import Idealize.ShloMosaic.Lib.TwoAxisContraction
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.CmpRefIdeal.Math

open Cert.CmpRefIdeal Cert.CmpRefIdeal.Gen Cert.CmpRefIdeal.Read
open Idealize.ShloMosaic.ValueIdx (contrEquiv2 sum_contr2)

/-- The index table: block `n`'s row `l` is row `16 n + l`. -/
theorem starts (n : Fin 511) (l : Fin 32) : (val_main_v21 (F := Ideal) (ix3 n l 0)).toInt.toNat = 16 * n.val + l.val := by
  have := n.isLt
  have := l.isLt
  have e : val_main_v21 (F := Ideal) (ix3 n l 0) = BitVec.ofNat 32 (16 * n.val + l.val) := by
    pointwise [val_main_v21, val_main_v20, val_main_v19, val_main_v18, val_main_v17, val_main_v16, val_main_v15, val_main_v14, val_main_v13, val_main_v12, val_main_v11, val_main_v10, val_main_v9, val_main_v8, val_main_v7, val_main_c, val_main_c_0, val_main_c_1]
    have e' : IntOp.addi (IntOp.muli (BitVec.ofNat 32 n.val) 16#32) (BitVec.ofNat 32 l.val) = BitVec.ofNat 32 (16 * n.val + l.val) := by
      refine BitVec.eq_of_toNat_eq ?_
      simp [IntOp.addi, IntOp.muli]
      omega
    have h : IntOp.cmpi CmpIPredicate.slt (BitVec.ofNat 32 (16 * n.val + l.val)) 0#32 = 0#1 := by
      have h1 : (BitVec.ofNat 32 (16 * n.val + l.val)).toInt = ((16 * n.val + l.val : ℕ) : ℤ) := by
        rw [BitVec.toInt_eq_toNat_of_lt (by simp; omega)]; simp; omega
      have h2 : ¬ (((16 * n.val + l.val : ℕ) : ℤ) < 0) := by omega
      simp only [IntOp.cmpi, BitVec.slt_eq_decide, h1]
      rw [show (0#32 : BitVec 32).toInt = 0 from rfl, decide_eq_false h2]
      rfl
    rw [e', h]
    rfl
  rw [e, BitVec.toInt_eq_toNat_of_lt (by simp; omega)]
  simp
  omega

/-- The gathered rows. -/
theorem blocks_apply (x0 : (⟨S2x8192x4x128, .f32⟩ : BufTy).Contents (Elt Ideal)) (b : Fin 2) (g : Fin 4) (n : Fin 511) (l : Fin 32) (e : Fin 128)
    (h : 16 * n.val + l.val < 8192) :
    val_main_v22 (F := Ideal) x0 (ix5 b g n l e) = x0 (ix4 b ⟨16 * n.val + l.val, h⟩ g e) := by
  unfold val_main_v22 Host.gather
  rw [val_main_v6_apply]
  have hs : (gather_S2x4x8192x128_S511x32x1_S2x4x511x32x128_014_2_n_n_2_2_241128).start (ix5 b g n l e) (val_main_v21 (F := Ideal)) 2 = 16 * n.val + l.val := by
    have hi : (gather_S2x4x8192x128_S511x32x1_S2x4x511x32x128_014_2_n_n_2_2_241128).siIdx (ix5 b g n l e) ⟨0, by decide⟩ = ix3 n l 0 := by
      funext a; refine Fin.ext ?_
      match a with
      | ⟨0, _⟩ => rfl
      | ⟨1, _⟩ => rfl
      | ⟨2, _⟩ => rfl
    have h' : (gather_S2x4x8192x128_S511x32x1_S2x4x511x32x128_014_2_n_n_2_2_241128).start (ix5 b g n l e) (val_main_v21 (F := Ideal)) 2
        = min (val_main_v21 (F := Ideal) ((gather_S2x4x8192x128_S511x32x1_S2x4x511x32x128_014_2_n_n_2_2_241128).siIdx (ix5 b g n l e) ⟨0, by decide⟩)).toInt.toNat 8191 := rfl
    rw [h', hi, starts]
    omega
  refine congrArg x0 (funext fun a => Fin.ext ?_)
  match a with
  | ⟨0, _⟩ => exact (show 0 + 0 + b.val = b.val by omega)
  | ⟨1, _⟩ => exact (show (gather_S2x4x8192x128_S511x32x1_S2x4x511x32x128_014_2_n_n_2_2_241128).start (ix5 b g n l e) (val_main_v21 (F := Ideal)) 2 + 0 + 0 = _ from hs)
  | ⟨2, _⟩ => exact (show 0 + 0 + g.val = g.val by omega)
  | ⟨3, _⟩ => exact (show 0 + 0 + e.val = e.val by omega)

/-- One summand of a block's hidden value. -/
def row1 (x0 : (⟨S2x8192x4x128, .f32⟩ : BufTy).Contents (Elt Ideal)) (x2 : (⟨S2x32x128, .f32⟩ : BufTy).Contents (Elt Ideal)) (x3 : (⟨S2x32x128x128, .f32⟩ : BufTy).Contents (Elt Ideal)) (b : Fin 2) (g : Fin 4) (n : ℕ) (d : Fin 128) (l : ℕ) : EReal :=
  ∑ e : Fin 128, (x0 (ix4 b ⟨(16 * n + l) % 8192, Nat.mod_lt _ (by omega)⟩ g e) + x2 (ix3 1 ⟨l % 32, Nat.mod_lt _ (by omega)⟩ e))
    * x3 (ix4 1 ⟨l % 32, Nat.mod_lt _ (by omega)⟩ e d)

/-- A block's hidden value at column `d`. -/
def hiddenAt (x0 : (⟨S2x8192x4x128, .f32⟩ : BufTy).Contents (Elt Ideal)) (x2 : (⟨S2x32x128, .f32⟩ : BufTy).Contents (Elt Ideal)) (x3 : (⟨S2x32x128x128, .f32⟩ : BufTy).Contents (Elt Ideal)) (b : Fin 2) (g : Fin 4) (n : ℕ) (d : Fin 128) : EReal :=
  ∑ l ∈ Finset.range 32, row1 x0 x2 x3 b g n d l

theorem lhs_at (b : Fin 2) (g : Fin 4) (n : Fin 511) (d : Fin 128) (e : Fin 128) (l : Fin 32) :
    dot_S2x4x511x32x128_S32x128x128_S2x4x511x128_43_10_012_2_n_n.lhsIdx (ix4 b g n d)
      ((contrEquiv2 dot_S2x4x511x32x128_S32x128x128_S2x4x511x128_43_10_012_2_n_n 128 32 rfl rfl rfl).symm (e, l)) = ix5 b g n l e := by
  funext a; refine Fin.ext ?_
  match a with
  | ⟨0, _⟩ => rfl
  | ⟨1, _⟩ => rfl
  | ⟨2, _⟩ => rfl
  | ⟨3, _⟩ => rfl
  | ⟨4, _⟩ => rfl

theorem rhs_at (b : Fin 2) (g : Fin 4) (n : Fin 511) (d : Fin 128) (e : Fin 128) (l : Fin 32) :
    dot_S2x4x511x32x128_S32x128x128_S2x4x511x128_43_10_012_2_n_n.rhsIdx (ix4 b g n d)
      ((contrEquiv2 dot_S2x4x511x32x128_S32x128x128_S2x4x511x128_43_10_012_2_n_n 128 32 rfl rfl rfl).symm (e, l)) = ix3 l e d := by
  funext a; refine Fin.ext ?_
  match a with
  | ⟨0, _⟩ => rfl
  | ⟨1, _⟩ => rfl
  | ⟨2, _⟩ => rfl

theorem pos_apply (x2 : (⟨S2x32x128, .f32⟩ : BufTy).Contents (Elt Ideal)) (b : Fin 2) (g : Fin 4) (n : Fin 511) (l : Fin 32) (e : Fin 128) :
    val_main_v24 (F := Ideal) x2 (ix5 b g n l e) = x2 (ix3 1 l e) := by
  pointwise [val_main_v24, val_main_v23, val_main_v1, val_main_v0]

theorem w1_apply (x3 : (⟨S2x32x128x128, .f32⟩ : BufTy).Contents (Elt Ideal)) (l : Fin 32) (e d : Fin 128) :
    val_main_v3 (F := Ideal) x3 (ix3 l e d) = x3 (ix4 1 l e d) := by
  pointwise [val_main_v3, val_main_v2]

theorem hidden_eq (x0 : (⟨S2x8192x4x128, .f32⟩ : BufTy).Contents (Elt Ideal)) (x2 : (⟨S2x32x128, .f32⟩ : BufTy).Contents (Elt Ideal)) (x3 : (⟨S2x32x128x128, .f32⟩ : BufTy).Contents (Elt Ideal)) (b : Fin 2) (g : Fin 4) (n : Fin 511) (d : Fin 128) :
    val_main_v26 (F := Ideal) x0 x2 x3 (ix4 b g n d) = hiddenAt x0 x2 x3 b g n.val d := by
  unfold val_main_v26
  simp only [Host.dotGeneral]
  rw [Ideal.dotGeneral_apply, sum_contr2 dot_S2x4x511x32x128_S32x128x128_S2x4x511x128_43_10_012_2_n_n 128 32 rfl rfl rfl, Finset.sum_comm]
  unfold hiddenAt
  rw [← Fin.sum_univ_eq_sum_range (fun l => row1 x0 x2 x3 b g n.val d l) 32]
  refine Finset.sum_congr rfl fun l _ => Finset.sum_congr rfl fun e _ => ?_
  have hn := n.isLt
  have hl := l.isLt
  rw [lhs_at, rhs_at, w1_apply, val_main_v25_apply, pos_apply, blocks_apply _ _ _ _ _ _ (by omega)]
  have e1 : (⟨16 * n.val + l.val, by omega⟩ : Fin 8192) = ⟨(16 * n.val + l.val) % 8192, Nat.mod_lt _ (by omega)⟩ := Fin.ext (Nat.mod_eq_of_lt (by omega)).symm
  have e2 : (⟨l.val % 32, Nat.mod_lt _ (by omega)⟩ : Fin 32) = l := Fin.ext (Nat.mod_eq_of_lt hl)
  rw [e1, e2]
  rfl

/-- A block's output column. -/
theorem out_apply (x0 : (⟨S2x8192x4x128, .f32⟩ : BufTy).Contents (Elt Ideal)) (x2 : (⟨S2x32x128, .f32⟩ : BufTy).Contents (Elt Ideal)) (x3 : (⟨S2x32x128x128, .f32⟩ : BufTy).Contents (Elt Ideal)) (x4 : (⟨S2x128x128, .f32⟩ : BufTy).Contents (Elt Ideal)) (b : Fin 2) (g : Fin 4) (n : Fin 511) (d : Fin 128) :
    val_main_v28 (F := Ideal) x0 x2 x3 x4 (ix4 b g n d)
      = ∑ x : Fin 128, hiddenAt x0 x2 x3 b g n.val x * Ideal.logistic (hiddenAt x0 x2 x3 b g n.val x) * x4 (ix3 1 x d) := by
  pointwise [val_main_v28, val_main_v27, val_main_call0_v5, val_main_call0_v4, val_main_call0_v3, val_main_call0_v2, val_main_call0_v1, val_main_call0_v0, val_main_call0_cst, val_main_call0_cst_0, val_main_v5, val_main_v4]
  simp only [hidden_eq]
  rfl

/-- The array of blocks, with the appended zero row. -/
theorem padded_apply (x0 : (⟨S2x8192x4x128, .f32⟩ : BufTy).Contents (Elt Ideal)) (x2 : (⟨S2x32x128, .f32⟩ : BufTy).Contents (Elt Ideal)) (x3 : (⟨S2x32x128x128, .f32⟩ : BufTy).Contents (Elt Ideal)) (x4 : (⟨S2x128x128, .f32⟩ : BufTy).Contents (Elt Ideal)) (b : Fin 2) (g : Fin 4) (n : Fin 512) (d : Fin 128) :
    val_main_v29 (F := Ideal) x0 x2 x3 x4 (ix4 b g n d)
      = if n.val < 511 then ∑ x : Fin 128, hiddenAt x0 x2 x3 b g n.val x * Ideal.logistic (hiddenAt x0 x2 x3 b g n.val x) * x4 (ix3 1 x d) else 0 := by
  unfold val_main_v29
  by_cases hn : n.val < 511
  · rw [if_pos hn, ← out_apply x0 x2 x3 x4 b g ⟨n.val, hn⟩ d]
    refine pad_apply_of_inside _ _ _ _ _ _ _ _ _ fun a => ?_
    match a with
    | ⟨0, _⟩ => exact (show b.val = 0 + b.val * 1 by omega)
    | ⟨1, _⟩ => exact (show g.val = 0 + g.val * 1 by omega)
    | ⟨2, _⟩ => exact (show n.val = 0 + n.val * 1 by omega)
    | ⟨3, _⟩ => exact (show d.val = 0 + d.val * 1 by omega)
  · rw [if_neg hn, pad_apply_of_not_inside _ _ _ _ _ _ _ _ 2 (fun h => hn (by
      have h' : (n.val - 0) / (0 + 1) < 511 := h.2.2
      omega))]
    pointwise [val_main_call1_v0, val_main_c_2]
    show (((0#32 : BitVec 32).toInt : ℝ) : EReal) = 0
    simp

/-- The values' chain is the keys' chain at other arguments. -/
theorem v_eq (x1 : (⟨S2x8192x4x128, .f32⟩ : BufTy).Contents (Elt Ideal)) (x5 : (⟨S2x32x128, .f32⟩ : BufTy).Contents (Elt Ideal)) (x6 : (⟨S2x32x128x128, .f32⟩ : BufTy).Contents (Elt Ideal)) (x7 : (⟨S2x128x128, .f32⟩ : BufTy).Contents (Elt Ideal)) :
    val_main_v59 (F := Ideal) x1 x5 x6 x7 = val_main_v29 (F := Ideal) x1 x5 x6 x7 := rfl

end Cert.CmpRefIdeal.Math

end
-- ==== Proof.CmpValue.lean ====
/- The result arrays of `Cmp` (the keys' and values' compression) are the reference's values at every index. -/
module

public import proofs.«01_k».proof.Proof.CmpTiles
public import proofs.«01_k».proof.Proof.CmpRefValue

@[expose] public section

set_option maxRecDepth 16384

noncomputable section

open Idealize.ShloMosaic Idealize.ShloMosaic.TcCoe Idealize.SL.Sem

namespace Cert.CmpIdeal.Math

open Cert.CmpIdeal Cert.CmpIdeal.Gen
open Cert.CmpRefIdeal.Read
open Cert.CmpRefIdeal.Math (row1 hiddenAt padded_apply v_eq)

variable (m : (ℓ : Loc nD τ sig) → Buf (Elt Ideal) ℓ)

/-- Where each window's block stands at each grid point: a point is a batch and a head; the weights are layer 1's. -/
theorem where_blocks : ∀ t : Fin cfg0.N, win0_0.index t = ![t.val / 4, 16 + t.val % 4] ∧ win0_1.index t = ![t.val / 4, 20 + t.val % 4]
    ∧ win0_2.index t = ![1, 0, 0] ∧ win0_3.index t = ![1, 0, 0, 0] ∧ win0_4.index t = ![1, 0, 0]
    ∧ win0_5.index t = ![1, 0, 0] ∧ win0_6.index t = ![1, 0, 0, 0] ∧ win0_7.index t = ![1, 0, 0]
    ∧ win0_8.index t = ![t.val / 4, t.val % 4, 0, 0] ∧ win0_9.index t = ![t.val / 4, t.val % 4, 0, 0] :=
  (by decide +kernel : ∀ t : Fin grid0.N, _)

/-- The packed array: the keys' columns from 2048 on, the values' from 2560 on. -/
def packed (k v : FVec Ideal S2x8192x4x128 .f32) : FVec Ideal S16384x3200 .f32 :=
  concatenate S16384x3200 1
    [⟨S16384x2048, broadcastInDim S16384x2048 ![] bcast_S_S16384x2048 (constant (F := Ideal) S_ .f32 0x00000000#32)⟩,
     ⟨S16384x512, shapeCast S16384x512 k shapeCasts_S2x8192x4x128_S16384x512⟩,
     ⟨S16384x512, shapeCast S16384x512 v shapeCasts_S2x8192x4x128_S16384x512⟩,
     ⟨S16384x128, broadcastInDim S16384x128 ![] bcast_S_S16384x128 (constant (F := Ideal) S_ .f32 0x00000000#32)⟩]
    concatenates_S16384x2048_S16384x512_S16384x512_S16384x128_S16384x3200_d1

theorem packed_k (k v : FVec Ideal S2x8192x4x128 .f32) (b : Fin 2) (s : Fin 8192) (g : Fin 4) (e : Fin 128)
    (h0 : b.val * 8192 + s.val < 16384) (h1 : (16 + g.val) * 128 + e.val < 3200) :
    packed k v (ix2 ⟨b.val * 8192 + s.val, h0⟩ ⟨(16 + g.val) * 128 + e.val, h1⟩) = k (ix4 b s g e) := by
  have := b.isLt; have := s.isLt; have := g.isLt; have := e.isLt
  pointwise [packed]
  rw [dif_neg (by omega), dif_pos (by omega)]
  blk_ext []

theorem packed_v (k v : FVec Ideal S2x8192x4x128 .f32) (b : Fin 2) (s : Fin 8192) (g : Fin 4) (e : Fin 128)
    (h0 : b.val * 8192 + s.val < 16384) (h1 : (20 + g.val) * 128 + e.val < 3200) :
    packed k v (ix2 ⟨b.val * 8192 + s.val, h0⟩ ⟨(20 + g.val) * 128 + e.val, h1⟩) = v (ix4 b s g e) := by
  have := b.isLt; have := s.isLt; have := g.isLt; have := e.isLt
  pointwise [packed]
  rw [dif_neg (by omega), dif_neg (by omega), dif_pos (by omega)]
  blk_ext []

theorem entry_packed (c : Dev nD) : (show FVec Ideal S16384x3200 .f32 from V m c main_v4)
    = packed (m ((c : Thread nD τ).loc main_arg0)) (m ((c : Thread nD τ).loc main_arg1)) := by
  unfold packed; rfl

/-- A point's block of keys: its head of its batch. -/
theorem read_k (c : Dev nD) (t : Fin cfg0.N) (s : Fin 8192) (e : Fin 128) (h0 : t.val / 4 < 2) (h1 : t.val % 4 < 4) :
    iblk m c 0 t (ix2 s e) = m ((c : Thread nD τ).loc main_arg0) (ix4 ⟨t.val / 4, h0⟩ s ⟨t.val % 4, h1⟩ e) := by
  have hs := s.isLt
  have he := e.isLt
  have b0 : t.val / 4 * 8192 + s.val < 16384 := by omega
  have b1 : (16 + t.val % 4) * 128 + e.val < 3200 := by omega
  have hi : ((cfg0.win 0).blk t).view.emb (ix2 s e) = (ix2 ⟨t.val / 4 * 8192 + s.val, b0⟩ ⟨(16 + t.val % 4) * 128 + e.val, b1⟩ : S16384x3200.Idx) := by
    blk_ext [where_blocks t]
  refine (congrArg (V m c main_v4) hi).trans ((congrFun (entry_packed m c) _).trans ?_)
  exact packed_k _ _ ⟨t.val / 4, h0⟩ s ⟨t.val % 4, h1⟩ e b0 b1

/-- A point's block of values: its head of its batch. -/
theorem read_v (c : Dev nD) (t : Fin cfg0.N) (s : Fin 8192) (e : Fin 128) (h0 : t.val / 4 < 2) (h1 : t.val % 4 < 4) :
    iblk m c 1 t (ix2 s e) = m ((c : Thread nD τ).loc main_arg1) (ix4 ⟨t.val / 4, h0⟩ s ⟨t.val % 4, h1⟩ e) := by
  have hs := s.isLt
  have he := e.isLt
  have b0 : t.val / 4 * 8192 + s.val < 16384 := by omega
  have b1 : (20 + t.val % 4) * 128 + e.val < 3200 := by omega
  have hi : ((cfg0.win 1).blk t).view.emb (ix2 s e) = (ix2 ⟨t.val / 4 * 8192 + s.val, b0⟩ ⟨(20 + t.val % 4) * 128 + e.val, b1⟩ : S16384x3200.Idx) := by
    blk_ext [where_blocks t]
  refine (congrArg (V m c main_v4) hi).trans ((congrFun (entry_packed m c) _).trans ?_)
  exact packed_v _ _ ⟨t.val / 4, h0⟩ s ⟨t.val % 4, h1⟩ e b0 b1

theorem read_pos_k (c : Dev nD) (t : Fin cfg0.N) (l : Fin 32) (e : Fin 128) :
    iblk m c 2 t (ix3 0 l e) = m ((c : Thread nD τ).loc main_arg2) (ix3 1 l e) := by
  have hi : ((cfg0.win 2).blk t).view.emb (ix3 0 l e) = (ix3 1 l e : S2x32x128.Idx) := by
    blk_ext [where_blocks t]
  have e : (show FVec Ideal S2x32x128 .f32 from V m c main_arg2) = m ((c : Thread nD τ).loc main_arg2) := by
    entry_read; rfl
  exact (congrArg (V m c main_arg2) hi).trans (congrFun e _)

theorem read_w1_k (c : Dev nD) (t : Fin cfg0.N) (l : Fin 32) (e d : Fin 128) :
    iblk m c 3 t (ix4 0 l e d) = m ((c : Thread nD τ).loc main_arg3) (ix4 1 l e d) := by
  have hi : ((cfg0.win 3).blk t).view.emb (ix4 0 l e d) = (ix4 1 l e d : S2x32x128x128.Idx) := by
    blk_ext [where_blocks t]
  have e : (show FVec Ideal S2x32x128x128 .bf16 from V m c main_v5) = truncf (F := Ideal) .bf16 (m ((c : Thread nD τ).loc main_arg3)) bitsLt_bf16_f32 := by
    entry_read; rfl
  exact (congrArg (V m c main_v5) hi).trans (congrFun e _)

theorem read_w2_k (c : Dev nD) (t : Fin cfg0.N) (x d : Fin 128) :
    iblk m c 4 t (ix3 0 x d) = m ((c : Thread nD τ).loc main_arg4) (ix3 1 x d) := by
  have hi : ((cfg0.win 4).blk t).view.emb (ix3 0 x d) = (ix3 1 x d : S2x128x128.Idx) := by
    blk_ext [where_blocks t]
  have e : (show FVec Ideal S2x128x128 .bf16 from V m c main_v6) = truncf (F := Ideal) .bf16 (m ((c : Thread nD τ).loc main_arg4)) bitsLt_bf16_f32 := by
    entry_read; rfl
  exact (congrArg (V m c main_v6) hi).trans (congrFun e _)

theorem hid_k (c : Dev nD) (t : Fin cfg0.N) (n : ℕ) (x : Fin 128) (h0 : t.val / 4 < 2) (h1 : t.val % 4 < 4) :
    hid (iblk m c 0 t) (iblk m c 2 t) (iblk m c 3 t) n x 0 32
      = hiddenAt (m ((c : Thread nD τ).loc main_arg0)) (m ((c : Thread nD τ).loc main_arg2)) (m ((c : Thread nD τ).loc main_arg3)) ⟨t.val / 4, h0⟩ ⟨t.val % 4, h1⟩ n x := by
  unfold hid hiddenAt
  refine Finset.sum_congr rfl fun l _ => ?_
  unfold hid1 row1
  refine Finset.sum_congr rfl fun e _ => ?_
  simp only [Nat.zero_add]
  rw [read_k m c t _ _ h0 h1, read_pos_k, read_w1_k]

theorem block_k (c : Dev nD) (t : Fin cfg0.N) (n : Fin 512) (d : Fin 128) (h0 : t.val / 4 < 2) (h1 : t.val % 4 < 4) :
    blockVal (iblk m c 0 t) (iblk m c 2 t) (iblk m c 3 t) (iblk m c 4 t) n.val d
      = val_main_v29 (F := Ideal) (m ((c : Thread nD τ).loc main_arg0)) (m ((c : Thread nD τ).loc main_arg2)) (m ((c : Thread nD τ).loc main_arg3)) (m ((c : Thread nD τ).loc main_arg4)) (ix4 ⟨t.val / 4, h0⟩ ⟨t.val % 4, h1⟩ n d) := by
  rw [padded_apply]
  unfold blockVal
  simp only [hid_k m c t _ _ h0 h1, read_w2_k]

theorem read_pos_v (c : Dev nD) (t : Fin cfg0.N) (l : Fin 32) (e : Fin 128) :
    iblk m c 5 t (ix3 0 l e) = m ((c : Thread nD τ).loc main_arg5) (ix3 1 l e) := by
  have hi : ((cfg0.win 5).blk t).view.emb (ix3 0 l e) = (ix3 1 l e : S2x32x128.Idx) := by
    blk_ext [where_blocks t]
  have e : (show FVec Ideal S2x32x128 .f32 from V m c main_arg5) = m ((c : Thread nD τ).loc main_arg5) := by
    entry_read; rfl
  exact (congrArg (V m c main_arg5) hi).trans (congrFun e _)

theorem read_w1_v (c : Dev nD) (t : Fin cfg0.N) (l : Fin 32) (e d : Fin 128) :
    iblk m c 6 t (ix4 0 l e d) = m ((c : Thread nD τ).loc main_arg6) (ix4 1 l e d) := by
  have hi : ((cfg0.win 6).blk t).view.emb (ix4 0 l e d) = (ix4 1 l e d : S2x32x128x128.Idx) := by
    blk_ext [where_blocks t]
  have e : (show FVec Ideal S2x32x128x128 .bf16 from V m c main_v7) = truncf (F := Ideal) .bf16 (m ((c : Thread nD τ).loc main_arg6)) bitsLt_bf16_f32 := by
    entry_read; rfl
  exact (congrArg (V m c main_v7) hi).trans (congrFun e _)

theorem read_w2_v (c : Dev nD) (t : Fin cfg0.N) (x d : Fin 128) :
    iblk m c 7 t (ix3 0 x d) = m ((c : Thread nD τ).loc main_arg7) (ix3 1 x d) := by
  have hi : ((cfg0.win 7).blk t).view.emb (ix3 0 x d) = (ix3 1 x d : S2x128x128.Idx) := by
    blk_ext [where_blocks t]
  have e : (show FVec Ideal S2x128x128 .bf16 from V m c main_v8) = truncf (F := Ideal) .bf16 (m ((c : Thread nD τ).loc main_arg7)) bitsLt_bf16_f32 := by
    entry_read; rfl
  exact (congrArg (V m c main_v8) hi).trans (congrFun e _)

theorem hid_v (c : Dev nD) (t : Fin cfg0.N) (n : ℕ) (x : Fin 128) (h0 : t.val / 4 < 2) (h1 : t.val % 4 < 4) :
    hid (iblk m c 1 t) (iblk m c 5 t) (iblk m c 6 t) n x 0 32
      = hiddenAt (m ((c : Thread nD τ).loc main_arg1)) (m ((c : Thread nD τ).loc main_arg5)) (m ((c : Thread nD τ).loc main_arg6)) ⟨t.val / 4, h0⟩ ⟨t.val % 4, h1⟩ n x := by
  unfold hid hiddenAt
  refine Finset.sum_congr rfl fun l _ => ?_
  unfold hid1 row1
  refine Finset.sum_congr rfl fun e _ => ?_
  simp only [Nat.zero_add]
  rw [read_v m c t _ _ h0 h1, read_pos_v, read_w1_v]

theorem block_v (c : Dev nD) (t : Fin cfg0.N) (n : Fin 512) (d : Fin 128) (h0 : t.val / 4 < 2) (h1 : t.val % 4 < 4) :
    blockVal (iblk m c 1 t) (iblk m c 5 t) (iblk m c 6 t) (iblk m c 7 t) n.val d
      = val_main_v29 (F := Ideal) (m ((c : Thread nD τ).loc main_arg1)) (m ((c : Thread nD τ).loc main_arg5)) (m ((c : Thread nD τ).loc main_arg6)) (m ((c : Thread nD τ).loc main_arg7)) (ix4 ⟨t.val / 4, h0⟩ ⟨t.val % 4, h1⟩ n d) := by
  rw [padded_apply]
  unfold blockVal
  simp only [hid_v m c t _ _ h0 h1, read_w2_v]

theorem ref_kT (x0 : FVec Ideal S2x8192x4x128 .f32) (x2 : FVec Ideal S2x32x128 .f32) (x3 : FVec Ideal S2x32x128x128 .f32) (x4 : FVec Ideal S2x128x128 .f32)
    (b : Fin 2) (g : Fin 4) (d : Fin 128) (n : Fin 512) :
    val_main_v61 (F := Ideal) x0 x2 x3 x4 (ix4 b g d n) = val_main_v29 (F := Ideal) x0 x2 x3 x4 (ix4 b g n d) := by
  pointwise [val_main_v61, val_main_v60]

theorem ref_v (x0 : FVec Ideal S2x8192x4x128 .f32) (x2 : FVec Ideal S2x32x128 .f32) (x3 : FVec Ideal S2x32x128x128 .f32) (x4 : FVec Ideal S2x128x128 .f32)
    (b : Fin 2) (g : Fin 4) (n : Fin 512) (d : Fin 128) :
    val_main_v62 (F := Ideal) x0 x2 x3 x4 (ix4 b g n d) = val_main_v29 (F := Ideal) x0 x2 x3 x4 (ix4 b g n d) := by
  rw [← v_eq]
  pointwise [val_main_v62]

theorem first_two_kT (y : S1x1x128x512.Idx) : y = ix4 0 0 (y 2) (y 3) := by
  have h0 : (y 0).val < 1 := (y 0).isLt
  have h1 : (y 1).val < 1 := (y 1).isLt
  funext a; refine Fin.ext ?_
  match a with
  | ⟨0, _⟩ => exact (show (y 0).val = 0 by omega)
  | ⟨1, _⟩ => exact (show (y 1).val = 0 by omega)
  | ⟨2, _⟩ => rfl
  | ⟨3, _⟩ => rfl

theorem first_two_v (y : S1x1x512x128.Idx) : y = ix4 0 0 (y 2) (y 3) := by
  have h0 : (y 0).val < 1 := (y 0).isLt
  have h1 : (y 1).val < 1 := (y 1).isLt
  funext a; refine Fin.ext ?_
  match a with
  | ⟨0, _⟩ => exact (show (y 0).val = 0 by omega)
  | ⟨1, _⟩ => exact (show (y 1).val = 0 by omega)
  | ⟨2, _⟩ => rfl
  | ⟨3, _⟩ => rfl

theorem at_8 (c : Dev nD) (t : Fin cfg0.N) (d : Fin 128) (n : Fin 512) (h0 : t.val / 4 < 2) (h1 : t.val % 4 < 4) :
    (outsAt0 m c t).1 (ix4 0 0 d n) = val_main_v61 (F := Ideal) (m ((c : Thread nD τ).loc main_arg0)) (m ((c : Thread nD τ).loc main_arg2)) (m ((c : Thread nD τ).loc main_arg3)) (m ((c : Thread nD τ).loc main_arg4)) (ix4 ⟨t.val / 4, h0⟩ ⟨t.val % 4, h1⟩ d n) := by
  rw [ref_kT]
  exact (fst_apply m c t n d).trans (block_k m c t n d h0 h1)

/-- One point's keys: what it stores is the reference at the block's place in the array. -/
theorem tile_8 (c : Dev nD) (t : Fin cfg0.N) (y : S1x1x128x512.Idx) (i : S2x4x128x512.Idx) (h0 : t.val / 4 < 2) (h1 : t.val % 4 < 4)
    (hi : i = ix4 ⟨t.val / 4, h0⟩ ⟨t.val % 4, h1⟩ (y 2) (y 3)) :
    (outsAt0 m c t).1 y = val_main_v61 (F := Ideal) (m ((c : Thread nD τ).loc main_arg0)) (m ((c : Thread nD τ).loc main_arg2)) (m ((c : Thread nD τ).loc main_arg3)) (m ((c : Thread nD τ).loc main_arg4)) i := by
  subst hi
  exact (congrArg (outsAt0 m c t).1 (first_two_kT y)).trans (at_8 m c t (y 2) (y 3) h0 h1)

/-- The compressed keys, transposed. -/
theorem final_8 (c : Dev nD) : (dats m 0 c).arrAt 8 (cfgs 0).N
    = val_main_v61 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  have ht := lt_of_lt_of_eq t.isLt N_0
  exact tile_8 m c t y _ (by omega) (by omega) (by blk_ext [where_blocks t])

theorem at_9 (c : Dev nD) (t : Fin cfg0.N) (n : Fin 512) (d : Fin 128) (h0 : t.val / 4 < 2) (h1 : t.val % 4 < 4) :
    (outsAt0 m c t).2 (ix4 0 0 n d) = val_main_v62 (F := Ideal) (m ((c : Thread nD τ).loc main_arg1)) (m ((c : Thread nD τ).loc main_arg5)) (m ((c : Thread nD τ).loc main_arg6)) (m ((c : Thread nD τ).loc main_arg7)) (ix4 ⟨t.val / 4, h0⟩ ⟨t.val % 4, h1⟩ n d) := by
  rw [ref_v]
  exact (snd_apply m c t n d).trans (block_v m c t n d h0 h1)

/-- One point's values: what it stores is the reference at the block's place in the array. -/
theorem tile_9 (c : Dev nD) (t : Fin cfg0.N) (y : S1x1x512x128.Idx) (i : S2x4x512x128.Idx) (h0 : t.val / 4 < 2) (h1 : t.val % 4 < 4)
    (hi : i = ix4 ⟨t.val / 4, h0⟩ ⟨t.val % 4, h1⟩ (y 2) (y 3)) :
    (outsAt0 m c t).2 y = val_main_v62 (F := Ideal) (m ((c : Thread nD τ).loc main_arg1)) (m ((c : Thread nD τ).loc main_arg5)) (m ((c : Thread nD τ).loc main_arg6)) (m ((c : Thread nD τ).loc main_arg7)) i := by
  subst hi
  exact (congrArg (outsAt0 m c t).2 (first_two_v y)).trans (at_9 m c t (y 2) (y 3) h0 h1)

/-- The compressed values. -/
theorem final_9 (c : Dev nD) : (dats m 0 c).arrAt 9 (cfgs 0).N
    = val_main_v62 (F := Ideal) (m ((c : Thread nD τ).loc main_arg1)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  have ht := lt_of_lt_of_eq t.isLt N_0
  exact tile_9 m c t y _ (by omega) (by omega) (by blk_ext [where_blocks t])

end Cert.CmpIdeal.Math

end
-- ==== Proof.FirstValue.lean ====
/- The result array of `First` (the norm before the first layer) is the reference's value at every index: the norm is the same
   expression on both sides, read at flattened rows. -/
module

public import proofs.«01_k».proof.Proof.Gen.FirstIdeal.Value
public import proofs.«01_k».proof.Proof.Gen.FirstRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FirstIdeal.Math

open Cert.FirstIdeal Cert.FirstIdeal.Gen
open Cert.FirstRefIdeal.Read

variable (m : (ℓ : Loc nD τ sig) → Buf (Elt Ideal) ℓ)

/-- Where each window's block stands at each grid point: the row blocks move, the norm's weight stays. -/
theorem where_blocks : ∀ t : Fin cfg0.N, win0_0.index t = ![t.val, 0] ∧ win0_1.index t = ![0, 0] ∧ win0_2.index t = ![t.val, 0] :=
  (by decide +kernel : ∀ t : Fin grid0.N, _)

/-- Rows of the flattened input: row `r` is row `r % 8192` of batch `r / 8192`. -/
theorem flat_x (X : FVec Ideal S2x8192x2048 .f32) (r : Fin 16384) (b : Fin 2048) (h0 : r.val / 8192 < 2) (h1 : r.val % 8192 < 8192) :
    shapeCast S16384x2048 X shapeCasts_S2x8192x2048_S16384x2048 (ix2 r b) = X (ix3 ⟨r.val / 8192, h0⟩ ⟨r.val % 8192, h1⟩ b) := by
  pointwise

/-- The block at row `a`, column `b`, of point `t`: row `512 t + a` of the flattened input. -/
theorem read_x (c : Dev nD) (t : Fin cfg0.N) (a : Fin 512) (b : Fin 2048) (h0 : (t.val * 512 + a.val) / 8192 < 2)
    (h1 : (t.val * 512 + a.val) % 8192 < 8192) :
    iblk m c 0 t (ix2 a b) = m ((c : Thread nD τ).loc main_arg0)
      (ix3 ⟨(t.val * 512 + a.val) / 8192, h0⟩ ⟨(t.val * 512 + a.val) % 8192, h1⟩ b) := by
  have e : (show FVec Ideal S16384x2048 .f32 from V m c main_v0) = shapeCast S16384x2048 (m ((c : Thread nD τ).loc main_arg0)) shapeCasts_S2x8192x2048_S16384x2048 := by
    entry_read; rfl
  have hb : t.val * 512 + a.val < 16384 := by have := lt_of_lt_of_eq t.isLt N_0; omega
  have hi : ((cfg0.win 0).blk t).view.emb (ix2 a b) = (ix2 ⟨t.val * 512 + a.val, hb⟩ b : S16384x2048.Idx) := by
    blk_ext [where_blocks t]
  refine (congrArg (V m c main_v0) hi).trans ?_
  exact (congrFun e _).trans (flat_x _ _ _ h0 h1)

/-- The norm's weight is row 0 of the stacked weights at every point. -/
theorem read_n (c : Dev nD) (t : Fin cfg0.N) (b : Fin 2048) :
    iblk m c 1 t (ix2 0 b) = m ((c : Thread nD τ).loc main_arg1) (ix2 0 b) := by
  have e : (show FVec Ideal S1x2048 .f32 from V m c main_v3) = shapeCast S1x2048 (shapeCast S2048 (extractStridedSlice S1x2048 ![0, 0] (m ((c : Thread nD τ).loc main_arg1)) slices_S4x2048_S1x2048_0_0) shapeCasts_S1x2048_S2048) shapeCasts_S2048_S1x2048 := by
    entry_read; rfl
  refine (congrFun e (((cfg0.win 1).blk t).view.emb _)).trans ?_
  pointwise
  blk_ext [where_blocks t]

/-- One row block: what point `t` stores is the reference at the block's place in the array. -/
theorem tile (c : Dev nD) (t : Fin cfg0.N) (a : Fin 512) (b : Fin 2048) (h : t.val * 512 + a.val < 16384) :
    k0_pay1 (iblk m c 0 t) (iblk m c 1 t) (ix2 a b)
      = val_main_v16 (F := Ideal) (m ((c : Thread nD τ).loc main_arg0)) (m ((c : Thread nD τ).loc main_arg1))
          (ix2 ⟨t.val * 512 + a.val, h⟩ b) := by
  have h0 : (t.val * 512 + a.val) / 8192 < 2 := by omega
  have h1 : (t.val * 512 + a.val) % 8192 < 8192 := by omega
  pointwise [k0_pay1, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [read_x m c t _ _ h0 h1, read_n]

theorem final (c : Dev nD) : (dats m 0 c).arrAt 2 (cfgs 0).N
    = val_main_v16 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy := tile m c t (y 0) (y 1) (by have := lt_of_lt_of_eq t.isLt N_0; have : (y 0).val < 512 := (y 0).isLt; omega)
  rw [← eq_ix2 y] at hy
  rw [hy]
  congr 1
  blk_ext [where_blocks t]

end Cert.FirstIdeal.Math

end
-- ==== Proof.TabRefValue.lean ====
/- The reference of `Tab` at a row and a lane: the cosine and the signed sines of the angle of that row and lane. -/
module

public import proofs.«01_k».proof.Proof.Gen.TabRefIdeal.Read
public import proofs.«01_k».proof.Proof.RopeSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.TabRefIdeal.Math

open Cert.TabRefIdeal Cert.TabRefIdeal.Gen
open Cert.TabRefIdeal.Read

variable (p : IVec S2x8192 32)

/-- The position as a number. -/
def place (b : Fin 2) (s : Fin 8192) : EReal := (((p (ix2 b s)).toInt : ℝ) : EReal)

theorem cos_at (b : Fin 2) (s : Fin 8192) (i : Fin 16) :
    val_main_v12 (F := Ideal) p (ix3 b s i) = Ideal.cos (place p b s * RopeSpec.freq i.val) := by
  pointwise [val_main_v12, val_main_v11, val_main_v10, val_main_v9, val_main_v8, val_main_v7, val_main_v6, val_main_v5, val_main_v4, val_main_v3, val_main_v2, val_main_v1, val_main_v0, val_main_cst, val_main_cst_0]
  rfl

theorem sin_at (b : Fin 2) (s : Fin 8192) (i : Fin 16) :
    val_main_v13 (F := Ideal) p (ix3 b s i) = Ideal.sin (place p b s * RopeSpec.freq i.val) := by
  pointwise [val_main_v13, val_main_v11, val_main_v10, val_main_v9, val_main_v8, val_main_v7, val_main_v6, val_main_v5, val_main_v4, val_main_v3, val_main_v2, val_main_v1, val_main_v0, val_main_cst, val_main_cst_0]
  rfl

theorem cos_zero : Ideal.cos 0 = 1 := by
  show ((Real.cos 0 : ℝ) : EReal) = 1
  rw [Real.cos_zero]; rfl

theorem sin_zero : Ideal.sin 0 = 0 := by
  show ((Real.sin 0 : ℝ) : EReal) = 0
  rw [Real.sin_zero]; rfl

theorem bits_zero : Ideal.ofBits FTy.f32 0x00000000#32 = (0 : EReal) := by simp [Ideal.ofBits, Ideal.ieee]

theorem bits_one : Ideal.ofBits FTy.f32 0x3F800000#32 = (1 : EReal) := by
  simp [Ideal.ofBits, Ideal.ieee]
  rw [← EReal.coe_mul]
  norm_num

/-- The factor of the lane itself. -/
theorem own (b : Fin 2) (s : Fin 8192) (l : Fin 128) :
    val_main_v15 (F := Ideal) p (ix3 b s l) = Ideal.cos (place p b s * RopeSpec.lane l.val) := by
  have hl := l.isLt
  unfold RopeSpec.lane
  rcases lt_or_ge l.val 16 with h1 | h1
  · have e : val_main_v15 (F := Ideal) p (ix3 b s l) = val_main_v12 (F := Ideal) p (ix3 b s ⟨l.val, h1⟩) := by
      pointwise [val_main_v15]
      rw [dif_pos (by omega)]
    rw [e, cos_at, if_pos h1]
  rcases lt_or_ge l.val 32 with h2 | h2
  · have e : val_main_v15 (F := Ideal) p (ix3 b s l) = val_main_v12 (F := Ideal) p (ix3 b s ⟨l.val - 16, by omega⟩) := by
      pointwise [val_main_v15]
      rw [dif_neg (by omega), dif_pos (by omega)]
    rw [e, cos_at, if_neg (by omega), if_pos h2]
  · have e : val_main_v15 (F := Ideal) p (ix3 b s l) = 1 := by
      pointwise [val_main_v15, val_main_v14, val_main_cst_1]
      rw [dif_neg (by omega), dif_neg (by omega)]
    rw [e, if_neg (by omega), if_neg (by omega), mul_zero, cos_zero]

/-- The factor of the lane sixteen above. -/
theorem above (b : Fin 2) (s : Fin 8192) (l : Fin 128) :
    val_main_v19 (F := Ideal) p (ix3 b s l) = if l.val < 16 then -Ideal.sin (place p b s * RopeSpec.lane l.val) else 0 := by
  have hl := l.isLt
  unfold RopeSpec.lane
  rcases lt_or_ge l.val 16 with h1 | h1
  · have e : val_main_v19 (F := Ideal) p (ix3 b s l) = -val_main_v13 (F := Ideal) p (ix3 b s ⟨l.val, h1⟩) := by
      pointwise [val_main_v19, val_main_v17]
      rw [dif_pos (by omega)]
    rw [e, sin_at, if_pos h1, if_pos h1]
  · have e : val_main_v19 (F := Ideal) p (ix3 b s l) = 0 := by
      pointwise [val_main_v19, val_main_v18, val_main_cst_2]
      rw [dif_neg (by omega)]
    rw [e, if_neg (by omega)]

/-- The factor of the lane sixteen below. -/
theorem beneath (b : Fin 2) (s : Fin 8192) (l : Fin 128) :
    val_main_v23 (F := Ideal) p (ix3 b s l) = if l.val < 16 then 0 else Ideal.sin (place p b s * RopeSpec.lane l.val) := by
  have hl := l.isLt
  unfold RopeSpec.lane
  rcases lt_or_ge l.val 16 with h1 | h1
  · have e : val_main_v23 (F := Ideal) p (ix3 b s l) = 0 := by
      pointwise [val_main_v23, val_main_v21, val_main_cst_3]
      rw [dif_pos (by omega)]
    rw [e, if_pos h1]
  rcases lt_or_ge l.val 32 with h2 | h2
  · have e : val_main_v23 (F := Ideal) p (ix3 b s l) = val_main_v13 (F := Ideal) p (ix3 b s ⟨l.val - 16, by omega⟩) := by
      pointwise [val_main_v23]
      rw [dif_neg (by omega), dif_pos (by omega)]
    rw [e, sin_at, if_neg (by omega), if_neg (by omega), if_pos h2]
  · have e : val_main_v23 (F := Ideal) p (ix3 b s l) = 0 := by
      pointwise [val_main_v23, val_main_v22, val_main_cst_4]
      rw [dif_neg (by omega), dif_neg (by omega)]
    rw [e, if_neg (by omega), if_neg (by omega), if_neg (by omega), mul_zero, sin_zero]

theorem at_16 (r : Fin 16384) (l : Fin 128) :
    val_main_v16 (F := Ideal) p (ix2 r l) = Ideal.cos (RopeSpec.pos p r.val r.isLt * RopeSpec.lane l.val) := by
  have e : val_main_v16 (F := Ideal) p (ix2 r l) = val_main_v15 (F := Ideal) p (ix3 ⟨r.val / 8192, by omega⟩ ⟨r.val % 8192, by omega⟩ l) := by
    pointwise [val_main_v16]
  exact e.trans (own p _ _ _)

theorem at_20 (r : Fin 16384) (l : Fin 128) :
    val_main_v20 (F := Ideal) p (ix2 r l) = if l.val < 16 then -Ideal.sin (RopeSpec.pos p r.val r.isLt * RopeSpec.lane l.val) else 0 := by
  have e : val_main_v20 (F := Ideal) p (ix2 r l) = val_main_v19 (F := Ideal) p (ix3 ⟨r.val / 8192, by omega⟩ ⟨r.val % 8192, by omega⟩ l) := by
    pointwise [val_main_v20]
  exact e.trans (above p _ _ _)

theorem at_24 (r : Fin 16384) (l : Fin 128) :
    val_main_v24 (F := Ideal) p (ix2 r l) = if l.val < 16 then 0 else Ideal.sin (RopeSpec.pos p r.val r.isLt * RopeSpec.lane l.val) := by
  have e : val_main_v24 (F := Ideal) p (ix2 r l) = val_main_v23 (F := Ideal) p (ix3 ⟨r.val / 8192, by omega⟩ ⟨r.val % 8192, by omega⟩ l) := by
    pointwise [val_main_v24]
  exact e.trans (beneath p _ _ _)

end Cert.TabRefIdeal.Math

end
-- ==== Proof.TabValue.lean ====
/- The three result arrays of `Tab`, the tables of the rotation, are the reference's at every row and lane. -/
module

public import proofs.«01_k».proof.Proof.Gen.TabIdeal.Value
public import proofs.«01_k».proof.Proof.TabRefValue

@[expose] public section

set_option maxRecDepth 16384

noncomputable section

open Idealize.ShloMosaic Idealize.ShloMosaic.TcCoe Idealize.SL.Sem

namespace Cert.TabIdeal.Math

open Cert.TabIdeal Cert.TabIdeal.Gen
open Cert.TabRefIdeal.Read
open Cert.TabRefIdeal.Math (at_16 at_20 at_24 bits_zero)

variable (m : (ℓ : Loc nD τ sig) → Buf (Elt Ideal) ℓ)

/-- The positions of a launch. -/
abbrev P (c : Dev nD) : IVec S2x8192 32 := m ((c : Thread nD τ).loc main_arg0)

/-- Where each window's block stands at each grid point: the row blocks move, the frequencies stay. -/
theorem where_blocks : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The frequencies of the sixteen pairs. -/
def freqs : FVec Ideal S16 .f32 :=
  Host.powf (broadcastInDim S16 ![] bcast_S_S16 (constant (F := Ideal) S_ .f32 0x48F42400#32))
    (Host.divf (Host.negf (sitofp (F := Ideal) .f32 (iotaInDim S16 32 0))) (broadcastInDim S16 ![] bcast_S_S16 (constant (F := Ideal) S_ .f32 0x41800000#32)))

/-- The frequency by lane. -/
def lanes : FVec Ideal S128 .f32 :=
  concatenate S128 0 [⟨S16, freqs⟩, ⟨S16, freqs⟩, ⟨S96, broadcastInDim S96 ![] bcast_S_S96 (constant (F := Ideal) S_ .f32 0x00000000#32)⟩]
    concatenates_S16_S16_S96_S128_d0

theorem freqs_at (i : Fin 16) : freqs (ix1 i) = RopeSpec.freq i.val := by
  pointwise [freqs]
  rfl

theorem lanes_at (l : Fin 128) : lanes (ix1 l) = RopeSpec.lane l.val := by
  have hl := l.isLt
  unfold RopeSpec.lane
  rcases lt_or_ge l.val 16 with h1 | h1
  · have e : lanes (ix1 l) = freqs (ix1 ⟨l.val, h1⟩) := by
      pointwise [lanes]
      rw [dif_pos (by omega)]
    rw [e, freqs_at, if_pos h1]
  rcases lt_or_ge l.val 32 with h2 | h2
  · have e : lanes (ix1 l) = freqs (ix1 ⟨l.val - 16, by omega⟩) := by
      pointwise [lanes]
      rw [dif_neg (by omega), dif_pos (by omega)]
    rw [e, freqs_at, if_neg (by omega), if_pos h2]
  · have e : lanes (ix1 l) = 0 := by
      pointwise [lanes]
      rw [dif_neg (by omega), dif_neg (by omega)]
    rw [e, if_neg (by omega), if_neg (by omega)]

theorem row_at (l : Fin 128) : shapeCast S1x128 lanes shapeCasts_S128_S1x128 (ix2 0 l) = RopeSpec.lane l.val := by
  rw [← lanes_at]
  pointwise

theorem flat_p (p : IVec S2x8192 32) (r : Fin 16384) :
    shapeCast S16384x1 (sitofp (F := Ideal) .f32 p) shapeCasts_S2x8192_S16384x1 (ix2 r 0) = RopeSpec.pos p r.val r.isLt := by
  pointwise
  rfl

/-- The block of positions at row `a` of point `t`. -/
theorem read_p (c : Dev nD) (t : Fin cfg0.N) (a : Fin 2048) (h : t.val * 2048 + a.val < 16384) :
    iblk m c 0 t (ix2 a 0) = RopeSpec.pos (P m c) (t.val * 2048 + a.val) h := by
  have e : (show FVec Ideal S16384x1 .f32 from V m c main_v10) = shapeCast S16384x1 (sitofp (F := Ideal) .f32 (P m c)) shapeCasts_S2x8192_S16384x1 := by
    entry_read; rfl
  have hi : ((cfg0.win 0).blk t).view.emb (ix2 a 0) = (ix2 ⟨t.val * 2048 + a.val, h⟩ 0 : S16384x1.Idx) := by
    blk_ext [where_blocks t]
  refine (congrArg (V m c main_v10) hi).trans ?_
  exact (congrFun e _).trans (flat_p _ ⟨_, h⟩)

/-- The frequencies as the call reads them. -/
def row : FVec Ideal S1x128 .f32 := shapeCast S1x128 lanes shapeCasts_S128_S1x128

/-- The lanes of the two frequency runs and the rest, by name. -/
def join {F : FTy → Type} [FloatOps F] (a b : FVec F S16 .f32) (z : FVec F S96 .f32) : FVec F S128 .f32 :=
  concatenate S128 0 [⟨S16, a⟩, ⟨S16, b⟩, ⟨S96, z⟩] concatenates_S16_S16_S96_S128_d0

/-- The host operations before the call, with that function by name. -/
def ops {F : FTy → Type} [FloatOps F] : List (HloOp τ sig (Elt F)) :=
  [ StableHlo.nullary main_v0 (sitofp .f32 (iotaInDim S16 32 0)),
    StableHlo.unary main_v0 main_v1 (Host.negf : (⟨S16, .f32⟩ : BufTy).Contents (Elt F) → (⟨S16, .f32⟩ : BufTy).Contents (Elt F)),
    StableHlo.nullary main_cst (constant S_ .f32 0x41800000#32),
    StableHlo.unary main_cst main_v2 (broadcastInDim S16 ![] bcast_S_S16 : (⟨S_, .f32⟩ : BufTy).Contents (Elt F) → (⟨S16, .f32⟩ : BufTy).Contents (Elt F)),
    StableHlo.binary main_v1 main_v2 main_v3 (Host.divf : (⟨S16, .f32⟩ : BufTy).Contents (Elt F) → (⟨S16, .f32⟩ : BufTy).Contents (Elt F) → (⟨S16, .f32⟩ : BufTy).Contents (Elt F)),
    StableHlo.nullary main_cst_0 (constant S_ .f32 0x48F42400#32),
    StableHlo.unary main_cst_0 main_v4 (broadcastInDim S16 ![] bcast_S_S16 : (⟨S_, .f32⟩ : BufTy).Contents (Elt F) → (⟨S16, .f32⟩ : BufTy).Contents (Elt F)),
    StableHlo.binary main_v4 main_v3 main_v5 (Host.powf : (⟨S16, .f32⟩ : BufTy).Contents (Elt F) → (⟨S16, .f32⟩ : BufTy).Contents (Elt F) → (⟨S16, .f32⟩ : BufTy).Contents (Elt F)),
    StableHlo.nullary main_cst_1 (constant S_ .f32 0x00000000#32),
    StableHlo.unary main_cst_1 main_v6 (broadcastInDim S96 ![] bcast_S_S96 : (⟨S_, .f32⟩ : BufTy).Contents (Elt F) → (⟨S96, .f32⟩ : BufTy).Contents (Elt F)),
    StableHlo.nary ![main_v5, main_v5, main_v6] main_v7 (fun u => join (u 0) (u 1) (u 2)),
    StableHlo.reshape main_v7 main_v8 (rfl : (.f32 : EltTy) = .f32) shapeCasts_S128_S1x128,
    StableHlo.unary main_arg0 main_v9 (sitofp .f32 : (⟨S2x8192, .i32⟩ : BufTy).Contents (Elt F) → (⟨S2x8192, .f32⟩ : BufTy).Contents (Elt F)),
    StableHlo.reshape main_v9 main_v10 (rfl : (.f32 : EltTy) = .f32) shapeCasts_S2x8192_S16384x1 ]

theorem ops_eq {F : FTy → Type} [FloatOps F] : (hostOps0 : List (HloOp τ sig (Elt F))) = ops := rfl

theorem entry_8 (c : Dev nD) : V m c main_v8 = row := by
  show StableHlo.after hostOps0 (fun b => m (c, b)) main_v8 = _
  rw [ops_eq]
  unfold ops
  after_results_simp <;> (try dsimp only [Matrix.cons_val]) <;> (try after_results_simp) <;> rfl

/-- The frequencies are the same at every point. -/
theorem read_f (c : Dev nD) (t : Fin cfg0.N) (b : Fin 128) : iblk m c 1 t (ix2 0 b) = RopeSpec.lane b.val := by
  rw [← lanes_at]
  refine (congrFun (entry_8 m c) (((cfg0.win 1).blk t).view.emb _)).trans ?_
  pointwise [row]
  blk_ext [where_blocks t]

section Tiles

variable (c : Dev nD) (t : Fin cfg0.N) (a : Fin 2048) (b : Fin 128) (h : t.val * 2048 + a.val < 16384)

/-- The angle. -/
theorem angle_at : k0_pay1 (iblk m c 0 t) (iblk m c 1 t) (ix2 a b) = RopeSpec.pos (P m c) (t.val * 2048 + a.val) h * RopeSpec.lane b.val := by
  rw [← read_p m c t a h, ← read_f m c t b]
  pointwise [k0_pay1]

/-- Whether a lane is below sixteen. -/
theorem below_at (b : Fin 128) : IntOp.cmpi CmpIPredicate.slt (BitVec.ofNat 32 b.val) 16#32 = if b.val < 16 then 1#1 else 0#1 := by
  revert b
  decide +kernel

theorem tile_2 : k0_pay3 (iblk m c 0 t) (iblk m c 1 t) (ix2 a b) = val_main_v16 (F := Ideal) (P m c) (ix2 ⟨t.val * 2048 + a.val, h⟩ b) := by
  rw [at_16, ← angle_at m c t a b h]
  rfl

theorem tile_3 : k0_pay4 (iblk m c 0 t) (iblk m c 1 t) (ix2 a b) = val_main_v20 (F := Ideal) (P m c) (ix2 ⟨t.val * 2048 + a.val, h⟩ b) := by
  have e : k0_pay4 (iblk m c 0 t) (iblk m c 1 t) (ix2 a b)
      = if IntOp.cmpi CmpIPredicate.slt (BitVec.ofNat 32 b.val) 16#32 = 1#1
        then Ideal.ofBits FTy.f32 0x00000000#32 - Ideal.sin (k0_pay1 (iblk m c 0 t) (iblk m c 1 t) (ix2 a b)) else Ideal.ofBits FTy.f32 0x00000000#32 := by
    pointwise [k0_pay4, k0_pay2]
    rfl
  rw [e, at_20, ← angle_at m c t a b h, below_at, bits_zero, zero_sub]
  split_ifs <;> simp_all

theorem tile_4 : k0_pay5 (iblk m c 0 t) (iblk m c 1 t) (ix2 a b) = val_main_v24 (F := Ideal) (P m c) (ix2 ⟨t.val * 2048 + a.val, h⟩ b) := by
  have e : k0_pay5 (iblk m c 0 t) (iblk m c 1 t) (ix2 a b)
      = if IntOp.cmpi CmpIPredicate.slt (BitVec.ofNat 32 b.val) 16#32 = 1#1
        then Ideal.ofBits FTy.f32 0x00000000#32 else Ideal.sin (k0_pay1 (iblk m c 0 t) (iblk m c 1 t) (ix2 a b)) := by
    pointwise [k0_pay5, k0_pay2]
    rfl
  rw [e, at_24, ← angle_at m c t a b h, below_at, bits_zero]
  split_ifs <;> simp_all

end Tiles

theorem final_2 (c : Dev nD) : (dats m 0 c).arrAt 2 (cfgs 0).N = val_main_v16 (F := Ideal) (P m c) := by
  refine (dats m 0 c).arrAt_eq_of_covers 2 _ (by decide +kernel) fun t hf y => ?_
  blk_simp
  rw [after0_2]
  frame_out
  have hy := tile_2 m c t (y 0) (y 1) (by have := lt_of_lt_of_eq t.isLt N_0; have : (y 0).val < 2048 := (y 0).isLt; omega)
  rw [← eq_ix2 y] at hy
  rw [hy]
  congr 1
  blk_ext [where_blocks t]

theorem final_3 (c : Dev nD) : (dats m 0 c).arrAt 3 (cfgs 0).N = val_main_v20 (F := Ideal) (P m c) := by
  refine (dats m 0 c).arrAt_eq_of_covers 3 _ (by decide +kernel) fun t hf y => ?_
  blk_simp
  rw [after0_3]
  frame_out
  have hy := tile_3 m c t (y 0) (y 1) (by have := lt_of_lt_of_eq t.isLt N_0; have : (y 0).val < 2048 := (y 0).isLt; omega)
  rw [← eq_ix2 y] at hy
  rw [hy]
  congr 1
  blk_ext [where_blocks t]

theorem final_4 (c : Dev nD) : (dats m 0 c).arrAt 4 (cfgs 0).N = val_main_v24 (F := Ideal) (P m c) := by
  refine (dats m 0 c).arrAt_eq_of_covers 4 _ (by decide +kernel) fun t hf y => ?_
  blk_simp
  rw [after0_4]
  frame_out
  have hy := tile_4 m c t (y 0) (y 1) (by have := lt_of_lt_of_eq t.isLt N_0; have : (y 0).val < 2048 := (y 0).isLt; omega)
  rw [← eq_ix2 y] at hy
  rw [hy]
  congr 1
  blk_ext [where_blocks t]

end Cert.TabIdeal.Math

end
-- ==== Proof.lean ====
module

public import proofs.«01_k».proof.Defs
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Pre_finite_qk
public import proofs.«01_k».proof.Proof.Gen.Hout
public import proofs.«01_k».proof.Proof.Gen.Hout.Skeleton
public import proofs.«01_k».proof.Proof.Gen.Hout.Launch
public import proofs.«01_k».proof.Proof.Gen.Hout.Points
public import proofs.«01_k».proof.Proof.Gen.Hout.Frame
public import proofs.«01_k».proof.Proof.Gen.HoutIdeal
public import proofs.«01_k».proof.Proof.Gen.HoutIdeal.Skeleton
public import proofs.«01_k».proof.Proof.Gen.HoutIdeal.Launch
public import proofs.«01_k».proof.Proof.Gen.HoutIdeal.Points
public import proofs.«01_k».proof.Proof.Gen.HoutIdeal.Frame
public import proofs.«01_k».proof.Proof.Gen.HoutRefIdeal
public import proofs.«01_k».proof.Proof.Gen.WinIdeal.Value
public import proofs.«01_k».proof.Proof.Gen.WinRefIdeal.Run
public import proofs.«01_k».proof.Proof.Gen.WinRefIdeal.Read
public import proofs.«01_k».proof.Proof.Gen.HoutIdeal.Value
public import proofs.«01_k».proof.Proof.Gen.HoutRefIdeal.Run
public import proofs.«01_k».proof.Proof.Gen.HoutRefIdeal.Read
public import proofs.«01_k».proof.Proof.Gen.Hin
public import proofs.«01_k».proof.Proof.Gen.Hin.Skeleton
public import proofs.«01_k».proof.Proof.Gen.Hin.Launch
public import proofs.«01_k».proof.Proof.Gen.Hin.Points
public import proofs.«01_k».proof.Proof.Gen.Hin.Frame
public import proofs.«01_k».proof.Proof.Gen.HinIdeal
public import proofs.«01_k».proof.Proof.Gen.HinIdeal.Skeleton
public import proofs.«01_k».proof.Proof.Gen.HinIdeal.Launch
public import proofs.«01_k».proof.Proof.Gen.HinIdeal.Points
public import proofs.«01_k».proof.Proof.Gen.HinIdeal.Frame
public import proofs.«01_k».proof.Proof.Gen.HinIdeal.Value
public import proofs.«01_k».proof.Proof.Gen.HinRefIdeal
public import proofs.«01_k».proof.Proof.Gen.HinRefIdeal.Run
public import proofs.«01_k».proof.Proof.Gen.HinRefIdeal.Read
public import proofs.«01_k».proof.Proof.Gen.Pb
public import proofs.«01_k».proof.Proof.Gen.Pb.Skeleton
public import proofs.«01_k».proof.Proof.Gen.Pb.Launch
public import proofs.«01_k».proof.Proof.Gen.Pb.Points
public import proofs.«01_k».proof.Proof.Gen.Pb.Frame
public import proofs.«01_k».proof.Proof.Gen.PbIdeal
public import proofs.«01_k».proof.Proof.Gen.PbIdeal.Skeleton
public import proofs.«01_k».proof.Proof.Gen.PbIdeal.Launch
public import proofs.«01_k».proof.Proof.Gen.PbIdeal.Points
public import proofs.«01_k».proof.Proof.Gen.PbIdeal.Frame
public import proofs.«01_k».proof.Proof.Gen.PbIdeal.Value
public import proofs.«01_k».proof.Proof.Gen.PbRefIdeal
public import proofs.«01_k».proof.Proof.Gen.PbRefIdeal.Run
public import proofs.«01_k».proof.Proof.Gen.PbRefIdeal.Read
public import proofs.«01_k».proof.Proof.Gen.Pf
public import proofs.«01_k».proof.Proof.Gen.Pf.Skeleton
public import proofs.«01_k».proof.Proof.Gen.Pf.Launch
public import proofs.«01_k».proof.Proof.Gen.Pf.Points
public import proofs.«01_k».proof.Proof.Gen.Pf.Frame
public import proofs.«01_k».proof.Proof.Gen.PfIdeal
public import proofs.«01_k».proof.Proof.Gen.PfIdeal.Skeleton
public import proofs.«01_k».proof.Proof.Gen.PfIdeal.Launch
public import proofs.«01_k».proof.Proof.Gen.PfIdeal.Points
public import proofs.«01_k».proof.Proof.Gen.PfIdeal.Frame
public import proofs.«01_k».proof.Proof.Gen.PfIdeal.Value
public import proofs.«01_k».proof.Proof.Gen.PfRefIdeal
public import proofs.«01_k».proof.Proof.Gen.PfRefIdeal.Run
public import proofs.«01_k».proof.Proof.Gen.PfRefIdeal.Read
public import proofs.«01_k».proof.Proof.Gen.Nout
public import proofs.«01_k».proof.Proof.Gen.Nout.Skeleton
public import proofs.«01_k».proof.Proof.Gen.Nout.Launch
public import proofs.«01_k».proof.Proof.Gen.Nout.Points
public import proofs.«01_k».proof.Proof.Gen.Nout.Frame
public import proofs.«01_k».proof.Proof.Gen.NoutIdeal
public import proofs.«01_k».proof.Proof.Gen.NoutIdeal.Skeleton
public import proofs.«01_k».proof.Proof.Gen.NoutIdeal.Launch
public import proofs.«01_k».proof.Proof.Gen.NoutIdeal.Points
public import proofs.«01_k».proof.Proof.Gen.NoutIdeal.Frame
public import proofs.«01_k».proof.Proof.Gen.NoutIdeal.Value
public import proofs.«01_k».proof.Proof.Gen.NoutRefIdeal
public import proofs.«01_k».proof.Proof.Gen.NoutRefIdeal.Run
public import proofs.«01_k».proof.Proof.Gen.NoutRefIdeal.Read
public import proofs.«01_k».proof.Proof.Gen.Hmid
public import proofs.«01_k».proof.Proof.Gen.Hmid.Skeleton
public import proofs.«01_k».proof.Proof.Gen.Hmid.Launch
public import proofs.«01_k».proof.Proof.Gen.Hmid.Points
public import proofs.«01_k».proof.Proof.Gen.Hmid.Frame
public import proofs.«01_k».proof.Proof.Gen.HmidIdeal
public import proofs.«01_k».proof.Proof.Gen.HmidIdeal.Skeleton
public import proofs.«01_k».proof.Proof.Gen.HmidIdeal.Launch
public import proofs.«01_k».proof.Proof.Gen.HmidIdeal.Points
public import proofs.«01_k».proof.Proof.Gen.HmidIdeal.Frame
public import proofs.«01_k».proof.Proof.Gen.HmidIdeal.Value
public import proofs.«01_k».proof.Proof.Gen.HmidRefIdeal
public import proofs.«01_k».proof.Proof.Gen.HmidRefIdeal.Run
public import proofs.«01_k».proof.Proof.Gen.HmidRefIdeal.Read
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpIdeal.Value
public import proofs.«01_k».proof.Proof.Gen.CmpRefIdeal
public import proofs.«01_k».proof.Proof.Gen.CmpRefIdeal.Run
public import proofs.«01_k».proof.Proof.Gen.CmpRefIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.Tab
public import proofs.«01_k».proof.Proof.Gen.Tab.Skeleton
public import proofs.«01_k».proof.Proof.Gen.Tab.Launch
public import proofs.«01_k».proof.Proof.Gen.Tab.Points
public import proofs.«01_k».proof.Proof.Gen.Tab.Frame
public import proofs.«01_k».proof.Proof.Gen.TabIdeal
public import proofs.«01_k».proof.Proof.Gen.TabIdeal.Skeleton
public import proofs.«01_k».proof.Proof.Gen.TabIdeal.Launch
public import proofs.«01_k».proof.Proof.Gen.TabIdeal.Points
public import proofs.«01_k».proof.Proof.Gen.TabIdeal.Frame
public import proofs.«01_k».proof.Proof.Gen.TabIdeal.Value
public import proofs.«01_k».proof.Proof.Gen.TabRefIdeal
public import proofs.«01_k».proof.Proof.Gen.TabRefIdeal.Run
public import proofs.«01_k».proof.Proof.Gen.TabRefIdeal.Read
public import proofs.«01_k».proof.Proof.Gen.Pre_finite_logits
public import proofs.«01_k».proof.Proof.HoutValue
public import proofs.«01_k».proof.Proof.WinValue
public import proofs.«01_k».proof.Proof.WinFinite
public import proofs.«01_k».proof.Proof.HinValue
public import proofs.«01_k».proof.Proof.HmidValue
public import proofs.«01_k».proof.Proof.PbValue
public import proofs.«01_k».proof.Proof.PfValue
public import proofs.«01_k».proof.Proof.NoutValue
public import proofs.«01_k».proof.Proof.CmpValue
public import proofs.«01_k».proof.Proof.FirstValue
public import proofs.«01_k».proof.Proof.TabValue
public import Idealize.ShloMosaic.Adequacy
public import Idealize.ShloMosaic.Init

@[expose] public section

noncomputable section

namespace Cert.Proof

open Idealize.ShloMosaic Idealize.SL.Sem Cert.Win

/-- A reference of host operations runs, keeps its arguments and ends with every counter at zero. -/
theorem frame_win_ref : Cert.quiescent_WinRefIdeal (hWinRefIdeal := Cert.WinRefIdeal.Gen.facts) := fun m g _ =>
  (θ_run (Cert.WinRefIdeal.defs (F := Ideal)) _ _).mono
    (fun r h => And.intro (fun c => (h c).2) (Idealize.ShloMosaic.sem_eq_zero_of_no_sems (by decide) r.2))
    (Cert.WinRefIdeal.Value.run (F := Ideal) m g)

theorem frame_hout_ref : Cert.quiescent_HoutRefIdeal (hHoutRefIdeal := Cert.HoutRefIdeal.Gen.facts) := fun m g _ =>
  (θ_run (Cert.HoutRefIdeal.defs (F := Ideal)) _ _).mono
    (fun r h => And.intro (fun c => (h c).2) (Idealize.ShloMosaic.sem_eq_zero_of_no_sems (by decide) r.2))
    (Cert.HoutRefIdeal.Value.run (F := Ideal) m g)

theorem frame_hin_ref : Cert.quiescent_HinRefIdeal (hHinRefIdeal := Cert.HinRefIdeal.Gen.facts) := fun m g _ =>
  (θ_run (Cert.HinRefIdeal.defs (F := Ideal)) _ _).mono
    (fun r h => And.intro (fun c => (h c).2) (Idealize.ShloMosaic.sem_eq_zero_of_no_sems (by decide) r.2))
    (Cert.HinRefIdeal.Value.run (F := Ideal) m g)

theorem frame_pb_ref : Cert.quiescent_PbRefIdeal (hPbRefIdeal := Cert.PbRefIdeal.Gen.facts) := fun m g _ =>
  (θ_run (Cert.PbRefIdeal.defs (F := Ideal)) _ _).mono
    (fun r h => And.intro (fun c => (h c).2) (Idealize.ShloMosaic.sem_eq_zero_of_no_sems (by decide) r.2))
    (Cert.PbRefIdeal.Value.run (F := Ideal) m g)

theorem frame_pf_ref : Cert.quiescent_PfRefIdeal (hPfRefIdeal := Cert.PfRefIdeal.Gen.facts) := fun m g _ =>
  (θ_run (Cert.PfRefIdeal.defs (F := Ideal)) _ _).mono
    (fun r h => And.intro (fun c => (h c).2) (Idealize.ShloMosaic.sem_eq_zero_of_no_sems (by decide) r.2))
    (Cert.PfRefIdeal.Value.run (F := Ideal) m g)

theorem frame_nout_ref : Cert.quiescent_NoutRefIdeal (hNoutRefIdeal := Cert.NoutRefIdeal.Gen.facts) := fun m g _ =>
  (θ_run (Cert.NoutRefIdeal.defs (F := Ideal)) _ _).mono
    (fun r h => And.intro (fun c => (h c).2.2) (Idealize.ShloMosaic.sem_eq_zero_of_no_sems (by decide) r.2))
    (Cert.NoutRefIdeal.Value.run (F := Ideal) m g)

theorem frame_hmid_ref : Cert.quiescent_HmidRefIdeal (hHmidRefIdeal := Cert.HmidRefIdeal.Gen.facts) := fun m g _ =>
  (θ_run (Cert.HmidRefIdeal.defs (F := Ideal)) _ _).mono
    (fun r h => And.intro (fun c => (h c).2.2) (Idealize.ShloMosaic.sem_eq_zero_of_no_sems (by decide) r.2))
    (Cert.HmidRefIdeal.Value.run (F := Ideal) m g)

theorem frame_cmp_ref : Cert.quiescent_CmpRefIdeal (hCmpRefIdeal := Cert.CmpRefIdeal.Gen.facts) := fun m g _ =>
  (θ_run (Cert.CmpRefIdeal.defs (F := Ideal)) _ _).mono
    (fun r h => And.intro (fun c => (h c).2.2) (Idealize.ShloMosaic.sem_eq_zero_of_no_sems (by decide) r.2))
    (Cert.CmpRefIdeal.Value.run (F := Ideal) m g)

theorem frame_first_ref : Cert.quiescent_FirstRefIdeal (hFirstRefIdeal := Cert.FirstRefIdeal.Gen.facts) := fun m g _ =>
  (θ_run (Cert.FirstRefIdeal.defs (F := Ideal)) _ _).mono
    (fun r h => And.intro (fun c => (h c).2) (Idealize.ShloMosaic.sem_eq_zero_of_no_sems (by decide) r.2))
    (Cert.FirstRefIdeal.Value.run (F := Ideal) m g)

theorem frame_tab_ref : Cert.quiescent_TabRefIdeal (hTabRefIdeal := Cert.TabRefIdeal.Gen.facts) := fun m g _ =>
  (θ_run (Cert.TabRefIdeal.defs (F := Ideal)) _ _).mono
    (fun r h => And.intro (fun c => (h c).2.2.2) (Idealize.ShloMosaic.sem_eq_zero_of_no_sems (by decide) r.2))
    (Cert.TabRefIdeal.Value.run (F := Ideal) m g)

/-- The last call and the last lines of the reference: both end with the same array. -/
theorem values_hout : Cert.algebraic_HoutIdeal_HoutRefIdeal (hHoutIdeal := Cert.HoutIdeal.Gen.facts)
    (hHoutRefIdeal := Cert.HoutRefIdeal.Gen.facts) := by
  intro m g m' g' _ hagree
  refine ⟨_, Cert.HoutIdeal.Value.run_blocks (F := Ideal) m g, ?_⟩
  refine (θ_run _ _ _).mono (fun _ h c => ⟨(h c).1.trans ?_, (h c).2⟩) (Cert.HoutRefIdeal.Value.run (F := Ideal) m' g')
  obtain ⟨e0, e1, e2, e3⟩ := hagree c
  rw [Cert.HoutRefIdeal.Read.val_main_v17_eq, e0, e1, e2, e3]
  exact (Cert.HoutIdeal.Math.final m c).symm

/-- The window attention for finite queries and keys. -/
theorem values_win : Cert.algebraic_WinIdeal_WinRefIdeal_pre_finite_qk (hWinIdeal := Cert.WinIdeal.Gen.facts)
    (hWinRefIdeal := Cert.WinRefIdeal.Gen.facts) (hPre_finite_qk := Cert.Pre_finite_qk.Gen.facts) := by
  intro m g m' g' hpre hagree
  refine ⟨_, Cert.WinIdeal.Value.run_blocks (F := Ideal) m g, ?_⟩
  refine (θ_run _ _ _).mono (fun _ h c => ⟨(h c).1.trans ?_, (h c).2⟩) (Cert.WinRefIdeal.Value.run (F := Ideal) m' g')
  obtain ⟨e0, e1, e2⟩ := hagree c
  rw [Cert.WinRefIdeal.Read.val_main_v36_eq, e0, e1, e2]
  exact (Cert.WinIdeal.Math.final m c (Cert.WinFinite.finite_of_query _ _ _ (hpre c).1)
    (Cert.WinFinite.finite_of_key _ _ _ (hpre c).2)).symm

/-- The input projection of a recurrent layer, for finite logits of the lower bound. -/
theorem values_hin : Cert.algebraic_HinIdeal_HinRefIdeal_pre_finite_logits (hHinIdeal := Cert.HinIdeal.Gen.facts)
    (hHinRefIdeal := Cert.HinRefIdeal.Gen.facts) (hPre_finite_logits := Cert.Pre_finite_logits.Gen.facts) := by
  intro m g m' g' hpre hagree
  refine ⟨_, Cert.HinIdeal.Value.run_blocks (F := Ideal) m g, ?_⟩
  refine (θ_run _ _ _).mono (fun _ h c => ⟨(h c).1.trans ?_, (h c).2⟩) (Cert.HinRefIdeal.Value.run (F := Ideal) m' g')
  obtain ⟨e0, e1, e2⟩ := hagree c
  rw [Cert.HinRefIdeal.Read.val_main_v50_eq, e0, e1, e2]
  exact (Cert.HinIdeal.Math.final m c fun i => Cert.WinFinite.finite_of_bit _ _ Cert.WinFinite.infinity (congrFun (hpre c) i)).symm

/-- The attention half of an attention layer's input projection. -/
theorem values_pb : Cert.algebraic_PbIdeal_PbRefIdeal (hPbIdeal := Cert.PbIdeal.Gen.facts)
    (hPbRefIdeal := Cert.PbRefIdeal.Gen.facts) := by
  intro m g m' g' _ hagree
  refine ⟨_, Cert.PbIdeal.Value.run_blocks (F := Ideal) m g, ?_⟩
  refine (θ_run _ _ _).mono (fun _ h c => ⟨(h c).1.trans ?_, (h c).2⟩) (Cert.PbRefIdeal.Value.run (F := Ideal) m' g')
  obtain ⟨e0, e1, e2⟩ := hagree c
  rw [Cert.PbRefIdeal.Read.val_main_v156_eq, e0, e1, e2]
  exact (Cert.PbIdeal.Math.final m c).symm

/-- The other half of it. -/
theorem values_pf : Cert.algebraic_PfIdeal_PfRefIdeal (hPfIdeal := Cert.PfIdeal.Gen.facts)
    (hPfRefIdeal := Cert.PfRefIdeal.Gen.facts) := by
  intro m g m' g' _ hagree
  refine ⟨_, Cert.PfIdeal.Value.run_blocks (F := Ideal) m g, ?_⟩
  refine (θ_run _ _ _).mono (fun _ h c => ⟨(h c).1.trans ?_, (h c).2⟩) (Cert.PfRefIdeal.Value.run (F := Ideal) m' g')
  obtain ⟨e0, e1, e2⟩ := hagree c
  rw [Cert.PfRefIdeal.Read.val_main_v150_eq, e0, e1, e2]
  exact (Cert.PfIdeal.Math.final m c).symm

/-- The output projection of an attention layer: the residual stream and its normalized copy. -/
theorem values_nout : Cert.algebraic_NoutIdeal_NoutRefIdeal (hNoutIdeal := Cert.NoutIdeal.Gen.facts)
    (hNoutRefIdeal := Cert.NoutRefIdeal.Gen.facts) := by
  intro m g m' g' _ hagree
  refine ⟨_, _, Cert.NoutIdeal.Value.run_blocks (F := Ideal) m g, ?_⟩
  refine (θ_run _ _ _).mono (fun _ h c => ⟨(h c).1.trans ?_, (h c).2.1.trans ?_, (h c).2.2⟩) (Cert.NoutRefIdeal.Value.run (F := Ideal) m' g')
  · obtain ⟨e0, e1, e2, e3, e4, e5, e6, e7⟩ := hagree c
    rw [e0, e1, e2, e3, e4, e5, e6]
    exact (Cert.NoutRefIdeal.Read.val_main_v29_eq (F := Ideal) _ _ _ _ _ _ _).trans (Cert.NoutIdeal.Math.final_8 m c).symm
  · obtain ⟨e0, e1, e2, e3, e4, e5, e6, e7⟩ := hagree c
    rw [Cert.NoutRefIdeal.Read.val_main_v44_eq, e0, e1, e2, e3, e4, e5, e6, e7]
    exact (Cert.NoutIdeal.Math.final_9 m c).symm

/-- The output projection of a recurrent layer inside the stack: the residual stream and its normalized copy. -/
theorem values_hmid : Cert.algebraic_HmidIdeal_HmidRefIdeal (hHmidIdeal := Cert.HmidIdeal.Gen.facts)
    (hHmidRefIdeal := Cert.HmidRefIdeal.Gen.facts) := by
  intro m g m' g' _ hagree
  refine ⟨_, _, Cert.HmidIdeal.Value.run_blocks (F := Ideal) m g, ?_⟩
  refine (θ_run _ _ _).mono (fun _ h c => ⟨(h c).1.trans ?_, (h c).2.1.trans ?_, (h c).2.2⟩) (Cert.HmidRefIdeal.Value.run (F := Ideal) m' g')
  · obtain ⟨e0, e1, e2, e3⟩ := hagree c
    rw [e0, e1, e2]
    exact (Cert.HmidRefIdeal.Read.val_main_v4_eq (F := Ideal) _ _ _).trans (Cert.HmidIdeal.Math.final_4 m c).symm
  · obtain ⟨e0, e1, e2, e3⟩ := hagree c
    rw [e0, e1, e2, e3]
    exact (Cert.HmidRefIdeal.Read.val_main_v19_eq (F := Ideal) _ _ _ _).trans (Cert.HmidIdeal.Math.final_5 m c).symm

/-- The compressed keys and values of an attention layer. -/
theorem values_cmp : Cert.algebraic_CmpIdeal_CmpRefIdeal (hCmpIdeal := Cert.CmpIdeal.Gen.facts)
    (hCmpRefIdeal := Cert.CmpRefIdeal.Gen.facts) := by
  intro m g m' g' _ hagree
  refine ⟨_, _, Cert.CmpIdeal.Value.run_blocks (F := Ideal) m g, ?_⟩
  refine (θ_run _ _ _).mono (fun _ h c => ⟨(h c).1.trans ?_, (h c).2.1.trans ?_, (h c).2.2⟩) (Cert.CmpRefIdeal.Value.run (F := Ideal) m' g')
  · obtain ⟨e0, e1, e2, e3, e4, e5, e6, e7⟩ := hagree c
    rw [Cert.CmpRefIdeal.Read.val_main_v61_eq, e0, e2, e3, e4]
    exact (Cert.CmpIdeal.Math.final_8 m c).symm
  · obtain ⟨e0, e1, e2, e3, e4, e5, e6, e7⟩ := hagree c
    rw [Cert.CmpRefIdeal.Read.val_main_v62_eq, e1, e5, e6, e7]
    exact (Cert.CmpIdeal.Math.final_9 m c).symm

/-- The first norm of the stack. -/
theorem values_first : Cert.algebraic_FirstIdeal_FirstRefIdeal (hFirstIdeal := Cert.FirstIdeal.Gen.facts)
    (hFirstRefIdeal := Cert.FirstRefIdeal.Gen.facts) := by
  intro m g m' g' _ hagree
  refine ⟨_, Cert.FirstIdeal.Value.run_blocks (F := Ideal) m g, ?_⟩
  refine (θ_run _ _ _).mono (fun _ h c => ⟨(h c).1.trans ?_, (h c).2⟩) (Cert.FirstRefIdeal.Value.run (F := Ideal) m' g')
  obtain ⟨e0, e1⟩ := hagree c
  rw [e0, e1]
  exact (Cert.FirstRefIdeal.Read.val_main_v16_eq (F := Ideal) _ _).trans (Cert.FirstIdeal.Math.final m c).symm

/-- The tables of the rotation. -/
theorem values_tab : Cert.algebraic_TabIdeal_TabRefIdeal (hTabIdeal := Cert.TabIdeal.Gen.facts)
    (hTabRefIdeal := Cert.TabRefIdeal.Gen.facts) := by
  intro m g m' g' _ hagree
  refine ⟨_, _, _, Cert.TabIdeal.Value.run_blocks (F := Ideal) m g, ?_⟩
  refine (θ_run _ _ _).mono (fun _ h c => ⟨(h c).1.trans ?_, (h c).2.1.trans ?_, (h c).2.2.1.trans ?_, (h c).2.2.2⟩)
    (Cert.TabRefIdeal.Value.run (F := Ideal) m' g')
  · have e0 := hagree c
    rw [e0]
    exact (Cert.TabRefIdeal.Read.val_main_v16_eq (F := Ideal) _).trans (Cert.TabIdeal.Math.final_2 m c).symm
  · have e0 := hagree c
    rw [e0]
    exact (Cert.TabRefIdeal.Read.val_main_v20_eq (F := Ideal) _).trans (Cert.TabIdeal.Math.final_3 m c).symm
  · have e0 := hagree c
    rw [e0]
    exact (Cert.TabRefIdeal.Read.val_main_v24_eq (F := Ideal) _).trans (Cert.TabIdeal.Math.final_4 m c).symm

theorem claim : Cert.Claim :=
  ⟨Cert.Win.Gen.facts, Cert.WinIdeal.Gen.facts, Cert.WinRefIdeal.Gen.facts, Cert.Hout.Gen.facts, Cert.HoutIdeal.Gen.facts, Cert.HoutRefIdeal.Gen.facts,
    Cert.Hin.Gen.facts, Cert.HinIdeal.Gen.facts, Cert.HinRefIdeal.Gen.facts, Cert.Pb.Gen.facts, Cert.PbIdeal.Gen.facts, Cert.PbRefIdeal.Gen.facts,
    Cert.Pf.Gen.facts, Cert.PfIdeal.Gen.facts, Cert.PfRefIdeal.Gen.facts, Cert.Nout.Gen.facts, Cert.NoutIdeal.Gen.facts, Cert.NoutRefIdeal.Gen.facts,
    Cert.Hmid.Gen.facts, Cert.HmidIdeal.Gen.facts, Cert.HmidRefIdeal.Gen.facts,
    Cert.Cmp.Gen.facts, Cert.CmpIdeal.Gen.facts, Cert.CmpRefIdeal.Gen.facts, Cert.First.Gen.facts, Cert.FirstIdeal.Gen.facts, Cert.FirstRefIdeal.Gen.facts,
    Cert.Tab.Gen.facts, Cert.TabIdeal.Gen.facts, Cert.TabRefIdeal.Gen.facts,
    Cert.Pre_finite_qk.Gen.facts, Cert.Pre_finite_logits.Gen.facts,
    fun m g _ => Cert.Win.Gen.frame m g, fun m g _ => Cert.WinIdeal.Gen.frame m g, fun m g _ => Cert.WinIdeal.Gen.frame m g, frame_win_ref, fun m g _ => frame_win_ref m g trivial,
    fun m g _ => Cert.Hout.Gen.frame m g, fun m g _ => Cert.HoutIdeal.Gen.frame m g, frame_hout_ref,
    fun m g _ => Cert.Hin.Gen.frame m g, fun m g _ => Cert.HinIdeal.Gen.frame m g, fun m g _ => Cert.HinIdeal.Gen.frame m g, frame_hin_ref, fun m g _ => frame_hin_ref m g trivial,
    fun m g _ => Cert.Pb.Gen.frame m g, fun m g _ => Cert.PbIdeal.Gen.frame m g, frame_pb_ref,
    fun m g _ => Cert.Pf.Gen.frame m g, fun m g _ => Cert.PfIdeal.Gen.frame m g, frame_pf_ref,
    fun m g _ => Cert.Nout.Gen.frame m g, fun m g _ => Cert.NoutIdeal.Gen.frame m g, frame_nout_ref,
    fun m g _ => Cert.Hmid.Gen.frame m g, fun m g _ => Cert.HmidIdeal.Gen.frame m g, frame_hmid_ref,
    fun m g _ => Cert.Cmp.Gen.frame m g, fun m g _ => Cert.CmpIdeal.Gen.frame m g, frame_cmp_ref,
    fun m g _ => Cert.First.Gen.frame m g, fun m g _ => Cert.FirstIdeal.Gen.frame m g, frame_first_ref,
    fun m g _ => Cert.Tab.Gen.frame m g, fun m g _ => Cert.TabIdeal.Gen.frame m g, frame_tab_ref,
    IdealRules.named_const.statement Cert.WinIdeal.κ "mask" .f32 0xF149F2CA#32 ⊥ rfl, values_win,
    trivial, values_hout,
    trivial, values_hin,
    IdealRules.named_const.statement Cert.PbIdeal.κ "scale" .f32 0x3E0293EE#32 _ rfl, values_pb,
    trivial, values_pf,
    trivial, values_nout,
    trivial, values_hmid,
    trivial, values_cmp,
    trivial, values_first,
    trivial, values_tab⟩

end Cert.Proof

end
